-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routing_finite [hPre_routing_finite : Cert.Pre_routing_finite.Facts] (m : (ℓ : Loc Cert.KernelIdeal.nD Cert.KernelIdeal.τ Cert.KernelIdeal.sig) → Buf (Elt Ideal) ℓ) : Prop :=
  ∀ c : Dev Cert.KernelIdeal.nD,
    (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 = (fun _ => 1#1)
    ∧ (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routing_finite [hPre_routing_finite : Cert.Pre_routing_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.1 = (fun _ => 1#1)
    ∧ (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_latent_finite [hPre_latent_finite : Cert.Pre_latent_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_latent_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_latent_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_latent_finite [hPre_latent_finite : Cert.Pre_latent_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_latent_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_latent_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_forget_finite [hPre_forget_finite : Cert.Pre_forget_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_forget_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_forget_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_forget_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_forget_finite [hPre_forget_finite : Cert.Pre_forget_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_forget_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_forget_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_forget_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_differential_finite [hPre_differential_finite : Cert.Pre_differential_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_differential_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).1 = (fun _ => 1#1)
    ∧ (Cert.Pre_differential_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_differential_finite [hPre_differential_finite : Cert.Pre_differential_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_differential_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).1 = (fun _ => 1#1)
    ∧ (Cert.Pre_differential_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_routing_finite [hKernelIdeal : Cert.KernelIdeal.Facts] [hPre_routing_finite : Cert.Pre_routing_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routing_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_routing_finite [hReferenceIdeal : Cert.ReferenceIdeal.Facts] [hPre_routing_finite : Cert.Pre_routing_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routing_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_latent_finite [hKernel2Ideal : Cert.Kernel2Ideal.Facts] [hPre_latent_finite : Cert.Pre_latent_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_latent_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_latent_finite [hReference2Ideal : Cert.Reference2Ideal.Facts] [hPre_latent_finite : Cert.Pre_latent_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_latent_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_forget_finite [hKernel3Ideal : Cert.Kernel3Ideal.Facts] [hPre_forget_finite : Cert.Pre_forget_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_forget_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_forget_finite [hReference3Ideal : Cert.Reference3Ideal.Facts] [hPre_forget_finite : Cert.Pre_forget_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_forget_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_differential_finite [hKernel4Ideal : Cert.Kernel4Ideal.Facts] [hPre_differential_finite : Cert.Pre_differential_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_differential_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_differential_finite [hReference4Ideal : Cert.Reference4Ideal.Facts] [hPre_differential_finite : Cert.Pre_differential_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_differential_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_routing_finite [hKernelIdeal : Cert.KernelIdeal.Facts] [hReferenceIdeal : Cert.ReferenceIdeal.Facts] [hPre_routing_finite : Cert.Pre_routing_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routing_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def preserves_Kernel2_Kernel2Ideal : Prop :=
  IdealRules.named_const.Statement Cert.Kernel2Ideal.κ "mask" .f32 0xF149F2CA#32 ⊥

def algebraic_Kernel2Ideal_Reference2Ideal_pre_latent_finite [hKernel2Ideal : Cert.Kernel2Ideal.Facts] [hReference2Ideal : Cert.Reference2Ideal.Facts] [hPre_latent_finite : Cert.Pre_latent_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_latent_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.named_const.Statement Cert.Kernel3Ideal.κ "mask" .f32 0xF149F2CA#32 ⊥

def algebraic_Kernel3Ideal_Reference3Ideal_pre_forget_finite [hKernel3Ideal : Cert.Kernel3Ideal.Facts] [hReference3Ideal : Cert.Reference3Ideal.Facts] [hPre_forget_finite : Cert.Pre_forget_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_forget_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.named_const.Statement Cert.Kernel4Ideal.κ "mask" .f32 0xF149F2CA#32 ⊥

def algebraic_Kernel4Ideal_Reference4Ideal_pre_differential_finite [hKernel4Ideal : Cert.Kernel4Ideal.Facts] [hReference4Ideal : Cert.Reference4Ideal.Facts] [hPre_differential_finite : Cert.Pre_differential_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_differential_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v26)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v107) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_routing_finite : Cert.Pre_routing_finite.Facts) (hPre_latent_finite : Cert.Pre_latent_finite.Facts) (hPre_forget_finite : Cert.Pre_forget_finite.Facts) (hPre_differential_finite : Cert.Pre_differential_finite.Facts),
    quiescent_Kernel (hKernel := hKernel)
    ∧ quiescent_KernelIdeal (hKernelIdeal := hKernelIdeal)
    ∧ quiescent_KernelIdeal_pre_routing_finite (hKernelIdeal := hKernelIdeal) (hPre_routing_finite := hPre_routing_finite)
    ∧ quiescent_ReferenceIdeal (hReferenceIdeal := hReferenceIdeal)
    ∧ quiescent_ReferenceIdeal_pre_routing_finite (hReferenceIdeal := hReferenceIdeal) (hPre_routing_finite := hPre_routing_finite)
    ∧ quiescent_Kernel2 (hKernel2 := hKernel2)
    ∧ quiescent_Kernel2Ideal (hKernel2Ideal := hKernel2Ideal)
    ∧ quiescent_Kernel2Ideal_pre_latent_finite (hKernel2Ideal := hKernel2Ideal) (hPre_latent_finite := hPre_latent_finite)
    ∧ quiescent_Reference2Ideal (hReference2Ideal := hReference2Ideal)
    ∧ quiescent_Reference2Ideal_pre_latent_finite (hReference2Ideal := hReference2Ideal) (hPre_latent_finite := hPre_latent_finite)
    ∧ quiescent_Kernel3 (hKernel3 := hKernel3)
    ∧ quiescent_Kernel3Ideal (hKernel3Ideal := hKernel3Ideal)
    ∧ quiescent_Kernel3Ideal_pre_forget_finite (hKernel3Ideal := hKernel3Ideal) (hPre_forget_finite := hPre_forget_finite)
    ∧ quiescent_Reference3Ideal (hReference3Ideal := hReference3Ideal)
    ∧ quiescent_Reference3Ideal_pre_forget_finite (hReference3Ideal := hReference3Ideal) (hPre_forget_finite := hPre_forget_finite)
    ∧ quiescent_Kernel4 (hKernel4 := hKernel4)
    ∧ quiescent_Kernel4Ideal (hKernel4Ideal := hKernel4Ideal)
    ∧ quiescent_Kernel4Ideal_pre_differential_finite (hKernel4Ideal := hKernel4Ideal) (hPre_differential_finite := hPre_differential_finite)
    ∧ quiescent_Reference4Ideal (hReference4Ideal := hReference4Ideal)
    ∧ quiescent_Reference4Ideal_pre_differential_finite (hReference4Ideal := hReference4Ideal) (hPre_differential_finite := hPre_differential_finite)
    ∧ preserves_Kernel_KernelIdeal
    ∧ algebraic_KernelIdeal_ReferenceIdeal_pre_routing_finite (hKernelIdeal := hKernelIdeal) (hReferenceIdeal := hReferenceIdeal) (hPre_routing_finite := hPre_routing_finite)
    ∧ preserves_Kernel2_Kernel2Ideal
    ∧ algebraic_Kernel2Ideal_Reference2Ideal_pre_latent_finite (hKernel2Ideal := hKernel2Ideal) (hReference2Ideal := hReference2Ideal) (hPre_latent_finite := hPre_latent_finite)
    ∧ preserves_Kernel3_Kernel3Ideal
    ∧ algebraic_Kernel3Ideal_Reference3Ideal_pre_forget_finite (hKernel3Ideal := hKernel3Ideal) (hReference3Ideal := hReference3Ideal) (hPre_forget_finite := hPre_forget_finite)
    ∧ preserves_Kernel4_Kernel4Ideal
    ∧ algebraic_Kernel4Ideal_Reference4Ideal_pre_differential_finite (hKernel4Ideal := hKernel4Ideal) (hReference4Ideal := hReference4Ideal) (hPre_differential_finite := hPre_differential_finite)
-- ==== Pre_differential_finite.lean ====
abbrev S8x2048x384 : Shape := ⟨3, ![8, 2048, 384]⟩
abbrev S8x384x2048 : Shape := ⟨3, ![8, 384, 2048]⟩
abbrev S8x2048 : Shape := ⟨2, ![8, 2048]⟩
abbrev S32 : Shape := ⟨1, ![32]⟩
abbrev S64 : Shape := ⟨1, ![64]⟩
abbrev S_ : Shape := ⟨0, ![]⟩

class Facts : Prop where
  bitsLt_bf16_f32 : FTy.bits .bf16 < FTy.bits .f32
  bcast_S_S8x2048x384 : S_.BroadcastsInDim S8x2048x384 (![] : Fin 0 → Fin S8x2048x384.rank)
  bcast_S_S8x384x2048 : S_.BroadcastsInDim S8x384x2048 (![] : Fin 0 → Fin S8x384x2048.rank)

variable [Facts]

def fn {F : FTy → Type} [FloatOps F] (main_arg0 : FVec F S8x2048x384 .bf16) (main_arg1 : FVec F S8x384x2048 .bf16) (main_arg2 : FVec F S8x2048x384 .bf16) (main_arg3 : IVec S8x2048 32) (main_arg4 : FVec F S32 .f32) (main_arg5 : FVec F S32 .f32) (main_arg6 : FVec F S32 .f32) (main_arg7 : FVec F S32 .f32) (main_arg8 : FVec F S64 .f32) : IVec S8x2048x384 1 × IVec S8x384x2048 1 :=
  let main_v0 : FVec F S8x2048x384 .f32 := (extf .f32 · bitsLt_bf16_f32) main_arg0
  let main_v1 : FVec F S8x2048x384 .f32 := Host.absf main_v0
  let main_cst : FVec F S_ .f32 := constant S_ .f32 0x7F800000#32
  let main_v2 : FVec F S8x2048x384 .f32 := broadcastInDim S8x2048x384 ![] bcast_S_S8x2048x384 main_cst
  let main_v3 : IVec S8x2048x384 1 := cmpf .olt main_v1 main_v2
  let main_v4 : FVec F S8x384x2048 .f32 := (extf .f32 · bitsLt_bf16_f32) main_arg1
  let main_v5 : FVec F S8x384x2048 .f32 := Host.absf main_v4
  let main_cst_0 : FVec F S_ .f32 := constant S_ .f32 0x7F800000#32
  let main_v6 : FVec F S8x384x2048 .f32 := broadcastInDim S8x384x2048 ![] bcast_S_S8x384x2048 main_cst_0
  let main_v7 : IVec S8x384x2048 1 := cmpf .olt main_v5 main_v6
  (main_v3, main_v7)
-- ==== Pre_forget_finite.lean ====
abbrev S8x2048x256 : Shape := ⟨3, ![8, 2048, 256]⟩
abbrev S8x256x2048 : Shape := ⟨3, ![8, 256, 2048]⟩
abbrev S8x16x2048 : Shape := ⟨3, ![8, 16, 2048]⟩
abbrev S_ : Shape := ⟨0, ![]⟩
abbrev S8x4x2048 : Shape := ⟨3, ![8, 4, 2048]⟩

class Facts : Prop where
  bitsLt_bf16_f32 : FTy.bits .bf16 < FTy.bits .f32
  bcast_S_S8x2048x256 : S_.BroadcastsInDim S8x2048x256 (![] : Fin 0 → Fin S8x2048x256.rank)
  bcast_S_S8x256x2048 : S_.BroadcastsInDim S8x256x2048 (![] : Fin 0 → Fin S8x256x2048.rank)
  slices_S8x16x2048_S8x4x2048_0_0_0 : S8x16x2048.Slices ![0, 0, 0] S8x4x2048
  bcast_S_S8x4x2048 : S_.BroadcastsInDim S8x4x2048 (![] : Fin 0 → Fin S8x4x2048.rank)

variable [Facts]

def fn {F : FTy → Type} [FloatOps F] (main_arg0 : FVec F S8x2048x256 .bf16) (main_arg1 : FVec F S8x256x2048 .bf16) (main_arg2 : FVec F S8x2048x256 .bf16) (main_arg3 : FVec F S8x16x2048 .f32) : IVec S8x2048x256 1 × IVec S8x256x2048 1 × IVec S8x4x2048 1 :=
  let main_v0 : FVec F S8x2048x256 .f32 := (extf .f32 · bitsLt_bf16_f32) main_arg0
  let main_v1 : FVec F S8x2048x256 .f32 := Host.absf main_v0
  let main_cst : FVec F S_ .f32 := constant S_ .f32 0x7F800000#32
  let main_v2 : FVec F S8x2048x256 .f32 := broadcastInDim S8x2048x256 ![] bcast_S_S8x2048x256 main_cst
  let main_v3 : IVec S8x2048x256 1 := cmpf .olt main_v1 main_v2
  let main_v4 : FVec F S8x256x2048 .f32 := (extf .f32 · bitsLt_bf16_f32) main_arg1
  let main_v5 : FVec F S8x256x2048 .f32 := Host.absf main_v4
  let main_cst_0 : FVec F S_ .f32 := constant S_ .f32 0x7F800000#32
  let main_v6 : FVec F S8x256x2048 .f32 := broadcastInDim S8x256x2048 ![] bcast_S_S8x256x2048 main_cst_0
  let main_v7 : IVec S8x256x2048 1 := cmpf .olt main_v5 main_v6
  let main_v8 : FVec F S8x4x2048 .f32 := (extractStridedSlice S8x4x2048 ![0, 0, 0] · slices_S8x16x2048_S8x4x2048_0_0_0) main_arg3
  let main_v9 : FVec F S8x4x2048 .f32 := Host.absf main_v8
  let main_cst_1 : FVec F S_ .f32 := constant S_ .f32 0x7F800000#32
  let main_v10 : FVec F S8x4x2048 .f32 := broadcastInDim S8x4x2048 ![] bcast_S_S8x4x2048 main_cst_1
  let main_v11 : IVec S8x4x2048 1 := cmpf .olt main_v9 main_v10
  (main_v3, main_v7, main_v11)
-- ==== Pre_latent_finite.lean ====
abbrev S8x2048x768 : Shape := ⟨3, ![8, 2048, 768]⟩
abbrev S8x768x2048 : Shape := ⟨3, ![8, 768, 2048]⟩
abbrev S8x2048x384 : Shape := ⟨3, ![8, 2048, 384]⟩
abbrev S_ : Shape := ⟨0, ![]⟩

class Facts : Prop where
  bitsLt_bf16_f32 : FTy.bits .bf16 < FTy.bits .f32
  bcast_S_S8x2048x768 : S_.BroadcastsInDim S8x2048x768 (![] : Fin 0 → Fin S8x2048x768.rank)
  bcast_S_S8x768x2048 : S_.BroadcastsInDim S8x768x2048 (![] : Fin 0 → Fin S8x768x2048.rank)

variable [Facts]

def fn {F : FTy → Type} [FloatOps F] (main_arg0 : FVec F S8x2048x768 .bf16) (main_arg1 : FVec F S8x768x2048 .bf16) (main_arg2 : FVec F S8x2048x384 .bf16) : IVec S8x2048x768 1 × IVec S8x768x2048 1 :=
  let main_v0 : FVec F S8x2048x768 .f32 := (extf .f32 · bitsLt_bf16_f32) main_arg0
  let main_v1 : FVec F S8x2048x768 .f32 := Host.absf main_v0
  let main_cst : FVec F S_ .f32 := constant S_ .f32 0x7F800000#32
  let main_v2 : FVec F S8x2048x768 .f32 := broadcastInDim S8x2048x768 ![] bcast_S_S8x2048x768 main_cst
  let main_v3 : IVec S8x2048x768 1 := cmpf .olt main_v1 main_v2
  let main_v4 : FVec F S8x768x2048 .f32 := (extf .f32 · bitsLt_bf16_f32) main_arg1
  let main_v5 : FVec F S8x768x2048 .f32 := Host.absf main_v4
  let main_cst_0 : FVec F S_ .f32 := constant S_ .f32 0x7F800000#32
  let main_v6 : FVec F S8x768x2048 .f32 := broadcastInDim S8x768x2048 ![] bcast_S_S8x768x2048 main_cst_0
  let main_v7 : IVec S8x768x2048 1 := cmpf .olt main_v5 main_v6
  (main_v3, main_v7)
-- ==== Pre_routing_finite.lean ====
abbrev S8x2048x1024 : Shape := ⟨3, ![8, 2048, 1024]⟩
abbrev S8x2048x384 : Shape := ⟨3, ![8, 2048, 384]⟩
abbrev S8x2048x256 : Shape := ⟨3, ![8, 2048, 256]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S32x1024x256 : Shape := ⟨3, ![32, 1024, 256]⟩
abbrev S32x256x1024 : Shape := ⟨3, ![32, 256, 1024]⟩
abbrev S256x1024 : Shape := ⟨2, ![256, 1024]⟩
abbrev S_ : Shape := ⟨0, ![]⟩

class Facts : Prop where
  bcast_S_S1024 : S_.BroadcastsInDim S1024 (![] : Fin 0 → Fin S1024.rank)
  bcast_S_S1024x4 : S_.BroadcastsInDim S1024x4 (![] : Fin 0 → Fin S1024x4.rank)
  bcast_S_S4 : S_.BroadcastsInDim S4 (![] : Fin 0 → Fin S4.rank)
  bcast_S_S4x1024x8 : S_.BroadcastsInDim S4x1024x8 (![] : Fin 0 → Fin S4x1024x8.rank)
  bcast_S_S4x8 : S_.BroadcastsInDim S4x8 (![] : Fin 0 → Fin S4x8.rank)

variable [Facts]

def fn {F : FTy → Type} [FloatOps F] (main_arg0 : FVec F S8x2048x1024 .f32) (main_arg1 : FVec F S8x2048x384 .bf16) (main_arg2 : FVec F S8x2048x384 .bf16) (main_arg3 : FVec F S8x2048x256 .bf16) (main_arg4 : FVec F S8x2048x256 .f32) (main_arg5 : FVec F S1024x1024 .f32) (main_arg6 : FVec F S1024 .f32) (main_arg7 : FVec F S1024 .f32) (main_arg8 : FVec F S1024x4 .f32) (main_arg9 : FVec F S4 .f32) (main_arg10 : FVec F S4x1024x8 .f32) (main_arg11 : FVec F S4x8 .f32) (main_arg12 : FVec F S32x1024x256 .f32) (main_arg13 : FVec F S32x1024x256 .f32) (main_arg14 : FVec F S32x256x1024 .f32) (main_arg15 : FVec F S1024x1024 .f32) (main_arg16 : FVec F S256x1024 .f32) (main_arg17 : FVec F S1024 .f32) (main_arg18 : FVec F S1024 .f32) : IVec S1024 1 × IVec S1024 1 × IVec S1024x4 1 × IVec S4 1 × IVec S4x1024x8 1 × IVec S4x8 1 :=
  let main_v0 : FVec F S1024 .f32 := Host.absf main_arg6
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024 .f32 := Host.absf main_arg7
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4 .f32 := Host.absf main_arg8
  let main_cst_1 : FVec F S_ .f32 := constant S_ .f32 0x7F800000#32
  let main_v7 : FVec F S1024x4 .f32 := broadcastInDim S1024x4 ![] bcast_S_S1024x4 main_cst_1
  let main_v8 : IVec S1024x4 1 := cmpf .olt main_v6 main_v7
  let main_v9 : FVec F S4 .f32 := Host.absf main_arg9
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_v12 : FVec F S4x1024x8 .f32 := Host.absf main_arg10
  let main_cst_3 : FVec F S_ .f32 := constant S_ .f32 0x7F800000#32
  let main_v13 : FVec F S4x1024x8 .f32 := broadcastInDim S4x1024x8 ![] bcast_S_S4x1024x8 main_cst_3
  let main_v14 : IVec S4x1024x8 1 := cmpf .olt main_v12 main_v13
  let main_v15 : FVec F S4x8 .f32 := Host.absf main_arg11
  let main_cst_4 : FVec F S_ .f32 := constant S_ .f32 0x7F800000#32
  let main_v16 : FVec F S4x8 .f32 := broadcastInDim S4x8 ![] bcast_S_S4x8 main_cst_4
  let main_v17 : IVec S4x8 1 := cmpf .olt main_v15 main_v16
  (main_v2, main_v5, main_v8, main_v11, main_v14, main_v17)
-- ==== Kernel.lean ====
abbrev S8x2048x1024 : Shape := ⟨3, ![8, 2048, 1024]⟩
abbrev S8x2048x384 : Shape := ⟨3, ![8, 2048, 384]⟩
abbrev S8x2048x256 : Shape := ⟨3, ![8, 2048, 256]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S32x1024x256 : Shape := ⟨3, ![32, 1024, 256]⟩
abbrev S32x256x1024 : Shape := ⟨3, ![32, 256, 1024]⟩
abbrev S256x1024 : Shape := ⟨2, ![256, 1024]⟩
abbrev S1024x4x8 : Shape := ⟨3, ![1024, 4, 8]⟩
abbrev S1024x32 : Shape := ⟨2, ![1024, 32]⟩
abbrev S1024x36 : Shape := ⟨2, ![1024, 36]⟩
abbrev S_ : Shape := ⟨0, ![]⟩
abbrev S1024x128 : Shape := ⟨2, ![1024, 128]⟩
abbrev S32 : Shape := ⟨1, ![32]⟩
abbrev S36 : Shape := ⟨1, ![36]⟩
abbrev S128 : Shape := ⟨1, ![128]⟩
abbrev S1x128 : Shape := ⟨2, ![1, 128]⟩
abbrev S16384x1024 : Shape := ⟨2, ![16384, 1024]⟩
abbrev S16384x384 : Shape := ⟨2, ![16384, 384]⟩
abbrev S16384x256 : Shape := ⟨2, ![16384, 256]⟩
abbrev S384x1024 : Shape := ⟨2, ![384, 1024]⟩
abbrev S1x1024 : Shape := ⟨2, ![1, 1024]⟩
abbrev S512x1024 : Shape := ⟨2, ![512, 1024]⟩
abbrev S512x384 : Shape := ⟨2, ![512, 384]⟩
abbrev S512x256 : Shape := ⟨2, ![512, 256]⟩
abbrev S1x1024x256 : Shape := ⟨3, ![1, 1024, 256]⟩
abbrev S1x256x1024 : Shape := ⟨3, ![1, 256, 1024]⟩
abbrev S512x128 : Shape := ⟨2, ![512, 128]⟩
abbrev S512 : Shape := ⟨1, ![512]⟩
abbrev S512x1 : Shape := ⟨2, ![512, 1]⟩
abbrev S1024x256 : Shape := ⟨2, ![1024, 256]⟩

abbrev nBuf : Space → Nat
  | .hbm => 54
  | .vmem => 34
  | .smem => 0
  | _ => 0

abbrev bufTy : (tb : Table) → Fin (tcTables nBuf tb) → BufTy
  | .hbm, ⟨0, _⟩ => ⟨S8x2048x1024, .f32⟩
  | .hbm, ⟨1, _⟩ => ⟨S8x2048x384, .bf16⟩
  | .hbm, ⟨2, _⟩ => ⟨S8x2048x384, .bf16⟩
  | .hbm, ⟨3, _⟩ => ⟨S8x2048x256, .bf16⟩
  | .hbm, ⟨4, _⟩ => ⟨S8x2048x256, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x4, .f32⟩
  | .hbm, ⟨9, _⟩ => ⟨S4, .f32⟩
  | .hbm, ⟨10, _⟩ => ⟨S4x1024x8, .f32⟩
  | .hbm, ⟨11, _⟩ => ⟨S4x8, .f32⟩
  | .hbm, ⟨12, _⟩ => ⟨S32x1024x256, .f32⟩
  | .hbm, ⟨13, _⟩ => ⟨S32x1024x256, .f32⟩
  | .hbm, ⟨14, _⟩ => ⟨S32x256x1024, .f32⟩
  | .hbm, ⟨15, _⟩ => ⟨S1024x1024, .f32⟩
  | .hbm, ⟨16, _⟩ => ⟨S256x1024, .f32⟩
  | .hbm, ⟨17, _⟩ => ⟨S1024, .f32⟩
  | .hbm, ⟨18, _⟩ => ⟨S1024, .f32⟩
  | .hbm, ⟨19, _⟩ => ⟨S1024x1024, .bf16⟩
  | .hbm, ⟨20, _⟩ => ⟨S1024x4x8, .f32⟩
  | .hbm, ⟨21, _⟩ => ⟨S1024x32, .f32⟩
  | .hbm, ⟨22, _⟩ => ⟨S1024x36, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x128, .bf16⟩
  | .hbm, ⟨27, _⟩ => ⟨S1024x128, .f32⟩
  | .hbm, ⟨28, _⟩ => ⟨S1024x128, .f32⟩
  | .hbm, ⟨29, _⟩ => ⟨S1024x128, .bf16⟩
  | .hbm, ⟨30, _⟩ => ⟨S32, .f32⟩
  | .hbm, ⟨31, _⟩ => ⟨S36, .f32⟩
  | .hbm, ⟨32, _⟩ => ⟨S_, .i32⟩
  | .hbm, ⟨33, _⟩ => ⟨S_, .f32⟩
  | .hbm, ⟨34, _⟩ => ⟨S128, .f32⟩
  | .hbm, ⟨35, _⟩ => ⟨S1x128, .f32⟩
  | .hbm, ⟨36, _⟩ => ⟨S16384x1024, .f32⟩
  | .hbm, ⟨37, _⟩ => ⟨S16384x384, .bf16⟩
  | .hbm, ⟨38, _⟩ => ⟨S16384x384, .bf16⟩
  | .hbm, ⟨39, _⟩ => ⟨S16384x256, .bf16⟩
  | .hbm, ⟨40, _⟩ => ⟨S16384x256, .f32⟩
  | .hbm, ⟨41, _⟩ => ⟨S384x1024, .bf16⟩
  | .hbm, ⟨42, _⟩ => ⟨S384x1024, .bf16⟩
  | .hbm, ⟨43, _⟩ => ⟨S256x1024, .bf16⟩
  | .hbm, ⟨44, _⟩ => ⟨S1x1024, .f32⟩
  | .hbm, ⟨45, _⟩ => ⟨S1x1024, .f32⟩
  | .hbm, ⟨46, _⟩ => ⟨S32x1024x256, .bf16⟩
  | .hbm, ⟨47, _⟩ => ⟨S32x1024x256, .bf16⟩
  | .hbm, ⟨48, _⟩ => ⟨S32x256x1024, .bf16⟩
  | .hbm, ⟨49, _⟩ => ⟨S1024x1024, .bf16⟩
  | .hbm, ⟨50, _⟩ => ⟨S256x1024, .bf16⟩
  | .hbm, ⟨51, _⟩ => ⟨S1x1024, .f32⟩
  | .hbm, ⟨52, _⟩ => ⟨S1x1024, .f32⟩
  | .hbm, ⟨53, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x256, .bf16⟩
  | .local _ .vmem, ⟨7, _⟩ => ⟨S512x256, .bf16⟩
  | .local _ .vmem, ⟨8, _⟩ => ⟨S512x256, .f32⟩
  | .local _ .vmem, ⟨9, _⟩ => ⟨S512x256, .f32⟩
  | .local _ .vmem, ⟨10, _⟩ => ⟨S384x1024, .bf16⟩
  | .local _ .vmem, ⟨11, _⟩ => ⟨S384x1024, .bf16⟩
  | .local _ .vmem, ⟨12, _⟩ => ⟨S256x1024, .bf16⟩
  | .local _ .vmem, ⟨13, _⟩ => ⟨S1x1024, .f32⟩
  | .local _ .vmem, ⟨14, _⟩ => ⟨S1x1024, .f32⟩
  | .local _ .vmem, ⟨15, _⟩ => ⟨S1024x128, .bf16⟩
  | .local _ .vmem, ⟨16, _⟩ => ⟨S1024x128, .bf16⟩
  | .local _ .vmem, ⟨17, _⟩ => ⟨S1x128, .f32⟩
  | .local _ .vmem, ⟨18, _⟩ => ⟨S1x1024x256, .bf16⟩
  | .local _ .vmem, ⟨19, _⟩ => ⟨S1x1024x256, .bf16⟩
  | .local _ .vmem, ⟨20, _⟩ => ⟨S1x1024x256, .bf16⟩
  | .local _ .vmem, ⟨21, _⟩ => ⟨S1x1024x256, .bf16⟩
  | .local _ .vmem, ⟨22, _⟩ => ⟨S1x256x1024, .bf16⟩
  | .local _ .vmem, ⟨23, _⟩ => ⟨S1x256x1024, .bf16⟩
  | .local _ .vmem, ⟨24, _⟩ => ⟨S1024x1024, .bf16⟩
  | .local _ .vmem, ⟨25, _⟩ => ⟨S256x1024, .bf16⟩
  | .local _ .vmem, ⟨26, _⟩ => ⟨S1x1024, .f32⟩
  | .local _ .vmem, ⟨27, _⟩ => ⟨S1x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .bf16⟩
  | .local _ .vmem, ⟨32, _⟩ => ⟨S512x128, .f32⟩
  | .local _ .vmem, ⟨33, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_call0_v0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_0 : Ref sig .tc := ⟨.hbm, 32, rfl⟩
abbrev main_call1_v0 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg20_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem20_1 : DmaSem sig := 29

abbrev nD : Nat := 1
abbrev τ : Topo := Topo.v7x

variable {F : FTy → Type} [FloatOps F]

abbrev grid0 : Pipeline.Grid := ⟨2, ![32, 32], ![false, false]⟩

def k0_cond2 (i : grid0.Coords) : BitVec 1 :=
  let arg1 : BitVec 32 := BitVec.ofNat 32 (i 1).val
  let c31_i32 : BitVec 32 := 31#32
  let v39 : BitVec 1 := Scalar.cmpi .eq arg1 c31_i32
  let v40 : BitVec 32 := Scalar.extui v39
  let c0_i32_24 : BitVec 32 := 0#32
  let v41 : BitVec 1 := Scalar.cmpi .ne v40 c0_i32_24
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8x2048x1024 : Shape := ⟨3, ![8, 2048, 1024]⟩
abbrev S8x2048x384 : Shape := ⟨3, ![8, 2048, 384]⟩
abbrev S8x2048x256 : Shape := ⟨3, ![8, 2048, 256]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S32x1024x256 : Shape := ⟨3, ![32, 1024, 256]⟩
abbrev S32x256x1024 : Shape := ⟨3, ![32, 256, 1024]⟩
abbrev S256x1024 : Shape := ⟨2, ![256, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩
abbrev S16384x4 : Shape := ⟨2, ![16384, 4]⟩
abbrev S1x4 : Shape := ⟨2, ![1, 4]⟩
abbrev S16384 : Shape := ⟨1, ![16384]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩
abbrev S16384x4x8 : Shape := ⟨3, ![16384, 4, 8]⟩
abbrev S1x4x8 : Shape := ⟨3, ![1, 4, 8]⟩
abbrev S16384x8 : Shape := ⟨2, ![16384, 8]⟩
abbrev S16384x2 : Shape := ⟨2, ![16384, 2]⟩
abbrev S16384x2x1 : Shape := ⟨3, ![16384, 2, 1]⟩
abbrev S1x1x32 : Shape := ⟨3, ![1, 1, 32]⟩
abbrev S16384x2x32 : Shape := ⟨3, ![16384, 2, 32]⟩
abbrev S16384x32 : Shape := ⟨2, ![16384, 32]⟩
abbrev S16384x32x256 : Shape := ⟨3, ![16384, 32, 256]⟩
abbrev S16384x32x1 : Shape := ⟨3, ![16384, 32, 1]⟩

abbrev nBuf : Space → Nat
  | .hbm => 209
  | .vmem => 0
  | .smem => 0
  | _ => 0

abbrev hbmTy0_0 (i : Nat) : BufTy := match i % 128 with
  | 0 => ⟨S8x2048x1024, .f32⟩
  | 1 => ⟨S8x2048x384, .bf16⟩
  | 2 => ⟨S8x2048x384, .bf16⟩
  | 3 => ⟨S8x2048x256, .bf16⟩
  | 4 => ⟨S8x2048x256, .f32⟩
  | 5 => ⟨S1024x1024, .f32⟩
  | 6 => ⟨S1024, .f32⟩
  | 7 => ⟨S1024, .f32⟩
  | 8 => ⟨S1024x4, .f32⟩
  | 9 => ⟨S4, .f32⟩
  | 10 => ⟨S4x1024x8, .f32⟩
  | 11 => ⟨S4x8, .f32⟩
  | 12 => ⟨S32x1024x256, .f32⟩
  | 13 => ⟨S32x1024x256, .f32⟩
  | 14 => ⟨S32x256x1024, .f32⟩
  | 15 => ⟨S1024x1024, .f32⟩
  | 16 => ⟨S256x1024, .f32⟩
  | 17 => ⟨S1024, .f32⟩
  | 18 => ⟨S1024, .f32⟩
  | 19 => ⟨S8x2048x384, .f32⟩
  | 20 => ⟨S8x2048x384, .f32⟩
  | 21 => ⟨S8x2048x256, .f32⟩
  | 22 => ⟨S8x2048x1024, .f32⟩
  | 23 => ⟨S8x2048x1024, .f32⟩
  | 24 => ⟨S_, .f32⟩
  | 25 => ⟨S8x2048x1024, .f32⟩
  | 26 => ⟨S8x2048x1024, .f32⟩
  | 27 => ⟨S8x2048x1024, .f32⟩
  | 28 => ⟨S_, .f32⟩
  | 29 => ⟨S8x2048, .f32⟩
  | 30 => ⟨S8x2048x1, .f32⟩
  | 31 => ⟨S_, .f32⟩
  | 32 => ⟨S8x2048x1, .f32⟩
  | 33 => ⟨S8x2048x1, .f32⟩
  | 34 => ⟨S8x2048x1024, .f32⟩
  | 35 => ⟨S8x2048x1024, .f32⟩
  | 36 => ⟨S8x2048x1024, .f32⟩
  | 37 => ⟨S_, .f32⟩
  | 38 => ⟨S8x2048, .f32⟩
  | 39 => ⟨S8x2048x1, .f32⟩
  | 40 => ⟨S_, .f32⟩
  | 41 => ⟨S8x2048x1, .f32⟩
  | 42 => ⟨S8x2048x1, .f32⟩
  | 43 => ⟨S8x2048x1024, .f32⟩
  | 44 => ⟨S8x2048x1024, .f32⟩
  | 45 => ⟨S_, .f32⟩
  | 46 => ⟨S8x2048x1, .f32⟩
  | 47 => ⟨S8x2048x1, .f32⟩
  | 48 => ⟨S8x2048x1, .f32⟩
  | 49 => ⟨S8x2048x1024, .f32⟩
  | 50 => ⟨S8x2048x1024, .f32⟩
  | 51 => ⟨S1x1x1024, .f32⟩
  | 52 => ⟨S8x2048x1024, .f32⟩
  | 53 => ⟨S8x2048x1024, .f32⟩
  | 54 => ⟨S1x1x1024, .f32⟩
  | 55 => ⟨S8x2048x1024, .f32⟩
  | 56 => ⟨S8x2048x1024, .f32⟩
  | 57 => ⟨S16384x1024, .f32⟩
  | 58 => ⟨S16384x4, .f32⟩
  | 59 => ⟨S1x4, .f32⟩
  | 60 => ⟨S16384x4, .f32⟩
  | 61 => ⟨S16384x4, .f32⟩
  | 62 => ⟨S_, .f32⟩
  | 63 => ⟨S16384, .f32⟩
  | 64 => ⟨S_, .f32⟩
  | 65 => ⟨S16384, .f32⟩
  | 66 => ⟨S16384, .f32⟩
  | 67 => ⟨S16384x1, .f32⟩
  | 68 => ⟨S16384x4, .f32⟩
  | 69 => ⟨S16384x4, .f32⟩
  | 70 => ⟨S16384x4, .f32⟩
  | 71 => ⟨S_, .f32⟩
  | 72 => ⟨S16384, .f32⟩
  | 73 => ⟨S16384x1, .f32⟩
  | 74 => ⟨S16384x4, .f32⟩
  | 75 => ⟨S16384x4, .f32⟩
  | 76 => ⟨S16384x1, .f32⟩
  | 77 => ⟨S16384x1, .i32⟩
  | 78 => ⟨S_, .i32⟩
  | 79 => ⟨S16384x1, .i32⟩
  | 80 => ⟨S16384x1, .i1⟩
  | 81 => ⟨S_, .i32⟩
  | 82 => ⟨S16384x1, .i32⟩
  | 83 => ⟨S16384x1, .i32⟩
  | 84 => ⟨S16384x1, .i32⟩
  | 85 => ⟨S16384x1x1, .i32⟩
  | 86 => ⟨S1, .i32⟩
  | 87 => ⟨S_, .i32⟩
  | 88 => ⟨S16384x1x1, .i32⟩
  | 89 => ⟨S16384x1x1, .i1⟩
  | 90 => ⟨S1x1x1, .i32⟩
  | 91 => ⟨S16384x1x1, .i32⟩
  | 92 => ⟨S16384x1x1, .i1⟩
  | 93 => ⟨S16384x1x1, .i1⟩
  | 94 => ⟨S_, .i1⟩
  | 95 => ⟨S16384x1, .i1⟩
  | 96 => ⟨S16384x1, .f32⟩
  | 97 => ⟨S_, .f32⟩
  | 98 => ⟨S16384x1, .f32⟩
  | 99 => ⟨S16384x1, .f32⟩
  | 100 => ⟨S16384x4x8, .f32⟩
  | 101 => ⟨S1x4x8, .f32⟩
  | 102 => ⟨S16384x4x8, .f32⟩
  | 103 => ⟨S16384x4x8, .f32⟩
  | 104 => ⟨S16384, .i32⟩
  | 105 => ⟨S16384x1, .i32⟩
  | 106 => ⟨S1x4, .i32⟩
  | 107 => ⟨S16384x4, .i32⟩
  | 108 => ⟨S16384x4, .i32⟩
  | 109 => ⟨S16384x4, .i1⟩
  | 110 => ⟨S16384x4, .f32⟩
  | 111 => ⟨S16384x8, .f32⟩
  | 112 => ⟨S16384x2, .f32⟩
  | 113 => ⟨S16384x2, .i32⟩
  | 114 => ⟨S_, .f32⟩
  | 115 => ⟨S16384, .f32⟩
  | 116 => ⟨S_, .f32⟩
  | 117 => ⟨S16384, .f32⟩
  | 118 => ⟨S16384, .f32⟩
  | 119 => ⟨S16384x1, .f32⟩
  | 120 => ⟨S16384x2, .f32⟩
  | 121 => ⟨S16384x2, .f32⟩
  | 122 => ⟨S16384x2, .f32⟩
  | 123 => ⟨S_, .f32⟩
  | 124 => ⟨S16384, .f32⟩
  | 125 => ⟨S16384x1, .f32⟩
  | 126 => ⟨S16384x2, .f32⟩
  | 127 => ⟨S16384x2, .f32⟩
  | _ => ⟨S8x2048x1024, .f32⟩

abbrev hbmTy0_1 (i : Nat) : BufTy := match i % 128 with
  | 0 => ⟨S16384x2, .f32⟩
  | 1 => ⟨S16384x2, .f32⟩
  | 2 => ⟨S_, .i32⟩
  | 3 => ⟨S16384x1, .i32⟩
  | 4 => ⟨S16384x1, .i32⟩
  | 5 => ⟨S16384x2, .i32⟩
  | 6 => ⟨S16384x2, .i32⟩
  | 7 => ⟨S16384x2x1, .i32⟩
  | 8 => ⟨S1x1x32, .i32⟩
  | 9 => ⟨S16384x2x32, .i32⟩
  | 10 => ⟨S16384x2x32, .i32⟩
  | 11 => ⟨S16384x2x32, .i1⟩
  | 12 => ⟨S16384x2x32, .f32⟩
  | 13 => ⟨S16384x2x1, .f32⟩
  | 14 => ⟨S16384x2x32, .f32⟩
  | 15 => ⟨S16384x2x32, .f32⟩
  | 16 => ⟨S_, .f32⟩
  | 17 => ⟨S16384x32, .f32⟩
  | 18 => ⟨S16384x32x256, .f32⟩
  | 19 => ⟨S16384x32x256, .f32⟩
  | 20 => ⟨S16384x32x256, .f32⟩
  | 21 => ⟨S16384x32x256, .f32⟩
  | 22 => ⟨S_, .f32⟩
  | 23 => ⟨S16384x32x256, .f32⟩
  | 24 => ⟨S16384x32x256, .f32⟩
  | 25 => ⟨S_, .f32⟩
  | 26 => ⟨S16384x32x256, .f32⟩
  | 27 => ⟨S16384x32x256, .f32⟩
  | 28 => ⟨S16384x32x256, .f32⟩
  | 29 => ⟨S16384x32x256, .f32⟩
  | 30 => ⟨S16384x32x1, .f32⟩
  | 31 => ⟨S16384x32x256, .f32⟩
  | 32 => ⟨S16384x32x256, .f32⟩
  | 33 => ⟨S16384x1024, .f32⟩
  | 34 => ⟨S8x2048x1024, .f32⟩
  | 35 => ⟨S8x2048x1024, .f32⟩
  | 36 => ⟨S8x2048x1024, .f32⟩
  | 37 => ⟨S8x2048x1024, .f32⟩
  | 38 => ⟨S_, .f32⟩
  | 39 => ⟨S8x2048x1024, .f32⟩
  | 40 => ⟨S8x2048x1024, .f32⟩
  | 41 => ⟨S_, .f32⟩
  | 42 => ⟨S8x2048x1024, .f32⟩
  | 43 => ⟨S8x2048x1024, .f32⟩
  | 44 => ⟨S8x2048x1024, .f32⟩
  | 45 => ⟨S8x2048x1024, .f32⟩
  | 46 => ⟨S_, .f32⟩
  | 47 => ⟨S8x2048x1024, .f32⟩
  | 48 => ⟨S8x2048x1024, .f32⟩
  | 49 => ⟨S8x2048x1024, .f32⟩
  | 50 => ⟨S8x2048x1024, .f32⟩
  | 51 => ⟨S_, .f32⟩
  | 52 => ⟨S8x2048, .f32⟩
  | 53 => ⟨S8x2048x1, .f32⟩
  | 54 => ⟨S_, .f32⟩
  | 55 => ⟨S8x2048x1, .f32⟩
  | 56 => ⟨S8x2048x1, .f32⟩
  | 57 => ⟨S8x2048x1024, .f32⟩
  | 58 => ⟨S8x2048x1024, .f32⟩
  | 59 => ⟨S8x2048x1024, .f32⟩
  | 60 => ⟨S_, .f32⟩
  | 61 => ⟨S8x2048, .f32⟩
  | 62 => ⟨S8x2048x1, .f32⟩
  | 63 => ⟨S_, .f32⟩
  | 64 => ⟨S8x2048x1, .f32⟩
  | 65 => ⟨S8x2048x1, .f32⟩
  | 66 => ⟨S8x2048x1024, .f32⟩
  | 67 => ⟨S8x2048x1024, .f32⟩
  | 68 => ⟨S_, .f32⟩
  | 69 => ⟨S8x2048x1, .f32⟩
  | 70 => ⟨S8x2048x1, .f32⟩
  | 71 => ⟨S8x2048x1, .f32⟩
  | 72 => ⟨S8x2048x1024, .f32⟩
  | 73 => ⟨S8x2048x1024, .f32⟩
  | 74 => ⟨S1x1x1024, .f32⟩
  | 75 => ⟨S8x2048x1024, .f32⟩
  | 76 => ⟨S8x2048x1024, .f32⟩
  | 77 => ⟨S1x1x1024, .f32⟩
  | 78 => ⟨S8x2048x1024, .f32⟩
  | 79 => ⟨S8x2048x1024, .f32⟩
  | 80 => ⟨S16384x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_cst_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_7 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_values : Ref sig .tc := ⟨.hbm, 76, rfl⟩
abbrev main_indices : Ref sig .tc := ⟨.hbm, 77, rfl⟩
abbrev main_call0_c : Ref sig .tc := ⟨.hbm, 78, rfl⟩
abbrev main_call0_v0 : Ref sig .tc := ⟨.hbm, 79, rfl⟩
abbrev main_call0_v1 : Ref sig .tc := ⟨.hbm, 80, rfl⟩
abbrev main_call0_c_0 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_c_1 : Ref sig .tc := ⟨.hbm, 86, rfl⟩
abbrev main_call0_c_2 : Ref sig .tc := ⟨.hbm, 87, rfl⟩
abbrev main_call0_v6 : Ref sig .tc := ⟨.hbm, 88, rfl⟩
abbrev main_call0_v7 : Ref sig .tc := ⟨.hbm, 89, rfl⟩
abbrev main_call0_v8 : Ref sig .tc := ⟨.hbm, 90, rfl⟩
abbrev main_call0_v9 : Ref sig .tc := ⟨.hbm, 91, rfl⟩
abbrev main_call0_v10 : Ref sig .tc := ⟨.hbm, 92, rfl⟩
abbrev main_call0_v11 : Ref sig .tc := ⟨.hbm, 93, rfl⟩
abbrev main_call0_c_3 : Ref sig .tc := ⟨.hbm, 94, rfl⟩
abbrev main_call0_v12 : Ref sig .tc := ⟨.hbm, 95, rfl⟩
abbrev main_call0_v13 : Ref sig .tc := ⟨.hbm, 96, rfl⟩
abbrev main_call0_cst : Ref sig .tc := ⟨.hbm, 97, rfl⟩
abbrev main_call0_v14 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_v54 : Ref sig .tc := ⟨.hbm, 110, rfl⟩
abbrev main_v55 : Ref sig .tc := ⟨.hbm, 111, rfl⟩
abbrev main_values_8 : Ref sig .tc := ⟨.hbm, 112, rfl⟩
abbrev main_indices_9 : Ref sig .tc := ⟨.hbm, 113, rfl⟩
abbrev main_cst_10 : Ref sig .tc := ⟨.hbm, 114, rfl⟩
abbrev main_v56 : Ref sig .tc := ⟨.hbm, 115, rfl⟩
abbrev main_cst_11 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_cst_12 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_c : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_call2_v0 : Ref sig .tc := ⟨.hbm, 135, rfl⟩
abbrev main_call2_v1 : Ref sig .tc := ⟨.hbm, 136, rfl⟩
abbrev main_call2_v2 : Ref sig .tc := ⟨.hbm, 137, rfl⟩
abbrev main_call2_v3 : Ref sig .tc := ⟨.hbm, 138, rfl⟩
abbrev main_call2_v4 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_cst_13 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_call3_v0 : Ref sig .tc := ⟨.hbm, 148, rfl⟩
abbrev main_call3_v1 : Ref sig .tc := ⟨.hbm, 149, rfl⟩
abbrev main_call3_cst : Ref sig .tc := ⟨.hbm, 150, rfl⟩
abbrev main_call3_v2 : Ref sig .tc := ⟨.hbm, 151, rfl⟩
abbrev main_call3_v3 : Ref sig .tc := ⟨.hbm, 152, rfl⟩
abbrev main_call3_cst_0 : Ref sig .tc := ⟨.hbm, 153, rfl⟩
abbrev main_call3_v4 : Ref sig .tc := ⟨.hbm, 154, rfl⟩
abbrev main_call3_v5 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_cst_14 : Ref sig .tc := ⟨.hbm, 166, rfl⟩
abbrev main_v90 : Ref sig .tc := ⟨.hbm, 167, rfl⟩
abbrev main_v91 : Ref sig .tc := ⟨.hbm, 168, rfl⟩
abbrev main_cst_15 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_cst_16 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_cst_17 : Ref sig .tc := ⟨.hbm, 179, rfl⟩
abbrev main_v100 : Ref sig .tc := ⟨.hbm, 180, rfl⟩
abbrev main_v101 : Ref sig .tc := ⟨.hbm, 181, rfl⟩
abbrev main_cst_18 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_cst_19 : Ref sig .tc := ⟨.hbm, 188, rfl⟩
abbrev main_v107 : Ref sig .tc := ⟨.hbm, 189, rfl⟩
abbrev main_v108 : Ref sig .tc := ⟨.hbm, 190, rfl⟩
abbrev main_cst_20 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_cst_21 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩

abbrev nD : Nat := 1
abbrev τ : Topo := Topo.v7x

variable {F : FTy → Type} [FloatOps F]
-- ==== Kernel2.lean ====
abbrev S8x2048x768 : Shape := ⟨3, ![8, 2048, 768]⟩
abbrev S8x768x2048 : Shape := ⟨3, ![8, 768, 2048]⟩
abbrev S8x2048x384 : Shape := ⟨3, ![8, 2048, 384]⟩
abbrev S1x256x256 : Shape := ⟨3, ![1, 256, 256]⟩
abbrev S1x256x2048 : Shape := ⟨3, ![1, 256, 2048]⟩
abbrev S1x2048x128 : Shape := ⟨3, ![1, 2048, 128]⟩
abbrev S1x256x128 : Shape := ⟨3, ![1, 256, 128]⟩
abbrev S256x128 : Shape := ⟨2, ![256, 128]⟩
abbrev S256x256 : Shape := ⟨2, ![256, 256]⟩
abbrev S256x1 : Shape := ⟨2, ![256, 1]⟩
abbrev S1x128x256 : Shape := ⟨3, ![1, 128, 256]⟩
abbrev S128x256 : Shape := ⟨2, ![128, 256]⟩
abbrev S256 : Shape := ⟨1, ![256]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x768, .bf16⟩
  | .hbm, ⟨1, _⟩ => ⟨S8x768x2048, .bf16⟩
  | .hbm, ⟨2, _⟩ => ⟨S8x2048x384, .bf16⟩
  | .hbm, ⟨3, _⟩ => ⟨S8x2048x384, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | _, _ => ⟨S8x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 3, 8], ![false, false, false]⟩

def k0_mult1 (i : grid0.Coords) : BitVec 32 :=
  let arg2 : BitVec 32 := BitVec.ofNat 32 (i 2).val
  let c256_i32 : BitVec 32 := 256#32
  let v57 : BitVec 32 := Scalar.muli arg2 c256_i32
  v57
def k0_off1 (i : grid0.Coords) : Fin 3 → Nat :=
  let c0_15 : Index := 0#32
  let arg2 : BitVec 32 := BitVec.ofNat 32 (i 2).val
  let c256_i32 : BitVec 32 := 256#32
  let v57 : BitVec 32 := Scalar.muli arg2 c256_i32
  let v58 : BitVec 32 := v57
  let v59 : Index := Scalar.indexCast v58
  let c0_16 : Index := 0#32
  ![0, v59.toNat, 0]
def k0_mult2 (i : grid0.Coords) : BitVec 32 :=
  let arg2 : BitVec 32 := BitVec.ofNat 32 (i 2).val
  let c256_i32_17 : BitVec 32 := 256#32
  let v62 : BitVec 32 := Scalar.muli arg2 c256_i32_17
  v62
def k0_off2 (i : grid0.Coords) : Fin 3 → Nat :=
  let c0_18 : Index := 0#32
  let c0_19 : Index := 0#32
  let arg2 : BitVec 32 := BitVec.ofNat 32 (i 2).val
  let c256_i32_17 : BitVec 32 := 256#32
  let v62 : BitVec 32 := Scalar.muli arg2 c256_i32_17
  let v63 : BitVec 32 := v62
  let v64 : Index := Scalar.indexCast v63
  ![0, 0, v64.toNat]
@[reducible] def k0_t1_loop (i : grid0.Coords) : Scf.Loop 32 :=
  let c0_i32_25 : BitVec 32 := 0#32
  let arg2 : BitVec 32 := BitVec.ofNat 32 (i 2).val
  let v87 : BitVec 32 := Scalar.subi arg2 c0_i32_25
  let c1_i32_26 : BitVec 32 := 1#32
  let v89 : BitVec 32 := Scalar.divsi v87 c1_i32_26
  let v90 : BitVec 32 := Scalar.muli v89 c1_i32_26
  let v91 : BitVec 32 := Scalar.addi c0_i32_25 v90
  let c1_i32_27 : BitVec 32 := 1#32
  ⟨c0_i32_25, v91, c1_i32_27⟩
def k0_mult3 (i : grid0.Coords) (k0_t1 : Fin (k0_t1_loop i).trips) : BitVec 32 :=
  let c0_i32_25 : BitVec 32 := 0#32
  let c1_i32_27 : BitVec 32 := 1#32
  let arg7 : BitVec 32 := Scf.iv c0_i32_25 c1_i32_27 k0_t1
  let c256_i32_55 : BitVec 32 := 256#32
  let v151 : BitVec 32 := Scalar.muli arg7 c256_i32_55
  v151
def k0_off3 (i : grid0.Coords) (k0_t1 : Fin (k0_t1_loop i).trips) : Fin 3 → Nat :=
  let c0_56 : Index := 0#32
  let c0_i32_25 : BitVec 32 := 0#32
  let c1_i32_27 : BitVec 32 := 1#32
  let arg7 : BitVec 32 := Scf.iv c0_i32_25 c1_i32_27 k0_t1
  let c256_i32_55 : BitVec 32 := 256#32
  let v151 : BitVec 32 := Scalar.muli arg7 c256_i32_55
  let v152 : BitVec 32 := v151
  let v153 : Index := Scalar.indexCast v152
  let c0_57 : Index := 0#32
  ![0, v153.toNat, 0]
def k0_mult4 (i : grid0.Coords) (k0_t1 : Fin (k0_t1_loop i).trips) : BitVec 32 :=
  let c0_i32_25 : BitVec 32 := 0#32
  let c1_i32_27 : BitVec 32 := 1#32
  let arg7 : BitVec 32 := Scf.iv c0_i32_25 c1_i32_27 k0_t1
  let c256_i32_58 : BitVec 32 := 256#32
  let v156 : BitVec 32 := Scalar.muli arg7 c256_i32_58
  v156
def k0_off4 (i : grid0.Coords) (k0_t1 : Fin (k0_t1_loop i).trips) : Fin 3 → Nat :=
  let c0_59 : Index := 0#32
  let c0_60 : Index := 0#32
  let c0_i32_25 : BitVec 32 := 0#32
  let c1_i32_27 : BitVec 32 := 1#32
  let arg7 : BitVec 32 := Scf.iv c0_i32_25 c1_i32_27 k0_t1
  let c256_i32_58 : BitVec 32 := 256#32
  let v156 : BitVec 32 := Scalar.muli arg7 c256_i32_58
  let v157 : BitVec 32 := v156
  let v158 : Index := Scalar.indexCast v157
  ![0, 0, v158.toNat]
@[reducible] def k0_t2_loop (i : grid0.Coords) : Scf.Loop 32 :=
  let c0_i32_25 : BitVec 32 := 0#32
  let arg2 : BitVec 32 := BitVec.ofNat 32 (i 2).val
  let v87 : BitVec 32 := Scalar.subi arg2 c0_i32_25
  let c1_i32_26 : BitVec 32 := 1#32
  let v89 : BitVec 32 := Scalar.divsi v87 c1_i32_26
  let v90 : BitVec 32 := Scalar.muli v89 c1_i32_26
  let v91 : BitVec 32 := Scalar.addi c0_i32_25 v90
  let v88 : BitVec 32 := Scalar.addi c0_i32_25 v87
  let c1_i32_28 : BitVec 32 := 1#32
  ⟨v91, v88, c1_i32_28⟩
def k0_mult5 (i : grid0.Coords) (k0_t2 : Fin (k0_t2_loop i).trips) : BitVec 32 :=
  let c0_i32_25 : BitVec 32 := 0#32
  let arg2 : BitVec 32 := BitVec.ofNat 32 (i 2).val
  let v87 : BitVec 32 := Scalar.subi arg2 c0_i32_25
  let c1_i32_26 : BitVec 32 := 1#32
  let v89 : BitVec 32 := Scalar.divsi v87 c1_i32_26
  let v90 : BitVec 32 := Scalar.muli v89 c1_i32_26
  let v91 : BitVec 32 := Scalar.addi c0_i32_25 v90
  let c1_i32_28 : BitVec 32 := 1#32
  let arg7 : BitVec 32 := Scf.iv v91 c1_i32_28 k0_t2
  let c256_i32_55 : BitVec 32 := 256#32
  let v151 : BitVec 32 := Scalar.muli arg7 c256_i32_55
  v151
def k0_off5 (i : grid0.Coords) (k0_t2 : Fin (k0_t2_loop i).trips) : Fin 3 → Nat :=
  let c0_56 : Index := 0#32
  let c0_i32_25 : BitVec 32 := 0#32
  let arg2 : BitVec 32 := BitVec.ofNat 32 (i 2).val
  let v87 : BitVec 32 := Scalar.subi arg2 c0_i32_25
  let c1_i32_26 : BitVec 32 := 1#32
  let v89 : BitVec 32 := Scalar.divsi v87 c1_i32_26
  let v90 : BitVec 32 := Scalar.muli v89 c1_i32_26
  let v91 : BitVec 32 := Scalar.addi c0_i32_25 v90
  let c1_i32_28 : BitVec 32 := 1#32
  let arg7 : BitVec 32 := Scf.iv v91 c1_i32_28 k0_t2
  let c256_i32_55 : BitVec 32 := 256#32
  let v151 : BitVec 32 := Scalar.muli arg7 c256_i32_55
  let v152 : BitVec 32 := v151
  let v153 : Index := Scalar.indexCast v152
  let c0_57 : Index := 0#32
  ![0, v153.toNat, 0]
def k0_mult6 (i : grid0.Coords) (k0_t2 : Fin (k0_t2_loop i).trips) : BitVec 32 :=
  let c0_i32_25 : BitVec 32 := 0#32
  let arg2 : BitVec 32 := BitVec.ofNat 32 (i 2).val
  let v87 : BitVec 32 := Scalar.subi arg2 c0_i32_25
  let c1_i32_26 : BitVec 32 := 1#32
  let v89 : BitVec 32 := Scalar.divsi v87 c1_i32_26
  let v90 : BitVec 32 := Scalar.muli v89 c1_i32_26
  let v91 : BitVec 32 := Scalar.addi c0_i32_25 v90
  let c1_i32_28 : BitVec 32 := 1#32
  let arg7 : BitVec 32 := Scf.iv v91 c1_i32_28 k0_t2
  let c256_i32_58 : BitVec 32 := 256#32
  let v156 : BitVec 32 := Scalar.muli arg7 c256_i32_58
  v156
def k0_off6 (i : grid0.Coords) (k0_t2 : Fin (k0_t2_loop i).trips) : Fin 3 → Nat :=
  let c0_59 : Index := 0#32
  let c0_60 : Index := 0#32
  let c0_i32_25 : BitVec 32 := 0#32
  let arg2 : BitVec 32 := BitVec.ofNat 32 (i 2).val
  let v87 : BitVec 32 := Scalar.subi arg2 c0_i32_25
  let c1_i32_26 : BitVec 32 := 1#32
  let v89 : BitVec 32 := Scalar.divsi v87 c1_i32_26
  let v90 : BitVec 32 := Scalar.muli v89 c1_i32_26
  let v91 : BitVec 32 := Scalar.addi c0_i32_25 v90
  let c1_i32_28 : BitVec 32 := 1#32
  let arg7 : BitVec 32 := Scf.iv v91 c1_i32_28 k0_t2
  let c256_i32_58 : BitVec 32 := 256#32
  let v156 : BitVec 32 := Scalar.muli arg7 c256_i32_58
  let v157 : BitVec 32 := v156
  let v158 : Index := Scalar.indexCast v157
  ![0, 0, v158.toNat]
def k0_mult7 (i : grid0.Coords) : BitVec 32 :=
  let arg2 : BitVec 32 := BitVec.ofNat 32 (i 2).val
  let c256_i32_35 : BitVec 32 := 256#32
  let v103 : BitVec 32 := Scalar.muli arg2 c256_i32_35
  v103
def k0_mult8 (i : grid0.Coords) : BitVec 32 :=
  let arg2 : BitVec 32 := BitVec.ofNat 32 (i 2).val
  let c256_i32_38 : BitVec 32 := 256#32
  let v108 : BitVec 32 := Scalar.muli arg2 c256_i32_38
  v108
def k0_off7 (i : grid0.Coords) : Fin 3 → Nat :=
  let c0_39 : Index := 0#32
  let c128_40 : Index := 128#32
  let arg2 : BitVec 32 := BitVec.ofNat 32 (i 2).val
  let c256_i32_38 : BitVec 32 := 256#32
  let v108 : BitVec 32 := Scalar.muli arg2 c256_i32_38
  let v109 : BitVec 32 := v108
  let v110 : Index := Scalar.indexCast v109
  ![0, 128, v110.toNat]
@[reducible] def k0_t3_loop (i : grid0.Coords) : Scf.Loop 32 :=
  let c0_i32_46 : BitVec 32 := 0#32
  let arg2 : BitVec 32 := BitVec.ofNat 32 (i 2).val
  let v133 : BitVec 32 := Scalar.subi arg2 c0_i32_46
  let c1_i32_47 : BitVec 32 := 1#32
  let v135 : BitVec 32 := Scalar.divsi v133 c1_i32_47
  let v136 : BitVec 32 := Scalar.muli v135 c1_i32_47
  let v137 : BitVec 32 := Scalar.addi c0_i32_46 v136
  let c1_i32_48 : BitVec 32 := 1#32
  ⟨c0_i32_46, v137, c1_i32_48⟩
def k0_mult9 (i : grid0.Coords) (k0_t3 : Fin (k0_t3_loop i).trips) : BitVec 32 :=
  let c0_i32_46 : BitVec 32 := 0#32
  let c1_i32_48 : BitVec 32 := 1#32
  let arg7 : BitVec 32 := Scf.iv c0_i32_46 c1_i32_48 k0_t3
  let c256_i32_55 : BitVec 32 := 256#32
  let v151 : BitVec 32 := Scalar.muli arg7 c256_i32_55
  v151
def k0_off8 (i : grid0.Coords) (k0_t3 : Fin (k0_t3_loop i).trips) : Fin 3 → Nat :=
  let c0_56 : Index := 0#32
  let c0_i32_46 : BitVec 32 := 0#32
  let c1_i32_48 : BitVec 32 := 1#32
  let arg7 : BitVec 32 := Scf.iv c0_i32_46 c1_i32_48 k0_t3
  let c256_i32_55 : BitVec 32 := 256#32
  let v151 : BitVec 32 := Scalar.muli arg7 c256_i32_55
  let v152 : BitVec 32 := v151
  let v153 : Index := Scalar.indexCast v152
  let c0_57 : Index := 0#32
  ![0, v153.toNat, 0]
def k0_mult10 (i : grid0.Coords) (k0_t3 : Fin (k0_t3_loop i).trips) : BitVec 32 :=
  let c0_i32_46 : BitVec 32 := 0#32
  let c1_i32_48 : BitVec 32 := 1#32
  let arg7 : BitVec 32 := Scf.iv c0_i32_46 c1_i32_48 k0_t3
  let c256_i32_58 : BitVec 32 := 256#32
  let v156 : BitVec 32 := Scalar.muli arg7 c256_i32_58
  v156
def k0_off9 (i : grid0.Coords) (k0_t3 : Fin (k0_t3_loop i).trips) : Fin 3 → Nat :=
  let c0_59 : Index := 0#32
  let c128_60 : Index := 128#32
  let c0_i32_46 : BitVec 32 := 0#32
  let c1_i32_48 : BitVec 32 := 1#32
  let arg7 : BitVec 32 := Scf.iv c0_i32_46 c1_i32_48 k0_t3
  let c256_i32_58 : BitVec 32 := 256#32
  let v156 : BitVec 32 := Scalar.muli arg7 c256_i32_58
  let v157 : BitVec 32 := v156
  let v158 : Index := Scalar.indexCast v157
  ![0, 128, v158.toNat]
@[reducible] def k0_t4_loop (i : grid0.Coords) : Scf.Loop 32 :=
  let c0_i32_46 : BitVec 32 := 0#32
  let arg2 : BitVec 32 := BitVec.ofNat 32 (i 2).val
  let v133 : BitVec 32 := Scalar.subi arg2 c0_i32_46
  let c1_i32_47 : BitVec 32 := 1#32
  let v135 : BitVec 32 := Scalar.divsi v133 c1_i32_47
  let v136 : BitVec 32 := Scalar.muli v135 c1_i32_47
  let v137 : BitVec 32 := Scalar.addi c0_i32_46 v136
  let v134 : BitVec 32 := Scalar.addi c0_i32_46 v133
  let c1_i32_49 : BitVec 32 := 1#32
  ⟨v137, v134, c1_i32_49⟩
def k0_mult11 (i : grid0.Coords) (k0_t4 : Fin (k0_t4_loop i).trips) : BitVec 32 :=
  let c0_i32_46 : BitVec 32 := 0#32
  let arg2 : BitVec 32 := BitVec.ofNat 32 (i 2).val
  let v133 : BitVec 32 := Scalar.subi arg2 c0_i32_46
  let c1_i32_47 : BitVec 32 := 1#32
  let v135 : BitVec 32 := Scalar.divsi v133 c1_i32_47
  let v136 : BitVec 32 := Scalar.muli v135 c1_i32_47
  let v137 : BitVec 32 := Scalar.addi c0_i32_46 v136
  let c1_i32_49 : BitVec 32 := 1#32
  let arg7 : BitVec 32 := Scf.iv v137 c1_i32_49 k0_t4
  let c256_i32_55 : BitVec 32 := 256#32
  let v151 : BitVec 32 := Scalar.muli arg7 c256_i32_55
  v151
def k0_off10 (i : grid0.Coords) (k0_t4 : Fin (k0_t4_loop i).trips) : Fin 3 → Nat :=
  let c0_56 : Index := 0#32
  let c0_i32_46 : BitVec 32 := 0#32
  let arg2 : BitVec 32 := BitVec.ofNat 32 (i 2).val
  let v133 : BitVec 32 := Scalar.subi arg2 c0_i32_46
  let c1_i32_47 : BitVec 32 := 1#32
  let v135 : BitVec 32 := Scalar.divsi v133 c1_i32_47
  let v136 : BitVec 32 := Scalar.muli v135 c1_i32_47
  let v137 : BitVec 32 := Scalar.addi c0_i32_46 v136
  let c1_i32_49 : BitVec 32 := 1#32
  let arg7 : BitVec 32 := Scf.iv v137 c1_i32_49 k0_t4
  let c256_i32_55 : BitVec 32 := 256#32
  let v151 : BitVec 32 := Scalar.muli arg7 c256_i32_55
  let v152 : BitVec 32 := v151
  let v153 : Index := Scalar.indexCast v152
  let c0_57 : Index := 0#32
  ![0, v153.toNat, 0]
def k0_mult12 (i : grid0.Coords) (k0_t4 : Fin (k0_t4_loop i).trips) : BitVec 32 :=
  let c0_i32_46 : BitVec 32 := 0#32
  let arg2 : BitVec 32 := BitVec.ofNat 32 (i 2).val
  let v133 : BitVec 32 := Scalar.subi arg2 c0_i32_46
  let c1_i32_47 : BitVec 32 := 1#32
  let v135 : BitVec 32 := Scalar.divsi v133 c1_i32_47
  let v136 : BitVec 32 := Scalar.muli v135 c1_i32_47
  let v137 : BitVec 32 := Scalar.addi c0_i32_46 v136
  let c1_i32_49 : BitVec 32 := 1#32
  let arg7 : BitVec 32 := Scf.iv v137 c1_i32_49 k0_t4
  let c256_i32_58 : BitVec 32 := 256#32
  let v156 : BitVec 32 := Scalar.muli arg7 c256_i32_58
  v156
def k0_off11 (i : grid0.Coords) (k0_t4 : Fin (k0_t4_loop i).trips) : Fin 3 → Nat :=
  let c0_59 : Index := 0#32
  let c128_60 : Index := 128#32
  let c0_i32_46 : BitVec 32 := 0#32
  let arg2 : BitVec 32 := BitVec.ofNat 32 (i 2).val
  let v133 : BitVec 32 := Scalar.subi arg2 c0_i32_46
  let c1_i32_47 : BitVec 32 := 1#32
  let v135 : BitVec 32 := Scalar.divsi v133 c1_i32_47
  let v136 : BitVec 32 := Scalar.muli v135 c1_i32_47
  let v137 : BitVec 32 := Scalar.addi c0_i32_46 v136
  let c1_i32_49 : BitVec 32 := 1#32
  let arg7 : BitVec 32 := Scf.iv v137 c1_i32_49 k0_t4
  let c256_i32_58 : BitVec 32 := 256#32
  let v156 : BitVec 32 := Scalar.muli arg7 c256_i32_58
  let v157 : BitVec 32 := v156
  let v158 : Index := Scalar.indexCast v157
  ![0, 128, v158.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel2Ideal.lean ====
variable {F : FTy → Type} [FloatOps F] [Named F]
def κ : String → Option EReal := fun
  | "mask" => some ⊥
  | _ => none
-- ==== Reference2Ideal.lean ====
abbrev S8x2048x768 : Shape := ⟨3, ![8, 2048, 768]⟩
abbrev S8x768x2048 : Shape := ⟨3, ![8, 768, 2048]⟩
abbrev S8x2048x384 : Shape := ⟨3, ![8, 2048, 384]⟩
abbrev S8x2048x6x128 : Shape := ⟨4, ![8, 2048, 6, 128]⟩
abbrev S8x6x2048x128 : Shape := ⟨4, ![8, 6, 2048, 128]⟩
abbrev S8x6x128x2048 : Shape := ⟨4, ![8, 6, 128, 2048]⟩
abbrev S8x2048x6x64 : Shape := ⟨4, ![8, 2048, 6, 64]⟩
abbrev S8x6x2048x64 : Shape := ⟨4, ![8, 6, 2048, 64]⟩
abbrev S8x6x2048x2048 : Shape := ⟨4, ![8, 6, 2048, 2048]⟩
abbrev S2048 : Shape := ⟨1, ![2048]⟩
abbrev S2048x1 : Shape := ⟨2, ![2048, 1]⟩
abbrev S1x2048 : Shape := ⟨2, ![1, 2048]⟩
abbrev S_ : Shape := ⟨0, ![]⟩
abbrev S2048x2048 : Shape := ⟨2, ![2048, 2048]⟩
abbrev S8x6x2048 : Shape := ⟨3, ![8, 6, 2048]⟩
abbrev S8x6x2048x1 : Shape := ⟨4, ![8, 6, 2048, 1]⟩

abbrev nBuf : Space → Nat
  | .hbm => 79
  | .vmem => 0
  | .smem => 0
  | _ => 0

abbrev bufTy : (tb : Table) → Fin (tcTables nBuf tb) → BufTy
  | .hbm, ⟨0, _⟩ => ⟨S8x2048x768, .bf16⟩
  | .hbm, ⟨1, _⟩ => ⟨S8x768x2048, .bf16⟩
  | .hbm, ⟨2, _⟩ => ⟨S8x2048x384, .bf16⟩
  | .hbm, ⟨3, _⟩ => ⟨S8x2048x768, .f32⟩
  | .hbm, ⟨4, _⟩ => ⟨S8x2048x6x128, .f32⟩
  | .hbm, ⟨5, _⟩ => ⟨S8x6x2048x128, .f32⟩
  | .hbm, ⟨6, _⟩ => ⟨S8x768x2048, .f32⟩
  | .hbm, ⟨7, _⟩ => ⟨S8x6x128x2048, .f32⟩
  | .hbm, ⟨8, _⟩ => ⟨S8x6x2048x128, .f32⟩
  | .hbm, ⟨9, _⟩ => ⟨S8x2048x384, .f32⟩
  | .hbm, ⟨10, _⟩ => ⟨S8x2048x6x64, .f32⟩
  | .hbm, ⟨11, _⟩ => ⟨S8x6x2048x64, .f32⟩
  | .hbm, ⟨12, _⟩ => ⟨S8x6x2048x2048, .f32⟩
  | .hbm, ⟨13, _⟩ => ⟨S2048, .i32⟩
  | .hbm, ⟨14, _⟩ => ⟨S2048x1, .i32⟩
  | .hbm, ⟨15, _⟩ => ⟨S2048, .i32⟩
  | .hbm, ⟨16, _⟩ => ⟨S1x2048, .i32⟩
  | .hbm, ⟨17, _⟩ => ⟨S_, .i32⟩
  | .hbm, ⟨18, _⟩ => ⟨S_, .i32⟩
  | .hbm, ⟨19, _⟩ => ⟨S1x2048, .i32⟩
  | .hbm, ⟨20, _⟩ => ⟨S1x2048, .i32⟩
  | .hbm, ⟨21, _⟩ => ⟨S1x2048, .i32⟩
  | .hbm, ⟨22, _⟩ => ⟨S_, .i32⟩
  | .hbm, ⟨23, _⟩ => ⟨S1x2048, .i32⟩
  | .hbm, ⟨24, _⟩ => ⟨S1x2048, .i1⟩
  | .hbm, ⟨25, _⟩ => ⟨S1x2048, .i32⟩
  | .hbm, ⟨26, _⟩ => ⟨S1x2048, .i32⟩
  | .hbm, ⟨27, _⟩ => ⟨S_, .i32⟩
  | .hbm, ⟨28, _⟩ => ⟨S1x2048, .i32⟩
  | .hbm, ⟨29, _⟩ => ⟨S1x2048, .i1⟩
  | .hbm, ⟨30, _⟩ => ⟨S1x2048, .i1⟩
  | .hbm, ⟨31, _⟩ => ⟨S_, .i32⟩
  | .hbm, ⟨32, _⟩ => ⟨S1x2048, .i32⟩
  | .hbm, ⟨33, _⟩ => ⟨S1x2048, .i32⟩
  | .hbm, ⟨34, _⟩ => ⟨S1x2048, .i32⟩
  | .hbm, ⟨35, _⟩ => ⟨S_, .i32⟩
  | .hbm, ⟨36, _⟩ => ⟨S_, .i32⟩
  | .hbm, ⟨37, _⟩ => ⟨S2048x1, .i32⟩
  | .hbm, ⟨38, _⟩ => ⟨S2048x1, .i32⟩
  | .hbm, ⟨39, _⟩ => ⟨S2048x1, .i32⟩
  | .hbm, ⟨40, _⟩ => ⟨S_, .i32⟩
  | .hbm, ⟨41, _⟩ => ⟨S2048x1, .i32⟩
  | .hbm, ⟨42, _⟩ => ⟨S2048x1, .i1⟩
  | .hbm, ⟨43, _⟩ => ⟨S2048x1, .i32⟩
  | .hbm, ⟨44, _⟩ => ⟨S2048x1, .i32⟩
  | .hbm, ⟨45, _⟩ => ⟨S_, .i32⟩
  | .hbm, ⟨46, _⟩ => ⟨S2048x1, .i32⟩
  | .hbm, ⟨47, _⟩ => ⟨S2048x1, .i1⟩
  | .hbm, ⟨48, _⟩ => ⟨S2048x1, .i1⟩
  | .hbm, ⟨49, _⟩ => ⟨S_, .i32⟩
  | .hbm, ⟨50, _⟩ => ⟨S2048x1, .i32⟩
  | .hbm, ⟨51, _⟩ => ⟨S2048x1, .i32⟩
  | .hbm, ⟨52, _⟩ => ⟨S2048x1, .i32⟩
  | .hbm, ⟨53, _⟩ => ⟨S2048x2048, .i32⟩
  | .hbm, ⟨54, _⟩ => ⟨S2048x2048, .i32⟩
  | .hbm, ⟨55, _⟩ => ⟨S2048x2048, .i1⟩
  | .hbm, ⟨56, _⟩ => ⟨S_, .f32⟩
  | .hbm, ⟨57, _⟩ => ⟨S_, .f32⟩
  | .hbm, ⟨58, _⟩ => ⟨S8x6x2048x2048, .i1⟩
  | .hbm, ⟨59, _⟩ => ⟨S8x6x2048x2048, .f32⟩
  | .hbm, ⟨60, _⟩ => ⟨S8x6x2048x2048, .f32⟩
  | .hbm, ⟨61, _⟩ => ⟨S_, .f32⟩
  | .hbm, ⟨62, _⟩ => ⟨S8x6x2048, .f32⟩
  | .hbm, ⟨63, _⟩ => ⟨S_, .f32⟩
  | .hbm, ⟨64, _⟩ => ⟨S8x6x2048, .f32⟩
  | .hbm, ⟨65, _⟩ => ⟨S8x6x2048, .f32⟩
  | .hbm, ⟨66, _⟩ => ⟨S8x6x2048x1, .f32⟩
  | .hbm, ⟨67, _⟩ => ⟨S8x6x2048x2048, .f32⟩
  | .hbm, ⟨68, _⟩ => ⟨S8x6x2048x2048, .f32⟩
  | .hbm, ⟨69, _⟩ => ⟨S8x6x2048x2048, .f32⟩
  | .hbm, ⟨70, _⟩ => ⟨S_, .f32⟩
  | .hbm, ⟨71, _⟩ => ⟨S8x6x2048, .f32⟩
  | .hbm, ⟨72, _⟩ => ⟨S8x6x2048x1, .f32⟩
  | .hbm, ⟨73, _⟩ => ⟨S8x6x2048x2048, .f32⟩
  | .hbm, ⟨74, _⟩ => ⟨S8x6x2048x2048, .f32⟩
  | .hbm, ⟨75, _⟩ => ⟨S8x6x2048x64, .f32⟩
  | .hbm, ⟨76, _⟩ => ⟨S8x2048x6x64, .f32⟩
  | .hbm, ⟨77, _⟩ => ⟨S8x2048x384, .f32⟩
  | .hbm, ⟨78, _⟩ => ⟨S8x2048x384, .bf16⟩
  | _, _ => ⟨S8x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v14 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_cst : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v19 : Ref sig .tc := ⟨.hbm, 60, rfl⟩
abbrev main_cst_1 : Ref sig .tc := ⟨.hbm, 61, rfl⟩
abbrev main_v20 : Ref sig .tc := ⟨.hbm, 62, rfl⟩
abbrev main_cst_2 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_cst_3 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩

abbrev nD : Nat := 1
abbrev τ : Topo := Topo.v7x

variable {F : FTy → Type} [FloatOps F]
-- ==== Kernel3.lean ====
abbrev S8x2048x256 : Shape := ⟨3, ![8, 2048, 256]⟩
abbrev S8x256x2048 : Shape := ⟨3, ![8, 256, 2048]⟩
abbrev S8x16x2048 : Shape := ⟨3, ![8, 16, 2048]⟩
abbrev S8x4x2048 : Shape := ⟨3, ![8, 4, 2048]⟩
abbrev S8x2x2x2048 : Shape := ⟨4, ![8, 2, 2, 2048]⟩
abbrev S8x2x2048x2 : Shape := ⟨4, ![8, 2, 2048, 2]⟩
abbrev S1x256x128 : Shape := ⟨3, ![1, 256, 128]⟩
abbrev S1x128x2048 : Shape := ⟨3, ![1, 128, 2048]⟩
abbrev S1x2048x128 : Shape := ⟨3, ![1, 2048, 128]⟩
abbrev S1x1x256x2 : Shape := ⟨4, ![1, 1, 256, 2]⟩
abbrev S1x1x2x2048 : Shape := ⟨4, ![1, 1, 2, 2048]⟩
abbrev S256x128 : Shape := ⟨2, ![256, 128]⟩
abbrev S256x256 : Shape := ⟨2, ![256, 256]⟩
abbrev S1x1x256x1 : Shape := ⟨4, ![1, 1, 256, 1]⟩
abbrev S256x1 : Shape := ⟨2, ![256, 1]⟩
abbrev S1x128x256 : Shape := ⟨3, ![1, 128, 256]⟩
abbrev S128x256 : Shape := ⟨2, ![128, 256]⟩
abbrev S1x1x1x256 : Shape := ⟨4, ![1, 1, 1, 256]⟩
abbrev S1x256 : Shape := ⟨2, ![1, 256]⟩
abbrev S256 : Shape := ⟨1, ![256]⟩

abbrev nBuf : Space → Nat
  | .hbm => 8
  | .vmem => 12
  | .smem => 0
  | _ => 0

abbrev bufTy : (tb : Table) → Fin (tcTables nBuf tb) → BufTy
  | .hbm, ⟨0, _⟩ => ⟨S8x2048x256, .bf16⟩
  | .hbm, ⟨1, _⟩ => ⟨S8x256x2048, .bf16⟩
  | .hbm, ⟨2, _⟩ => ⟨S8x2048x256, .bf16⟩
  | .hbm, ⟨3, _⟩ => ⟨S8x16x2048, .f32⟩
  | .hbm, ⟨4, _⟩ => ⟨S8x4x2048, .f32⟩
  | .hbm, ⟨5, _⟩ => ⟨S8x2x2x2048, .f32⟩
  | .hbm, ⟨6, _⟩ => ⟨S8x2x2048x2, .f32⟩
  | .hbm, ⟨7, _⟩ => ⟨S8x2048x256, .bf16⟩
  | .local _ .vmem, ⟨0, _⟩ => ⟨S1x256x128, .bf16⟩
  | .local _ .vmem, ⟨1, _⟩ => ⟨S1x256x128, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1x256x2, .f32⟩
  | .local _ .vmem, ⟨7, _⟩ => ⟨S1x1x256x2, .f32⟩
  | .local _ .vmem, ⟨8, _⟩ => ⟨S1x1x2x2048, .f32⟩
  | .local _ .vmem, ⟨9, _⟩ => ⟨S1x1x2x2048, .f32⟩
  | .local _ .vmem, ⟨10, _⟩ => ⟨S1x256x128, .bf16⟩
  | .local _ .vmem, ⟨11, _⟩ => ⟨S1x256x128, .bf16⟩
  | _, _ => ⟨S8x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 8], ![false, false, false]⟩

def k0_mult1 (i : grid0.Coords) : BitVec 32 :=
  let arg2 : BitVec 32 := BitVec.ofNat 32 (i 2).val
  let c256_i32 : BitVec 32 := 256#32
  let v18 : BitVec 32 := Scalar.muli arg2 c256_i32
  v18
def k0_off1 (i : grid0.Coords) : Fin 3 → Nat :=
  let c0_9 : Index := 0#32
  let arg2 : BitVec 32 := BitVec.ofNat 32 (i 2).val
  let c256_i32 : BitVec 32 := 256#32
  let v18 : BitVec 32 := Scalar.muli arg2 c256_i32
  let v19 : BitVec 32 := v18
  let v20 : Index := Scalar.indexCast v19
  let c0_10 : Index := 0#32
  ![0, v20.toNat, 0]
def k0_mult2 (i : grid0.Coords) : BitVec 32 :=
  let arg2 : BitVec 32 := BitVec.ofNat 32 (i 2).val
  let c256_i32_11 : BitVec 32 := 256#32
  let v23 : BitVec 32 := Scalar.muli arg2 c256_i32_11
  v23
def k0_off2 (i : grid0.Coords) : Fin 3 → Nat :=
  let c0_12 : Index := 0#32
  let c0_13 : Index := 0#32
  let arg2 : BitVec 32 := BitVec.ofNat 32 (i 2).val
  let c256_i32_11 : BitVec 32 := 256#32
  let v23 : BitVec 32 := Scalar.muli arg2 c256_i32_11
  let v24 : BitVec 32 := v23
  let v25 : Index := Scalar.indexCast v24
  ![0, 0, v25.toNat]
def k0_mult3 (i : grid0.Coords) : BitVec 32 :=
  let arg2 : BitVec 32 := BitVec.ofNat 32 (i 2).val
  let c256_i32_14 : BitVec 32 := 256#32
  let v28 : BitVec 32 := Scalar.muli arg2 c256_i32_14
  v28
def k0_off3 (i : grid0.Coords) : Fin 4 → Nat :=
  let c0_15 : Index := 0#32
  let c0_16 : Index := 0#32
  let c0_17 : Index := 0#32
  let arg2 : BitVec 32 := BitVec.ofNat 32 (i 2).val
  let c256_i32_14 : BitVec 32 := 256#32
  let v28 : BitVec 32 := Scalar.muli arg2 c256_i32_14
  let v29 : BitVec 32 := v28
  let v30 : Index := Scalar.indexCast v29
  ![0, 0, 0, v30.toNat]
@[reducible] def k0_t1_loop (i : grid0.Coords) : Scf.Loop 32 :=
  let c0_i32_23 : BitVec 32 := 0#32
  let arg2 : BitVec 32 := BitVec.ofNat 32 (i 2).val
  let v57 : BitVec 32 := Scalar.subi arg2 c0_i32_23
  let c1_i32 : BitVec 32 := 1#32
  let v59 : BitVec 32 := Scalar.divsi v57 c1_i32
  let v60 : BitVec 32 := Scalar.muli v59 c1_i32
  let v61 : BitVec 32 := Scalar.addi c0_i32_23 v60
  let c1_i32_24 : BitVec 32 := 1#32
  ⟨c0_i32_23, v61, c1_i32_24⟩
def k0_mult4 (i : grid0.Coords) (k0_t1 : Fin (k0_t1_loop i).trips) : BitVec 32 :=
  let c0_i32_23 : BitVec 32 := 0#32
  let c1_i32_24 : BitVec 32 := 1#32
  let arg9 : BitVec 32 := Scf.iv c0_i32_23 c1_i32_24 k0_t1
  let c256_i32_59 : BitVec 32 := 256#32
  let v137 : BitVec 32 := Scalar.muli arg9 c256_i32_59
  v137
def k0_off4 (i : grid0.Coords) (k0_t1 : Fin (k0_t1_loop i).trips) : Fin 3 → Nat :=
  let c0_60 : Index := 0#32
  let c0_i32_23 : BitVec 32 := 0#32
  let c1_i32_24 : BitVec 32 := 1#32
  let arg9 : BitVec 32 := Scf.iv c0_i32_23 c1_i32_24 k0_t1
  let c256_i32_59 : BitVec 32 := 256#32
  let v137 : BitVec 32 := Scalar.muli arg9 c256_i32_59
  let v138 : BitVec 32 := v137
  let v139 : Index := Scalar.indexCast v138
  let c0_61 : Index := 0#32
  ![0, v139.toNat, 0]
def k0_mult5 (i : grid0.Coords) (k0_t1 : Fin (k0_t1_loop i).trips) : BitVec 32 :=
  let c0_i32_23 : BitVec 32 := 0#32
  let c1_i32_24 : BitVec 32 := 1#32
  let arg9 : BitVec 32 := Scf.iv c0_i32_23 c1_i32_24 k0_t1
  let c256_i32_62 : BitVec 32 := 256#32
  let v142 : BitVec 32 := Scalar.muli arg9 c256_i32_62
  v142
def k0_off5 (i : grid0.Coords) (k0_t1 : Fin (k0_t1_loop i).trips) : Fin 3 → Nat :=
  let c0_63 : Index := 0#32
  let c0_64 : Index := 0#32
  let c0_i32_23 : BitVec 32 := 0#32
  let c1_i32_24 : BitVec 32 := 1#32
  let arg9 : BitVec 32 := Scf.iv c0_i32_23 c1_i32_24 k0_t1
  let c256_i32_62 : BitVec 32 := 256#32
  let v142 : BitVec 32 := Scalar.muli arg9 c256_i32_62
  let v143 : BitVec 32 := v142
  let v144 : Index := Scalar.indexCast v143
  ![0, 0, v144.toNat]
def k0_mult6 (i : grid0.Coords) (k0_t1 : Fin (k0_t1_loop i).trips) : BitVec 32 :=
  let c0_i32_23 : BitVec 32 := 0#32
  let c1_i32_24 : BitVec 32 := 1#32
  let arg9 : BitVec 32 := Scf.iv c0_i32_23 c1_i32_24 k0_t1
  let c256_i32_65 : BitVec 32 := 256#32
  let v147 : BitVec 32 := Scalar.muli arg9 c256_i32_65
  v147
def k0_off6 (i : grid0.Coords) (k0_t1 : Fin (k0_t1_loop i).trips) : Fin 4 → Nat :=
  let c0_66 : Index := 0#32
  let c0_67 : Index := 0#32
  let c0_68 : Index := 0#32
  let c0_i32_23 : BitVec 32 := 0#32
  let c1_i32_24 : BitVec 32 := 1#32
  let arg9 : BitVec 32 := Scf.iv c0_i32_23 c1_i32_24 k0_t1
  let c256_i32_65 : BitVec 32 := 256#32
  let v147 : BitVec 32 := Scalar.muli arg9 c256_i32_65
  let v148 : BitVec 32 := v147
  let v149 : Index := Scalar.indexCast v148
  ![0, 0, 0, v149.toNat]
@[reducible] def k0_t2_loop (i : grid0.Coords) : Scf.Loop 32 :=
  let c0_i32_23 : BitVec 32 := 0#32
  let arg2 : BitVec 32 := BitVec.ofNat 32 (i 2).val
  let v57 : BitVec 32 := Scalar.subi arg2 c0_i32_23
  let c1_i32 : BitVec 32 := 1#32
  let v59 : BitVec 32 := Scalar.divsi v57 c1_i32
  let v60 : BitVec 32 := Scalar.muli v59 c1_i32
  let v61 : BitVec 32 := Scalar.addi c0_i32_23 v60
  let v58 : BitVec 32 := Scalar.addi c0_i32_23 v57
  let c1_i32_25 : BitVec 32 := 1#32
  ⟨v61, v58, c1_i32_25⟩
def k0_mult7 (i : grid0.Coords) (k0_t2 : Fin (k0_t2_loop i).trips) : BitVec 32 :=
  let c0_i32_23 : BitVec 32 := 0#32
  let arg2 : BitVec 32 := BitVec.ofNat 32 (i 2).val
  let v57 : BitVec 32 := Scalar.subi arg2 c0_i32_23
  let c1_i32 : BitVec 32 := 1#32
  let v59 : BitVec 32 := Scalar.divsi v57 c1_i32
  let v60 : BitVec 32 := Scalar.muli v59 c1_i32
  let v61 : BitVec 32 := Scalar.addi c0_i32_23 v60
  let c1_i32_25 : BitVec 32 := 1#32
  let arg9 : BitVec 32 := Scf.iv v61 c1_i32_25 k0_t2
  let c256_i32_59 : BitVec 32 := 256#32
  let v137 : BitVec 32 := Scalar.muli arg9 c256_i32_59
  v137
def k0_off7 (i : grid0.Coords) (k0_t2 : Fin (k0_t2_loop i).trips) : Fin 3 → Nat :=
  let c0_60 : Index := 0#32
  let c0_i32_23 : BitVec 32 := 0#32
  let arg2 : BitVec 32 := BitVec.ofNat 32 (i 2).val
  let v57 : BitVec 32 := Scalar.subi arg2 c0_i32_23
  let c1_i32 : BitVec 32 := 1#32
  let v59 : BitVec 32 := Scalar.divsi v57 c1_i32
  let v60 : BitVec 32 := Scalar.muli v59 c1_i32
  let v61 : BitVec 32 := Scalar.addi c0_i32_23 v60
  let c1_i32_25 : BitVec 32 := 1#32
  let arg9 : BitVec 32 := Scf.iv v61 c1_i32_25 k0_t2
  let c256_i32_59 : BitVec 32 := 256#32
  let v137 : BitVec 32 := Scalar.muli arg9 c256_i32_59
  let v138 : BitVec 32 := v137
  let v139 : Index := Scalar.indexCast v138
  let c0_61 : Index := 0#32
  ![0, v139.toNat, 0]
def k0_mult8 (i : grid0.Coords) (k0_t2 : Fin (k0_t2_loop i).trips) : BitVec 32 :=
  let c0_i32_23 : BitVec 32 := 0#32
  let arg2 : BitVec 32 := BitVec.ofNat 32 (i 2).val
  let v57 : BitVec 32 := Scalar.subi arg2 c0_i32_23
  let c1_i32 : BitVec 32 := 1#32
  let v59 : BitVec 32 := Scalar.divsi v57 c1_i32
  let v60 : BitVec 32 := Scalar.muli v59 c1_i32
  let v61 : BitVec 32 := Scalar.addi c0_i32_23 v60
  let c1_i32_25 : BitVec 32 := 1#32
  let arg9 : BitVec 32 := Scf.iv v61 c1_i32_25 k0_t2
  let c256_i32_62 : BitVec 32 := 256#32
  let v142 : BitVec 32 := Scalar.muli arg9 c256_i32_62
  v142
def k0_off8 (i : grid0.Coords) (k0_t2 : Fin (k0_t2_loop i).trips) : Fin 3 → Nat :=
  let c0_63 : Index := 0#32
  let c0_64 : Index := 0#32
  let c0_i32_23 : BitVec 32 := 0#32
  let arg2 : BitVec 32 := BitVec.ofNat 32 (i 2).val
  let v57 : BitVec 32 := Scalar.subi arg2 c0_i32_23
  let c1_i32 : BitVec 32 := 1#32
  let v59 : BitVec 32 := Scalar.divsi v57 c1_i32
  let v60 : BitVec 32 := Scalar.muli v59 c1_i32
  let v61 : BitVec 32 := Scalar.addi c0_i32_23 v60
  let c1_i32_25 : BitVec 32 := 1#32
  let arg9 : BitVec 32 := Scf.iv v61 c1_i32_25 k0_t2
  let c256_i32_62 : BitVec 32 := 256#32
  let v142 : BitVec 32 := Scalar.muli arg9 c256_i32_62
  let v143 : BitVec 32 := v142
  let v144 : Index := Scalar.indexCast v143
  ![0, 0, v144.toNat]
def k0_mult9 (i : grid0.Coords) (k0_t2 : Fin (k0_t2_loop i).trips) : BitVec 32 :=
  let c0_i32_23 : BitVec 32 := 0#32
  let arg2 : BitVec 32 := BitVec.ofNat 32 (i 2).val
  let v57 : BitVec 32 := Scalar.subi arg2 c0_i32_23
  let c1_i32 : BitVec 32 := 1#32
  let v59 : BitVec 32 := Scalar.divsi v57 c1_i32
  let v60 : BitVec 32 := Scalar.muli v59 c1_i32
  let v61 : BitVec 32 := Scalar.addi c0_i32_23 v60
  let c1_i32_25 : BitVec 32 := 1#32
  let arg9 : BitVec 32 := Scf.iv v61 c1_i32_25 k0_t2
  let c256_i32_65 : BitVec 32 := 256#32
  let v147 : BitVec 32 := Scalar.muli arg9 c256_i32_65
  v147
def k0_off9 (i : grid0.Coords) (k0_t2 : Fin (k0_t2_loop i).trips) : Fin 4 → Nat :=
  let c0_66 : Index := 0#32
  let c0_67 : Index := 0#32
  let c0_68 : Index := 0#32
  let c0_i32_23 : BitVec 32 := 0#32
  let arg2 : BitVec 32 := BitVec.ofNat 32 (i 2).val
  let v57 : BitVec 32 := Scalar.subi arg2 c0_i32_23
  let c1_i32 : BitVec 32 := 1#32
  let v59 : BitVec 32 := Scalar.divsi v57 c1_i32
  let v60 : BitVec 32 := Scalar.muli v59 c1_i32
  let v61 : BitVec 32 := Scalar.addi c0_i32_23 v60
  let c1_i32_25 : BitVec 32 := 1#32
  let arg9 : BitVec 32 := Scf.iv v61 c1_i32_25 k0_t2
  let c256_i32_65 : BitVec 32 := 256#32
  let v147 : BitVec 32 := Scalar.muli arg9 c256_i32_65
  let v148 : BitVec 32 := v147
  let v149 : Index := Scalar.indexCast v148
  ![0, 0, 0, v149.toNat]
def k0_mult10 (i : grid0.Coords) : BitVec 32 :=
  let arg2 : BitVec 32 := BitVec.ofNat 32 (i 2).val
  let c256_i32_35 : BitVec 32 := 256#32
  let v80 : BitVec 32 := Scalar.muli arg2 c256_i32_35
  v80
def k0_mult11 (i : grid0.Coords) : BitVec 32 :=
  let arg2 : BitVec 32 := BitVec.ofNat 32 (i 2).val
  let c256_i32_38 : BitVec 32 := 256#32
  let v85 : BitVec 32 := Scalar.muli arg2 c256_i32_38
  v85
def k0_mult12 (i : grid0.Coords) : BitVec 32 :=
  let arg2 : BitVec 32 := BitVec.ofNat 32 (i 2).val
  let c256_i32_41 : BitVec 32 := 256#32
  let v90 : BitVec 32 := Scalar.muli arg2 c256_i32_41
  v90
def k0_off10 (i : grid0.Coords) : Fin 4 → Nat :=
  let c0_42 : Index := 0#32
  let c0_43 : Index := 0#32
  let c1_44 : Index := 1#32
  let arg2 : BitVec 32 := BitVec.ofNat 32 (i 2).val
  let c256_i32_41 : BitVec 32 := 256#32
  let v90 : BitVec 32 := Scalar.muli arg2 c256_i32_41
  let v91 : BitVec 32 := v90
  let v92 : Index := Scalar.indexCast v91
  ![0, 0, 1, v92.toNat]
@[reducible] def k0_t3_loop (i : grid0.Coords) : Scf.Loop 32 :=
  let c0_i32_50 : BitVec 32 := 0#32
  let arg2 : BitVec 32 := BitVec.ofNat 32 (i 2).val
  let v119 : BitVec 32 := Scalar.subi arg2 c0_i32_50
  let c1_i32_51 : BitVec 32 := 1#32
  let v121 : BitVec 32 := Scalar.divsi v119 c1_i32_51
  let v122 : BitVec 32 := Scalar.muli v121 c1_i32_51
  let v123 : BitVec 32 := Scalar.addi c0_i32_50 v122
  let c1_i32_52 : BitVec 32 := 1#32
  ⟨c0_i32_50, v123, c1_i32_52⟩
def k0_mult13 (i : grid0.Coords) (k0_t3 : Fin (k0_t3_loop i).trips) : BitVec 32 :=
  let c0_i32_50 : BitVec 32 := 0#32
  let c1_i32_52 : BitVec 32 := 1#32
  let arg9 : BitVec 32 := Scf.iv c0_i32_50 c1_i32_52 k0_t3
  let c256_i32_59 : BitVec 32 := 256#32
  let v137 : BitVec 32 := Scalar.muli arg9 c256_i32_59
  v137
def k0_off11 (i : grid0.Coords) (k0_t3 : Fin (k0_t3_loop i).trips) : Fin 3 → Nat :=
  let c0_60 : Index := 0#32
  let c0_i32_50 : BitVec 32 := 0#32
  let c1_i32_52 : BitVec 32 := 1#32
  let arg9 : BitVec 32 := Scf.iv c0_i32_50 c1_i32_52 k0_t3
  let c256_i32_59 : BitVec 32 := 256#32
  let v137 : BitVec 32 := Scalar.muli arg9 c256_i32_59
  let v138 : BitVec 32 := v137
  let v139 : Index := Scalar.indexCast v138
  let c0_61 : Index := 0#32
  ![0, v139.toNat, 0]
def k0_mult14 (i : grid0.Coords) (k0_t3 : Fin (k0_t3_loop i).trips) : BitVec 32 :=
  let c0_i32_50 : BitVec 32 := 0#32
  let c1_i32_52 : BitVec 32 := 1#32
  let arg9 : BitVec 32 := Scf.iv c0_i32_50 c1_i32_52 k0_t3
  let c256_i32_62 : BitVec 32 := 256#32
  let v142 : BitVec 32 := Scalar.muli arg9 c256_i32_62
  v142
def k0_off12 (i : grid0.Coords) (k0_t3 : Fin (k0_t3_loop i).trips) : Fin 3 → Nat :=
  let c0_63 : Index := 0#32
  let c0_64 : Index := 0#32
  let c0_i32_50 : BitVec 32 := 0#32
  let c1_i32_52 : BitVec 32 := 1#32
  let arg9 : BitVec 32 := Scf.iv c0_i32_50 c1_i32_52 k0_t3
  let c256_i32_62 : BitVec 32 := 256#32
  let v142 : BitVec 32 := Scalar.muli arg9 c256_i32_62
  let v143 : BitVec 32 := v142
  let v144 : Index := Scalar.indexCast v143
  ![0, 0, v144.toNat]
def k0_mult15 (i : grid0.Coords) (k0_t3 : Fin (k0_t3_loop i).trips) : BitVec 32 :=
  let c0_i32_50 : BitVec 32 := 0#32
  let c1_i32_52 : BitVec 32 := 1#32
  let arg9 : BitVec 32 := Scf.iv c0_i32_50 c1_i32_52 k0_t3
  let c256_i32_65 : BitVec 32 := 256#32
  let v147 : BitVec 32 := Scalar.muli arg9 c256_i32_65
  v147
def k0_off13 (i : grid0.Coords) (k0_t3 : Fin (k0_t3_loop i).trips) : Fin 4 → Nat :=
  let c0_66 : Index := 0#32
  let c0_67 : Index := 0#32
  let c1_68 : Index := 1#32
  let c0_i32_50 : BitVec 32 := 0#32
  let c1_i32_52 : BitVec 32 := 1#32
  let arg9 : BitVec 32 := Scf.iv c0_i32_50 c1_i32_52 k0_t3
  let c256_i32_65 : BitVec 32 := 256#32
  let v147 : BitVec 32 := Scalar.muli arg9 c256_i32_65
  let v148 : BitVec 32 := v147
  let v149 : Index := Scalar.indexCast v148
  ![0, 0, 1, v149.toNat]
@[reducible] def k0_t4_loop (i : grid0.Coords) : Scf.Loop 32 :=
  let c0_i32_50 : BitVec 32 := 0#32
  let arg2 : BitVec 32 := BitVec.ofNat 32 (i 2).val
  let v119 : BitVec 32 := Scalar.subi arg2 c0_i32_50
  let c1_i32_51 : BitVec 32 := 1#32
  let v121 : BitVec 32 := Scalar.divsi v119 c1_i32_51
  let v122 : BitVec 32 := Scalar.muli v121 c1_i32_51
  let v123 : BitVec 32 := Scalar.addi c0_i32_50 v122
  let v120 : BitVec 32 := Scalar.addi c0_i32_50 v119
  let c1_i32_53 : BitVec 32 := 1#32
  ⟨v123, v120, c1_i32_53⟩
def k0_mult16 (i : grid0.Coords) (k0_t4 : Fin (k0_t4_loop i).trips) : BitVec 32 :=
  let c0_i32_50 : BitVec 32 := 0#32
  let arg2 : BitVec 32 := BitVec.ofNat 32 (i 2).val
  let v119 : BitVec 32 := Scalar.subi arg2 c0_i32_50
  let c1_i32_51 : BitVec 32 := 1#32
  let v121 : BitVec 32 := Scalar.divsi v119 c1_i32_51
  let v122 : BitVec 32 := Scalar.muli v121 c1_i32_51
  let v123 : BitVec 32 := Scalar.addi c0_i32_50 v122
  let c1_i32_53 : BitVec 32 := 1#32
  let arg9 : BitVec 32 := Scf.iv v123 c1_i32_53 k0_t4
  let c256_i32_59 : BitVec 32 := 256#32
  let v137 : BitVec 32 := Scalar.muli arg9 c256_i32_59
  v137
def k0_off14 (i : grid0.Coords) (k0_t4 : Fin (k0_t4_loop i).trips) : Fin 3 → Nat :=
  let c0_60 : Index := 0#32
  let c0_i32_50 : BitVec 32 := 0#32
  let arg2 : BitVec 32 := BitVec.ofNat 32 (i 2).val
  let v119 : BitVec 32 := Scalar.subi arg2 c0_i32_50
  let c1_i32_51 : BitVec 32 := 1#32
  let v121 : BitVec 32 := Scalar.divsi v119 c1_i32_51
  let v122 : BitVec 32 := Scalar.muli v121 c1_i32_51
  let v123 : BitVec 32 := Scalar.addi c0_i32_50 v122
  let c1_i32_53 : BitVec 32 := 1#32
  let arg9 : BitVec 32 := Scf.iv v123 c1_i32_53 k0_t4
  let c256_i32_59 : BitVec 32 := 256#32
  let v137 : BitVec 32 := Scalar.muli arg9 c256_i32_59
  let v138 : BitVec 32 := v137
  let v139 : Index := Scalar.indexCast v138
  let c0_61 : Index := 0#32
  ![0, v139.toNat, 0]
def k0_mult17 (i : grid0.Coords) (k0_t4 : Fin (k0_t4_loop i).trips) : BitVec 32 :=
  let c0_i32_50 : BitVec 32 := 0#32
  let arg2 : BitVec 32 := BitVec.ofNat 32 (i 2).val
  let v119 : BitVec 32 := Scalar.subi arg2 c0_i32_50
  let c1_i32_51 : BitVec 32 := 1#32
  let v121 : BitVec 32 := Scalar.divsi v119 c1_i32_51
  let v122 : BitVec 32 := Scalar.muli v121 c1_i32_51
  let v123 : BitVec 32 := Scalar.addi c0_i32_50 v122
  let c1_i32_53 : BitVec 32 := 1#32
  let arg9 : BitVec 32 := Scf.iv v123 c1_i32_53 k0_t4
  let c256_i32_62 : BitVec 32 := 256#32
  let v142 : BitVec 32 := Scalar.muli arg9 c256_i32_62
  v142
def k0_off15 (i : grid0.Coords) (k0_t4 : Fin (k0_t4_loop i).trips) : Fin 3 → Nat :=
  let c0_63 : Index := 0#32
  let c0_64 : Index := 0#32
  let c0_i32_50 : BitVec 32 := 0#32
  let arg2 : BitVec 32 := BitVec.ofNat 32 (i 2).val
  let v119 : BitVec 32 := Scalar.subi arg2 c0_i32_50
  let c1_i32_51 : BitVec 32 := 1#32
  let v121 : BitVec 32 := Scalar.divsi v119 c1_i32_51
  let v122 : BitVec 32 := Scalar.muli v121 c1_i32_51
  let v123 : BitVec 32 := Scalar.addi c0_i32_50 v122
  let c1_i32_53 : BitVec 32 := 1#32
  let arg9 : BitVec 32 := Scf.iv v123 c1_i32_53 k0_t4
  let c256_i32_62 : BitVec 32 := 256#32
  let v142 : BitVec 32 := Scalar.muli arg9 c256_i32_62
  let v143 : BitVec 32 := v142
  let v144 : Index := Scalar.indexCast v143
  ![0, 0, v144.toNat]
def k0_mult18 (i : grid0.Coords) (k0_t4 : Fin (k0_t4_loop i).trips) : BitVec 32 :=
  let c0_i32_50 : BitVec 32 := 0#32
  let arg2 : BitVec 32 := BitVec.ofNat 32 (i 2).val
  let v119 : BitVec 32 := Scalar.subi arg2 c0_i32_50
  let c1_i32_51 : BitVec 32 := 1#32
  let v121 : BitVec 32 := Scalar.divsi v119 c1_i32_51
  let v122 : BitVec 32 := Scalar.muli v121 c1_i32_51
  let v123 : BitVec 32 := Scalar.addi c0_i32_50 v122
  let c1_i32_53 : BitVec 32 := 1#32
  let arg9 : BitVec 32 := Scf.iv v123 c1_i32_53 k0_t4
  let c256_i32_65 : BitVec 32 := 256#32
  let v147 : BitVec 32 := Scalar.muli arg9 c256_i32_65
  v147
def k0_off16 (i : grid0.Coords) (k0_t4 : Fin (k0_t4_loop i).trips) : Fin 4 → Nat :=
  let c0_66 : Index := 0#32
  let c0_67 : Index := 0#32
  let c1_68 : Index := 1#32
  let c0_i32_50 : BitVec 32 := 0#32
  let arg2 : BitVec 32 := BitVec.ofNat 32 (i 2).val
  let v119 : BitVec 32 := Scalar.subi arg2 c0_i32_50
  let c1_i32_51 : BitVec 32 := 1#32
  let v121 : BitVec 32 := Scalar.divsi v119 c1_i32_51
  let v122 : BitVec 32 := Scalar.muli v121 c1_i32_51
  let v123 : BitVec 32 := Scalar.addi c0_i32_50 v122
  let c1_i32_53 : BitVec 32 := 1#32
  let arg9 : BitVec 32 := Scf.iv v123 c1_i32_53 k0_t4
  let c256_i32_65 : BitVec 32 := 256#32
  let v147 : BitVec 32 := Scalar.muli arg9 c256_i32_65
  let v148 : BitVec 32 := v147
  let v149 : Index := Scalar.indexCast v148
  ![0, 0, 1, v149.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel3Ideal.lean ====
variable {F : FTy → Type} [FloatOps F] [Named F]
def κ : String → Option EReal := fun
  | "mask" => some ⊥
  | _ => none
-- ==== Reference3Ideal.lean ====
abbrev S8x2048x256 : Shape := ⟨3, ![8, 2048, 256]⟩
abbrev S8x256x2048 : Shape := ⟨3, ![8, 256, 2048]⟩
abbrev S8x16x2048 : Shape := ⟨3, ![8, 16, 2048]⟩
abbrev S8x2048x4x64 : Shape := ⟨4, ![8, 2048, 4, 64]⟩
abbrev S8x4x2048x64 : Shape := ⟨4, ![8, 4, 2048, 64]⟩
abbrev S8x4x64x2048 : Shape := ⟨4, ![8, 4, 64, 2048]⟩
abbrev S8x4x2048 : Shape := ⟨3, ![8, 4, 2048]⟩
abbrev S8x4x2048x2048 : Shape := ⟨4, ![8, 4, 2048, 2048]⟩
abbrev S8x4x2048x1 : Shape := ⟨4, ![8, 4, 2048, 1]⟩
abbrev S8x4x1x2048 : Shape := ⟨4, ![8, 4, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S8x2048x256, .bf16⟩
  | .hbm, ⟨1, _⟩ => ⟨S8x256x2048, .bf16⟩
  | .hbm, ⟨2, _⟩ => ⟨S8x2048x256, .bf16⟩
  | .hbm, ⟨3, _⟩ => ⟨S8x16x2048, .f32⟩
  | .hbm, ⟨4, _⟩ => ⟨S8x2048x256, .f32⟩
  | .hbm, ⟨5, _⟩ => ⟨S8x2048x4x64, .f32⟩
  | .hbm, ⟨6, _⟩ => ⟨S8x4x2048x64, .f32⟩
  | .hbm, ⟨7, _⟩ => ⟨S8x256x2048, .f32⟩
  | .hbm, ⟨8, _⟩ => ⟨S8x4x64x2048, .f32⟩
  | .hbm, ⟨9, _⟩ => ⟨S8x4x2048x64, .f32⟩
  | .hbm, ⟨10, _⟩ => ⟨S8x2048x256, .f32⟩
  | .hbm, ⟨11, _⟩ => ⟨S8x2048x4x64, .f32⟩
  | .hbm, ⟨12, _⟩ => ⟨S8x4x2048x64, .f32⟩
  | .hbm, ⟨13, _⟩ => ⟨S8x4x2048, .f32⟩
  | .hbm, ⟨14, _⟩ => ⟨S8x4x2048x2048, .f32⟩
  | .hbm, ⟨15, _⟩ => ⟨S8x4x2048x1, .f32⟩
  | .hbm, ⟨16, _⟩ => ⟨S8x4x1x2048, .f32⟩
  | .hbm, ⟨17, _⟩ => ⟨S8x4x2048x2048, .f32⟩
  | .hbm, ⟨18, _⟩ => ⟨S8x4x2048x2048, .f32⟩
  | .hbm, ⟨19, _⟩ => ⟨S8x4x2048x2048, .f32⟩
  | .hbm, ⟨20, _⟩ => ⟨S8x4x2048x2048, .f32⟩
  | .hbm, ⟨21, _⟩ => ⟨S2048, .i32⟩
  | .hbm, ⟨22, _⟩ => ⟨S2048x1, .i32⟩
  | .hbm, ⟨23, _⟩ => ⟨S2048, .i32⟩
  | .hbm, ⟨24, _⟩ => ⟨S1x2048, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S8x4x2048x2048, .i1⟩
  | .hbm, ⟨31, _⟩ => ⟨S8x4x2048x2048, .f32⟩
  | .hbm, ⟨32, _⟩ => ⟨S8x4x2048x2048, .f32⟩
  | .hbm, ⟨33, _⟩ => ⟨S_, .f32⟩
  | .hbm, ⟨34, _⟩ => ⟨S8x4x2048, .f32⟩
  | .hbm, ⟨35, _⟩ => ⟨S_, .f32⟩
  | .hbm, ⟨36, _⟩ => ⟨S8x4x2048, .f32⟩
  | .hbm, ⟨37, _⟩ => ⟨S8x4x2048, .f32⟩
  | .hbm, ⟨38, _⟩ => ⟨S8x4x2048x1, .f32⟩
  | .hbm, ⟨39, _⟩ => ⟨S8x4x2048x2048, .f32⟩
  | .hbm, ⟨40, _⟩ => ⟨S8x4x2048x2048, .f32⟩
  | .hbm, ⟨41, _⟩ => ⟨S8x4x2048x2048, .f32⟩
  | .hbm, ⟨42, _⟩ => ⟨S_, .f32⟩
  | .hbm, ⟨43, _⟩ => ⟨S8x4x2048, .f32⟩
  | .hbm, ⟨44, _⟩ => ⟨S8x4x2048x1, .f32⟩
  | .hbm, ⟨45, _⟩ => ⟨S8x4x2048x2048, .f32⟩
  | .hbm, ⟨46, _⟩ => ⟨S8x4x2048x2048, .f32⟩
  | .hbm, ⟨47, _⟩ => ⟨S8x4x2048x64, .f32⟩
  | .hbm, ⟨48, _⟩ => ⟨S8x2048x4x64, .f32⟩
  | .hbm, ⟨49, _⟩ => ⟨S8x2048x256, .f32⟩
  | .hbm, ⟨50, _⟩ => ⟨S8x2048x256, .bf16⟩
  | _, _ => ⟨S8x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel4.lean ====
abbrev S8x2048x384 : Shape := ⟨3, ![8, 2048, 384]⟩
abbrev S8x384x2048 : Shape := ⟨3, ![8, 384, 2048]⟩
abbrev S8x2048 : Shape := ⟨2, ![8, 2048]⟩
abbrev S32 : Shape := ⟨1, ![32]⟩
abbrev S64 : Shape := ⟨1, ![64]⟩
abbrev S8x2048x1 : Shape := ⟨3, ![8, 2048, 1]⟩
abbrev S8x1x2048 : Shape := ⟨3, ![8, 1, 2048]⟩
abbrev S6 : Shape := ⟨1, ![6]⟩
abbrev S_ : Shape := ⟨0, ![]⟩
abbrev S3x2 : Shape := ⟨2, ![3, 2]⟩
abbrev S3x8 : Shape := ⟨2, ![3, 8]⟩
abbrev S3x8x1 : Shape := ⟨3, ![3, 8, 1]⟩
abbrev S3x8x256 : Shape := ⟨3, ![3, 8, 256]⟩
abbrev S1x32 : Shape := ⟨2, ![1, 32]⟩
abbrev S4x32 : Shape := ⟨2, ![4, 32]⟩
abbrev S8x128 : Shape := ⟨2, ![8, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x256x128 : Shape := ⟨3, ![1, 256, 128]⟩
abbrev S1x128x2048 : Shape := ⟨3, ![1, 128, 2048]⟩
abbrev S1x2048x128 : Shape := ⟨3, ![1, 2048, 128]⟩
abbrev S1x256x1 : Shape := ⟨3, ![1, 256, 1]⟩
abbrev S1x1x2048 : Shape := ⟨3, ![1, 1, 2048]⟩
abbrev S1x8x256 : Shape := ⟨3, ![1, 8, 256]⟩
abbrev S256x128 : Shape := ⟨2, ![256, 128]⟩
abbrev S256x1 : Shape := ⟨2, ![256, 1]⟩
abbrev S256x256 : Shape := ⟨2, ![256, 256]⟩
abbrev S1 : Shape := ⟨1, ![1]⟩
abbrev S1x1 : Shape := ⟨2, ![1, 1]⟩
abbrev S1x1x256 : Shape := ⟨3, ![1, 1, 256]⟩
abbrev S1x256 : Shape := ⟨2, ![1, 256]⟩
abbrev S1x128x256 : Shape := ⟨3, ![1, 128, 256]⟩
abbrev S128x256 : Shape := ⟨2, ![128, 256]⟩
abbrev S256 : Shape := ⟨1, ![256]⟩

abbrev nBuf : Space → Nat
  | .hbm => 44
  | .vmem => 16
  | .smem => 0
  | _ => 0

abbrev bufTy : (tb : Table) → Fin (tcTables nBuf tb) → BufTy
  | .hbm, ⟨0, _⟩ => ⟨S8x2048x384, .bf16⟩
  | .hbm, ⟨1, _⟩ => ⟨S8x384x2048, .bf16⟩
  | .hbm, ⟨2, _⟩ => ⟨S8x2048x384, .bf16⟩
  | .hbm, ⟨3, _⟩ => ⟨S8x2048, .i32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S64, .f32⟩
  | .hbm, ⟨9, _⟩ => ⟨S8x2048, .f32⟩
  | .hbm, ⟨10, _⟩ => ⟨S8x2048x1, .f32⟩
  | .hbm, ⟨11, _⟩ => ⟨S8x1x2048, .f32⟩
  | .hbm, ⟨12, _⟩ => ⟨S6, .f32⟩
  | .hbm, ⟨13, _⟩ => ⟨S_, .f32⟩
  | .hbm, ⟨14, _⟩ => ⟨S6, .f32⟩
  | .hbm, ⟨15, _⟩ => ⟨S6, .f32⟩
  | .hbm, ⟨16, _⟩ => ⟨S_, .f32⟩
  | .hbm, ⟨17, _⟩ => ⟨S6, .f32⟩
  | .hbm, ⟨18, _⟩ => ⟨S6, .f32⟩
  | .hbm, ⟨19, _⟩ => ⟨S_, .f32⟩
  | .hbm, ⟨20, _⟩ => ⟨S6, .f32⟩
  | .hbm, ⟨21, _⟩ => ⟨S6, .f32⟩
  | .hbm, ⟨22, _⟩ => ⟨S_, .f32⟩
  | .hbm, ⟨23, _⟩ => ⟨S6, .f32⟩
  | .hbm, ⟨24, _⟩ => ⟨S6, .f32⟩
  | .hbm, ⟨25, _⟩ => ⟨S3x2, .f32⟩
  | .hbm, ⟨26, _⟩ => ⟨S_, .i32⟩
  | .hbm, ⟨27, _⟩ => ⟨S_, .f32⟩
  | .hbm, ⟨28, _⟩ => ⟨S3x8, .f32⟩
  | .hbm, ⟨29, _⟩ => ⟨S3x8x1, .f32⟩
  | .hbm, ⟨30, _⟩ => ⟨S3x8x256, .f32⟩
  | .hbm, ⟨31, _⟩ => ⟨S1x32, .f32⟩
  | .hbm, ⟨32, _⟩ => ⟨S1x32, .f32⟩
  | .hbm, ⟨33, _⟩ => ⟨S1x32, .f32⟩
  | .hbm, ⟨34, _⟩ => ⟨S1x32, .f32⟩
  | .hbm, ⟨35, _⟩ => ⟨S4x32, .f32⟩
  | .hbm, ⟨36, _⟩ => ⟨S_, .i32⟩
  | .hbm, ⟨37, _⟩ => ⟨S_, .f32⟩
  | .hbm, ⟨38, _⟩ => ⟨S8x128, .f32⟩
  | .hbm, ⟨39, _⟩ => ⟨S1x64, .f32⟩
  | .hbm, ⟨40, _⟩ => ⟨S2x64, .f32⟩
  | .hbm, ⟨41, _⟩ => ⟨S128, .f32⟩
  | .hbm, ⟨42, _⟩ => ⟨S1x128, .f32⟩
  | .hbm, ⟨43, _⟩ => ⟨S8x2048x384, .bf16⟩
  | .local _ .vmem, ⟨0, _⟩ => ⟨S1x256x128, .bf16⟩
  | .local _ .vmem, ⟨1, _⟩ => ⟨S1x256x128, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x1, .f32⟩
  | .local _ .vmem, ⟨7, _⟩ => ⟨S1x256x1, .f32⟩
  | .local _ .vmem, ⟨8, _⟩ => ⟨S1x1x2048, .f32⟩
  | .local _ .vmem, ⟨9, _⟩ => ⟨S1x1x2048, .f32⟩
  | .local _ .vmem, ⟨10, _⟩ => ⟨S1x8x256, .f32⟩
  | .local _ .vmem, ⟨11, _⟩ => ⟨S1x8x256, .f32⟩
  | .local _ .vmem, ⟨12, _⟩ => ⟨S8x128, .f32⟩
  | .local _ .vmem, ⟨13, _⟩ => ⟨S1x128, .f32⟩
  | .local _ .vmem, ⟨14, _⟩ => ⟨S1x256x128, .bf16⟩
  | .local _ .vmem, ⟨15, _⟩ => ⟨S1x256x128, .bf16⟩
  | _, _ => ⟨S8x2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_call0_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_call1_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![8, 3, 8], ![false, false, false]⟩

def k0_mult1 (i : grid0.Coords) : BitVec 32 :=
  let arg2 : BitVec 32 := BitVec.ofNat 32 (i 2).val
  let c256_i32 : BitVec 32 := 256#32
  let v97 : BitVec 32 := Scalar.muli arg2 c256_i32
  v97
def k0_off1 (i : grid0.Coords) : Fin 3 → Nat :=
  let c0_35 : Index := 0#32
  let arg2 : BitVec 32 := BitVec.ofNat 32 (i 2).val
  let c256_i32 : BitVec 32 := 256#32
  let v97 : BitVec 32 := Scalar.muli arg2 c256_i32
  let v98 : BitVec 32 := v97
  let v99 : Index := Scalar.indexCast v98
  let c0_36 : Index := 0#32
  ![0, v99.toNat, 0]
def k0_mult2 (i : grid0.Coords) : BitVec 32 :=
  let arg2 : BitVec 32 := BitVec.ofNat 32 (i 2).val
  let c256_i32_37 : BitVec 32 := 256#32
  let v102 : BitVec 32 := Scalar.muli arg2 c256_i32_37
  v102
def k0_off2 (i : grid0.Coords) : Fin 3 → Nat :=
  let c0_38 : Index := 0#32
  let c0_39 : Index := 0#32
  let arg2 : BitVec 32 := BitVec.ofNat 32 (i 2).val
  let c256_i32_37 : BitVec 32 := 256#32
  let v102 : BitVec 32 := Scalar.muli arg2 c256_i32_37
  let v103 : BitVec 32 := v102
  let v104 : Index := Scalar.indexCast v103
  ![0, 0, v104.toNat]
def k0_mult3 (i : grid0.Coords) : BitVec 32 :=
  let arg2 : BitVec 32 := BitVec.ofNat 32 (i 2).val
  let c256_i32_40 : BitVec 32 := 256#32
  let v107 : BitVec 32 := Scalar.muli arg2 c256_i32_40
  v107
def k0_off3 (i : grid0.Coords) : Fin 3 → Nat :=
  let c0_41 : Index := 0#32
  let c0_42 : Index := 0#32
  let arg2 : BitVec 32 := BitVec.ofNat 32 (i 2).val
  let c256_i32_40 : BitVec 32 := 256#32
  let v107 : BitVec 32 := Scalar.muli arg2 c256_i32_40
  let v108 : BitVec 32 := v107
  let v109 : Index := Scalar.indexCast v108
  ![0, 0, v109.toNat]
@[reducible] def k0_t1_loop (i : grid0.Coords) : Scf.Loop 32 :=
  let c0_i32_53 : BitVec 32 := 0#32
  let arg2 : BitVec 32 := BitVec.ofNat 32 (i 2).val
  let v160 : BitVec 32 := Scalar.subi arg2 c0_i32_53
  let c1_i32_54 : BitVec 32 := 1#32
  let v162 : BitVec 32 := Scalar.divsi v160 c1_i32_54
  let v163 : BitVec 32 := Scalar.muli v162 c1_i32_54
  let v164 : BitVec 32 := Scalar.addi c0_i32_53 v163
  let c1_i32_55 : BitVec 32 := 1#32
  ⟨c0_i32_53, v164, c1_i32_55⟩
def k0_mult4 (i : grid0.Coords) (k0_t1 : Fin (k0_t1_loop i).trips) : BitVec 32 :=
  let c0_i32_53 : BitVec 32 := 0#32
  let c1_i32_55 : BitVec 32 := 1#32
  let arg12 : BitVec 32 := Scf.iv c0_i32_53 c1_i32_55 k0_t1
  let c256_i32_114 : BitVec 32 := 256#32
  let v324 : BitVec 32 := Scalar.muli arg12 c256_i32_114
  v324
def k0_off4 (i : grid0.Coords) (k0_t1 : Fin (k0_t1_loop i).trips) : Fin 3 → Nat :=
  let c0_115 : Index := 0#32
  let c0_i32_53 : BitVec 32 := 0#32
  let c1_i32_55 : BitVec 32 := 1#32
  let arg12 : BitVec 32 := Scf.iv c0_i32_53 c1_i32_55 k0_t1
  let c256_i32_114 : BitVec 32 := 256#32
  let v324 : BitVec 32 := Scalar.muli arg12 c256_i32_114
  let v325 : BitVec 32 := v324
  let v326 : Index := Scalar.indexCast v325
  let c0_116 : Index := 0#32
  ![0, v326.toNat, 0]
def k0_mult5 (i : grid0.Coords) (k0_t1 : Fin (k0_t1_loop i).trips) : BitVec 32 :=
  let c0_i32_53 : BitVec 32 := 0#32
  let c1_i32_55 : BitVec 32 := 1#32
  let arg12 : BitVec 32 := Scf.iv c0_i32_53 c1_i32_55 k0_t1
  let c256_i32_117 : BitVec 32 := 256#32
  let v329 : BitVec 32 := Scalar.muli arg12 c256_i32_117
  v329
def k0_off5 (i : grid0.Coords) (k0_t1 : Fin (k0_t1_loop i).trips) : Fin 3 → Nat :=
  let c0_118 : Index := 0#32
  let c0_119 : Index := 0#32
  let c0_i32_53 : BitVec 32 := 0#32
  let c1_i32_55 : BitVec 32 := 1#32
  let arg12 : BitVec 32 := Scf.iv c0_i32_53 c1_i32_55 k0_t1
  let c256_i32_117 : BitVec 32 := 256#32
  let v329 : BitVec 32 := Scalar.muli arg12 c256_i32_117
  let v330 : BitVec 32 := v329
  let v331 : Index := Scalar.indexCast v330
  ![0, 0, v331.toNat]
def k0_mult6 (i : grid0.Coords) (k0_t1 : Fin (k0_t1_loop i).trips) : BitVec 32 :=
  let c0_i32_53 : BitVec 32 := 0#32
  let c1_i32_55 : BitVec 32 := 1#32
  let arg12 : BitVec 32 := Scf.iv c0_i32_53 c1_i32_55 k0_t1
  let c256_i32_120 : BitVec 32 := 256#32
  let v334 : BitVec 32 := Scalar.muli arg12 c256_i32_120
  v334
def k0_off6 (i : grid0.Coords) (k0_t1 : Fin (k0_t1_loop i).trips) : Fin 3 → Nat :=
  let c0_121 : Index := 0#32
  let c0_122 : Index := 0#32
  let c0_i32_53 : BitVec 32 := 0#32
  let c1_i32_55 : BitVec 32 := 1#32
  let arg12 : BitVec 32 := Scf.iv c0_i32_53 c1_i32_55 k0_t1
  let c256_i32_120 : BitVec 32 := 256#32
  let v334 : BitVec 32 := Scalar.muli arg12 c256_i32_120
  let v335 : BitVec 32 := v334
  let v336 : Index := Scalar.indexCast v335
  ![0, 0, v336.toNat]
@[reducible] def k0_t2_loop (i : grid0.Coords) : Scf.Loop 32 :=
  let c0_i32_53 : BitVec 32 := 0#32
  let arg2 : BitVec 32 := BitVec.ofNat 32 (i 2).val
  let v160 : BitVec 32 := Scalar.subi arg2 c0_i32_53
  let c1_i32_54 : BitVec 32 := 1#32
  let v162 : BitVec 32 := Scalar.divsi v160 c1_i32_54
  let v163 : BitVec 32 := Scalar.muli v162 c1_i32_54
  let v164 : BitVec 32 := Scalar.addi c0_i32_53 v163
  let v161 : BitVec 32 := Scalar.addi c0_i32_53 v160
  let c1_i32_56 : BitVec 32 := 1#32
  ⟨v164, v161, c1_i32_56⟩
def k0_mult7 (i : grid0.Coords) (k0_t2 : Fin (k0_t2_loop i).trips) : BitVec 32 :=
  let c0_i32_53 : BitVec 32 := 0#32
  let arg2 : BitVec 32 := BitVec.ofNat 32 (i 2).val
  let v160 : BitVec 32 := Scalar.subi arg2 c0_i32_53
  let c1_i32_54 : BitVec 32 := 1#32
  let v162 : BitVec 32 := Scalar.divsi v160 c1_i32_54
  let v163 : BitVec 32 := Scalar.muli v162 c1_i32_54
  let v164 : BitVec 32 := Scalar.addi c0_i32_53 v163
  let c1_i32_56 : BitVec 32 := 1#32
  let arg12 : BitVec 32 := Scf.iv v164 c1_i32_56 k0_t2
  let c256_i32_114 : BitVec 32 := 256#32
  let v324 : BitVec 32 := Scalar.muli arg12 c256_i32_114
  v324
def k0_off7 (i : grid0.Coords) (k0_t2 : Fin (k0_t2_loop i).trips) : Fin 3 → Nat :=
  let c0_115 : Index := 0#32
  let c0_i32_53 : BitVec 32 := 0#32
  let arg2 : BitVec 32 := BitVec.ofNat 32 (i 2).val
  let v160 : BitVec 32 := Scalar.subi arg2 c0_i32_53
  let c1_i32_54 : BitVec 32 := 1#32
  let v162 : BitVec 32 := Scalar.divsi v160 c1_i32_54
  let v163 : BitVec 32 := Scalar.muli v162 c1_i32_54
  let v164 : BitVec 32 := Scalar.addi c0_i32_53 v163
  let c1_i32_56 : BitVec 32 := 1#32
  let arg12 : BitVec 32 := Scf.iv v164 c1_i32_56 k0_t2
  let c256_i32_114 : BitVec 32 := 256#32
  let v324 : BitVec 32 := Scalar.muli arg12 c256_i32_114
  let v325 : BitVec 32 := v324
  let v326 : Index := Scalar.indexCast v325
  let c0_116 : Index := 0#32
  ![0, v326.toNat, 0]
def k0_mult8 (i : grid0.Coords) (k0_t2 : Fin (k0_t2_loop i).trips) : BitVec 32 :=
  let c0_i32_53 : BitVec 32 := 0#32
  let arg2 : BitVec 32 := BitVec.ofNat 32 (i 2).val
  let v160 : BitVec 32 := Scalar.subi arg2 c0_i32_53
  let c1_i32_54 : BitVec 32 := 1#32
  let v162 : BitVec 32 := Scalar.divsi v160 c1_i32_54
  let v163 : BitVec 32 := Scalar.muli v162 c1_i32_54
  let v164 : BitVec 32 := Scalar.addi c0_i32_53 v163
  let c1_i32_56 : BitVec 32 := 1#32
  let arg12 : BitVec 32 := Scf.iv v164 c1_i32_56 k0_t2
  let c256_i32_117 : BitVec 32 := 256#32
  let v329 : BitVec 32 := Scalar.muli arg12 c256_i32_117
  v329
def k0_off8 (i : grid0.Coords) (k0_t2 : Fin (k0_t2_loop i).trips) : Fin 3 → Nat :=
  let c0_118 : Index := 0#32
  let c0_119 : Index := 0#32
  let c0_i32_53 : BitVec 32 := 0#32
  let arg2 : BitVec 32 := BitVec.ofNat 32 (i 2).val
  let v160 : BitVec 32 := Scalar.subi arg2 c0_i32_53
  let c1_i32_54 : BitVec 32 := 1#32
  let v162 : BitVec 32 := Scalar.divsi v160 c1_i32_54
  let v163 : BitVec 32 := Scalar.muli v162 c1_i32_54
  let v164 : BitVec 32 := Scalar.addi c0_i32_53 v163
  let c1_i32_56 : BitVec 32 := 1#32
  let arg12 : BitVec 32 := Scf.iv v164 c1_i32_56 k0_t2
  let c256_i32_117 : BitVec 32 := 256#32
  let v329 : BitVec 32 := Scalar.muli arg12 c256_i32_117
  let v330 : BitVec 32 := v329
  let v331 : Index := Scalar.indexCast v330
  ![0, 0, v331.toNat]
def k0_mult9 (i : grid0.Coords) (k0_t2 : Fin (k0_t2_loop i).trips) : BitVec 32 :=
  let c0_i32_53 : BitVec 32 := 0#32
  let arg2 : BitVec 32 := BitVec.ofNat 32 (i 2).val
  let v160 : BitVec 32 := Scalar.subi arg2 c0_i32_53
  let c1_i32_54 : BitVec 32 := 1#32
  let v162 : BitVec 32 := Scalar.divsi v160 c1_i32_54
  let v163 : BitVec 32 := Scalar.muli v162 c1_i32_54
  let v164 : BitVec 32 := Scalar.addi c0_i32_53 v163
  let c1_i32_56 : BitVec 32 := 1#32
  let arg12 : BitVec 32 := Scf.iv v164 c1_i32_56 k0_t2
  let c256_i32_120 : BitVec 32 := 256#32
  let v334 : BitVec 32 := Scalar.muli arg12 c256_i32_120
  v334
def k0_off9 (i : grid0.Coords) (k0_t2 : Fin (k0_t2_loop i).trips) : Fin 3 → Nat :=
  let c0_121 : Index := 0#32
  let c0_122 : Index := 0#32
  let c0_i32_53 : BitVec 32 := 0#32
  let arg2 : BitVec 32 := BitVec.ofNat 32 (i 2).val
  let v160 : BitVec 32 := Scalar.subi arg2 c0_i32_53
  let c1_i32_54 : BitVec 32 := 1#32
  let v162 : BitVec 32 := Scalar.divsi v160 c1_i32_54
  let v163 : BitVec 32 := Scalar.muli v162 c1_i32_54
  let v164 : BitVec 32 := Scalar.addi c0_i32_53 v163
  let c1_i32_56 : BitVec 32 := 1#32
  let arg12 : BitVec 32 := Scf.iv v164 c1_i32_56 k0_t2
  let c256_i32_120 : BitVec 32 := 256#32
  let v334 : BitVec 32 := Scalar.muli arg12 c256_i32_120
  let v335 : BitVec 32 := v334
  let v336 : Index := Scalar.indexCast v335
  ![0, 0, v336.toNat]
def k0_mult10 (i : grid0.Coords) : BitVec 32 :=
  let arg2 : BitVec 32 := BitVec.ofNat 32 (i 2).val
  let c256_i32_72 : BitVec 32 := 256#32
  let v202 : BitVec 32 := Scalar.muli arg2 c256_i32_72
  v202
def k0_mult11 (i : grid0.Coords) : BitVec 32 :=
  let arg2 : BitVec 32 := BitVec.ofNat 32 (i 2).val
  let c256_i32_75 : BitVec 32 := 256#32
  let v207 : BitVec 32 := Scalar.muli arg2 c256_i32_75
  v207
def k0_mult12 (i : grid0.Coords) : BitVec 32 :=
  let arg2 : BitVec 32 := BitVec.ofNat 32 (i 2).val
  let c256_i32_78 : BitVec 32 := 256#32
  let v212 : BitVec 32 := Scalar.muli arg2 c256_i32_78
  v212
@[reducible] def k0_t3_loop (i : grid0.Coords) : Scf.Loop 32 :=
  let c0_i32_91 : BitVec 32 := 0#32
  let arg2 : BitVec 32 := BitVec.ofNat 32 (i 2).val
  let v265 : BitVec 32 := Scalar.subi arg2 c0_i32_91
  let c1_i32_92 : BitVec 32 := 1#32
  let v267 : BitVec 32 := Scalar.divsi v265 c1_i32_92
  let v268 : BitVec 32 := Scalar.muli v267 c1_i32_92
  let v269 : BitVec 32 := Scalar.addi c0_i32_91 v268
  let c1_i32_93 : BitVec 32 := 1#32
  ⟨c0_i32_91, v269, c1_i32_93⟩
def k0_mult13 (i : grid0.Coords) (k0_t3 : Fin (k0_t3_loop i).trips) : BitVec 32 :=
  let c0_i32_91 : BitVec 32 := 0#32
  let c1_i32_93 : BitVec 32 := 1#32
  let arg12 : BitVec 32 := Scf.iv c0_i32_91 c1_i32_93 k0_t3
  let c256_i32_114 : BitVec 32 := 256#32
  let v324 : BitVec 32 := Scalar.muli arg12 c256_i32_114
  v324
def k0_off10 (i : grid0.Coords) (k0_t3 : Fin (k0_t3_loop i).trips) : Fin 3 → Nat :=
  let c0_115 : Index := 0#32
  let c0_i32_91 : BitVec 32 := 0#32
  let c1_i32_93 : BitVec 32 := 1#32
  let arg12 : BitVec 32 := Scf.iv c0_i32_91 c1_i32_93 k0_t3
  let c256_i32_114 : BitVec 32 := 256#32
  let v324 : BitVec 32 := Scalar.muli arg12 c256_i32_114
  let v325 : BitVec 32 := v324
  let v326 : Index := Scalar.indexCast v325
  let c0_116 : Index := 0#32
  ![0, v326.toNat, 0]
def k0_mult14 (i : grid0.Coords) (k0_t3 : Fin (k0_t3_loop i).trips) : BitVec 32 :=
  let c0_i32_91 : BitVec 32 := 0#32
  let c1_i32_93 : BitVec 32 := 1#32
  let arg12 : BitVec 32 := Scf.iv c0_i32_91 c1_i32_93 k0_t3
  let c256_i32_117 : BitVec 32 := 256#32
  let v329 : BitVec 32 := Scalar.muli arg12 c256_i32_117
  v329
def k0_off11 (i : grid0.Coords) (k0_t3 : Fin (k0_t3_loop i).trips) : Fin 3 → Nat :=
  let c0_118 : Index := 0#32
  let c0_119 : Index := 0#32
  let c0_i32_91 : BitVec 32 := 0#32
  let c1_i32_93 : BitVec 32 := 1#32
  let arg12 : BitVec 32 := Scf.iv c0_i32_91 c1_i32_93 k0_t3
  let c256_i32_117 : BitVec 32 := 256#32
  let v329 : BitVec 32 := Scalar.muli arg12 c256_i32_117
  let v330 : BitVec 32 := v329
  let v331 : Index := Scalar.indexCast v330
  ![0, 0, v331.toNat]
def k0_mult15 (i : grid0.Coords) (k0_t3 : Fin (k0_t3_loop i).trips) : BitVec 32 :=
  let c0_i32_91 : BitVec 32 := 0#32
  let c1_i32_93 : BitVec 32 := 1#32
  let arg12 : BitVec 32 := Scf.iv c0_i32_91 c1_i32_93 k0_t3
  let c256_i32_120 : BitVec 32 := 256#32
  let v334 : BitVec 32 := Scalar.muli arg12 c256_i32_120
  v334
def k0_off12 (i : grid0.Coords) (k0_t3 : Fin (k0_t3_loop i).trips) : Fin 3 → Nat :=
  let c0_121 : Index := 0#32
  let c0_122 : Index := 0#32
  let c0_i32_91 : BitVec 32 := 0#32
  let c1_i32_93 : BitVec 32 := 1#32
  let arg12 : BitVec 32 := Scf.iv c0_i32_91 c1_i32_93 k0_t3
  let c256_i32_120 : BitVec 32 := 256#32
  let v334 : BitVec 32 := Scalar.muli arg12 c256_i32_120
  let v335 : BitVec 32 := v334
  let v336 : Index := Scalar.indexCast v335
  ![0, 0, v336.toNat]
@[reducible] def k0_t4_loop (i : grid0.Coords) : Scf.Loop 32 :=
  let c0_i32_91 : BitVec 32 := 0#32
  let arg2 : BitVec 32 := BitVec.ofNat 32 (i 2).val
  let v265 : BitVec 32 := Scalar.subi arg2 c0_i32_91
  let c1_i32_92 : BitVec 32 := 1#32
  let v267 : BitVec 32 := Scalar.divsi v265 c1_i32_92
  let v268 : BitVec 32 := Scalar.muli v267 c1_i32_92
  let v269 : BitVec 32 := Scalar.addi c0_i32_91 v268
  let v266 : BitVec 32 := Scalar.addi c0_i32_91 v265
  let c1_i32_94 : BitVec 32 := 1#32
  ⟨v269, v266, c1_i32_94⟩
def k0_mult16 (i : grid0.Coords) (k0_t4 : Fin (k0_t4_loop i).trips) : BitVec 32 :=
  let c0_i32_91 : BitVec 32 := 0#32
  let arg2 : BitVec 32 := BitVec.ofNat 32 (i 2).val
  let v265 : BitVec 32 := Scalar.subi arg2 c0_i32_91
  let c1_i32_92 : BitVec 32 := 1#32
  let v267 : BitVec 32 := Scalar.divsi v265 c1_i32_92
  let v268 : BitVec 32 := Scalar.muli v267 c1_i32_92
  let v269 : BitVec 32 := Scalar.addi c0_i32_91 v268
  let c1_i32_94 : BitVec 32 := 1#32
  let arg12 : BitVec 32 := Scf.iv v269 c1_i32_94 k0_t4
  let c256_i32_114 : BitVec 32 := 256#32
  let v324 : BitVec 32 := Scalar.muli arg12 c256_i32_114
  v324
def k0_off13 (i : grid0.Coords) (k0_t4 : Fin (k0_t4_loop i).trips) : Fin 3 → Nat :=
  let c0_115 : Index := 0#32
  let c0_i32_91 : BitVec 32 := 0#32
  let arg2 : BitVec 32 := BitVec.ofNat 32 (i 2).val
  let v265 : BitVec 32 := Scalar.subi arg2 c0_i32_91
  let c1_i32_92 : BitVec 32 := 1#32
  let v267 : BitVec 32 := Scalar.divsi v265 c1_i32_92
  let v268 : BitVec 32 := Scalar.muli v267 c1_i32_92
  let v269 : BitVec 32 := Scalar.addi c0_i32_91 v268
  let c1_i32_94 : BitVec 32 := 1#32
  let arg12 : BitVec 32 := Scf.iv v269 c1_i32_94 k0_t4
  let c256_i32_114 : BitVec 32 := 256#32
  let v324 : BitVec 32 := Scalar.muli arg12 c256_i32_114
  let v325 : BitVec 32 := v324
  let v326 : Index := Scalar.indexCast v325
  let c0_116 : Index := 0#32
  ![0, v326.toNat, 0]
def k0_mult17 (i : grid0.Coords) (k0_t4 : Fin (k0_t4_loop i).trips) : BitVec 32 :=
  let c0_i32_91 : BitVec 32 := 0#32
  let arg2 : BitVec 32 := BitVec.ofNat 32 (i 2).val
  let v265 : BitVec 32 := Scalar.subi arg2 c0_i32_91
  let c1_i32_92 : BitVec 32 := 1#32
  let v267 : BitVec 32 := Scalar.divsi v265 c1_i32_92
  let v268 : BitVec 32 := Scalar.muli v267 c1_i32_92
  let v269 : BitVec 32 := Scalar.addi c0_i32_91 v268
  let c1_i32_94 : BitVec 32 := 1#32
  let arg12 : BitVec 32 := Scf.iv v269 c1_i32_94 k0_t4
  let c256_i32_117 : BitVec 32 := 256#32
  let v329 : BitVec 32 := Scalar.muli arg12 c256_i32_117
  v329
def k0_off14 (i : grid0.Coords) (k0_t4 : Fin (k0_t4_loop i).trips) : Fin 3 → Nat :=
  let c0_118 : Index := 0#32
  let c0_119 : Index := 0#32
  let c0_i32_91 : BitVec 32 := 0#32
  let arg2 : BitVec 32 := BitVec.ofNat 32 (i 2).val
  let v265 : BitVec 32 := Scalar.subi arg2 c0_i32_91
  let c1_i32_92 : BitVec 32 := 1#32
  let v267 : BitVec 32 := Scalar.divsi v265 c1_i32_92
  let v268 : BitVec 32 := Scalar.muli v267 c1_i32_92
  let v269 : BitVec 32 := Scalar.addi c0_i32_91 v268
  let c1_i32_94 : BitVec 32 := 1#32
  let arg12 : BitVec 32 := Scf.iv v269 c1_i32_94 k0_t4
  let c256_i32_117 : BitVec 32 := 256#32
  let v329 : BitVec 32 := Scalar.muli arg12 c256_i32_117
  let v330 : BitVec 32 := v329
  let v331 : Index := Scalar.indexCast v330
  ![0, 0, v331.toNat]
def k0_mult18 (i : grid0.Coords) (k0_t4 : Fin (k0_t4_loop i).trips) : BitVec 32 :=
  let c0_i32_91 : BitVec 32 := 0#32
  let arg2 : BitVec 32 := BitVec.ofNat 32 (i 2).val
  let v265 : BitVec 32 := Scalar.subi arg2 c0_i32_91
  let c1_i32_92 : BitVec 32 := 1#32
  let v267 : BitVec 32 := Scalar.divsi v265 c1_i32_92
  let v268 : BitVec 32 := Scalar.muli v267 c1_i32_92
  let v269 : BitVec 32 := Scalar.addi c0_i32_91 v268
  let c1_i32_94 : BitVec 32 := 1#32
  let arg12 : BitVec 32 := Scf.iv v269 c1_i32_94 k0_t4
  let c256_i32_120 : BitVec 32 := 256#32
  let v334 : BitVec 32 := Scalar.muli arg12 c256_i32_120
  v334
def k0_off15 (i : grid0.Coords) (k0_t4 : Fin (k0_t4_loop i).trips) : Fin 3 → Nat :=
  let c0_121 : Index := 0#32
  let c0_122 : Index := 0#32
  let c0_i32_91 : BitVec 32 := 0#32
  let arg2 : BitVec 32 := BitVec.ofNat 32 (i 2).val
  let v265 : BitVec 32 := Scalar.subi arg2 c0_i32_91
  let c1_i32_92 : BitVec 32 := 1#32
  let v267 : BitVec 32 := Scalar.divsi v265 c1_i32_92
  let v268 : BitVec 32 := Scalar.muli v267 c1_i32_92
  let v269 : BitVec 32 := Scalar.addi c0_i32_91 v268
  let c1_i32_94 : BitVec 32 := 1#32
  let arg12 : BitVec 32 := Scf.iv v269 c1_i32_94 k0_t4
  let c256_i32_120 : BitVec 32 := 256#32
  let v334 : BitVec 32 := Scalar.muli arg12 c256_i32_120
  let v335 : BitVec 32 := v334
  let v336 : Index := Scalar.indexCast v335
  ![0, 0, v336.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel4Ideal.lean ====
variable {F : FTy → Type} [FloatOps F] [Named F]
def κ : String → Option EReal := fun
  | "mask" => some ⊥
  | _ => none
-- ==== Reference4Ideal.lean ====
abbrev S8x2048x384 : Shape := ⟨3, ![8, 2048, 384]⟩
abbrev S8x384x2048 : Shape := ⟨3, ![8, 384, 2048]⟩
abbrev S8x2048 : Shape := ⟨2, ![8, 2048]⟩
abbrev S32 : Shape := ⟨1, ![32]⟩
abbrev S64 : Shape := ⟨1, ![64]⟩
abbrev S8x2048x6x2x32 : Shape := ⟨5, ![8, 2048, 6, 2, 32]⟩
abbrev S8x6x2x32x2048 : Shape := ⟨5, ![8, 6, 2, 32, 2048]⟩
abbrev S8x2048x6x64 : Shape := ⟨4, ![8, 2048, 6, 64]⟩
abbrev S8x6x2048x64 : Shape := ⟨4, ![8, 6, 2048, 64]⟩
abbrev S8x2048x6x1x32 : Shape := ⟨5, ![8, 2048, 6, 1, 32]⟩
abbrev S8x2048x6x32 : Shape := ⟨4, ![8, 2048, 6, 32]⟩
abbrev S8x6x2048x32 : Shape := ⟨4, ![8, 6, 2048, 32]⟩
abbrev S8x6x1x32x2048 : Shape := ⟨5, ![8, 6, 1, 32, 2048]⟩
abbrev S8x6x32x2048 : Shape := ⟨4, ![8, 6, 32, 2048]⟩
abbrev S6 : Shape := ⟨1, ![6]⟩
abbrev S_ : Shape := ⟨0, ![]⟩
abbrev S8x1x2048x1 : Shape := ⟨4, ![8, 1, 2048, 1]⟩
abbrev S8x1x1x2048 : Shape := ⟨4, ![8, 1, 1, 2048]⟩
abbrev S8x1x2048x2048 : Shape := ⟨4, ![8, 1, 2048, 2048]⟩
abbrev S1x6x1x1 : Shape := ⟨4, ![1, 6, 1, 1]⟩
abbrev S8x6x2048x2048 : Shape := ⟨4, ![8, 6, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x6x2048 : Shape := ⟨3, ![8, 6, 2048]⟩
abbrev S8x6x2048x1 : Shape := ⟨4, ![8, 6, 2048, 1]⟩
abbrev S1x1x1x64 : Shape := ⟨4, ![1, 1, 1, 64]⟩

abbrev nBuf : Space → Nat
  | .hbm => 176
  | .vmem => 0
  | .smem => 0
  | _ => 0

abbrev hbmTy0_0 (i : Nat) : BufTy := match i % 128 with
  | 0 => ⟨S8x2048x384, .bf16⟩
  | 1 => ⟨S8x384x2048, .bf16⟩
  | 2 => ⟨S8x2048x384, .bf16⟩
  | 3 => ⟨S8x2048, .i32⟩
  | 4 => ⟨S32, .f32⟩
  | 5 => ⟨S32, .f32⟩
  | 6 => ⟨S32, .f32⟩
  | 7 => ⟨S32, .f32⟩
  | 8 => ⟨S64, .f32⟩
  | 9 => ⟨S8x2048x384, .f32⟩
  | 10 => ⟨S8x2048x6x2x32, .f32⟩
  | 11 => ⟨S8x384x2048, .f32⟩
  | 12 => ⟨S8x6x2x32x2048, .f32⟩
  | 13 => ⟨S8x2048x384, .f32⟩
  | 14 => ⟨S8x2048x6x64, .f32⟩
  | 15 => ⟨S8x6x2048x64, .f32⟩
  | 16 => ⟨S8x2048x6x1x32, .f32⟩
  | 17 => ⟨S8x2048x6x32, .f32⟩
  | 18 => ⟨S8x6x2048x32, .f32⟩
  | 19 => ⟨S8x2048x6x1x32, .f32⟩
  | 20 => ⟨S8x2048x6x32, .f32⟩
  | 21 => ⟨S8x6x2048x32, .f32⟩
  | 22 => ⟨S8x6x1x32x2048, .f32⟩
  | 23 => ⟨S8x6x32x2048, .f32⟩
  | 24 => ⟨S8x6x2048x32, .f32⟩
  | 25 => ⟨S8x6x1x32x2048, .f32⟩
  | 26 => ⟨S8x6x32x2048, .f32⟩
  | 27 => ⟨S8x6x2048x32, .f32⟩
  | 28 => ⟨S6, .f32⟩
  | 29 => ⟨S_, .f32⟩
  | 30 => ⟨S6, .f32⟩
  | 31 => ⟨S6, .f32⟩
  | 32 => ⟨S_, .f32⟩
  | 33 => ⟨S6, .f32⟩
  | 34 => ⟨S6, .f32⟩
  | 35 => ⟨S_, .f32⟩
  | 36 => ⟨S6, .f32⟩
  | 37 => ⟨S6, .f32⟩
  | 38 => ⟨S_, .f32⟩
  | 39 => ⟨S6, .f32⟩
  | 40 => ⟨S6, .f32⟩
  | 41 => ⟨S8x2048, .f32⟩
  | 42 => ⟨S8x1x2048x1, .f32⟩
  | 43 => ⟨S8x1x1x2048, .f32⟩
  | 44 => ⟨S8x1x2048x2048, .f32⟩
  | 45 => ⟨S8x1x2048x2048, .f32⟩
  | 46 => ⟨S8x1x2048x2048, .f32⟩
  | 47 => ⟨S8x1x2048x2048, .f32⟩
  | 48 => ⟨S1x6x1x1, .f32⟩
  | 49 => ⟨S1x6x1x1, .f32⟩
  | 50 => ⟨S8x6x2048x2048, .f32⟩
  | 51 => ⟨S8x6x2048x2048, .f32⟩
  | 52 => ⟨S8x6x2048x2048, .f32⟩
  | 53 => ⟨S2048, .i32⟩
  | 54 => ⟨S2048x1, .i32⟩
  | 55 => ⟨S2048, .i32⟩
  | 56 => ⟨S1x2048, .i32⟩
  | 57 => ⟨S_, .i32⟩
  | 58 => ⟨S_, .i32⟩
  | 59 => ⟨S1x2048, .i32⟩
  | 60 => ⟨S1x2048, .i32⟩
  | 61 => ⟨S1x2048, .i32⟩
  | 62 => ⟨S_, .i32⟩
  | 63 => ⟨S1x2048, .i32⟩
  | 64 => ⟨S1x2048, .i1⟩
  | 65 => ⟨S1x2048, .i32⟩
  | 66 => ⟨S1x2048, .i32⟩
  | 67 => ⟨S_, .i32⟩
  | 68 => ⟨S1x2048, .i32⟩
  | 69 => ⟨S1x2048, .i1⟩
  | 70 => ⟨S1x2048, .i1⟩
  | 71 => ⟨S_, .i32⟩
  | 72 => ⟨S1x2048, .i32⟩
  | 73 => ⟨S1x2048, .i32⟩
  | 74 => ⟨S1x2048, .i32⟩
  | 75 => ⟨S_, .i32⟩
  | 76 => ⟨S_, .i32⟩
  | 77 => ⟨S2048x1, .i32⟩
  | 78 => ⟨S2048x1, .i32⟩
  | 79 => ⟨S2048x1, .i32⟩
  | 80 => ⟨S_, .i32⟩
  | 81 => ⟨S2048x1, .i32⟩
  | 82 => ⟨S2048x1, .i1⟩
  | 83 => ⟨S2048x1, .i32⟩
  | 84 => ⟨S2048x1, .i32⟩
  | 85 => ⟨S_, .i32⟩
  | 86 => ⟨S2048x1, .i32⟩
  | 87 => ⟨S2048x1, .i1⟩
  | 88 => ⟨S2048x1, .i1⟩
  | 89 => ⟨S_, .i32⟩
  | 90 => ⟨S2048x1, .i32⟩
  | 91 => ⟨S2048x1, .i32⟩
  | 92 => ⟨S2048x1, .i32⟩
  | 93 => ⟨S2048x2048, .i32⟩
  | 94 => ⟨S2048x2048, .i32⟩
  | 95 => ⟨S2048x2048, .i1⟩
  | 96 => ⟨S8x6x2048x2048, .f32⟩
  | 97 => ⟨S8x6x2048x2048, .f32⟩
  | 98 => ⟨S_, .f32⟩
  | 99 => ⟨S_, .f32⟩
  | 100 => ⟨S8x6x2048x2048, .i1⟩
  | 101 => ⟨S8x6x2048x2048, .f32⟩
  | 102 => ⟨S8x6x2048x2048, .f32⟩
  | 103 => ⟨S_, .f32⟩
  | 104 => ⟨S8x6x2048, .f32⟩
  | 105 => ⟨S_, .f32⟩
  | 106 => ⟨S8x6x2048, .f32⟩
  | 107 => ⟨S8x6x2048, .f32⟩
  | 108 => ⟨S8x6x2048x1, .f32⟩
  | 109 => ⟨S8x6x2048x2048, .f32⟩
  | 110 => ⟨S8x6x2048x2048, .f32⟩
  | 111 => ⟨S8x6x2048x2048, .f32⟩
  | 112 => ⟨S_, .f32⟩
  | 113 => ⟨S8x6x2048, .f32⟩
  | 114 => ⟨S8x6x2048x1, .f32⟩
  | 115 => ⟨S8x6x2048x2048, .f32⟩
  | 116 => ⟨S8x6x2048x2048, .f32⟩
  | 117 => ⟨S8x6x2048x64, .f32⟩
  | 118 => ⟨S8x6x2048x2048, .f32⟩
  | 119 => ⟨S8x6x2048x2048, .f32⟩
  | 120 => ⟨S_, .f32⟩
  | 121 => ⟨S_, .f32⟩
  | 122 => ⟨S8x6x2048x2048, .i1⟩
  | 123 => ⟨S8x6x2048x2048, .f32⟩
  | 124 => ⟨S8x6x2048x2048, .f32⟩
  | 125 => ⟨S_, .f32⟩
  | 126 => ⟨S8x6x2048, .f32⟩
  | 127 => ⟨S_, .f32⟩
  | _ => ⟨S8x2048x384, .bf16⟩

abbrev hbmTy0_1 (i : Nat) : BufTy := match i % 128 with
  | 0 => ⟨S8x6x2048, .f32⟩
  | 1 => ⟨S8x6x2048, .f32⟩
  | 2 => ⟨S8x6x2048x1, .f32⟩
  | 3 => ⟨S8x6x2048x2048, .f32⟩
  | 4 => ⟨S8x6x2048x2048, .f32⟩
  | 5 => ⟨S8x6x2048x2048, .f32⟩
  | 6 => ⟨S_, .f32⟩
  | 7 => ⟨S8x6x2048, .f32⟩
  | 8 => ⟨S8x6x2048x1, .f32⟩
  | 9 => ⟨S8x6x2048x2048, .f32⟩
  | 10 => ⟨S8x6x2048x2048, .f32⟩
  | 11 => ⟨S8x6x2048x64, .f32⟩
  | 12 => ⟨S32, .f32⟩
  | 13 => ⟨S_, .f32⟩
  | 14 => ⟨S_, .f32⟩
  | 15 => ⟨S_, .f32⟩
  | 16 => ⟨S32, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S8x6x2048x64, .f32⟩
  | 24 => ⟨S8x6x2048x64, .f32⟩
  | 25 => ⟨S8x6x2048x64, .f32⟩
  | 26 => ⟨S8x6x2048x64, .f32⟩
  | 27 => ⟨S_, .f32⟩
  | 28 => ⟨S8x6x2048, .f32⟩
  | 29 => ⟨S8x6x2048x1, .f32⟩
  | 30 => ⟨S_, .f32⟩
  | 31 => ⟨S8x6x2048x1, .f32⟩
  | 32 => ⟨S8x6x2048x1, .f32⟩
  | 33 => ⟨S_, .f32⟩
  | 34 => ⟨S8x6x2048x1, .f32⟩
  | 35 => ⟨S8x6x2048x1, .f32⟩
  | 36 => ⟨S8x6x2048x1, .f32⟩
  | 37 => ⟨S8x6x2048x64, .f32⟩
  | 38 => ⟨S8x6x2048x64, .f32⟩
  | 39 => ⟨S1x1x1x64, .f32⟩
  | 40 => ⟨S8x6x2048x64, .f32⟩
  | 41 => ⟨S8x6x2048x64, .f32⟩
  | 42 => ⟨S_, .f32⟩
  | 43 => ⟨S8x6x2048x64, .f32⟩
  | 44 => ⟨S8x6x2048x64, .f32⟩
  | 45 => ⟨S8x2048x6x64, .f32⟩
  | 46 => ⟨S8x2048x384, .f32⟩
  | 47 => ⟨S8x2048x384, .bf16⟩
  | _ => ⟨S8x2048x384, .bf16⟩

abbrev hbmTy (i : Nat) : BufTy := match i / 128 with
  | 0 => hbmTy0_0 i
  | 1 => hbmTy0_1 i
  | _ => ⟨S8x2048x384, .bf16⟩

abbrev bufTy : (tb : Table) → Fin (tcTables nBuf tb) → BufTy
  | .hbm, ⟨i, _⟩ => hbmTy i
  | _, _ => ⟨S8x2048x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_c : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_c_0 : Ref sig .tc := ⟨.hbm, 71, rfl⟩
abbrev main_call0_v12 : Ref sig .tc := ⟨.hbm, 72, rfl⟩
abbrev main_call0_v13 : Ref sig .tc := ⟨.hbm, 73, rfl⟩
abbrev main_v44 : Ref sig .tc := ⟨.hbm, 74, rfl⟩
abbrev main_c_3 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_c : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_c_0 : Ref sig .tc := ⟨.hbm, 89, rfl⟩
abbrev main_call1_v12 : Ref sig .tc := ⟨.hbm, 90, rfl⟩
abbrev main_call1_v13 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_cst_4 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_v51 : Ref sig .tc := ⟨.hbm, 102, rfl⟩
abbrev main_cst_5 : Ref sig .tc := ⟨.hbm, 103, rfl⟩
abbrev main_v52 : Ref sig .tc := ⟨.hbm, 104, rfl⟩
abbrev main_cst_6 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_cst_7 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_cst_8 : Ref sig .tc := ⟨.hbm, 120, rfl⟩
abbrev main_call3_v0 : Ref sig .tc := ⟨.hbm, 121, rfl⟩
abbrev main_call3_v1 : Ref sig .tc := ⟨.hbm, 122, rfl⟩
abbrev main_call3_v2 : Ref sig .tc := ⟨.hbm, 123, rfl⟩
abbrev main_v66 : Ref sig .tc := ⟨.hbm, 124, rfl⟩
abbrev main_cst_9 : Ref sig .tc := ⟨.hbm, 125, rfl⟩
abbrev main_v67 : Ref sig .tc := ⟨.hbm, 126, rfl⟩
abbrev main_cst_10 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_cst_11 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_cst_12 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_cst_13 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_cst_14 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_cst_15 : Ref sig .tc := ⟨.hbm, 155, rfl⟩
abbrev main_v91 : Ref sig .tc := ⟨.hbm, 156, rfl⟩
abbrev main_v92 : Ref sig .tc := ⟨.hbm, 157, rfl⟩
abbrev main_cst_16 : Ref sig .tc := ⟨.hbm, 158, rfl⟩
abbrev main_v93 : Ref sig .tc := ⟨.hbm, 159, rfl⟩
abbrev main_v94 : Ref sig .tc := ⟨.hbm, 160, rfl⟩
abbrev main_cst_17 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_cst_18 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩

abbrev nD : Nat := 1
abbrev τ : Topo := Topo.v7x

variable {F : FTy → Type} [FloatOps F]
-- ==== Proof.KernelRunA.lean ====
/-
  One run of the body of `Kernel` for the first expert of a token tile: what it stores, and that it runs.
-/
module

public import proofs.«01_k».proof.Proof.Gen.Kernel.Frame.Runs

@[expose] public section

set_option maxRecDepth 16384

noncomputable section

namespace Cert.Kernel.Launched

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S512x1024 .f32) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x256 .bf16) (harg5 : arg5.IsWhole) (arg6 : Memref sig .tc .vmem S512x256 .f32) (harg6 : arg6.IsWhole) (arg7 : Memref sig .tc .vmem S384x1024 .bf16) (harg7 : arg7.IsWhole) (arg8 : Memref sig .tc .vmem S384x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x128 .f32) (harg14 : arg14.IsWhole) (arg15 : Memref sig .tc .vmem S1x1024x256 .bf16) (harg15 : arg15.IsWhole) (arg16 : Memref sig .tc .vmem S1x1024x256 .bf16) (harg16 : arg16.IsWhole) (arg17 : Memref sig .tc .vmem S1x256x1024 .bf16) (harg17 : arg17.IsWhole) (arg18 : Memref sig .tc .vmem S1024x1024 .bf16) (harg18 : arg18.IsWhole) (arg19 : Memref sig .tc .vmem S256x1024 .bf16) (harg19 : arg19.IsWhole) (arg20 : Memref sig .tc .vmem S1x1024 .f32) (harg20 : arg20.IsWhole) (arg21 : Memref sig .tc .vmem S1x1024 .f32) (harg21 : arg21.IsWhole) (arg22 : Memref sig .tc .vmem S512x1024 .f32) (harg22 : arg22.IsWhole) (arg23 : Memref sig .tc .vmem S512x1024 .f32) (harg23 : arg23.IsWhole) (arg24 : Memref sig .tc .vmem S512x1024 .bf16) (harg24 : arg24.IsWhole) (arg25 : Memref sig .tc .vmem S512x128 .f32) (harg25 : arg25.IsWhole) (arg26 : Memref sig .tc .vmem S512x1024 .f32) (harg26 : arg26.IsWhole) (hc0 : cond0_0 i) (hc1 : ¬cond0_1 i)
  (x0 : Vec F S512x1024 .f32) (x1 : Vec F S512x384 .bf16) (x2 : Vec F S512x384 .bf16) (x3 : Vec F S512x256 .bf16) (x4 : Vec F S512x256 .f32) (x5 : Vec F S384x1024 .bf16) (x6 : Vec F S384x1024 .bf16) (x7 : Vec F S256x1024 .bf16) (x8 : Vec F S1x1024 .f32) (x9 : Vec F S1x1024 .f32) (x10 : Vec F S1024x128 .bf16) (x11 : Vec F S1024x128 .bf16) (x12 : Vec F S1x128 .f32) (x13 : Vec F S1x1024x256 .bf16) (x14 : Vec F S1x1024x256 .bf16) (x15 : Vec F S1x256x1024 .bf16) (x16 : Vec F S1024x1024 .bf16) (x17 : Vec F S256x1024 .bf16) (x18 : Vec F S1x1024 .f32) (x19 : Vec F S1x1024 .f32)

set_option maxHeartbeats 4000000 in
/-- What one run of the body stores for the first expert of a token tile: for the output and each scratch buffer the pieces written, with the proof that the body, on buffers held whole, runs to its end and leaves exactly these pieces. -/
noncomputable def kernelRun0_A :
    Σ' (LS1 : List (View.Piece (Elt F) S512x1024 .bf16)), Σ' (LS2 : List (View.Piece (Elt F) S512x128 .f32)), { LS3 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d) ∗ (∃ d, owns (c : Thread nD τ) arg23 fullShare d) ∗ (∃ f, arg24.view.loc (c : Thread nD τ) ↦[arg24.view.set]{fullShare} arg24.view.writes (Elt F) f LS1) ∗ (∃ f, arg25.view.loc (c : Thread nD τ) ↦[arg25.view.set]{fullShare} arg25.view.writes (Elt F) f LS2) ∗ (∃ f, arg26.view.loc (c : Thread nD τ) ↦[arg26.view.set]{fullShare} arg26.view.writes (Elt F) f LS3)) -∗ K ⟨⟩))
          ⊢ wp frame (wpE (defs₀ (F := F)) Variants.none c none) E (cc0_moe i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, fun E K => ?run⟩
  case run =>
    simp only [cc0_moe_eq_skeleton]; unfold cc0_moe_skel
    simp only [k0_part5_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _, _; isplitr; swap; · iexact H20
      ipureintro; rfl
    isplitl [HS0]
    · iexists _, _; isplitr; swap; · iexact HS0
      ipureintro; rfl
    isplitl [HS1]; · iexists _; iexact HS1
    isplitl [HS2]; · iexists _; iexact HS2
    iexists _; iexact HS3

end Cert.Kernel.Launched

end
-- ==== Proof.KernelRunB.lean ====
/-
  One run of the body of `Kernel` for an expert that is neither first nor last: what it stores, and that it runs.
-/
module

public import proofs.«01_k».proof.Proof.Gen.Kernel.Frame.Runs

@[expose] public section

set_option maxRecDepth 16384

noncomputable section

namespace Cert.Kernel.Launched

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S512x1024 .f32) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x256 .bf16) (harg5 : arg5.IsWhole) (arg6 : Memref sig .tc .vmem S512x256 .f32) (harg6 : arg6.IsWhole) (arg7 : Memref sig .tc .vmem S384x1024 .bf16) (harg7 : arg7.IsWhole) (arg8 : Memref sig .tc .vmem S384x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x128 .f32) (harg14 : arg14.IsWhole) (arg15 : Memref sig .tc .vmem S1x1024x256 .bf16) (harg15 : arg15.IsWhole) (arg16 : Memref sig .tc .vmem S1x1024x256 .bf16) (harg16 : arg16.IsWhole) (arg17 : Memref sig .tc .vmem S1x256x1024 .bf16) (harg17 : arg17.IsWhole) (arg18 : Memref sig .tc .vmem S1024x1024 .bf16) (harg18 : arg18.IsWhole) (arg19 : Memref sig .tc .vmem S256x1024 .bf16) (harg19 : arg19.IsWhole) (arg20 : Memref sig .tc .vmem S1x1024 .f32) (harg20 : arg20.IsWhole) (arg21 : Memref sig .tc .vmem S1x1024 .f32) (harg21 : arg21.IsWhole) (arg22 : Memref sig .tc .vmem S512x1024 .f32) (harg22 : arg22.IsWhole) (arg23 : Memref sig .tc .vmem S512x1024 .f32) (harg23 : arg23.IsWhole) (arg24 : Memref sig .tc .vmem S512x1024 .bf16) (harg24 : arg24.IsWhole) (arg25 : Memref sig .tc .vmem S512x128 .f32) (harg25 : arg25.IsWhole) (arg26 : Memref sig .tc .vmem S512x1024 .f32) (harg26 : arg26.IsWhole) (hc0 : ¬cond0_0 i) (hc1 : ¬cond0_1 i)
  (x0 : Vec F S512x1024 .f32) (x1 : Vec F S512x384 .bf16) (x2 : Vec F S512x384 .bf16) (x3 : Vec F S512x256 .bf16) (x4 : Vec F S512x256 .f32) (x5 : Vec F S384x1024 .bf16) (x6 : Vec F S384x1024 .bf16) (x7 : Vec F S256x1024 .bf16) (x8 : Vec F S1x1024 .f32) (x9 : Vec F S1x1024 .f32) (x10 : Vec F S1024x128 .bf16) (x11 : Vec F S1024x128 .bf16) (x12 : Vec F S1x128 .f32) (x13 : Vec F S1x1024x256 .bf16) (x14 : Vec F S1x1024x256 .bf16) (x15 : Vec F S1x256x1024 .bf16) (x16 : Vec F S1024x1024 .bf16) (x17 : Vec F S256x1024 .bf16) (x18 : Vec F S1x1024 .f32) (x19 : Vec F S1x1024 .f32) (xs1 : Vec F S512x1024 .bf16) (xs2 : Vec F S512x128 .f32) (xs3 : Vec F S512x1024 .f32)

set_option maxHeartbeats 4000000 in
/-- What one run of the body stores for an expert that is neither first nor last: for the output and each scratch buffer the pieces written, with the proof that the body, on buffers held whole, runs to its end and leaves exactly these pieces. -/
noncomputable def kernelRun0_B :
    Σ' (LS1 : List (View.Piece (Elt F) S512x1024 .bf16)), Σ' (LS2 : List (View.Piece (Elt F) S512x128 .f32)), { LS3 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d) ∗ (∃ d, owns (c : Thread nD τ) arg23 fullShare d) ∗ owns (c : Thread nD τ) arg24 fullShare xs1 ∗ owns (c : Thread nD τ) arg25 fullShare xs2 ∗ owns (c : Thread nD τ) arg26 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d) ∗ (∃ d, owns (c : Thread nD τ) arg23 fullShare d) ∗ owns (c : Thread nD τ) arg24 fullShare xs1 ∗ owns (c : Thread nD τ) arg25 fullShare xs2 ∗ (∃ f, arg26.view.loc (c : Thread nD τ) ↦[arg26.view.set]{fullShare} arg26.view.writes (Elt F) f LS3)) -∗ K ⟨⟩))
          ⊢ wp frame (wpE (defs₀ (F := F)) Variants.none c none) E (cc0_moe i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨[], [], ?_, fun E K => ?run⟩
  case run =>
    simp only [cc0_moe_eq_skeleton]; unfold cc0_moe_skel
    simp only [k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%ds0, %fs0, -, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg24.eq_unread hfs1; obtain rfl := harg25.eq_unread hfs2; obtain rfl := harg26.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _, _; isplitr; swap; · iexact H20
      ipureintro; rfl
    isplitl [HS0]
    · iexists _, _; isplitr; swap; · iexact HS0
      ipureintro; rfl
    isplitl [HS1]
    · iexists _; isplitr; · ipureintro; exact harg24.read_unread _
      iexact HS1
    isplitl [HS2]
    · iexists _; isplitr; · ipureintro; exact harg25.read_unread _
      iexact HS2
    iexists _; iexact HS3

end Cert.Kernel.Launched

end
-- ==== Proof.KernelRunC.lean ====
/-
  One run of the body of `Kernel` for the last expert of a token tile: what it stores, and that it runs.
-/
module

public import proofs.«01_k».proof.Proof.Gen.Kernel.Frame.Runs

@[expose] public section

set_option maxRecDepth 16384

noncomputable section

namespace Cert.Kernel.Launched

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S512x1024 .f32) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x256 .bf16) (harg5 : arg5.IsWhole) (arg6 : Memref sig .tc .vmem S512x256 .f32) (harg6 : arg6.IsWhole) (arg7 : Memref sig .tc .vmem S384x1024 .bf16) (harg7 : arg7.IsWhole) (arg8 : Memref sig .tc .vmem S384x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x128 .f32) (harg14 : arg14.IsWhole) (arg15 : Memref sig .tc .vmem S1x1024x256 .bf16) (harg15 : arg15.IsWhole) (arg16 : Memref sig .tc .vmem S1x1024x256 .bf16) (harg16 : arg16.IsWhole) (arg17 : Memref sig .tc .vmem S1x256x1024 .bf16) (harg17 : arg17.IsWhole) (arg18 : Memref sig .tc .vmem S1024x1024 .bf16) (harg18 : arg18.IsWhole) (arg19 : Memref sig .tc .vmem S256x1024 .bf16) (harg19 : arg19.IsWhole) (arg20 : Memref sig .tc .vmem S1x1024 .f32) (harg20 : arg20.IsWhole) (arg21 : Memref sig .tc .vmem S1x1024 .f32) (harg21 : arg21.IsWhole) (arg22 : Memref sig .tc .vmem S512x1024 .f32) (harg22 : arg22.IsWhole) (arg23 : Memref sig .tc .vmem S512x1024 .f32) (harg23 : arg23.IsWhole) (arg24 : Memref sig .tc .vmem S512x1024 .bf16) (harg24 : arg24.IsWhole) (arg25 : Memref sig .tc .vmem S512x128 .f32) (harg25 : arg25.IsWhole) (arg26 : Memref sig .tc .vmem S512x1024 .f32) (harg26 : arg26.IsWhole) (hc0 : ¬cond0_0 i) (hc1 : cond0_1 i)
  (x0 : Vec F S512x1024 .f32) (x1 : Vec F S512x384 .bf16) (x2 : Vec F S512x384 .bf16) (x3 : Vec F S512x256 .bf16) (x4 : Vec F S512x256 .f32) (x5 : Vec F S384x1024 .bf16) (x6 : Vec F S384x1024 .bf16) (x7 : Vec F S256x1024 .bf16) (x8 : Vec F S1x1024 .f32) (x9 : Vec F S1x1024 .f32) (x10 : Vec F S1024x128 .bf16) (x11 : Vec F S1024x128 .bf16) (x12 : Vec F S1x128 .f32) (x13 : Vec F S1x1024x256 .bf16) (x14 : Vec F S1x1024x256 .bf16) (x15 : Vec F S1x256x1024 .bf16) (x16 : Vec F S1024x1024 .bf16) (x17 : Vec F S256x1024 .bf16) (x18 : Vec F S1x1024 .f32) (x19 : Vec F S1x1024 .f32) (xs1 : Vec F S512x1024 .bf16) (xs2 : Vec F S512x128 .f32) (xs3 : Vec F S512x1024 .f32)

set_option maxHeartbeats 4000000 in
/-- What one run of the body stores for the last expert of a token tile: for the output and each scratch buffer the pieces written, with the proof that the body, on buffers held whole, runs to its end and leaves exactly these pieces. -/
noncomputable def kernelRun0_C :
    Σ' (LS1 : List (View.Piece (Elt F) S512x1024 .bf16)), Σ' (LS2 : List (View.Piece (Elt F) S512x128 .f32)), { LS3 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d) ∗ (∃ d, owns (c : Thread nD τ) arg23 fullShare d) ∗ owns (c : Thread nD τ) arg24 fullShare xs1 ∗ owns (c : Thread nD τ) arg25 fullShare xs2 ∗ owns (c : Thread nD τ) arg26 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d) ∗ (∃ d, owns (c : Thread nD τ) arg23 fullShare d) ∗ owns (c : Thread nD τ) arg24 fullShare xs1 ∗ owns (c : Thread nD τ) arg25 fullShare xs2 ∗ (∃ f, arg26.view.loc (c : Thread nD τ) ↦[arg26.view.set]{fullShare} arg26.view.writes (Elt F) f LS3)) -∗ K ⟨⟩))
          ⊢ wp frame (wpE (defs₀ (F := F)) Variants.none c none) E (cc0_moe i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨[], [], ?_, fun E K => ?run⟩
  case run =>
    simp only [cc0_moe_eq_skeleton]; unfold cc0_moe_skel
    simp only [k0_part5_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%ds0, %fs0, -, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg24.eq_unread hfs1; obtain rfl := harg25.eq_unread hfs2; obtain rfl := harg26.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _, _; isplitr; swap; · iexact H20
      ipureintro; rfl
    isplitl [HS0]
    · iexists _, _; isplitr; swap; · iexact HS0
      ipureintro; rfl
    isplitl [HS1]
    · iexists _; isplitr; · ipureintro; exact harg24.read_unread _
      iexact HS1
    isplitl [HS2]
    · iexists _; isplitr; · ipureintro; exact harg25.read_unread _
      iexact HS2
    iexists _; iexact HS3

end Cert.Kernel.Launched

end
-- ==== Proof.KernelLaunch.lean ====
/-
  The launch of `Kernel`: what its buffers hold after each grid point, the soundness of the body at every point, and the
  run of the whole program.
-/
module

public import proofs.«01_k».proof.Proof.KernelRunA
public import proofs.«01_k».proof.Proof.KernelRunB
public import proofs.«01_k».proof.Proof.KernelRunC
public import Idealize.ShloMosaic.Lib.Claim

@[expose] public section

set_option maxRecDepth 16384

noncomputable section

namespace Cert.Kernel.Launched

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg2 : Memref sig .tc .vmem S512x1024 .f32) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x256 .bf16) (harg5 : arg5.IsWhole) (arg6 : Memref sig .tc .vmem S512x256 .f32) (harg6 : arg6.IsWhole) (arg7 : Memref sig .tc .vmem S384x1024 .bf16) (harg7 : arg7.IsWhole) (arg8 : Memref sig .tc .vmem S384x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x128 .f32) (harg14 : arg14.IsWhole) (arg15 : Memref sig .tc .vmem S1x1024x256 .bf16) (harg15 : arg15.IsWhole) (arg16 : Memref sig .tc .vmem S1x1024x256 .bf16) (harg16 : arg16.IsWhole) (arg17 : Memref sig .tc .vmem S1x256x1024 .bf16) (harg17 : arg17.IsWhole) (arg18 : Memref sig .tc .vmem S1024x1024 .bf16) (harg18 : arg18.IsWhole) (arg19 : Memref sig .tc .vmem S256x1024 .bf16) (harg19 : arg19.IsWhole) (arg20 : Memref sig .tc .vmem S1x1024 .f32) (harg20 : arg20.IsWhole) (arg21 : Memref sig .tc .vmem S1x1024 .f32) (harg21 : arg21.IsWhole) (arg22 : Memref sig .tc .vmem S512x1024 .f32) (harg22 : arg22.IsWhole) (arg23 : Memref sig .tc .vmem S512x1024 .f32) (harg23 : arg23.IsWhole) (arg24 : Memref sig .tc .vmem S512x1024 .bf16) (harg24 : arg24.IsWhole) (arg25 : Memref sig .tc .vmem S512x128 .f32) (harg25 : arg25.IsWhole) (arg26 : Memref sig .tc .vmem S512x1024 .f32) (harg26 : arg26.IsWhole) (hc0 : cond0_0 i) (hc1 : ¬cond0_1 i)
  (x0 : Vec F S512x1024 .f32) (x1 : Vec F S512x384 .bf16) (x2 : Vec F S512x384 .bf16) (x3 : Vec F S512x256 .bf16) (x4 : Vec F S512x256 .f32) (x5 : Vec F S384x1024 .bf16) (x6 : Vec F S384x1024 .bf16) (x7 : Vec F S256x1024 .bf16) (x8 : Vec F S1x1024 .f32) (x9 : Vec F S1x1024 .f32) (x10 : Vec F S1024x128 .bf16) (x11 : Vec F S1024x128 .bf16) (x12 : Vec F S1x128 .f32) (x13 : Vec F S1x1024x256 .bf16) (x14 : Vec F S1x1024x256 .bf16) (x15 : Vec F S1x256x1024 .bf16) (x16 : Vec F S1024x1024 .bf16) (x17 : Vec F S256x1024 .bf16) (x18 : Vec F S1x1024 .f32) (x19 : Vec F S1x1024 .f32)

/-- The pieces stored for the first expert of a token tile cover the whole buffer (the normalized rows in the narrow format). -/
theorem scover0_A_1 (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19).1 S512x1024.size (by sl_kernel_rfl) y

/-- What the scratch buffer of the normalized rows in the narrow format holds after the body, for the first expert of a token tile. -/
def sout0_A_1 : Vec F S512x1024 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19).1)

/-- The pieces stored for the first expert of a token tile cover the whole buffer (the routing weights). -/
theorem scover0_A_2 (y : S512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19).2.1 S512x128.size (by sl_kernel_rfl) y

/-- What the scratch buffer of the routing weights holds after the body, for the first expert of a token tile. -/
def sout0_A_2 : Vec F S512x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19).2.1)

/-- The pieces stored for the first expert of a token tile cover the whole buffer (the running sum over experts). -/
theorem scover0_A_3 (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19).2.2.1 S512x1024.size (by sl_kernel_rfl) y

/-- What the scratch buffer of the running sum over experts holds after the body, for the first expert of a token tile. -/
def sout0_A_3 : Vec F S512x1024 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19).2.2.1)

end

section
variable (c : Dev nD) (i : grid0.Coords) (arg2 : Memref sig .tc .vmem S512x1024 .f32) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x256 .bf16) (harg5 : arg5.IsWhole) (arg6 : Memref sig .tc .vmem S512x256 .f32) (harg6 : arg6.IsWhole) (arg7 : Memref sig .tc .vmem S384x1024 .bf16) (harg7 : arg7.IsWhole) (arg8 : Memref sig .tc .vmem S384x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x128 .f32) (harg14 : arg14.IsWhole) (arg15 : Memref sig .tc .vmem S1x1024x256 .bf16) (harg15 : arg15.IsWhole) (arg16 : Memref sig .tc .vmem S1x1024x256 .bf16) (harg16 : arg16.IsWhole) (arg17 : Memref sig .tc .vmem S1x256x1024 .bf16) (harg17 : arg17.IsWhole) (arg18 : Memref sig .tc .vmem S1024x1024 .bf16) (harg18 : arg18.IsWhole) (arg19 : Memref sig .tc .vmem S256x1024 .bf16) (harg19 : arg19.IsWhole) (arg20 : Memref sig .tc .vmem S1x1024 .f32) (harg20 : arg20.IsWhole) (arg21 : Memref sig .tc .vmem S1x1024 .f32) (harg21 : arg21.IsWhole) (arg22 : Memref sig .tc .vmem S512x1024 .f32) (harg22 : arg22.IsWhole) (arg23 : Memref sig .tc .vmem S512x1024 .f32) (harg23 : arg23.IsWhole) (arg24 : Memref sig .tc .vmem S512x1024 .bf16) (harg24 : arg24.IsWhole) (arg25 : Memref sig .tc .vmem S512x128 .f32) (harg25 : arg25.IsWhole) (arg26 : Memref sig .tc .vmem S512x1024 .f32) (harg26 : arg26.IsWhole) (hc0 : ¬cond0_0 i) (hc1 : ¬cond0_1 i)
  (x0 : Vec F S512x1024 .f32) (x1 : Vec F S512x384 .bf16) (x2 : Vec F S512x384 .bf16) (x3 : Vec F S512x256 .bf16) (x4 : Vec F S512x256 .f32) (x5 : Vec F S384x1024 .bf16) (x6 : Vec F S384x1024 .bf16) (x7 : Vec F S256x1024 .bf16) (x8 : Vec F S1x1024 .f32) (x9 : Vec F S1x1024 .f32) (x10 : Vec F S1024x128 .bf16) (x11 : Vec F S1024x128 .bf16) (x12 : Vec F S1x128 .f32) (x13 : Vec F S1x1024x256 .bf16) (x14 : Vec F S1x1024x256 .bf16) (x15 : Vec F S1x256x1024 .bf16) (x16 : Vec F S1024x1024 .bf16) (x17 : Vec F S256x1024 .bf16) (x18 : Vec F S1x1024 .f32) (x19 : Vec F S1x1024 .f32) (xs1 : Vec F S512x1024 .bf16) (xs2 : Vec F S512x128 .f32) (xs3 : Vec F S512x1024 .f32)

/-- The pieces stored for an expert that is neither first nor last cover the whole buffer (the running sum over experts). -/
theorem scover0_B_3 (y : S512x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 xs1 xs2 xs3).2.2.1 S512x1024.size (by sl_kernel_rfl) y

/-- What the scratch buffer of the running sum over experts holds after the body, for an expert that is neither first nor last. -/
def sout0_B_3 : Vec F S512x1024 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 xs1 xs2 xs3).2.2.1)

end

section
variable (c : Dev nD) (i : grid0.Coords) (arg2 : Memref sig .tc .vmem S512x1024 .f32) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x256 .bf16) (harg5 : arg5.IsWhole) (arg6 : Memref sig .tc .vmem S512x256 .f32) (harg6 : arg6.IsWhole) (arg7 : Memref sig .tc .vmem S384x1024 .bf16) (harg7 : arg7.IsWhole) (arg8 : Memref sig .tc .vmem S384x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x128 .f32) (harg14 : arg14.IsWhole) (arg15 : Memref sig .tc .vmem S1x1024x256 .bf16) (harg15 : arg15.IsWhole) (arg16 : Memref sig .tc .vmem S1x1024x256 .bf16) (harg16 : arg16.IsWhole) (arg17 : Memref sig .tc .vmem S1x256x1024 .bf16) (harg17 : arg17.IsWhole) (arg18 : Memref sig .tc .vmem S1024x1024 .bf16) (harg18 : arg18.IsWhole) (arg19 : Memref sig .tc .vmem S256x1024 .bf16) (harg19 : arg19.IsWhole) (arg20 : Memref sig .tc .vmem S1x1024 .f32) (harg20 : arg20.IsWhole) (arg21 : Memref sig .tc .vmem S1x1024 .f32) (harg21 : arg21.IsWhole) (arg22 : Memref sig .tc .vmem S512x1024 .f32) (harg22 : arg22.IsWhole) (arg23 : Memref sig .tc .vmem S512x1024 .f32) (harg23 : arg23.IsWhole) (arg24 : Memref sig .tc .vmem S512x1024 .bf16) (harg24 : arg24.IsWhole) (arg25 : Memref sig .tc .vmem S512x128 .f32) (harg25 : arg25.IsWhole) (arg26 : Memref sig .tc .vmem S512x1024 .f32) (harg26 : arg26.IsWhole) (hc0 : ¬cond0_0 i) (hc1 : cond0_1 i)
  (x0 : Vec F S512x1024 .f32) (x1 : Vec F S512x384 .bf16) (x2 : Vec F S512x384 .bf16) (x3 : Vec F S512x256 .bf16) (x4 : Vec F S512x256 .f32) (x5 : Vec F S384x1024 .bf16) (x6 : Vec F S384x1024 .bf16) (x7 : Vec F S256x1024 .bf16) (x8 : Vec F S1x1024 .f32) (x9 : Vec F S1x1024 .f32) (x10 : Vec F S1024x128 .bf16) (x11 : Vec F S1024x128 .bf16) (x12 : Vec F S1x128 .f32) (x13 : Vec F S1x1024x256 .bf16) (x14 : Vec F S1x1024x256 .bf16) (x15 : Vec F S1x256x1024 .bf16) (x16 : Vec F S1024x1024 .bf16) (x17 : Vec F S256x1024 .bf16) (x18 : Vec F S1x1024 .f32) (x19 : Vec F S1x1024 .f32) (xs1 : Vec F S512x1024 .bf16) (xs2 : Vec F S512x128 .f32) (xs3 : Vec F S512x1024 .f32)

/-- The pieces stored for the last expert of a token tile cover the whole buffer (the running sum over experts). -/
theorem scover0_C_3 (y : S512x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 xs1 xs2 xs3).2.2.1 S512x1024.size (by sl_kernel_rfl) y

/-- What the scratch buffer of the running sum over experts holds after the body, for the last expert of a token tile. -/
def sout0_C_3 : Vec F S512x1024 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 xs1 xs2 xs3).2.2.1)

end

variable (m : (ℓ : Loc nD τ sig) → Buf (Elt F) ℓ) (ρ : Dev nD → PrngReg)

/-- What the output buffer and the four scratch buffers hold after grid point `n`, by recursion on the point. -/
def outsAt0 (c : Dev nD) : (n : ℕ) → n < cfg0.N → Vec F S512x1024 .bf16 × Vec F S512x128 .f32 × Vec F S512x1024 .f32
  | 0, hn => (sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩))
  | n + 1, hn =>
    if h0 : (n + 1) % 32 = 0 then
      if h1 : (n + 1) % 32 = 31 then
        False.elim (by have hN : n + 1 < 1024 := lt_of_lt_of_eq hn (show cfg0.N = 1024 from N_0); omega)
      else
        (sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩))
    else
      if h1 : (n + 1) % 32 = 31 then
        ((outsAt0 c n (Nat.lt_of_succ_lt hn)).1, (outsAt0 c n (Nat.lt_of_succ_lt hn)).2.1, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).1 (outsAt0 c n (Nat.lt_of_succ_lt hn)).2.1 (outsAt0 c n (Nat.lt_of_succ_lt hn)).2.2)
      else
        ((outsAt0 c n (Nat.lt_of_succ_lt hn)).1, (outsAt0 c n (Nat.lt_of_succ_lt hn)).2.1, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).1 (outsAt0 c n (Nat.lt_of_succ_lt hn)).2.1 (outsAt0 c n (Nat.lt_of_succ_lt hn)).2.2)

/-- The contents after a grid point, for the first expert of a token tile. -/
theorem outsAt0_A (c : Dev nD) (t : Fin cfg0.N) (h0 : t.val % 32 = 0) (h1 : ¬t.val % 32 = 31) :
    outsAt0 m c t.val t.isLt = (sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) := by
  obtain ⟨n, hn⟩ := t
  cases n with
  | zero => exact rfl
  | succ n => exact (dif_pos h0).trans ((dif_neg h1).trans rfl)

/-- The contents after a grid point, for an expert that is neither first nor last. -/
theorem outsAt0_B (c : Dev nD) (t : Fin cfg0.N) (h0 : ¬t.val % 32 = 0) (h1 : ¬t.val % 32 = 31) :
    outsAt0 m c t.val t.isLt = ((outsAt0 m c (t.val - 1) (Nat.lt_of_le_of_lt (Nat.sub_le _ _) t.isLt)).1, (outsAt0 m c (t.val - 1) (Nat.lt_of_le_of_lt (Nat.sub_le _ _) t.isLt)).2.1, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- The contents after a grid point, for the last expert of a token tile. -/
theorem outsAt0_C (c : Dev nD) (t : Fin cfg0.N) (h0 : ¬t.val % 32 = 0) (h1 : t.val % 32 = 31) :
    outsAt0 m c t.val t.isLt = ((outsAt0 m c (t.val - 1) (Nat.lt_of_le_of_lt (Nat.sub_le _ _) t.isLt)).1, (outsAt0 m c (t.val - 1) (Nat.lt_of_le_of_lt (Nat.sub_le _ _) t.isLt)).2.1, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The invariant before grid point `n`: each scratch buffer at what the point before left (at anything before the first). -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).1) ∗ owns (c : Thread nD τ) scM0_2 fullShare ((outsAt0 m c n hn).2.1) ∗ owns (c : Thread nD τ) scM0_3 fullShare ((outsAt0 m c n hn).2.2)) ∗ (∃ r, prngReg c r))

/-- Before the first point nothing is known of the scratch buffers. -/
theorem PhiS_zero (c : Dev nD) (n : ℕ) (h : n ≤ cfg0.N) (hz : n = 0) : PhiS m c n h = Pipeline.ΦA spec0 c := by
  subst hz; rfl

/-- After point `n` the scratch buffers hold that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).1) ∗ owns (c : Thread nD τ) scM0_2 fullShare ((outsAt0 m c n hn).2.1) ∗ owns (c : Thread nD τ) scM0_3 fullShare ((outsAt0 m c n hn).2.2)) ∗ (∃ r, prngReg c r)) := rfl

/-- Before a later point the scratch buffers hold what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).1) ∗ owns (c : Thread nD τ) scM0_2 fullShare ((outsAt0 m c (n - 1) (by omega)).2.1) ∗ owns (c : Thread nD τ) scM0_3 fullShare ((outsAt0 m c (n - 1) (by omega)).2.2)) ∗ (∃ r, prngReg c r)) := by
  cases n with
  | zero => exact absurd rfl hz
  | succ n => rfl

/-- An output written in part: the store leaves the rest of the array as it was. -/
def forgets0 : Fin 21 → Bool := fun w => w.val == 20

/-- The data of the pipeline on one core: the arrays at entry, each window's buffer after each point, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, h⟩ => Pipeline.Dat.unnamed (cfg := cfg0) ⟨20, h⟩ t
    | ⟨_ + 21, h⟩ => absurd h (Nat.not_lt.2 (Nat.le_add_left _ _))
  Φ t := PhiS m c t.val (Nat.le_of_lt_succ t.isLt)
  q _ := fullShare
  owed _ := 0

/-- The arrays at entry. -/
theorem A_eq (c : Dev nD) (w : Fin cfg0.W) : (dats m 0 c).A w = V m c (Pipeline.arrRef spec0 w) := by
  dsimp only [dats]

/-- The invariant before point `t`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare d))

/-- What the body leaves at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (∃ d, owns (c : Thread nD τ) (ms0_20 t) fullShare d))

set_option maxHeartbeats 28800000 in
/-- The body is sound at every grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).owesAt () t.succ = (dats m 0 c).owesAt () t.castSucc from rfl]
  rw [show (dats m 0 c).Φ t.succ = PhiS m c (t.val + 1) t.isLt from rfl, PhiS_succ]
  have hN : t.val < 1024 := lt_of_lt_of_eq t.isLt (show cfg0.N = 1024 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [show (dats m 0 c).leavesExact 17 t = owns (c : Thread nD τ) (ms0_17 t) fullShare ((dats m 0 c).after 17 t) from by
    unfold Dat.leavesExact; rw [liveAt0_17 t], after0_17]
  rw [show (dats m 0 c).leavesExact 18 t = owns (c : Thread nD τ) (ms0_18 t) fullShare ((dats m 0 c).after 18 t) from by
    unfold Dat.leavesExact; rw [liveAt0_18 t], after0_18]
  rw [show (dats m 0 c).leavesExact 19 t = owns (c : Thread nD τ) (ms0_19 t) fullShare ((dats m 0 c).after 19 t) from by
    unfold Dat.leavesExact; rw [liveAt0_19 t], after0_19]
  by_cases h0 : t.val % 32 = 0
  · by_cases h1 : t.val % 32 = 31
    · exfalso; omega
    · by_cases hz : t.val = 0
      · rw [PhiS_castSucc m c t, PhiS_zero m c _ _ hz, PhiA0_eq]
        rw [outsAt0_A m c t h0 h1]
        unfold sout0_A_1 sout0_A_2 sout0_A_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexists _; iexact H20
        isplitl [HS0]; · iexact HS0
        isplitl [HS1]; · iexact HS1
        isplitl [HS2]; · iexact HS2
        isplitl [HS3]; · iexact HS3
        iintro ⟨H0, H1, H2, H3, H4, H5, H6, H7, H8, H9, H10, H11, H12, H13, H14, H15, H16, H17, H18, H19, H20, HS0, ⟨%es1, HS1⟩, ⟨%es2, HS2⟩, ⟨%es3, HS3⟩⟩
        isplitl [HS0 HS1 HS2 HS3 Hg]
        · isplitl [HS0 HS1 HS2 HS3]
          · isplitl [HS0]
            · iexact HS0
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        iexact H20
      · rw [PhiS_castSucc m c t, PhiS_pos m c _ _ hz]
        rw [outsAt0_A m c t h0 h1]
        unfold sout0_A_1 sout0_A_2 sout0_A_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexists _; iexact H20
        isplitl [HS0]; · iexact HS0
        isplitl [HS1]; · iexists _; iexact HS1
        isplitl [HS2]; · iexists _; iexact HS2
        isplitl [HS3]; · iexists _; iexact HS3
        iintro ⟨H0, H1, H2, H3, H4, H5, H6, H7, H8, H9, H10, H11, H12, H13, H14, H15, H16, H17, H18, H19, H20, HS0, ⟨%es1, HS1⟩, ⟨%es2, HS2⟩, ⟨%es3, HS3⟩⟩
        isplitl [HS0 HS1 HS2 HS3 Hg]
        · isplitl [HS0 HS1 HS2 HS3]
          · isplitl [HS0]
            · iexact HS0
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        iexact H20
  · by_cases h1 : t.val % 32 = 31
    · by_cases hz : t.val = 0
      · exfalso; have hN : t.val < 1024 := lt_of_lt_of_eq t.isLt (show cfg0.N = 1024 from N_0); omega
      · rw [PhiS_castSucc m c t, PhiS_pos m c _ _ hz]
        rw [outsAt0_C m c t h0 h1]
        unfold sout0_C_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _ _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexists _; iexact H20
        isplitl [HS0]; · iexact HS0
        isplitl [HS1]; · iexact HS1
        isplitl [HS2]; · iexact HS2
        isplitl [HS3]; · iexact HS3
        iintro ⟨H0, H1, H2, H3, H4, H5, H6, H7, H8, H9, H10, H11, H12, H13, H14, H15, H16, H17, H18, H19, H20, HS0, HS1, HS2, ⟨%es3, HS3⟩⟩
        isplitl [HS0 HS1 HS2 HS3 Hg]
        · isplitl [HS0 HS1 HS2 HS3]
          · isplitl [HS0]
            · iexact HS0
            isplitl [HS1]
            · iexact HS1
            isplitl [HS2]
            · iexact HS2
            unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        iexact H20
    · by_cases hz : t.val = 0
      · exfalso; have hN : t.val < 1024 := lt_of_lt_of_eq t.isLt (show cfg0.N = 1024 from N_0); omega
      · rw [PhiS_castSucc m c t, PhiS_pos m c _ _ hz]
        rw [outsAt0_B m c t h0 h1]
        unfold sout0_B_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _ _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexists _; iexact H20
        isplitl [HS0]; · iexact HS0
        isplitl [HS1]; · iexact HS1
        isplitl [HS2]; · iexact HS2
        isplitl [HS3]; · iexact HS3
        iintro ⟨H0, H1, H2, H3, H4, H5, H6, H7, H8, H9, H10, H11, H12, H13, H14, H15, H16, H17, H18, H19, H20, HS0, HS1, HS2, ⟨%es3, HS3⟩⟩
        isplitl [HS0 HS1 HS2 HS3 Hg]
        · isplitl [HS0 HS1 HS2 HS3]
          · isplitl [HS0]
            · iexact HS0
            isplitl [HS1]
            · iexact HS1
            isplitl [HS2]
            · iexact HS2
            unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        iexact H20

/-- The pipeline's table of functions calls the body at point `t`. -/
theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The invariant holds at the start. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- The invariant gives the scratch buffers back, at anything. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexists _; iexact HS1
    isplitl [HS2]
    · iexists _; iexact HS2
    iexists _; iexact HS3
  iexact Hg

/-- The invariant holds at the end. -/
theorem hout (c : Dev nD) : (dats m 0 c).Φ (Fin.last cfg0.N) ⊢ Pipeline.ΦA spec0 c :=
  Phi_out m c _ (by rw [Fin.val_last]; have : cfg0.N = 1024 := N_0; omega)

set_option backward.isDefEq.respectTransparency.types false in
/-- The program runs to its end, quiescent, with every window's array at its final contents. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to its end with every window's array at its final contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- An array that no window of the launch writes ends as the launch found it. -/
theorem kept {r} (h : Pipeline.RDat.FramePost (cfgs 0) (fun c => (dats m 0 c).toRForget forgets0) (V m) r) (c : Dev nD)
    (b) (hb : b ∈ Pipeline.restRefs sig spec0) {v} (e : V m c b = v) : r.2.mem ((c.tc : Thread nD τ).loc b) = v :=
  ((h c).2 b hb).trans e

/-- The program runs and leaves its argument arrays unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨kept m h c main_arg0 (Pipeline.mem_restRefs_of main_arg0 (by decide) (by decide)) (V_main_arg0 m c),
    kept m h c main_arg1 (Pipeline.mem_restRefs_of main_arg1 (by decide) (by decide)) (V_main_arg1 m c),
    kept m h c main_arg2 (Pipeline.mem_restRefs_of main_arg2 (by decide) (by decide)) (V_main_arg2 m c),
    kept m h c main_arg3 (Pipeline.mem_restRefs_of main_arg3 (by decide) (by decide)) (V_main_arg3 m c),
    kept m h c main_arg4 (Pipeline.mem_restRefs_of main_arg4 (by decide) (by decide)) (V_main_arg4 m c),
    kept m h c main_arg5 (Pipeline.mem_restRefs_of main_arg5 (by decide) (by decide)) (V_main_arg5 m c),
    kept m h c main_arg6 (Pipeline.mem_restRefs_of main_arg6 (by decide) (by decide)) (V_main_arg6 m c),
    kept m h c main_arg7 (Pipeline.mem_restRefs_of main_arg7 (by decide) (by decide)) (V_main_arg7 m c),
    kept m h c main_arg8 (Pipeline.mem_restRefs_of main_arg8 (by decide) (by decide)) (V_main_arg8 m c),
    kept m h c main_arg9 (Pipeline.mem_restRefs_of main_arg9 (by decide) (by decide)) (V_main_arg9 m c),
    kept m h c main_arg10 (Pipeline.mem_restRefs_of main_arg10 (by decide) (by decide)) (V_main_arg10 m c),
    kept m h c main_arg11 (Pipeline.mem_restRefs_of main_arg11 (by decide) (by decide)) (V_main_arg11 m c),
    kept m h c main_arg12 (Pipeline.mem_restRefs_of main_arg12 (by decide) (by decide)) (V_main_arg12 m c),
    kept m h c main_arg13 (Pipeline.mem_restRefs_of main_arg13 (by decide) (by decide)) (V_main_arg13 m c),
    kept m h c main_arg14 (Pipeline.mem_restRefs_of main_arg14 (by decide) (by decide)) (V_main_arg14 m c),
    kept m h c main_arg15 (Pipeline.mem_restRefs_of main_arg15 (by decide) (by decide)) (V_main_arg15 m c),
    kept m h c main_arg16 (Pipeline.mem_restRefs_of main_arg16 (by decide) (by decide)) (V_main_arg16 m c),
    kept m h c main_arg17 (Pipeline.mem_restRefs_of main_arg17 (by decide) (by decide)) (V_main_arg17 m c),
    kept m h c main_arg18 (Pipeline.mem_restRefs_of main_arg18 (by decide) (by decide)) (V_main_arg18 m c)⟩) (run_main m ρ)

/-- The program runs to its end without fault, its arguments unchanged and every semaphore back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.Kernel.Launched

end
-- ==== Proof.KernelIdealRunA.lean ====
/-
  One run of the body of `KernelIdeal` for the first expert of a token tile: what it stores, and that it runs.
-/
module

public import proofs.«01_k».proof.Proof.Gen.KernelIdeal.Frame.Runs

@[expose] public section

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg2 : Memref sig .tc .vmem S512x1024 .f32) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x256 .bf16) (harg5 : arg5.IsWhole) (arg6 : Memref sig .tc .vmem S512x256 .f32) (harg6 : arg6.IsWhole) (arg7 : Memref sig .tc .vmem S384x1024 .bf16) (harg7 : arg7.IsWhole) (arg8 : Memref sig .tc .vmem S384x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x128 .f32) (harg14 : arg14.IsWhole) (arg15 : Memref sig .tc .vmem S1x1024x256 .bf16) (harg15 : arg15.IsWhole) (arg16 : Memref sig .tc .vmem S1x1024x256 .bf16) (harg16 : arg16.IsWhole) (arg17 : Memref sig .tc .vmem S1x256x1024 .bf16) (harg17 : arg17.IsWhole) (arg18 : Memref sig .tc .vmem S1024x1024 .bf16) (harg18 : arg18.IsWhole) (arg19 : Memref sig .tc .vmem S256x1024 .bf16) (harg19 : arg19.IsWhole) (arg20 : Memref sig .tc .vmem S1x1024 .f32) (harg20 : arg20.IsWhole) (arg21 : Memref sig .tc .vmem S1x1024 .f32) (harg21 : arg21.IsWhole) (arg22 : Memref sig .tc .vmem S512x1024 .f32) (harg22 : arg22.IsWhole) (arg23 : Memref sig .tc .vmem S512x1024 .f32) (harg23 : arg23.IsWhole) (arg24 : Memref sig .tc .vmem S512x1024 .bf16) (harg24 : arg24.IsWhole) (arg25 : Memref sig .tc .vmem S512x128 .f32) (harg25 : arg25.IsWhole) (arg26 : Memref sig .tc .vmem S512x1024 .f32) (harg26 : arg26.IsWhole) (hc0 : cond0_0 i) (hc1 : ¬cond0_1 i)
  (x0 : Vec F S512x1024 .f32) (x1 : Vec F S512x384 .bf16) (x2 : Vec F S512x384 .bf16) (x3 : Vec F S512x256 .bf16) (x4 : Vec F S512x256 .f32) (x5 : Vec F S384x1024 .bf16) (x6 : Vec F S384x1024 .bf16) (x7 : Vec F S256x1024 .bf16) (x8 : Vec F S1x1024 .f32) (x9 : Vec F S1x1024 .f32) (x10 : Vec F S1024x128 .bf16) (x11 : Vec F S1024x128 .bf16) (x12 : Vec F S1x128 .f32) (x13 : Vec F S1x1024x256 .bf16) (x14 : Vec F S1x1024x256 .bf16) (x15 : Vec F S1x256x1024 .bf16) (x16 : Vec F S1024x1024 .bf16) (x17 : Vec F S256x1024 .bf16) (x18 : Vec F S1x1024 .f32) (x19 : Vec F S1x1024 .f32)

set_option maxHeartbeats 4000000 in
/-- What one run of the body stores for the first expert of a token tile: for the output and each scratch buffer the pieces written, with the proof that the body, on buffers held whole, runs to its end and leaves exactly these pieces. -/
noncomputable def kernelRun0_A :
    Σ' (L20 : List (View.Piece (Elt F) S512x1024 .f32)), Σ' (LS0 : List (View.Piece (Elt F) S512x1024 .f32)), Σ' (LS1 : List (View.Piece (Elt F) S512x1024 .bf16)), Σ' (LS2 : List (View.Piece (Elt F) S512x128 .f32)), { LS3 : List (View.Piece (Elt F) S512x1024 .f32) //
      ∀ (xi20 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare xi20 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare xi20 ∗ (∃ f, arg23.view.loc (c : Thread nD τ) ↦[arg23.view.set]{fullShare} arg23.view.writes (Elt F) f LS0) ∗ (∃ f, arg24.view.loc (c : Thread nD τ) ↦[arg24.view.set]{fullShare} arg24.view.writes (Elt F) f LS1) ∗ (∃ f, arg25.view.loc (c : Thread nD τ) ↦[arg25.view.set]{fullShare} arg25.view.writes (Elt F) f LS2) ∗ (∃ f, arg26.view.loc (c : Thread nD τ) ↦[arg26.view.set]{fullShare} arg26.view.writes (Elt F) f LS3)) -∗ K ⟨⟩))
          ⊢ wp frame (wpE (defs₀ (F := F)) Variants.none c none) E (cc0_moe i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨[], ?_, ?_, ?_, ?_, fun xi20 E K => ?run⟩
  case run =>
    simp only [cc0_moe_eq_skeleton]; unfold cc0_moe_skel
    simp only [k0_part5_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [HS0]; · iexists _; iexact HS0
    isplitl [HS1]; · iexists _; iexact HS1
    isplitl [HS2]; · iexists _; iexact HS2
    iexists _; iexact HS3

end Cert.KernelIdeal.Launched

end
-- ==== Proof.KernelIdealRunB.lean ====
/-
  One run of the body of `KernelIdeal` for an expert that is neither first nor last: what it stores, and that it runs.
-/
module

public import proofs.«01_k».proof.Proof.Gen.KernelIdeal.Frame.Runs

@[expose] public section

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg2 : Memref sig .tc .vmem S512x1024 .f32) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x256 .bf16) (harg5 : arg5.IsWhole) (arg6 : Memref sig .tc .vmem S512x256 .f32) (harg6 : arg6.IsWhole) (arg7 : Memref sig .tc .vmem S384x1024 .bf16) (harg7 : arg7.IsWhole) (arg8 : Memref sig .tc .vmem S384x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x128 .f32) (harg14 : arg14.IsWhole) (arg15 : Memref sig .tc .vmem S1x1024x256 .bf16) (harg15 : arg15.IsWhole) (arg16 : Memref sig .tc .vmem S1x1024x256 .bf16) (harg16 : arg16.IsWhole) (arg17 : Memref sig .tc .vmem S1x256x1024 .bf16) (harg17 : arg17.IsWhole) (arg18 : Memref sig .tc .vmem S1024x1024 .bf16) (harg18 : arg18.IsWhole) (arg19 : Memref sig .tc .vmem S256x1024 .bf16) (harg19 : arg19.IsWhole) (arg20 : Memref sig .tc .vmem S1x1024 .f32) (harg20 : arg20.IsWhole) (arg21 : Memref sig .tc .vmem S1x1024 .f32) (harg21 : arg21.IsWhole) (arg22 : Memref sig .tc .vmem S512x1024 .f32) (harg22 : arg22.IsWhole) (arg23 : Memref sig .tc .vmem S512x1024 .f32) (harg23 : arg23.IsWhole) (arg24 : Memref sig .tc .vmem S512x1024 .bf16) (harg24 : arg24.IsWhole) (arg25 : Memref sig .tc .vmem S512x128 .f32) (harg25 : arg25.IsWhole) (arg26 : Memref sig .tc .vmem S512x1024 .f32) (harg26 : arg26.IsWhole) (hc0 : ¬cond0_0 i) (hc1 : ¬cond0_1 i)
  (x0 : Vec F S512x1024 .f32) (x1 : Vec F S512x384 .bf16) (x2 : Vec F S512x384 .bf16) (x3 : Vec F S512x256 .bf16) (x4 : Vec F S512x256 .f32) (x5 : Vec F S384x1024 .bf16) (x6 : Vec F S384x1024 .bf16) (x7 : Vec F S256x1024 .bf16) (x8 : Vec F S1x1024 .f32) (x9 : Vec F S1x1024 .f32) (x10 : Vec F S1024x128 .bf16) (x11 : Vec F S1024x128 .bf16) (x12 : Vec F S1x128 .f32) (x13 : Vec F S1x1024x256 .bf16) (x14 : Vec F S1x1024x256 .bf16) (x15 : Vec F S1x256x1024 .bf16) (x16 : Vec F S1024x1024 .bf16) (x17 : Vec F S256x1024 .bf16) (x18 : Vec F S1x1024 .f32) (x19 : Vec F S1x1024 .f32) (xs0 : Vec F S512x1024 .f32) (xs1 : Vec F S512x1024 .bf16) (xs2 : Vec F S512x128 .f32) (xs3 : Vec F S512x1024 .f32)

set_option maxHeartbeats 4000000 in
/-- What one run of the body stores for an expert that is neither first nor last: for the output and each scratch buffer the pieces written, with the proof that the body, on buffers held whole, runs to its end and leaves exactly these pieces. -/
noncomputable def kernelRun0_B :
    Σ' (L20 : List (View.Piece (Elt F) S512x1024 .f32)), Σ' (LS0 : List (View.Piece (Elt F) S512x1024 .f32)), Σ' (LS1 : List (View.Piece (Elt F) S512x1024 .bf16)), Σ' (LS2 : List (View.Piece (Elt F) S512x128 .f32)), { LS3 : List (View.Piece (Elt F) S512x1024 .f32) //
      ∀ (xi20 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare xi20 ∗ owns (c : Thread nD τ) arg23 fullShare xs0 ∗ owns (c : Thread nD τ) arg24 fullShare xs1 ∗ owns (c : Thread nD τ) arg25 fullShare xs2 ∗ owns (c : Thread nD τ) arg26 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare xi20 ∗ owns (c : Thread nD τ) arg23 fullShare xs0 ∗ owns (c : Thread nD τ) arg24 fullShare xs1 ∗ owns (c : Thread nD τ) arg25 fullShare xs2 ∗ (∃ f, arg26.view.loc (c : Thread nD τ) ↦[arg26.view.set]{fullShare} arg26.view.writes (Elt F) f LS3)) -∗ K ⟨⟩))
          ⊢ wp frame (wpE (defs₀ (F := F)) Variants.none c none) E (cc0_moe i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨[], [], [], [], ?_, fun xi20 E K => ?run⟩
  case run =>
    simp only [cc0_moe_eq_skeleton]; unfold cc0_moe_skel
    simp only [k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hfs0; obtain rfl := harg24.eq_unread hfs1; obtain rfl := harg25.eq_unread hfs2; obtain rfl := harg26.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [HS0]
    · iexists _; isplitr; · ipureintro; exact harg23.read_unread _
      iexact HS0
    isplitl [HS1]
    · iexists _; isplitr; · ipureintro; exact harg24.read_unread _
      iexact HS1
    isplitl [HS2]
    · iexists _; isplitr; · ipureintro; exact harg25.read_unread _
      iexact HS2
    iexists _; iexact HS3

end Cert.KernelIdeal.Launched

end
-- ==== Proof.KernelIdealRunC.lean ====
/-
  One run of the body of `KernelIdeal` for the last expert of a token tile: what it stores, and that it runs.
-/
module

public import proofs.«01_k».proof.Proof.Gen.KernelIdeal.Frame.Runs

@[expose] public section

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg2 : Memref sig .tc .vmem S512x1024 .f32) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x256 .bf16) (harg5 : arg5.IsWhole) (arg6 : Memref sig .tc .vmem S512x256 .f32) (harg6 : arg6.IsWhole) (arg7 : Memref sig .tc .vmem S384x1024 .bf16) (harg7 : arg7.IsWhole) (arg8 : Memref sig .tc .vmem S384x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x128 .f32) (harg14 : arg14.IsWhole) (arg15 : Memref sig .tc .vmem S1x1024x256 .bf16) (harg15 : arg15.IsWhole) (arg16 : Memref sig .tc .vmem S1x1024x256 .bf16) (harg16 : arg16.IsWhole) (arg17 : Memref sig .tc .vmem S1x256x1024 .bf16) (harg17 : arg17.IsWhole) (arg18 : Memref sig .tc .vmem S1024x1024 .bf16) (harg18 : arg18.IsWhole) (arg19 : Memref sig .tc .vmem S256x1024 .bf16) (harg19 : arg19.IsWhole) (arg20 : Memref sig .tc .vmem S1x1024 .f32) (harg20 : arg20.IsWhole) (arg21 : Memref sig .tc .vmem S1x1024 .f32) (harg21 : arg21.IsWhole) (arg22 : Memref sig .tc .vmem S512x1024 .f32) (harg22 : arg22.IsWhole) (arg23 : Memref sig .tc .vmem S512x1024 .f32) (harg23 : arg23.IsWhole) (arg24 : Memref sig .tc .vmem S512x1024 .bf16) (harg24 : arg24.IsWhole) (arg25 : Memref sig .tc .vmem S512x128 .f32) (harg25 : arg25.IsWhole) (arg26 : Memref sig .tc .vmem S512x1024 .f32) (harg26 : arg26.IsWhole) (hc0 : ¬cond0_0 i) (hc1 : cond0_1 i)
  (x0 : Vec F S512x1024 .f32) (x1 : Vec F S512x384 .bf16) (x2 : Vec F S512x384 .bf16) (x3 : Vec F S512x256 .bf16) (x4 : Vec F S512x256 .f32) (x5 : Vec F S384x1024 .bf16) (x6 : Vec F S384x1024 .bf16) (x7 : Vec F S256x1024 .bf16) (x8 : Vec F S1x1024 .f32) (x9 : Vec F S1x1024 .f32) (x10 : Vec F S1024x128 .bf16) (x11 : Vec F S1024x128 .bf16) (x12 : Vec F S1x128 .f32) (x13 : Vec F S1x1024x256 .bf16) (x14 : Vec F S1x1024x256 .bf16) (x15 : Vec F S1x256x1024 .bf16) (x16 : Vec F S1024x1024 .bf16) (x17 : Vec F S256x1024 .bf16) (x18 : Vec F S1x1024 .f32) (x19 : Vec F S1x1024 .f32) (xs0 : Vec F S512x1024 .f32) (xs1 : Vec F S512x1024 .bf16) (xs2 : Vec F S512x128 .f32) (xs3 : Vec F S512x1024 .f32)

set_option maxHeartbeats 4000000 in
/-- What one run of the body stores for the last expert of a token tile: for the output and each scratch buffer the pieces written, with the proof that the body, on buffers held whole, runs to its end and leaves exactly these pieces. -/
noncomputable def kernelRun0_C :
    Σ' (L20 : List (View.Piece (Elt F) S512x1024 .f32)), Σ' (LS0 : List (View.Piece (Elt F) S512x1024 .f32)), Σ' (LS1 : List (View.Piece (Elt F) S512x1024 .bf16)), Σ' (LS2 : List (View.Piece (Elt F) S512x128 .f32)), { LS3 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d) ∗ owns (c : Thread nD τ) arg23 fullShare xs0 ∗ owns (c : Thread nD τ) arg24 fullShare xs1 ∗ owns (c : Thread nD τ) arg25 fullShare xs2 ∗ owns (c : Thread nD τ) arg26 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ f, arg22.view.loc (c : Thread nD τ) ↦[arg22.view.set]{fullShare} arg22.view.writes (Elt F) f L20) ∗ owns (c : Thread nD τ) arg23 fullShare xs0 ∗ owns (c : Thread nD τ) arg24 fullShare xs1 ∗ owns (c : Thread nD τ) arg25 fullShare xs2 ∗ (∃ f, arg26.view.loc (c : Thread nD τ) ↦[arg26.view.set]{fullShare} arg26.view.writes (Elt F) f LS3)) -∗ K ⟨⟩))
          ⊢ wp frame (wpE (defs₀ (F := F)) Variants.none c none) E (cc0_moe i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, [], [], [], ?_, fun E K => ?run⟩
  case run =>
    simp only [cc0_moe_eq_skeleton]; unfold cc0_moe_skel
    simp only [k0_part5_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg23.eq_unread hfs0; obtain rfl := harg24.eq_unread hfs1; obtain rfl := harg25.eq_unread hfs2; obtain rfl := harg26.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]; · iexists _; iexact H20
    isplitl [HS0]
    · iexists _; isplitr; · ipureintro; exact harg23.read_unread _
      iexact HS0
    isplitl [HS1]
    · iexists _; isplitr; · ipureintro; exact harg24.read_unread _
      iexact HS1
    isplitl [HS2]
    · iexists _; isplitr; · ipureintro; exact harg25.read_unread _
      iexact HS2
    iexists _; iexact HS3

end Cert.KernelIdeal.Launched

end
-- ==== Proof.KernelIdealLaunch.lean ====
/-
  The launch of `KernelIdeal`: what its buffers hold after each grid point, the soundness of the body at every point, and the
  run of the whole program.
-/
module

public import proofs.«01_k».proof.Proof.KernelIdealRunA
public import proofs.«01_k».proof.Proof.KernelIdealRunB
public import proofs.«01_k».proof.Proof.KernelIdealRunC
public import Idealize.ShloMosaic.Lib.Claim

@[expose] public section

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (c : Dev nD) (i : grid0.Coords) (arg2 : Memref sig .tc .vmem S512x1024 .f32) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x256 .bf16) (harg5 : arg5.IsWhole) (arg6 : Memref sig .tc .vmem S512x256 .f32) (harg6 : arg6.IsWhole) (arg7 : Memref sig .tc .vmem S384x1024 .bf16) (harg7 : arg7.IsWhole) (arg8 : Memref sig .tc .vmem S384x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x128 .f32) (harg14 : arg14.IsWhole) (arg15 : Memref sig .tc .vmem S1x1024x256 .bf16) (harg15 : arg15.IsWhole) (arg16 : Memref sig .tc .vmem S1x1024x256 .bf16) (harg16 : arg16.IsWhole) (arg17 : Memref sig .tc .vmem S1x256x1024 .bf16) (harg17 : arg17.IsWhole) (arg18 : Memref sig .tc .vmem S1024x1024 .bf16) (harg18 : arg18.IsWhole) (arg19 : Memref sig .tc .vmem S256x1024 .bf16) (harg19 : arg19.IsWhole) (arg20 : Memref sig .tc .vmem S1x1024 .f32) (harg20 : arg20.IsWhole) (arg21 : Memref sig .tc .vmem S1x1024 .f32) (harg21 : arg21.IsWhole) (arg22 : Memref sig .tc .vmem S512x1024 .f32) (harg22 : arg22.IsWhole) (arg23 : Memref sig .tc .vmem S512x1024 .f32) (harg23 : arg23.IsWhole) (arg24 : Memref sig .tc .vmem S512x1024 .bf16) (harg24 : arg24.IsWhole) (arg25 : Memref sig .tc .vmem S512x128 .f32) (harg25 : arg25.IsWhole) (arg26 : Memref sig .tc .vmem S512x1024 .f32) (harg26 : arg26.IsWhole) (hc0 : cond0_0 i) (hc1 : ¬cond0_1 i)
  (x0 : Vec F S512x1024 .f32) (x1 : Vec F S512x384 .bf16) (x2 : Vec F S512x384 .bf16) (x3 : Vec F S512x256 .bf16) (x4 : Vec F S512x256 .f32) (x5 : Vec F S384x1024 .bf16) (x6 : Vec F S384x1024 .bf16) (x7 : Vec F S256x1024 .bf16) (x8 : Vec F S1x1024 .f32) (x9 : Vec F S1x1024 .f32) (x10 : Vec F S1024x128 .bf16) (x11 : Vec F S1024x128 .bf16) (x12 : Vec F S1x128 .f32) (x13 : Vec F S1x1024x256 .bf16) (x14 : Vec F S1x1024x256 .bf16) (x15 : Vec F S1x256x1024 .bf16) (x16 : Vec F S1024x1024 .bf16) (x17 : Vec F S256x1024 .bf16) (x18 : Vec F S1x1024 .f32) (x19 : Vec F S1x1024 .f32)

/-- What the output buffer holds after the body, for the first expert of a token tile. -/
def out0_A_20 : Vec F S512x1024 .f32 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19).1)

/-- The pieces stored for the first expert of a token tile cover the whole buffer (the normalized rows). -/
theorem scover0_A_0 (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19).2.1 S512x1024.size (by sl_kernel_rfl) y

/-- What the scratch buffer of the normalized rows holds after the body, for the first expert of a token tile. -/
def sout0_A_0 : Vec F S512x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19).2.1)

/-- The pieces stored for the first expert of a token tile cover the whole buffer (the normalized rows in the narrow format). -/
theorem scover0_A_1 (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19).2.2.1 S512x1024.size (by sl_kernel_rfl) y

/-- What the scratch buffer of the normalized rows in the narrow format holds after the body, for the first expert of a token tile. -/
def sout0_A_1 : Vec F S512x1024 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19).2.2.1)

/-- The pieces stored for the first expert of a token tile cover the whole buffer (the routing weights). -/
theorem scover0_A_2 (y : S512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19).2.2.2.1 S512x128.size (by sl_kernel_rfl) y

/-- What the scratch buffer of the routing weights holds after the body, for the first expert of a token tile. -/
def sout0_A_2 : Vec F S512x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19).2.2.2.1)

/-- The pieces stored for the first expert of a token tile cover the whole buffer (the running sum over experts). -/
theorem scover0_A_3 (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19).2.2.2.2.1 S512x1024.size (by sl_kernel_rfl) y

/-- What the scratch buffer of the running sum over experts holds after the body, for the first expert of a token tile. -/
def sout0_A_3 : Vec F S512x1024 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19).2.2.2.2.1)

end

section
variable (c : Dev nD) (i : grid0.Coords) (arg2 : Memref sig .tc .vmem S512x1024 .f32) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x256 .bf16) (harg5 : arg5.IsWhole) (arg6 : Memref sig .tc .vmem S512x256 .f32) (harg6 : arg6.IsWhole) (arg7 : Memref sig .tc .vmem S384x1024 .bf16) (harg7 : arg7.IsWhole) (arg8 : Memref sig .tc .vmem S384x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x128 .f32) (harg14 : arg14.IsWhole) (arg15 : Memref sig .tc .vmem S1x1024x256 .bf16) (harg15 : arg15.IsWhole) (arg16 : Memref sig .tc .vmem S1x1024x256 .bf16) (harg16 : arg16.IsWhole) (arg17 : Memref sig .tc .vmem S1x256x1024 .bf16) (harg17 : arg17.IsWhole) (arg18 : Memref sig .tc .vmem S1024x1024 .bf16) (harg18 : arg18.IsWhole) (arg19 : Memref sig .tc .vmem S256x1024 .bf16) (harg19 : arg19.IsWhole) (arg20 : Memref sig .tc .vmem S1x1024 .f32) (harg20 : arg20.IsWhole) (arg21 : Memref sig .tc .vmem S1x1024 .f32) (harg21 : arg21.IsWhole) (arg22 : Memref sig .tc .vmem S512x1024 .f32) (harg22 : arg22.IsWhole) (arg23 : Memref sig .tc .vmem S512x1024 .f32) (harg23 : arg23.IsWhole) (arg24 : Memref sig .tc .vmem S512x1024 .bf16) (harg24 : arg24.IsWhole) (arg25 : Memref sig .tc .vmem S512x128 .f32) (harg25 : arg25.IsWhole) (arg26 : Memref sig .tc .vmem S512x1024 .f32) (harg26 : arg26.IsWhole) (hc0 : ¬cond0_0 i) (hc1 : ¬cond0_1 i)
  (x0 : Vec F S512x1024 .f32) (x1 : Vec F S512x384 .bf16) (x2 : Vec F S512x384 .bf16) (x3 : Vec F S512x256 .bf16) (x4 : Vec F S512x256 .f32) (x5 : Vec F S384x1024 .bf16) (x6 : Vec F S384x1024 .bf16) (x7 : Vec F S256x1024 .bf16) (x8 : Vec F S1x1024 .f32) (x9 : Vec F S1x1024 .f32) (x10 : Vec F S1024x128 .bf16) (x11 : Vec F S1024x128 .bf16) (x12 : Vec F S1x128 .f32) (x13 : Vec F S1x1024x256 .bf16) (x14 : Vec F S1x1024x256 .bf16) (x15 : Vec F S1x256x1024 .bf16) (x16 : Vec F S1024x1024 .bf16) (x17 : Vec F S256x1024 .bf16) (x18 : Vec F S1x1024 .f32) (x19 : Vec F S1x1024 .f32) (xs0 : Vec F S512x1024 .f32) (xs1 : Vec F S512x1024 .bf16) (xs2 : Vec F S512x128 .f32) (xs3 : Vec F S512x1024 .f32)

/-- What the output buffer holds after the body, for an expert that is neither first nor last. -/
def out0_B_20 : Vec F S512x1024 .f32 :=
  VO0_20.read (Elt F) (VO0_20.writes (Elt F) VO0_20.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 xs0 xs1 xs2 xs3).1)

/-- The pieces stored for an expert that is neither first nor last cover the whole buffer (the running sum over experts). -/
theorem scover0_B_3 (y : S512x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 xs0 xs1 xs2 xs3).2.2.2.2.1 S512x1024.size (by sl_kernel_rfl) y

/-- What the scratch buffer of the running sum over experts holds after the body, for an expert that is neither first nor last. -/
def sout0_B_3 : Vec F S512x1024 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 xs0 xs1 xs2 xs3).2.2.2.2.1)

end

section
variable (c : Dev nD) (i : grid0.Coords) (arg2 : Memref sig .tc .vmem S512x1024 .f32) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x256 .bf16) (harg5 : arg5.IsWhole) (arg6 : Memref sig .tc .vmem S512x256 .f32) (harg6 : arg6.IsWhole) (arg7 : Memref sig .tc .vmem S384x1024 .bf16) (harg7 : arg7.IsWhole) (arg8 : Memref sig .tc .vmem S384x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x128 .f32) (harg14 : arg14.IsWhole) (arg15 : Memref sig .tc .vmem S1x1024x256 .bf16) (harg15 : arg15.IsWhole) (arg16 : Memref sig .tc .vmem S1x1024x256 .bf16) (harg16 : arg16.IsWhole) (arg17 : Memref sig .tc .vmem S1x256x1024 .bf16) (harg17 : arg17.IsWhole) (arg18 : Memref sig .tc .vmem S1024x1024 .bf16) (harg18 : arg18.IsWhole) (arg19 : Memref sig .tc .vmem S256x1024 .bf16) (harg19 : arg19.IsWhole) (arg20 : Memref sig .tc .vmem S1x1024 .f32) (harg20 : arg20.IsWhole) (arg21 : Memref sig .tc .vmem S1x1024 .f32) (harg21 : arg21.IsWhole) (arg22 : Memref sig .tc .vmem S512x1024 .f32) (harg22 : arg22.IsWhole) (arg23 : Memref sig .tc .vmem S512x1024 .f32) (harg23 : arg23.IsWhole) (arg24 : Memref sig .tc .vmem S512x1024 .bf16) (harg24 : arg24.IsWhole) (arg25 : Memref sig .tc .vmem S512x128 .f32) (harg25 : arg25.IsWhole) (arg26 : Memref sig .tc .vmem S512x1024 .f32) (harg26 : arg26.IsWhole) (hc0 : ¬cond0_0 i) (hc1 : cond0_1 i)
  (x0 : Vec F S512x1024 .f32) (x1 : Vec F S512x384 .bf16) (x2 : Vec F S512x384 .bf16) (x3 : Vec F S512x256 .bf16) (x4 : Vec F S512x256 .f32) (x5 : Vec F S384x1024 .bf16) (x6 : Vec F S384x1024 .bf16) (x7 : Vec F S256x1024 .bf16) (x8 : Vec F S1x1024 .f32) (x9 : Vec F S1x1024 .f32) (x10 : Vec F S1024x128 .bf16) (x11 : Vec F S1024x128 .bf16) (x12 : Vec F S1x128 .f32) (x13 : Vec F S1x1024x256 .bf16) (x14 : Vec F S1x1024x256 .bf16) (x15 : Vec F S1x256x1024 .bf16) (x16 : Vec F S1024x1024 .bf16) (x17 : Vec F S256x1024 .bf16) (x18 : Vec F S1x1024 .f32) (x19 : Vec F S1x1024 .f32) (xs0 : Vec F S512x1024 .f32) (xs1 : Vec F S512x1024 .bf16) (xs2 : Vec F S512x128 .f32) (xs3 : Vec F S512x1024 .f32)

/-- The pieces stored for the last expert of a token tile cover the whole buffer (the output). -/
theorem cover0_C_20 (y : S512x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 xs0 xs1 xs2 xs3).1 S512x1024.size (by sl_kernel_rfl) y

/-- What the output buffer holds after the body, for the last expert of a token tile. -/
def out0_C_20 : Vec F S512x1024 .f32 :=
  VO0_20.read (Elt F) (VO0_20.writes (Elt F) VO0_20.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 xs0 xs1 xs2 xs3).1)

/-- The pieces stored for the last expert of a token tile cover the whole buffer (the running sum over experts). -/
theorem scover0_C_3 (y : S512x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 xs0 xs1 xs2 xs3).2.2.2.2.1 S512x1024.size (by sl_kernel_rfl) y

/-- What the scratch buffer of the running sum over experts holds after the body, for the last expert of a token tile. -/
def sout0_C_3 : Vec F S512x1024 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 xs0 xs1 xs2 xs3).2.2.2.2.1)

end

variable (m : (ℓ : Loc nD τ sig) → Buf (Elt F) ℓ) (ρ : Dev nD → PrngReg)

/-- What the output buffer and the four scratch buffers hold after grid point `n`, by recursion on the point. -/
def outsAt0 (c : Dev nD) : (n : ℕ) → n < cfg0.N → Vec F S512x1024 .f32 × Vec F S512x1024 .f32 × Vec F S512x1024 .bf16 × Vec F S512x128 .f32 × Vec F S512x1024 .f32
  | 0, hn => (out0_A_20 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩))
  | n + 1, hn =>
    if h0 : (n + 1) % 32 = 0 then
      if h1 : (n + 1) % 32 = 31 then
        False.elim (by have hN : n + 1 < 1024 := lt_of_lt_of_eq hn (show cfg0.N = 1024 from N_0); omega)
      else
        (out0_A_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩))
    else
      if h1 : (n + 1) % 32 = 31 then
        (out0_C_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, (outsAt0 c n (Nat.lt_of_succ_lt hn)).2.1, (outsAt0 c n (Nat.lt_of_succ_lt hn)).2.2.1, (outsAt0 c n (Nat.lt_of_succ_lt hn)).2.2.2.1, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
      else
        (out0_B_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, (outsAt0 c n (Nat.lt_of_succ_lt hn)).2.1, (outsAt0 c n (Nat.lt_of_succ_lt hn)).2.2.1, (outsAt0 c n (Nat.lt_of_succ_lt hn)).2.2.2.1, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- The contents after a grid point, for the first expert of a token tile. -/
theorem outsAt0_A (c : Dev nD) (t : Fin cfg0.N) (h0 : t.val % 32 = 0) (h1 : ¬t.val % 32 = 31) :
    outsAt0 m c t.val t.isLt = (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) := by
  obtain ⟨n, hn⟩ := t
  cases n with
  | zero => exact rfl
  | succ n => exact (dif_pos h0).trans ((dif_neg h1).trans rfl)

/-- The contents after a grid point, for an expert that is neither first nor last. -/
theorem outsAt0_B (c : Dev nD) (t : Fin cfg0.N) (h0 : ¬t.val % 32 = 0) (h1 : ¬t.val % 32 = 31) :
    outsAt0 m c t.val t.isLt = (out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, (outsAt0 m c (t.val - 1) (Nat.lt_of_le_of_lt (Nat.sub_le _ _) t.isLt)).2.1, (outsAt0 m c (t.val - 1) (Nat.lt_of_le_of_lt (Nat.sub_le _ _) t.isLt)).2.2.1, (outsAt0 m c (t.val - 1) (Nat.lt_of_le_of_lt (Nat.sub_le _ _) t.isLt)).2.2.2.1, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- The contents after a grid point, for the last expert of a token tile. -/
theorem outsAt0_C (c : Dev nD) (t : Fin cfg0.N) (h0 : ¬t.val % 32 = 0) (h1 : t.val % 32 = 31) :
    outsAt0 m c t.val t.isLt = (out0_C_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, (outsAt0 m c (t.val - 1) (Nat.lt_of_le_of_lt (Nat.sub_le _ _) t.isLt)).2.1, (outsAt0 m c (t.val - 1) (Nat.lt_of_le_of_lt (Nat.sub_le _ _) t.isLt)).2.2.1, (outsAt0 m c (t.val - 1) (Nat.lt_of_le_of_lt (Nat.sub_le _ _) t.isLt)).2.2.2.1, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The invariant before grid point `n`: each scratch buffer at what the point before left (at anything before the first). -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r))

/-- Before the first point nothing is known of the scratch buffers. -/
theorem PhiS_zero (c : Dev nD) (n : ℕ) (h : n ≤ cfg0.N) (hz : n = 0) : PhiS m c n h = Pipeline.ΦA spec0 c := by
  subst hz; rfl

/-- After point `n` the scratch buffers hold that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r)) := rfl

/-- Before a later point the scratch buffers hold what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2)) ∗ (∃ r, prngReg c r)) := by
  cases n with
  | zero => exact absurd rfl hz
  | succ n => rfl

/-- The data of the pipeline on one core: the arrays at entry, each window's buffer after each point, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (outsAt0 m c t.val t.isLt).1
    | ⟨_ + 21, h⟩ => absurd h (Nat.not_lt.2 (Nat.le_add_left _ _))
  Φ t := PhiS m c t.val (Nat.le_of_lt_succ t.isLt)
  q _ := fullShare
  owed _ := 0

/-- The arrays at entry. -/
theorem A_eq (c : Dev nD) (w : Fin cfg0.W) : (dats m 0 c).A w = V m c (Pipeline.arrRef spec0 w) := by
  dsimp only [dats]

/-- The invariant before point `t`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- What the body leaves at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t)

set_option maxHeartbeats 28800000 in
/-- The body is sound at every grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).owesAt () t.succ = (dats m 0 c).owesAt () t.castSucc from rfl]
  rw [show (dats m 0 c).Φ t.succ = PhiS m c (t.val + 1) t.isLt from rfl, PhiS_succ]
  have hN : t.val < 1024 := lt_of_lt_of_eq t.isLt (show cfg0.N = 1024 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [show (dats m 0 c).leavesExact 17 t = owns (c : Thread nD τ) (ms0_17 t) fullShare ((dats m 0 c).after 17 t) from by
    unfold Dat.leavesExact; rw [liveAt0_17 t], after0_17]
  rw [show (dats m 0 c).leavesExact 18 t = owns (c : Thread nD τ) (ms0_18 t) fullShare ((dats m 0 c).after 18 t) from by
    unfold Dat.leavesExact; rw [liveAt0_18 t], after0_18]
  rw [show (dats m 0 c).leavesExact 19 t = owns (c : Thread nD τ) (ms0_19 t) fullShare ((dats m 0 c).after 19 t) from by
    unfold Dat.leavesExact; rw [liveAt0_19 t], after0_19]
  by_cases h0 : t.val % 32 = 0
  · by_cases h1 : t.val % 32 = 31
    · exfalso; omega
    · rw [Dat.leavesExact_idle (dats m 0 c) 20 t (idleAt0_20_A t ((hcond0_0 t).mpr h0) (fun h => h1 ((hcond0_1 t).mp h))) (noFlush0_20_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0 sout0_A_1 sout0_A_2 sout0_A_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [HS0]; · iexact HS0
        isplitl [HS1]; · iexact HS1
        isplitl [HS2]; · iexact HS2
        isplitl [HS3]; · iexact HS3
        iintro ⟨H0, H1, H2, H3, H4, H5, H6, H7, H8, H9, H10, H11, H12, H13, H14, H15, H16, H17, H18, H19, H20, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        iexists _; iexact H20
      · rw [PhiS_castSucc m c t, PhiS_pos m c _ _ hz]
        rw [outsAt0_A m c t h0 h1]
        unfold sout0_A_0 sout0_A_1 sout0_A_2 sout0_A_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [HS0]; · iexists _; iexact HS0
        isplitl [HS1]; · iexists _; iexact HS1
        isplitl [HS2]; · iexists _; iexact HS2
        isplitl [HS3]; · iexists _; iexact HS3
        iintro ⟨H0, H1, H2, H3, H4, H5, H6, H7, H8, H9, H10, H11, H12, H13, H14, H15, H16, H17, H18, H19, H20, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        iexists _; iexact H20
  · by_cases h1 : t.val % 32 = 31
    · rw [show (dats m 0 c).leavesExact 20 t = owns (c : Thread nD τ) (ms0_20 t) fullShare ((dats m 0 c).after 20 t) from by
      unfold Dat.leavesExact; rw [liveAt0_20_C t (fun h => h0 ((hcond0_0 t).mp h)) ((hcond0_1 t).mpr h1)], after0_20]
      by_cases hz : t.val = 0
      · exfalso; have hN : t.val < 1024 := lt_of_lt_of_eq t.isLt (show cfg0.N = 1024 from N_0); omega
      · rw [PhiS_castSucc m c t, PhiS_pos m c _ _ hz]
        rw [outsAt0_C m c t h0 h1]
        unfold out0_C_20 sout0_C_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _ _ _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexists _; iexact H20
        isplitl [HS0]; · iexact HS0
        isplitl [HS1]; · iexact HS1
        isplitl [HS2]; · iexact HS2
        isplitl [HS3]; · iexact HS3
        iintro ⟨H0, H1, H2, H3, H4, H5, H6, H7, H8, H9, H10, H11, H12, H13, H14, H15, H16, H17, H18, H19, ⟨%e20, H20⟩, HS0, HS1, HS2, ⟨%es3, HS3⟩⟩
        isplitl [HS0 HS1 HS2 HS3 Hg]
        · isplitl [HS0 HS1 HS2 HS3]
          · isplitl [HS0]
            · iexact HS0
            isplitl [HS1]
            · iexact HS1
            isplitl [HS2]
            · iexact HS2
            unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        unfold owns; iexists _; isplitr
        swap; · iexact H20
        ipureintro; exact View.read_writes_of_cover _ _ _ _ _ (cover0_C_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [Dat.leavesExact_idle (dats m 0 c) 20 t (idleAt0_20_B t (fun h => h0 ((hcond0_0 t).mp h)) (fun h => h1 ((hcond0_1 t).mp h))) (noFlush0_20_B t (fun h => h0 ((hcond0_0 t).mp h)) (fun h => h1 ((hcond0_1 t).mp h)))]
      by_cases hz : t.val = 0
      · exfalso; have hN : t.val < 1024 := lt_of_lt_of_eq t.isLt (show cfg0.N = 1024 from N_0); omega
      · rw [PhiS_castSucc m c t, PhiS_pos m c _ _ hz]
        rw [outsAt0_B m c t h0 h1]
        unfold sout0_B_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _ _ _ _).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [HS0]; · iexact HS0
        isplitl [HS1]; · iexact HS1
        isplitl [HS2]; · iexact HS2
        isplitl [HS3]; · iexact HS3
        iintro ⟨H0, H1, H2, H3, H4, H5, H6, H7, H8, H9, H10, H11, H12, H13, H14, H15, H16, H17, H18, H19, H20, HS0, HS1, HS2, ⟨%es3, HS3⟩⟩
        isplitl [HS0 HS1 HS2 HS3 Hg]
        · isplitl [HS0 HS1 HS2 HS3]
          · isplitl [HS0]
            · iexact HS0
            isplitl [HS1]
            · iexact HS1
            isplitl [HS2]
            · iexact HS2
            unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        iexists _; iexact H20

/-- The pipeline's table of functions calls the body at point `t`. -/
theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant holds at the start. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- The invariant gives the scratch buffers back, at anything. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The invariant holds at the end. -/
theorem hout (c : Dev nD) : (dats m 0 c).Φ (Fin.last cfg0.N) ⊢ Pipeline.ΦA spec0 c :=
  Phi_out m c _ (by rw [Fin.val_last]; have : cfg0.N = 1024 := N_0; omega)

set_option backward.isDefEq.respectTransparency.types false in
/-- The program runs to its end, quiescent, with every window's array at its final contents. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to its end with every window's array at its final contents. -/
theorem run_main : θ_run defs (onTc (τ := τ) (main (F := F))) (s₀ m ρ) (Pipeline.FramePost cfgs (dats m) 0 (V m)) :=
  (θ_run defs _ _).mono (fun _ h => h.1) (run_main_quiescent m ρ)

/-- The program runs and leaves its argument arrays unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- The program runs to its end without fault, its arguments unchanged and every semaphore back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.KernelIdeal.Launched

end
-- ==== Proof.StateBase.lean ====
/-
  What the grid points leave behind: the first expert of a token tile sets the rows, the experts' weights and the sum;
  each further expert adds its share; the last one also writes the result's block.
-/
module

public import proofs.«01_k».proof.Proof.KernelIdealLaunch
public import Idealize.ShloMosaic.Lib.Pointwise

@[expose] public section

set_option maxRecDepth 16384
set_option maxHeartbeats 4000000

noncomputable section

namespace Cert.KernelIdeal.Launched

open Cert.KernelIdeal Cert.KernelIdeal.Gen
open Idealize.ShloMosaic Idealize.ShloMosaic.TcCoe

theorem hz2 : (![0, 0] : Fin 2 → Nat) = fun _ => 0 := funext fun a => by fin_cases a <;> rfl
theorem hz3 : (![0, 0, 0] : Fin 3 → Nat) = fun _ => 0 := funext fun a => by fin_cases a <;> rfl

variable {F : FTy → Type} [FloatOps F] [Named F] (m : (ℓ : Loc nD τ sig) → Buf (Elt F) ℓ)

/-- The normalized rows of a token tile. -/
def hBlk (c : Dev nD) (t : Fin cfg0.N) : Vec F S512x1024 .f32 :=
  k0_pay8 (k0_pay3 (iblk m c 8 t)) (k0_pay4 (iblk m c 9 t))
    (k0_pay5 (iblk m c 1 t) (iblk m c 5 t) (iblk m c 2 t) (iblk m c 6 t) (iblk m c 3 t) (iblk m c 7 t) (iblk m c 0 t))
    (k0_pay6 (iblk m c 1 t) (iblk m c 5 t) (iblk m c 2 t) (iblk m c 6 t) (iblk m c 3 t) (iblk m c 7 t) (iblk m c 0 t))

/-- The normalized rows in the narrow format. -/
def hbBlk (c : Dev nD) (t : Fin cfg0.N) : Vec F S512x1024 .bf16 :=
  k0_pay9 (k0_pay3 (iblk m c 8 t)) (k0_pay4 (iblk m c 9 t))
    (k0_pay5 (iblk m c 1 t) (iblk m c 5 t) (iblk m c 2 t) (iblk m c 6 t) (iblk m c 3 t) (iblk m c 7 t) (iblk m c 0 t))
    (k0_pay6 (iblk m c 1 t) (iblk m c 5 t) (iblk m c 2 t) (iblk m c 6 t) (iblk m c 3 t) (iblk m c 7 t) (iblk m c 0 t))

/-- The router's logits of a token tile. -/
def logitBlk (c : Dev nD) (t : Fin cfg0.N) : FVec F S512x128 .f32 :=
  k0_pay10 (k0_pay3 (iblk m c 8 t)) (k0_pay4 (iblk m c 9 t))
    (k0_pay5 (iblk m c 1 t) (iblk m c 5 t) (iblk m c 2 t) (iblk m c 6 t) (iblk m c 3 t) (iblk m c 7 t) (iblk m c 0 t))
    (k0_pay6 (iblk m c 1 t) (iblk m c 5 t) (iblk m c 2 t) (iblk m c 6 t) (iblk m c 3 t) (iblk m c 7 t) (iblk m c 0 t)) (iblk m c 10 t) (iblk m c 11 t) (iblk m c 12 t)

/-- The group logits alone, the other columns masked. -/
def maskedBlk (c : Dev nD) (t : Fin cfg0.N) : FVec F S512x128 .f32 :=
  k0_pay13 (k0_pay3 (iblk m c 8 t)) (k0_pay4 (iblk m c 9 t))
    (k0_pay5 (iblk m c 1 t) (iblk m c 5 t) (iblk m c 2 t) (iblk m c 6 t) (iblk m c 3 t) (iblk m c 7 t) (iblk m c 0 t))
    (k0_pay6 (iblk m c 1 t) (iblk m c 5 t) (iblk m c 2 t) (iblk m c 6 t) (iblk m c 3 t) (iblk m c 7 t) (iblk m c 0 t)) (iblk m c 10 t) (iblk m c 11 t) (iblk m c 12 t)

/-- The experts' weights of a token tile. -/
def combBlk (c : Dev nD) (t : Fin cfg0.N) : Vec F S512x128 .f32 :=
  k0_pay25 (logitBlk m c t) k0_pay11 (k0_pay15 (logitBlk m c t) k0_pay12 (maskedBlk m c t))
    (k0_pay17 (logitBlk m c t) k0_pay11 k0_pay12 (maskedBlk m c t)) (k0_pay18 (logitBlk m c t) k0_pay11 k0_pay12 (maskedBlk m c t))
    (k0_pay19 (logitBlk m c t) k0_pay11 k0_pay12 (maskedBlk m c t)) (k0_pay20 (logitBlk m c t) k0_pay11 k0_pay12 (maskedBlk m c t))

/-- The sum over experts after a grid point, from what the point found. -/
def addBlk (c : Dev nD) (t : Fin cfg0.N) (hb : Vec F S512x1024 .bf16) (comb : Vec F S512x128 .f32)
    (acc : Vec F S512x1024 .f32) : Vec F S512x1024 .f32 :=
  k0_pay1 acc (k0_pay27 (grid0.coords t) hb (iblk m c 13 t) (iblk m c 14 t) comb) (iblk m c 15 t)

/-- The result's block. -/
def outBlk (c : Dev nD) (t : Fin cfg0.N) (h : Vec F S512x1024 .f32) (hb : Vec F S512x1024 .bf16)
    (acc : Vec F S512x1024 .f32) : Vec F S512x1024 .f32 :=
  k0_pay2 (k0_pay21 (iblk m c 18 t)) (k0_pay22 (iblk m c 19 t))
    (k0_pay23 h hb (iblk m c 16 t) (iblk m c 4 t) (iblk m c 17 t) acc)
    (k0_pay24 h hb (iblk m c 16 t) (iblk m c 4 t) (iblk m c 17 t) acc)

end Cert.KernelIdeal.Launched

end
-- ==== Proof.StateA.lean ====
/-
  What the first expert of a token tile leaves behind.
-/
module

public import proofs.«01_k».proof.Proof.StateBase
public import Idealize.ShloMosaic.Lib.Pointwise
public import Idealize.ShloMosaic.Lib.Pipeline.ReadBack

@[expose] public section

set_option maxRecDepth 16384
set_option maxHeartbeats 4000000

noncomputable section

namespace Cert.KernelIdeal.Launched

open Cert.KernelIdeal Cert.KernelIdeal.Gen
open Idealize.ShloMosaic Idealize.ShloMosaic.TcCoe

variable {F : FTy → Type} [FloatOps F] [Named F] (m : (ℓ : Loc nD τ sig) → Buf (Elt F) ℓ)

theorem state_A_h (c : Dev nD) (t : Fin cfg0.N) (h0 : t.val % 32 = 0) (h1 : ¬t.val % 32 = 31) :
    (outsAt0 m c t.val t.isLt).2.1 = hBlk m c t := by
  rw [outsAt0_A m c t h0 h1]
  dsimp only
  unfold sout0_A_0
  refine (View.read_writes_eq_canon _ _ _ ?_).trans ?_
  · intro y; apply scover0_A_0
  unfold kernelRun0_A
  dsimp only
  sl_unfold_words
  rw [View.canon_unit_zero hz2]
  simp only [View.readAt_eq_ld, read_unread_whole, View.readCov_unit_zero (S := S512x1024) _ hz2, View.readCov_unit_zero (S := S512x128) _ hz2,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread,
    View.ld_unit_zero (S := S512x1024) hz2, View.ld_unit_zero (S := S512x384) hz2, View.ld_unit_zero (S := S512x256) hz2, View.ld_unit_zero (S := S384x1024) hz2, View.ld_unit_zero (S := S256x1024) hz2, View.ld_unit_zero (S := S1x1024) hz2, View.ld_unit_zero (S := S1024x128) hz2, View.ld_unit_zero (S := S1x128) hz2, View.ld_unit_zero (S := S512x128) hz2, View.ld_unit_zero (S := S1024x1024) hz2, View.ld_unit_zero (S := S1x1024x256) hz3, View.ld_unit_zero (S := S1x256x1024) hz3]
  rfl

theorem state_A_hb (c : Dev nD) (t : Fin cfg0.N) (h0 : t.val % 32 = 0) (h1 : ¬t.val % 32 = 31) :
    (outsAt0 m c t.val t.isLt).2.2.1 = hbBlk m c t := by
  rw [outsAt0_A m c t h0 h1]
  dsimp only
  unfold sout0_A_1
  refine (View.read_writes_eq_canon _ _ _ ?_).trans ?_
  · intro y; apply scover0_A_1
  unfold kernelRun0_A
  dsimp only
  sl_unfold_words
  rw [View.canon_unit_zero hz2]
  simp only [View.readAt_eq_ld, read_unread_whole, View.readCov_unit_zero (S := S512x1024) _ hz2, View.readCov_unit_zero (S := S512x128) _ hz2,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread,
    View.ld_unit_zero (S := S512x1024) hz2, View.ld_unit_zero (S := S512x384) hz2, View.ld_unit_zero (S := S512x256) hz2, View.ld_unit_zero (S := S384x1024) hz2, View.ld_unit_zero (S := S256x1024) hz2, View.ld_unit_zero (S := S1x1024) hz2, View.ld_unit_zero (S := S1024x128) hz2, View.ld_unit_zero (S := S1x128) hz2, View.ld_unit_zero (S := S512x128) hz2, View.ld_unit_zero (S := S1024x1024) hz2, View.ld_unit_zero (S := S1x1024x256) hz3, View.ld_unit_zero (S := S1x256x1024) hz3]
  rfl

theorem state_A_comb (c : Dev nD) (t : Fin cfg0.N) (h0 : t.val % 32 = 0) (h1 : ¬t.val % 32 = 31) :
    (outsAt0 m c t.val t.isLt).2.2.2.1 = combBlk m c t := by
  rw [outsAt0_A m c t h0 h1]
  dsimp only
  unfold sout0_A_2
  refine (View.read_writes_eq_canon _ _ _ ?_).trans ?_
  · intro y; apply scover0_A_2
  unfold kernelRun0_A
  dsimp only
  sl_unfold_words
  rw [View.canon_unit_zero hz2]
  simp only [View.readAt_eq_ld, read_unread_whole, View.readCov_unit_zero (S := S512x1024) _ hz2, View.readCov_unit_zero (S := S512x128) _ hz2,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread,
    View.ld_unit_zero (S := S512x1024) hz2, View.ld_unit_zero (S := S512x384) hz2, View.ld_unit_zero (S := S512x256) hz2, View.ld_unit_zero (S := S384x1024) hz2, View.ld_unit_zero (S := S256x1024) hz2, View.ld_unit_zero (S := S1x1024) hz2, View.ld_unit_zero (S := S1024x128) hz2, View.ld_unit_zero (S := S1x128) hz2, View.ld_unit_zero (S := S512x128) hz2, View.ld_unit_zero (S := S1024x1024) hz2, View.ld_unit_zero (S := S1x1024x256) hz3, View.ld_unit_zero (S := S1x256x1024) hz3]
  rfl

theorem state_A_acc (c : Dev nD) (t : Fin cfg0.N) (h0 : t.val % 32 = 0) (h1 : ¬t.val % 32 = 31) :
    (outsAt0 m c t.val t.isLt).2.2.2.2 = addBlk m c t (hbBlk m c t) (combBlk m c t) k0_pay26 := by
  rw [outsAt0_A m c t h0 h1]
  dsimp only
  unfold sout0_A_3
  refine (View.read_writes_eq_canon _ _ _ ?_).trans ?_
  · intro y; apply scover0_A_3
  unfold kernelRun0_A
  dsimp only
  sl_unfold_words
  rw [View.canon_cons_unit_zero (S := S512x1024) hz2]
  simp only [View.readAt_eq_ld, read_unread_whole, View.readCov_unit_zero (S := S512x1024) _ hz2, View.readCov_unit_zero (S := S512x128) _ hz2,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread,
    View.ld_unit_zero (S := S512x1024) hz2, View.ld_unit_zero (S := S512x384) hz2, View.ld_unit_zero (S := S512x256) hz2, View.ld_unit_zero (S := S384x1024) hz2, View.ld_unit_zero (S := S256x1024) hz2, View.ld_unit_zero (S := S1x1024) hz2, View.ld_unit_zero (S := S1024x128) hz2, View.ld_unit_zero (S := S1x128) hz2, View.ld_unit_zero (S := S512x128) hz2, View.ld_unit_zero (S := S1024x1024) hz2, View.ld_unit_zero (S := S1x1024x256) hz3, View.ld_unit_zero (S := S1x256x1024) hz3]
  rfl

end Cert.KernelIdeal.Launched

end
-- ==== Proof.StateB.lean ====
/-
  What an expert that is neither first nor last leaves behind.
-/
module

public import proofs.«01_k».proof.Proof.StateBase
public import Idealize.ShloMosaic.Lib.Pointwise
public import Idealize.ShloMosaic.Lib.Pipeline.ReadBack

@[expose] public section

set_option maxRecDepth 16384
set_option maxHeartbeats 4000000

noncomputable section

namespace Cert.KernelIdeal.Launched

open Cert.KernelIdeal Cert.KernelIdeal.Gen
open Idealize.ShloMosaic Idealize.ShloMosaic.TcCoe

variable {F : FTy → Type} [FloatOps F] [Named F] (m : (ℓ : Loc nD τ sig) → Buf (Elt F) ℓ)

theorem state_B_acc (c : Dev nD) (t : Fin cfg0.N) (h0 : ¬t.val % 32 = 0) (h1 : ¬t.val % 32 = 31) :
    (outsAt0 m c t.val t.isLt).2.2.2.2 = addBlk m c t (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  rw [outsAt0_B m c t h0 h1]
  dsimp only
  unfold sout0_B_3
  refine (View.read_writes_eq_canon _ _ _ ?_).trans ?_
  · intro y; apply scover0_B_3
  unfold kernelRun0_B
  dsimp only
  sl_unfold_words
  rw [View.canon_unit_zero hz2]
  simp only [View.readAt_eq_ld, read_unread_whole, View.readCov_unit_zero (S := S512x1024) _ hz2, View.readCov_unit_zero (S := S512x128) _ hz2,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread,
    View.ld_unit_zero (S := S512x1024) hz2, View.ld_unit_zero (S := S512x384) hz2, View.ld_unit_zero (S := S512x256) hz2, View.ld_unit_zero (S := S384x1024) hz2, View.ld_unit_zero (S := S256x1024) hz2, View.ld_unit_zero (S := S1x1024) hz2, View.ld_unit_zero (S := S1024x128) hz2, View.ld_unit_zero (S := S1x128) hz2, View.ld_unit_zero (S := S512x128) hz2, View.ld_unit_zero (S := S1024x1024) hz2, View.ld_unit_zero (S := S1x1024x256) hz3, View.ld_unit_zero (S := S1x256x1024) hz3]
  rfl

end Cert.KernelIdeal.Launched

end
-- ==== Proof.StateC.lean ====
/-
  What the last expert of a token tile leaves behind.
-/
module

public import proofs.«01_k».proof.Proof.StateBase
public import Idealize.ShloMosaic.Lib.Pointwise
public import Idealize.ShloMosaic.Lib.Pipeline.ReadBack

@[expose] public section

set_option maxRecDepth 16384
set_option maxHeartbeats 600000

noncomputable section

namespace Cert.KernelIdeal.Launched

open Cert.KernelIdeal Cert.KernelIdeal.Gen
open Idealize.ShloMosaic Idealize.ShloMosaic.TcCoe

variable {F : FTy → Type} [FloatOps F] [Named F] (m : (ℓ : Loc nD τ sig) → Buf (Elt F) ℓ)

theorem state_C_acc (c : Dev nD) (t : Fin cfg0.N) (h0 : ¬t.val % 32 = 0) (h1 : t.val % 32 = 31) :
    (outsAt0 m c t.val t.isLt).2.2.2.2 = addBlk m c t (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  rw [outsAt0_C m c t h0 h1]
  dsimp only
  unfold sout0_C_3
  refine (View.read_writes_eq_canon _ _ _ ?_).trans ?_
  · intro y; apply scover0_C_3
  unfold kernelRun0_C
  dsimp only
  sl_unfold_words
  rw [View.canon_unit_zero hz2]
  simp only [View.readAt_eq_ld, read_unread_whole, View.readCov_unit_zero (S := S512x1024) _ hz2, View.readCov_unit_zero (S := S512x128) _ hz2,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread,
    View.ld_unit_zero (S := S512x1024) hz2, View.ld_unit_zero (S := S512x384) hz2, View.ld_unit_zero (S := S512x256) hz2, View.ld_unit_zero (S := S384x1024) hz2, View.ld_unit_zero (S := S256x1024) hz2, View.ld_unit_zero (S := S1x1024) hz2, View.ld_unit_zero (S := S1024x128) hz2, View.ld_unit_zero (S := S1x128) hz2, View.ld_unit_zero (S := S512x128) hz2, View.ld_unit_zero (S := S1024x1024) hz2, View.ld_unit_zero (S := S1x1024x256) hz3, View.ld_unit_zero (S := S1x256x1024) hz3]
  rfl

theorem state_C_out (c : Dev nD) (t : Fin cfg0.N) (h0 : ¬t.val % 32 = 0) (h1 : t.val % 32 = 31) :
    (outsAt0 m c t.val t.isLt).1 = outBlk m c t (outsAt0 m c (t.val - 1) (Nat.lt_of_le_of_lt (Nat.sub_le _ _) t.isLt)).2.1 (outsAt0 m c (t.val - 1) (Nat.lt_of_le_of_lt (Nat.sub_le _ _) t.isLt)).2.2.1
      (addBlk m c t (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  rw [outsAt0_C m c t h0 h1]
  dsimp only
  unfold out0_C_20
  refine (View.read_writes_eq_canon _ _ _ ?_).trans ?_
  · intro y; apply cover0_C_20
  unfold kernelRun0_C
  dsimp only
  sl_unfold_words
  rw [View.canon_unit_zero hz2]
  simp only [View.readAt_eq_ld, read_unread_whole, View.readCov_unit_zero (S := S512x1024) _ hz2, View.readCov_unit_zero (S := S512x128) _ hz2,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread,
    View.ld_unit_zero (S := S512x1024) hz2, View.ld_unit_zero (S := S512x384) hz2, View.ld_unit_zero (S := S512x256) hz2, View.ld_unit_zero (S := S384x1024) hz2, View.ld_unit_zero (S := S256x1024) hz2, View.ld_unit_zero (S := S1x1024) hz2, View.ld_unit_zero (S := S1024x128) hz2, View.ld_unit_zero (S := S1x128) hz2, View.ld_unit_zero (S := S512x128) hz2, View.ld_unit_zero (S := S1024x1024) hz2, View.ld_unit_zero (S := S1x1024x256) hz3, View.ld_unit_zero (S := S1x256x1024) hz3]
  rfl

end Cert.KernelIdeal.Launched

end
-- ==== Proof.FirstMax.lean ====
/-
  The first place at which a finite row is greatest among the admitted places, and how maxima and minima of masked rows
  find it.
-/
module

public import Mathlib.Data.EReal.Basic
public import Mathlib.Data.Finset.Fold
public import Mathlib.Data.Fintype.Basic
public import Mathlib.Data.Finset.Max
public import Mathlib.Order.WellFounded

@[expose] public section

noncomputable section

namespace Cert.Moe

variable {n : ℕ}

/-- `i` is the first of the places admitted by `M` at which `f` is greatest. -/
structure IsFirstMax (M : Fin n → Prop) (f : Fin n → EReal) (i : Fin n) : Prop where
  mem : M i
  le : ∀ j, M j → f j ≤ f i
  lt : ∀ j, M j → j < i → f j < f i

/-- There is only one such place. -/
theorem IsFirstMax.unique {M : Fin n → Prop} {f : Fin n → EReal} {i j : Fin n} (hi : IsFirstMax M f i)
    (hj : IsFirstMax M f j) : i = j := by
  rcases lt_trichotomy i j with h | h | h
  · exact absurd (hj.lt i hi.mem h) (not_lt.mpr (hi.le j hj.mem))
  · exact h
  · exact absurd (hi.lt j hj.mem h) (not_lt.mpr (hj.le i hi.mem))

/-- Where some place is admitted there is such a place. -/
theorem exists_isFirstMax (M : Fin n → Prop) (f : Fin n → EReal) (h : ∃ i, M i) : ∃ i, IsFirstMax M f i := by
  classical
  obtain ⟨i0, h0⟩ := h
  obtain ⟨a, ha, hmax⟩ := Finset.exists_max_image (Finset.univ.filter M) f ⟨i0, by simp [h0]⟩
  have hMa : M a := (Finset.mem_filter.mp ha).2
  obtain ⟨b, hb, hmin⟩ := Finset.exists_min_image (Finset.univ.filter fun j => M j ∧ f j = f a) id ⟨a, by simp [hMa]⟩
  obtain ⟨hMb, hfb⟩ := (Finset.mem_filter.mp hb).2
  refine ⟨b, hMb, fun j hj => by rw [hfb]; exact hmax j (by simp [hj]), fun j hj hlt => ?_⟩
  refine lt_of_le_of_ne (by rw [hfb]; exact hmax j (by simp [hj])) fun he => ?_
  exact absurd (hmin j (by simp [hj, he, hfb])) (not_le.mpr hlt)

/-- The first of the admitted places at which `f` is greatest (place zero where none is admitted). -/
def firstMax [NeZero n] (M : Fin n → Prop) (f : Fin n → EReal) : Fin n :=
  open Classical in if h : ∃ i, M i then (exists_isFirstMax M f h).choose else 0

theorem firstMax_spec [NeZero n] (M : Fin n → Prop) (f : Fin n → EReal) (h : ∃ i, M i) :
    IsFirstMax M f (firstMax M f) := by
  unfold firstMax
  rw [dif_pos h]
  exact (exists_isFirstMax M f h).choose_spec

theorem IsFirstMax.eq [NeZero n] {M : Fin n → Prop} {f : Fin n → EReal} {i : Fin n} (h : IsFirstMax M f i) :
    firstMax M f = i :=
  (firstMax_spec M f ⟨i, h.mem⟩).unique h

/-- The maximum of a row masked by the least value is the row's value at that place. -/
theorem IsFirstMax.fold_max {M : Fin n → Prop} {f : Fin n → EReal} {i : Fin n} (h : IsFirstMax M f i)
    (v : Fin n → EReal) (hv : ∀ j, M j → v j = f j) (hb : ∀ j, ¬M j → v j = ⊥) :
    Finset.univ.fold max ⊥ v = f i := by
  apply le_antisymm
  · rw [Finset.fold_max_le]
    refine ⟨bot_le, fun j _ => ?_⟩
    by_cases hj : M j
    · rw [hv j hj]; exact h.le j hj
    · rw [hb j hj]; exact bot_le
  · rw [Finset.le_fold_max]
    exact Or.inr ⟨i, Finset.mem_univ _, (hv i h.mem).ge⟩

/-- The least number of an admitted place at which the maximum is met is that place. -/
theorem IsFirstMax.fold_min {M : Fin n → Prop} {f : Fin n → EReal} {i : Fin n} (h : IsFirstMax M f i)
    (v : Fin n → EReal) (big : EReal) (hbig : ∀ j : Fin n, ((j.val : ℝ) : EReal) ≤ big)
    (hv : ∀ j, M j → f j = f i → v j = ((j.val : ℝ) : EReal)) (hb : ∀ j, ¬(M j ∧ f j = f i) → v j = big) :
    Finset.univ.fold min ⊤ v = ((i.val : ℝ) : EReal) := by
  apply le_antisymm
  · rw [Finset.fold_min_le]
    exact Or.inr ⟨i, Finset.mem_univ _, (hv i h.mem rfl).le⟩
  · rw [Finset.le_fold_min]
    refine ⟨le_top, fun j _ => ?_⟩
    by_cases hj : M j ∧ f j = f i
    · rw [hv j hj.1 hj.2]
      have : i ≤ j := by
        by_contra hlt
        exact absurd (h.lt j hj.1 (not_le.mp hlt)) (by rw [hj.2]; exact lt_irrefl _)
      exact_mod_cast this
    · rw [hb j hj]; exact hbig i

/-- The same place in a row read through a strictly increasing map of the places. -/
theorem IsFirstMax.map {p : ℕ} {M : Fin n → Prop} {f : Fin n → EReal} {i : Fin n} (h : IsFirstMax M f i)
    (e : Fin n → Fin p) (he : StrictMono e) (M' : Fin p → Prop) (f' : Fin p → EReal)
    (hM : ∀ j, M' j → ∃ k, e k = j ∧ M k) (hM' : M' (e i)) (hf : ∀ k, f' (e k) = f k) : IsFirstMax M' f' (e i) := by
  refine ⟨hM', fun j hj => ?_, fun j hj hlt => ?_⟩
  · obtain ⟨k, rfl, hk⟩ := hM j hj
    rw [hf, hf]; exact h.le k hk
  · obtain ⟨k, rfl, hk⟩ := hM j hj
    rw [hf, hf]; exact h.lt k hk (he.lt_iff_lt.mp hlt)

end Cert.Moe

end
-- ==== Proof.Rows.lean ====
/-
  The layer on one token, in the extended reals: layer normalization, the routing weights, the experts and the result,
  each as a function of the token's rows and of the weights.
-/
module

public import proofs.«01_k».proof.Proof.FirstMax
public import Idealize.ShloMosaic.Lib.IdealHost

@[expose] public section

noncomputable section

namespace Cert.Moe

open Idealize.ShloMosaic

/-- The factor of the residual. -/
abbrev alpha : EReal := Ideal.ofBits .f32 0x3FB504F3#32
/-- The width of a row, 1024. -/
abbrev width : EReal := Ideal.ofBits .f32 0x44800000#32
/-- What is added to a row's variance. -/
abbrev eps : EReal := Ideal.ofBits .f32 0x3727C5AC#32

/-- A row less its mean. -/
def centred (v : Fin 1024 → EReal) (k : Fin 1024) : EReal := v k - Ideal.div (∑ j, v j) width

/-- The row's sum of squares about its mean. -/
def spread (v : Fin 1024 → EReal) : EReal := ∑ j, centred v j * centred v j

/-- The row normalized to mean zero and variance one, scaled by `g` and shifted by `b`. -/
def normRow (v g b : Fin 1024 → EReal) (k : Fin 1024) : EReal :=
  centred v k * Ideal.rsqrt (Ideal.div (spread v) width + eps) * g k + b k

/-- The logistic function. -/
def sig (x : EReal) : EReal := Ideal.div 1 (1 + Ideal.exp (-x))

/-- The group of a token: the first at which its group logit is greatest. -/
def group (G : Fin 4 → EReal) : Fin 4 := firstMax (fun _ => True) G
/-- The first expert of a group: the first at which the logit is greatest. -/
def best (L : Fin 8 → EReal) : Fin 8 := firstMax (fun _ => True) L
/-- The second expert of a group: the first of the others at which the logit is greatest. -/
def second (L : Fin 8 → EReal) : Fin 8 := firstMax (fun j => j ≠ best L) L

/-- The probability of the chosen group. -/
def groupWeight (G : Fin 4 → EReal) : EReal := Ideal.div 1 (∑ j, Ideal.exp (G j - G (group G)))
/-- The ratio of the second expert's probability to the first's. -/
def ratio (L : Fin 8 → EReal) : EReal := Ideal.exp (L (second L) - L (best L))

/-- The weight of expert `e` for a token with group logits `G` and expert logits `E`: the two chosen experts of the
    chosen group share the group's probability. -/
def combine (G : Fin 4 → EReal) (E : Fin 4 → Fin 8 → EReal) (e : Fin 32) : EReal :=
  (if e.val = 8 * (group G).val + (best (E (group G))).val then
      Ideal.div (groupWeight G) (1 + ratio (E (group G))) else 0)
    + (if e.val = 8 * (group G).val + (second (E (group G))).val then
        Ideal.div (groupWeight G * ratio (E (group G))) (1 + ratio (E (group G))) else 0)

/-- The layer's weights. -/
structure Weights where
  out : Fin 1024 → Fin 1024 → EReal
  g1 : Fin 1024 → EReal
  b1 : Fin 1024 → EReal
  rg : Fin 1024 → Fin 4 → EReal
  rgb : Fin 4 → EReal
  re : Fin 4 → Fin 1024 → Fin 8 → EReal
  reb : Fin 4 → Fin 8 → EReal
  gate : Fin 32 → Fin 1024 → Fin 256 → EReal
  up : Fin 32 → Fin 1024 → Fin 256 → EReal
  down : Fin 32 → Fin 256 → Fin 1024 → EReal
  pg : Fin 1024 → Fin 1024 → EReal
  pp : Fin 256 → Fin 1024 → EReal
  g2 : Fin 1024 → EReal
  b2 : Fin 1024 → EReal

/-- A token's rows: the residual, the outputs of the three attentions, the per-layer embedding. -/
structure Token where
  x : Fin 1024 → EReal
  oa : Fin 384 → EReal
  ob : Fin 384 → EReal
  oc : Fin 256 → EReal
  p : Fin 256 → EReal

variable (W : Weights) (T : Token)

/-- The residual and the projection of the three attentions' outputs. -/
def preRow (k : Fin 1024) : EReal :=
  alpha * T.x k + (∑ a : Fin 384, T.oa a * W.out ⟨a.val, by omega⟩ k + ∑ a : Fin 384, T.ob a * W.out ⟨384 + a.val, by omega⟩ k
    + ∑ a : Fin 256, T.oc a * W.out ⟨768 + a.val, by omega⟩ k)

/-- The row after the first norm. -/
def hRow : Fin 1024 → EReal := normRow (preRow W T) W.g1 W.b1

/-- The logits of the groups. -/
def gLogit (j : Fin 4) : EReal := ∑ d, hRow W T d * W.rg d j + W.rgb j
/-- The logits of the experts, group by group. -/
def eLogit (g : Fin 4) (e : Fin 8) : EReal := ∑ d, hRow W T d * W.re g d e + W.reb g e
/-- The experts' weights. -/
def cw : Fin 32 → EReal := combine (gLogit W T) (eLogit W T)

/-- An expert's gate. -/
def gateRow (h : Fin 1024 → EReal) (w : Fin 1024 → Fin 256 → EReal) (f : Fin 256) : EReal := ∑ d, h d * w d f

/-- An expert's activations, scaled by its weight. -/
def actRow (h : Fin 1024 → EReal) (wg wu : Fin 1024 → Fin 256 → EReal) (c : EReal) (f : Fin 256) : EReal :=
  gateRow h wg f * sig (gateRow h wg f) * gateRow h wu f * c

/-- One expert's share of the result. -/
def expertRow (e : Fin 32) (k : Fin 1024) : EReal :=
  ∑ f, actRow (hRow W T) (W.gate e) (W.up e) (cw W T e) f * W.down e f k

/-- The gated projection of the per-layer embedding. -/
def pleRow (k : Fin 1024) : EReal := sig (∑ d, hRow W T d * W.pg d k) * ∑ a, T.p a * W.pp a k

/-- The row before the second norm. -/
def postRow (k : Fin 1024) : EReal := alpha * hRow W T k + ∑ e, expertRow W T e k + pleRow W T k

/-- The layer's result for one token. -/
def outRow : Fin 1024 → EReal := normRow (postRow W T) W.g2 W.b2

end Cert.Moe

end
-- ==== Proof.Inputs.lean ====
/-
  The layer's weights and a token's rows, taken from the arguments.
-/
module

public import proofs.«01_k».proof.Proof.Rows
public import Idealize.ShloMosaic.Lib.Pointwise

@[expose] public section

noncomputable section

namespace Cert.Moe

open Idealize.ShloMosaic

/-- The arguments' entries. -/
structure Args where
  a0 : (⟨3, ![8, 2048, 1024]⟩ : Shape).Idx → EReal
  a1 : (⟨3, ![8, 2048, 384]⟩ : Shape).Idx → EReal
  a2 : (⟨3, ![8, 2048, 384]⟩ : Shape).Idx → EReal
  a3 : (⟨3, ![8, 2048, 256]⟩ : Shape).Idx → EReal
  a4 : (⟨3, ![8, 2048, 256]⟩ : Shape).Idx → EReal
  a5 : (⟨2, ![1024, 1024]⟩ : Shape).Idx → EReal
  a6 : (⟨1, ![1024]⟩ : Shape).Idx → EReal
  a7 : (⟨1, ![1024]⟩ : Shape).Idx → EReal
  a8 : (⟨2, ![1024, 4]⟩ : Shape).Idx → EReal
  a9 : (⟨1, ![4]⟩ : Shape).Idx → EReal
  a10 : (⟨3, ![4, 1024, 8]⟩ : Shape).Idx → EReal
  a11 : (⟨2, ![4, 8]⟩ : Shape).Idx → EReal
  a12 : (⟨3, ![32, 1024, 256]⟩ : Shape).Idx → EReal
  a13 : (⟨3, ![32, 1024, 256]⟩ : Shape).Idx → EReal
  a14 : (⟨3, ![32, 256, 1024]⟩ : Shape).Idx → EReal
  a15 : (⟨2, ![1024, 1024]⟩ : Shape).Idx → EReal
  a16 : (⟨2, ![256, 1024]⟩ : Shape).Idx → EReal
  a17 : (⟨1, ![1024]⟩ : Shape).Idx → EReal
  a18 : (⟨1, ![1024]⟩ : Shape).Idx → EReal

/-- The weights among the arguments. -/
def Args.weights (A : Args) : Weights where
  out j k := A.a5 (ix2 j k)
  g1 k := A.a6 (ix1 k)
  b1 k := A.a7 (ix1 k)
  rg d j := A.a8 (ix2 d j)
  rgb j := A.a9 (ix1 j)
  re g d e := A.a10 (ix3 g d e)
  reb g e := A.a11 (ix2 g e)
  gate e d f := A.a12 (ix3 e d f)
  up e d f := A.a13 (ix3 e d f)
  down e f k := A.a14 (ix3 e f k)
  pg d k := A.a15 (ix2 d k)
  pp a k := A.a16 (ix2 a k)
  g2 k := A.a17 (ix1 k)
  b2 k := A.a18 (ix1 k)

/-- Token `n`'s sequence. -/
def seqOf (n : Fin 16384) : Fin 8 := ⟨n.val / 2048, by omega⟩
/-- Token `n`'s place in its sequence. -/
def posOf (n : Fin 16384) : Fin 2048 := ⟨n.val % 2048, Nat.mod_lt _ (by decide)⟩

/-- The rows of token `n` among the arguments. -/
def Args.token (A : Args) (n : Fin 16384) : Token where
  x k := A.a0 (ix3 (seqOf n) (posOf n) k)
  oa k := A.a1 (ix3 (seqOf n) (posOf n) k)
  ob k := A.a2 (ix3 (seqOf n) (posOf n) k)
  oc k := A.a3 (ix3 (seqOf n) (posOf n) k)
  p k := A.a4 (ix3 (seqOf n) (posOf n) k)

/-- The router's weights are finite. -/
structure Args.Routing (A : Args) : Prop where
  g1 : ∀ i, ∃ r : ℝ, A.a6 i = r
  b1 : ∀ i, ∃ r : ℝ, A.a7 i = r
  rg : ∀ i, ∃ r : ℝ, A.a8 i = r
  rgb : ∀ i, ∃ r : ℝ, A.a9 i = r
  re : ∀ i, ∃ r : ℝ, A.a10 i = r
  reb : ∀ i, ∃ r : ℝ, A.a11 i = r

end Cert.Moe

end
-- ==== Proof.Finite.lean ====
/-
  A normalized row is finite whatever the row: the scale and shift alone have to be finite.
-/
module

public import proofs.«01_k».proof.Proof.Rows

@[expose] public section

noncomputable section

namespace Cert.Moe

open Idealize.ShloMosaic

/-- An extended real that is a real number. -/
def Real' (x : EReal) : Prop := ∃ r : ℝ, x = (r : EReal)

theorem real_iff {x : EReal} : Real' x ↔ x ≠ ⊥ ∧ x ≠ ⊤ := by
  constructor
  · rintro ⟨r, rfl⟩; exact ⟨EReal.coe_ne_bot r, EReal.coe_ne_top r⟩
  · rintro ⟨h1, h2⟩; exact ⟨x.toReal, (EReal.coe_toReal h2 h1).symm⟩

theorem Real'.add {x y : EReal} : Real' x → Real' y → Real' (x + y) := by
  rintro ⟨a, rfl⟩ ⟨b, rfl⟩; exact ⟨a + b, by push_cast; rfl⟩
theorem Real'.mul {x y : EReal} : Real' x → Real' y → Real' (x * y) := by
  rintro ⟨a, rfl⟩ ⟨b, rfl⟩; exact ⟨a * b, by push_cast; rfl⟩
theorem Real'.sub {x y : EReal} : Real' x → Real' y → Real' (x - y) := by
  rintro ⟨a, rfl⟩ ⟨b, rfl⟩; exact ⟨a - b, by push_cast; rfl⟩
theorem Real'.sub_self {x : EReal} : Real' x → x - x = 0 := by
  rintro ⟨a, rfl⟩; rw [← EReal.coe_sub, _root_.sub_self, EReal.coe_zero]
theorem real_zero : Real' 0 := ⟨0, rfl⟩
/-- A sum of real numbers, in the extended reals. -/
theorem coe_sum {n : ℕ} (r : Fin n → ℝ) : ((∑ i, r i : ℝ) : EReal) = ∑ i, (r i : EReal) := by
  classical
  have : ∀ s : Finset (Fin n), ((∑ i ∈ s, r i : ℝ) : EReal) = ∑ i ∈ s, (r i : EReal) := by
    intro s
    induction s using Finset.induction_on with
    | empty => simp
    | insert a s ha ih => rw [Finset.sum_insert ha, Finset.sum_insert ha, EReal.coe_add, ih]
  exact this _
theorem real_sum {n : ℕ} {v : Fin n → EReal} (h : ∀ i, Real' (v i)) : Real' (∑ i, v i) := by
  choose r hr using h
  refine ⟨∑ i, r i, ?_⟩
  rw [coe_sum]
  exact Finset.sum_congr rfl fun i _ => hr i

theorem width_eq : width = ((1024 : ℝ) : EReal) := by
  simp [width, Ideal.ofBits, Ideal.ieee, -EReal.coe_mul]; norm_num

theorem eps_pos : ∃ r : ℝ, 0 < r ∧ eps = (r : EReal) := by
  refine ⟨_, ?_, by simp [eps, Ideal.ofBits, Ideal.ieee, -EReal.coe_mul]; rfl⟩
  norm_num

/-- A sum with a term `⊥` is `⊥`. -/
theorem sum_bot {n : ℕ} {v : Fin n → EReal} (i : Fin n) (h : v i = ⊥) : ∑ j, v j = ⊥ := by
  rw [← Finset.add_sum_erase _ _ (Finset.mem_univ i), h, EReal.bot_add]

/-- A sum of no `⊥` with a term `⊤` is `⊤`. -/
theorem sum_top {n : ℕ} {v : Fin n → EReal} (hb : ∀ j, v j ≠ ⊥) (i : Fin n) (h : v i = ⊤) : ∑ j, v j = ⊤ := by
  rw [← Finset.add_sum_erase _ _ (Finset.mem_univ i), h]
  apply EReal.top_add_of_ne_bot
  have : ∀ s : Finset (Fin n), ∑ j ∈ s, v j ≠ ⊥ := by
    intro s
    induction s using Finset.induction_on with
    | empty => simp
    | insert a s ha ih => rw [Finset.sum_insert ha]; exact EReal.add_ne_bot_iff.mpr ⟨hb a, ih⟩
  exact this _

/-- A sum of squares of which one is infinite, the others squares too, is `⊤`. -/
theorem spread_top {v : Fin 1024 → EReal} (h : ∀ k, centred v k = ⊤ ∨ centred v k = ⊥) : spread v = ⊤ := by
  unfold spread
  have hk : ∀ k, centred v k * centred v k = ⊤ := fun k => by
    rcases h k with h | h <;> rw [h] <;> simp
  exact sum_top (fun j => by rw [hk]; simp) 0 (hk 0)

/-- Where the row's mean is infinite, so is every entry less the mean. -/
theorem centred_infinite {v : Fin 1024 → EReal} (h : ∃ k, ¬Real' (v k)) (k : Fin 1024) :
    centred v k = ⊤ ∨ centred v k = ⊥ := by
  unfold centred
  rw [width_eq, Ideal.div_coe (by norm_num)]
  by_cases hb : ∃ i, v i = ⊥
  · obtain ⟨i, hi⟩ := hb
    rw [sum_bot i hi, EReal.bot_mul_coe_of_pos (by norm_num)]
    by_cases hk : v k = ⊥
    · right; rw [hk]; simp
    · left
      rw [sub_eq_add_neg, EReal.neg_bot]
      exact EReal.add_top_of_ne_bot hk
  · push Not at hb
    obtain ⟨i, hi⟩ := h
    have hi' : v i = ⊤ := by
      by_contra hne
      exact hi (real_iff.mpr ⟨hb i, hne⟩)
    rw [sum_top hb i hi', EReal.top_mul_coe_of_pos (by norm_num)]
    right
    rw [sub_eq_add_neg, EReal.neg_top, EReal.add_bot]

/-- A normalized row is finite, its scale and shift being so. -/
theorem normRow_real (v : Fin 1024 → EReal) {g b : Fin 1024 → EReal} (hg : ∀ k, Real' (g k)) (hb : ∀ k, Real' (b k))
    (k : Fin 1024) : Real' (normRow v g b k) := by
  unfold normRow
  refine Real'.add (Real'.mul ?_ (hg k)) (hb k)
  obtain ⟨e, he, hee⟩ := eps_pos
  by_cases h : ∃ k, ¬Real' (v k)
  · rw [spread_top (centred_infinite h), width_eq, Ideal.div_coe (by norm_num), EReal.top_mul_coe_of_pos (by norm_num), hee,
      EReal.top_add_coe, Ideal.rsqrt_top, mul_zero]
    exact real_zero
  · push Not at h
    have hc : ∀ k, Real' (centred v k) := fun k => by
      unfold centred
      rw [width_eq, Ideal.div_coe (by norm_num)]
      exact (h k).sub ((real_sum h).mul ⟨_, rfl⟩)
    refine (hc k).mul ?_
    choose c hcc using hc
    have hs : spread v = ((∑ j, c j * c j : ℝ) : EReal) := by
      unfold spread
      rw [coe_sum]
      exact Finset.sum_congr rfl fun i _ => by rw [hcc i]; push_cast; rfl
    have h0 : 0 ≤ ∑ j, c j * c j := Finset.sum_nonneg fun j _ => mul_self_nonneg _
    rw [hs, width_eq, Ideal.div_coe (by norm_num), hee, ← EReal.coe_mul, ← EReal.coe_add, Ideal.rsqrt_coe,
      if_neg (not_lt.mpr (by positivity)), if_neg (ne_of_gt (by positivity))]
    exact ⟨_, rfl⟩

end Cert.Moe

end
-- ==== Proof.KernelInputs.lean ====
/-
  What the kernel's host operations make of the arguments, at one entry.
-/
module

public import proofs.«01_k».proof.Proof.KernelIdealLaunch
public import proofs.«01_k».proof.Proof.Inputs
public import proofs.«01_k».proof.Proof.Finite
public import Idealize.ShloMosaic.Lib.Pointwise
public import Idealize.ShloMosaic.Lib.StableHlo.ReadAt

@[expose] public section

set_option maxRecDepth 16384
set_option maxHeartbeats 1000000

noncomputable section

namespace Cert.KernelIdeal.Launched

open Cert.KernelIdeal Cert.KernelIdeal.Gen Cert.Moe
open Idealize.ShloMosaic Idealize.ShloMosaic.TcCoe

variable (m : (ℓ : Loc nD τ sig) → Buf (Elt Ideal) ℓ)

/-- The kernel's arguments. -/
def args (c : Dev nD) : Args where
  a0 := m (c, main_arg0)
  a1 := m (c, main_arg1)
  a2 := m (c, main_arg2)
  a3 := m (c, main_arg3)
  a4 := m (c, main_arg4)
  a5 := m (c, main_arg5)
  a6 := m (c, main_arg6)
  a7 := m (c, main_arg7)
  a8 := m (c, main_arg8)
  a9 := m (c, main_arg9)
  a10 := m (c, main_arg10)
  a11 := m (c, main_arg11)
  a12 := m (c, main_arg12)
  a13 := m (c, main_arg13)
  a14 := m (c, main_arg14)
  a15 := m (c, main_arg15)
  a16 := m (c, main_arg16)
  a17 := m (c, main_arg17)
  a18 := m (c, main_arg18)

theorem V_x (c : Dev nD) (n : Fin 16384) (k : Fin 1024) : V m c main_v13 (ix2 n k) = ((args m c).token n).x k := by
  unfold V
  after_reads_at
  all_goals rfl

theorem V_oa (c : Dev nD) (n : Fin 16384) (k : Fin 384) : V m c main_v14 (ix2 n k) = ((args m c).token n).oa k := by
  unfold V
  after_reads_at
  all_goals rfl

theorem V_ob (c : Dev nD) (n : Fin 16384) (k : Fin 384) : V m c main_v15 (ix2 n k) = ((args m c).token n).ob k := by
  unfold V
  after_reads_at
  all_goals rfl

theorem V_oc (c : Dev nD) (n : Fin 16384) (k : Fin 256) : V m c main_v16 (ix2 n k) = ((args m c).token n).oc k := by
  unfold V
  after_reads_at
  all_goals rfl

theorem V_p (c : Dev nD) (n : Fin 16384) (k : Fin 256) : V m c main_v17 (ix2 n k) = ((args m c).token n).p k := by
  unfold V
  after_reads_at
  all_goals rfl

theorem V_woa (c : Dev nD) (a : Fin 384) (k : Fin 1024) : V m c main_v18 (ix2 a k) = (args m c).weights.out ⟨a.val, by omega⟩ k := by
  unfold V
  after_reads_at
  all_goals rfl

theorem V_wob (c : Dev nD) (a : Fin 384) (k : Fin 1024) : V m c main_v19 (ix2 a k) = (args m c).weights.out ⟨384 + a.val, by omega⟩ k := by
  unfold V
  after_reads_at
  all_goals rfl

theorem V_woc (c : Dev nD) (a : Fin 256) (k : Fin 1024) : V m c main_v20 (ix2 a k) = (args m c).weights.out ⟨768 + a.val, by omega⟩ k := by
  unfold V
  after_reads_at
  all_goals rfl

theorem V_g1 (c : Dev nD) (k : Fin 1024) : V m c main_v21 (ix2 0 k) = (args m c).weights.g1 k := by
  unfold V
  after_reads_at
  all_goals rfl

theorem V_b1 (c : Dev nD) (k : Fin 1024) : V m c main_v22 (ix2 0 k) = (args m c).weights.b1 k := by
  unfold V
  after_reads_at
  all_goals rfl

theorem V_g2 (c : Dev nD) (k : Fin 1024) : V m c main_v28 (ix2 0 k) = (args m c).weights.g2 k := by
  unfold V
  after_reads_at
  all_goals rfl

theorem V_b2 (c : Dev nD) (k : Fin 1024) : V m c main_v29 (ix2 0 k) = (args m c).weights.b2 k := by
  unfold V
  after_reads_at
  all_goals rfl

theorem V_gate (c : Dev nD) (e : Fin 32) (d : Fin 1024) (f : Fin 256) : V m c main_v23 (ix3 e d f) = (args m c).weights.gate e d f := by
  unfold V
  after_reads_at
  all_goals rfl

theorem V_up (c : Dev nD) (e : Fin 32) (d : Fin 1024) (f : Fin 256) : V m c main_v24 (ix3 e d f) = (args m c).weights.up e d f := by
  unfold V
  after_reads_at
  all_goals rfl

theorem V_down (c : Dev nD) (e : Fin 32) (f : Fin 256) (k : Fin 1024) : V m c main_v25 (ix3 e f k) = (args m c).weights.down e f k := by
  unfold V
  after_reads_at
  all_goals rfl

theorem V_pg (c : Dev nD) (d : Fin 1024) (k : Fin 1024) : V m c main_v26 (ix2 d k) = (args m c).weights.pg d k := by
  unfold V
  after_reads_at
  all_goals rfl

theorem V_pp (c : Dev nD) (a : Fin 256) (k : Fin 1024) : V m c main_v27 (ix2 a k) = (args m c).weights.pp a k := by
  unfold V
  after_reads_at
  all_goals rfl

theorem V_rg (c : Dev nD) (d : Fin 1024) (k : Fin 128) (hk : k.val < 4) : V m c main_v5 (ix2 d k) = (args m c).weights.rg d ⟨k.val, hk⟩ := by
  unfold V
  after_reads_at
  rw [dif_pos (by omega), dif_pos hk]
  unfold StableHlo.upto
  after_reads_at
  all_goals rfl

theorem V_rgb (c : Dev nD) (k : Fin 128) (hk : k.val < 4) : V m c main_v12 (ix2 0 k) = (args m c).weights.rgb ⟨k.val, hk⟩ := by
  unfold V
  after_reads_at
  rw [dif_pos (by omega), dif_pos hk]
  unfold StableHlo.upto
  after_reads_at
  all_goals rfl

theorem V_re (c : Dev nD) (d : Fin 1024) (g : Fin 4) (e : Fin 8) (k : Fin 128) (hk : k.val = 4 + 8 * g.val + e.val) : V m c main_v5 (ix2 d k) = (args m c).weights.re g d e := by
  unfold V
  after_reads_at
  rw [dif_pos (by omega), dif_neg (by omega)]
  unfold StableHlo.upto
  after_reads_at
  have h1 : (k.val - 4) / 8 = g.val := by omega
  have h2 : (k.val - 4) % 8 = e.val := by omega
  exact congrArg₂ (fun a b => m (c, Proc.tc.devRef main_arg10) (ix3 a d b)) (Fin.ext h1) (Fin.ext h2)

theorem V_reb (c : Dev nD) (g : Fin 4) (e : Fin 8) (k : Fin 128) (hk : k.val = 4 + 8 * g.val + e.val) : V m c main_v12 (ix2 0 k) = (args m c).weights.reb g e := by
  unfold V
  after_reads_at
  rw [dif_pos (by omega), dif_neg (by omega)]
  unfold StableHlo.upto
  after_reads_at
  have h1 : (k.val - 4) / 8 = g.val := by omega
  have h2 : (k.val - 4) % 8 = e.val := by omega
  exact congrArg₂ (fun a b => m (c, Proc.tc.devRef main_arg11) (ix2 a b)) (Fin.ext h1) (Fin.ext h2)

/-- The narrow router weights' remainder: the weights less themselves. -/
theorem V_rest (c : Dev nD) (d : Fin 1024) (k : Fin 128) :
    V m c main_v8 (ix2 d k) = (fun x : EReal => x - x) (V m c main_v5 (ix2 d k)) := by
  unfold V
  after_reads_at

end Cert.KernelIdeal.Launched

end
-- ==== Proof.KernelBlocks.lean ====
/-
  The blocks a grid point reads, at one entry.
-/
module

public import proofs.«01_k».proof.Proof.KernelIdealLaunch
public import proofs.«01_k».proof.Proof.Inputs
public import proofs.«01_k».proof.Proof.Finite
public import Idealize.ShloMosaic.Lib.Pointwise
public import Idealize.ShloMosaic.Lib.StableHlo.ReadAt
public import proofs.«01_k».proof.Proof.KernelInputs

@[expose] public section

set_option maxRecDepth 16384
set_option maxHeartbeats 1000000

noncomputable section

namespace Cert.KernelIdeal.Launched

open Cert.KernelIdeal Cert.KernelIdeal.Gen Cert.Moe
open Idealize.ShloMosaic Idealize.ShloMosaic.TcCoe

variable (m : (ℓ : Loc nD τ sig) → Buf (Elt Ideal) ℓ)

/-- The token of row `r` of grid point `t`'s tile. -/
def tokOf (t : Fin cfg0.N) (r : Fin 512) : Fin 16384 :=
  ⟨512 * (t.val / 32) + r.val, by have h : t.val < 1024 := lt_of_lt_of_eq t.isLt N_0; omega⟩
/-- The expert of grid point `t`. -/
def expOf (t : Fin cfg0.N) : Fin 32 := ⟨t.val % 32, Nat.mod_lt _ (by decide)⟩

theorem coords_exp : ∀ t : Fin cfg0.N, (grid0.coords t 1).val = t.val % 32 :=
  (by decide +kernel : ∀ t : Fin grid0.N, _)

theorem idx0 : ∀ t : Fin cfg0.N, win0_0.index t (0 : Fin 2) = t.val / 32 ∧ win0_0.index t (1 : Fin 2) = 0 :=
  (by decide +kernel : ∀ t : Fin grid0.N, _)

theorem blk_x (c : Dev nD) (t : Fin cfg0.N) (r : Fin 512) (k : Fin 1024) : iblk m c 0 t (ix2 r k) = ((args m c).token (tokOf t r)).x k := by
  have hi := idx0 t
  unfold iblk
  rw [View.read_apply]
  show V m c main_v13 _ = _
  have h : ((cfg0.win 0).blk t).view.emb (ix2 r k) = (ix2 (tokOf t r) k) := by
    funext q; apply Fin.ext
    match q with
    | ⟨0, _⟩ => show win0_0.index t (0 : Fin 2) * 512 + 1 * r.val = 512 * (t.val / 32) + r.val; omega
    | ⟨1, _⟩ => show win0_0.index t (1 : Fin 2) * 1024 + 1 * k.val = k.val; omega
  rw [h]
  exact V_x m c (tokOf t r) k

theorem idx1 : ∀ t : Fin cfg0.N, win0_1.index t (0 : Fin 2) = t.val / 32 ∧ win0_1.index t (1 : Fin 2) = 0 :=
  (by decide +kernel : ∀ t : Fin grid0.N, _)

theorem blk_oa (c : Dev nD) (t : Fin cfg0.N) (r : Fin 512) (k : Fin 384) : iblk m c 1 t (ix2 r k) = ((args m c).token (tokOf t r)).oa k := by
  have hi := idx1 t
  unfold iblk
  rw [View.read_apply]
  show V m c main_v14 _ = _
  have h : ((cfg0.win 1).blk t).view.emb (ix2 r k) = (ix2 (tokOf t r) k) := by
    funext q; apply Fin.ext
    match q with
    | ⟨0, _⟩ => show win0_1.index t (0 : Fin 2) * 512 + 1 * r.val = 512 * (t.val / 32) + r.val; omega
    | ⟨1, _⟩ => show win0_1.index t (1 : Fin 2) * 384 + 1 * k.val = k.val; omega
  rw [h]
  exact V_oa m c (tokOf t r) k

theorem idx2 : ∀ t : Fin cfg0.N, win0_2.index t (0 : Fin 2) = t.val / 32 ∧ win0_2.index t (1 : Fin 2) = 0 :=
  (by decide +kernel : ∀ t : Fin grid0.N, _)

theorem blk_ob (c : Dev nD) (t : Fin cfg0.N) (r : Fin 512) (k : Fin 384) : iblk m c 2 t (ix2 r k) = ((args m c).token (tokOf t r)).ob k := by
  have hi := idx2 t
  unfold iblk
  rw [View.read_apply]
  show V m c main_v15 _ = _
  have h : ((cfg0.win 2).blk t).view.emb (ix2 r k) = (ix2 (tokOf t r) k) := by
    funext q; apply Fin.ext
    match q with
    | ⟨0, _⟩ => show win0_2.index t (0 : Fin 2) * 512 + 1 * r.val = 512 * (t.val / 32) + r.val; omega
    | ⟨1, _⟩ => show win0_2.index t (1 : Fin 2) * 384 + 1 * k.val = k.val; omega
  rw [h]
  exact V_ob m c (tokOf t r) k

theorem idx3 : ∀ t : Fin cfg0.N, win0_3.index t (0 : Fin 2) = t.val / 32 ∧ win0_3.index t (1 : Fin 2) = 0 :=
  (by decide +kernel : ∀ t : Fin grid0.N, _)

theorem blk_oc (c : Dev nD) (t : Fin cfg0.N) (r : Fin 512) (k : Fin 256) : iblk m c 3 t (ix2 r k) = ((args m c).token (tokOf t r)).oc k := by
  have hi := idx3 t
  unfold iblk
  rw [View.read_apply]
  show V m c main_v16 _ = _
  have h : ((cfg0.win 3).blk t).view.emb (ix2 r k) = (ix2 (tokOf t r) k) := by
    funext q; apply Fin.ext
    match q with
    | ⟨0, _⟩ => show win0_3.index t (0 : Fin 2) * 512 + 1 * r.val = 512 * (t.val / 32) + r.val; omega
    | ⟨1, _⟩ => show win0_3.index t (1 : Fin 2) * 256 + 1 * k.val = k.val; omega
  rw [h]
  exact V_oc m c (tokOf t r) k

theorem idx4 : ∀ t : Fin cfg0.N, win0_4.index t (0 : Fin 2) = t.val / 32 ∧ win0_4.index t (1 : Fin 2) = 0 :=
  (by decide +kernel : ∀ t : Fin grid0.N, _)

theorem blk_p (c : Dev nD) (t : Fin cfg0.N) (r : Fin 512) (k : Fin 256) : iblk m c 4 t (ix2 r k) = ((args m c).token (tokOf t r)).p k := by
  have hi := idx4 t
  unfold iblk
  rw [View.read_apply]
  show V m c main_v17 _ = _
  have h : ((cfg0.win 4).blk t).view.emb (ix2 r k) = (ix2 (tokOf t r) k) := by
    funext q; apply Fin.ext
    match q with
    | ⟨0, _⟩ => show win0_4.index t (0 : Fin 2) * 512 + 1 * r.val = 512 * (t.val / 32) + r.val; omega
    | ⟨1, _⟩ => show win0_4.index t (1 : Fin 2) * 256 + 1 * k.val = k.val; omega
  rw [h]
  exact V_p m c (tokOf t r) k

theorem idx5 : ∀ t : Fin cfg0.N, win0_5.index t (0 : Fin 2) = 0 ∧ win0_5.index t (1 : Fin 2) = 0 :=
  (by decide +kernel : ∀ t : Fin grid0.N, _)

theorem blk_woa (c : Dev nD) (t : Fin cfg0.N) (a : Fin 384) (k : Fin 1024) : iblk m c 5 t (ix2 a k) = (args m c).weights.out ⟨a.val, by omega⟩ k := by
  have hi := idx5 t
  unfold iblk
  rw [View.read_apply]
  show V m c main_v18 _ = _
  have h : ((cfg0.win 5).blk t).view.emb (ix2 a k) = (ix2 a k) := by
    funext q; apply Fin.ext
    match q with
    | ⟨0, _⟩ => show win0_5.index t (0 : Fin 2) * 384 + 1 * a.val = a.val; omega
    | ⟨1, _⟩ => show win0_5.index t (1 : Fin 2) * 1024 + 1 * k.val = k.val; omega
  rw [h]
  exact V_woa m c a k

theorem idx6 : ∀ t : Fin cfg0.N, win0_6.index t (0 : Fin 2) = 0 ∧ win0_6.index t (1 : Fin 2) = 0 :=
  (by decide +kernel : ∀ t : Fin grid0.N, _)

theorem blk_wob (c : Dev nD) (t : Fin cfg0.N) (a : Fin 384) (k : Fin 1024) : iblk m c 6 t (ix2 a k) = (args m c).weights.out ⟨384 + a.val, by omega⟩ k := by
  have hi := idx6 t
  unfold iblk
  rw [View.read_apply]
  show V m c main_v19 _ = _
  have h : ((cfg0.win 6).blk t).view.emb (ix2 a k) = (ix2 a k) := by
    funext q; apply Fin.ext
    match q with
    | ⟨0, _⟩ => show win0_6.index t (0 : Fin 2) * 384 + 1 * a.val = a.val; omega
    | ⟨1, _⟩ => show win0_6.index t (1 : Fin 2) * 1024 + 1 * k.val = k.val; omega
  rw [h]
  exact V_wob m c a k

theorem idx7 : ∀ t : Fin cfg0.N, win0_7.index t (0 : Fin 2) = 0 ∧ win0_7.index t (1 : Fin 2) = 0 :=
  (by decide +kernel : ∀ t : Fin grid0.N, _)

theorem blk_woc (c : Dev nD) (t : Fin cfg0.N) (a : Fin 256) (k : Fin 1024) : iblk m c 7 t (ix2 a k) = (args m c).weights.out ⟨768 + a.val, by omega⟩ k := by
  have hi := idx7 t
  unfold iblk
  rw [View.read_apply]
  show V m c main_v20 _ = _
  have h : ((cfg0.win 7).blk t).view.emb (ix2 a k) = (ix2 a k) := by
    funext q; apply Fin.ext
    match q with
    | ⟨0, _⟩ => show win0_7.index t (0 : Fin 2) * 256 + 1 * a.val = a.val; omega
    | ⟨1, _⟩ => show win0_7.index t (1 : Fin 2) * 1024 + 1 * k.val = k.val; omega
  rw [h]
  exact V_woc m c a k

theorem idx8 : ∀ t : Fin cfg0.N, win0_8.index t (0 : Fin 2) = 0 ∧ win0_8.index t (1 : Fin 2) = 0 :=
  (by decide +kernel : ∀ t : Fin grid0.N, _)

theorem blk_g1 (c : Dev nD) (t : Fin cfg0.N) (k : Fin 1024) : iblk m c 8 t (ix2 0 k) = (args m c).weights.g1 k := by
  have hi := idx8 t
  unfold iblk
  rw [View.read_apply]
  show V m c main_v21 _ = _
  have h : ((cfg0.win 8).blk t).view.emb (ix2 0 k) = (ix2 0 k) := by
    funext q; apply Fin.ext
    match q with
    | ⟨0, _⟩ => show win0_8.index t (0 : Fin 2) * 1 + 1 * 0 = 0; omega
    | ⟨1, _⟩ => show win0_8.index t (1 : Fin 2) * 1024 + 1 * k.val = k.val; omega
  rw [h]
  exact V_g1 m c k

theorem idx9 : ∀ t : Fin cfg0.N, win0_9.index t (0 : Fin 2) = 0 ∧ win0_9.index t (1 : Fin 2) = 0 :=
  (by decide +kernel : ∀ t : Fin grid0.N, _)

theorem blk_b1 (c : Dev nD) (t : Fin cfg0.N) (k : Fin 1024) : iblk m c 9 t (ix2 0 k) = (args m c).weights.b1 k := by
  have hi := idx9 t
  unfold iblk
  rw [View.read_apply]
  show V m c main_v22 _ = _
  have h : ((cfg0.win 9).blk t).view.emb (ix2 0 k) = (ix2 0 k) := by
    funext q; apply Fin.ext
    match q with
    | ⟨0, _⟩ => show win0_9.index t (0 : Fin 2) * 1 + 1 * 0 = 0; omega
    | ⟨1, _⟩ => show win0_9.index t (1 : Fin 2) * 1024 + 1 * k.val = k.val; omega
  rw [h]
  exact V_b1 m c k

theorem idx18 : ∀ t : Fin cfg0.N, win0_18.index t (0 : Fin 2) = 0 ∧ win0_18.index t (1 : Fin 2) = 0 :=
  (by decide +kernel : ∀ t : Fin grid0.N, _)

theorem blk_g2 (c : Dev nD) (t : Fin cfg0.N) (k : Fin 1024) : iblk m c 18 t (ix2 0 k) = (args m c).weights.g2 k := by
  have hi := idx18 t
  unfold iblk
  rw [View.read_apply]
  show V m c main_v28 _ = _
  have h : ((cfg0.win 18).blk t).view.emb (ix2 0 k) = (ix2 0 k) := by
    funext q; apply Fin.ext
    match q with
    | ⟨0, _⟩ => show win0_18.index t (0 : Fin 2) * 1 + 1 * 0 = 0; omega
    | ⟨1, _⟩ => show win0_18.index t (1 : Fin 2) * 1024 + 1 * k.val = k.val; omega
  rw [h]
  exact V_g2 m c k

theorem idx19 : ∀ t : Fin cfg0.N, win0_19.index t (0 : Fin 2) = 0 ∧ win0_19.index t (1 : Fin 2) = 0 :=
  (by decide +kernel : ∀ t : Fin grid0.N, _)

theorem blk_b2 (c : Dev nD) (t : Fin cfg0.N) (k : Fin 1024) : iblk m c 19 t (ix2 0 k) = (args m c).weights.b2 k := by
  have hi := idx19 t
  unfold iblk
  rw [View.read_apply]
  show V m c main_v29 _ = _
  have h : ((cfg0.win 19).blk t).view.emb (ix2 0 k) = (ix2 0 k) := by
    funext q; apply Fin.ext
    match q with
    | ⟨0, _⟩ => show win0_19.index t (0 : Fin 2) * 1 + 1 * 0 = 0; omega
    | ⟨1, _⟩ => show win0_19.index t (1 : Fin 2) * 1024 + 1 * k.val = k.val; omega
  rw [h]
  exact V_b2 m c k

theorem idx16 : ∀ t : Fin cfg0.N, win0_16.index t (0 : Fin 2) = 0 ∧ win0_16.index t (1 : Fin 2) = 0 :=
  (by decide +kernel : ∀ t : Fin grid0.N, _)

theorem blk_pg (c : Dev nD) (t : Fin cfg0.N) (a : Fin 1024) (k : Fin 1024) : iblk m c 16 t (ix2 a k) = (args m c).weights.pg a k := by
  have hi := idx16 t
  unfold iblk
  rw [View.read_apply]
  show V m c main_v26 _ = _
  have h : ((cfg0.win 16).blk t).view.emb (ix2 a k) = (ix2 a k) := by
    funext q; apply Fin.ext
    match q with
    | ⟨0, _⟩ => show win0_16.index t (0 : Fin 2) * 1024 + 1 * a.val = a.val; omega
    | ⟨1, _⟩ => show win0_16.index t (1 : Fin 2) * 1024 + 1 * k.val = k.val; omega
  rw [h]
  exact V_pg m c a k

theorem idx17 : ∀ t : Fin cfg0.N, win0_17.index t (0 : Fin 2) = 0 ∧ win0_17.index t (1 : Fin 2) = 0 :=
  (by decide +kernel : ∀ t : Fin grid0.N, _)

theorem blk_pp (c : Dev nD) (t : Fin cfg0.N) (a : Fin 256) (k : Fin 1024) : iblk m c 17 t (ix2 a k) = (args m c).weights.pp a k := by
  have hi := idx17 t
  unfold iblk
  rw [View.read_apply]
  show V m c main_v27 _ = _
  have h : ((cfg0.win 17).blk t).view.emb (ix2 a k) = (ix2 a k) := by
    funext q; apply Fin.ext
    match q with
    | ⟨0, _⟩ => show win0_17.index t (0 : Fin 2) * 256 + 1 * a.val = a.val; omega
    | ⟨1, _⟩ => show win0_17.index t (1 : Fin 2) * 1024 + 1 * k.val = k.val; omega
  rw [h]
  exact V_pp m c a k

theorem idx13 : ∀ t : Fin cfg0.N, win0_13.index t (0 : Fin 3) = t.val % 32 ∧ win0_13.index t (1 : Fin 3) = 0 ∧ win0_13.index t (2 : Fin 3) = 0 :=
  (by decide +kernel : ∀ t : Fin grid0.N, _)

theorem blk_gate (c : Dev nD) (t : Fin cfg0.N) (a : Fin 1024) (k : Fin 256) : iblk m c 13 t (ix3 0 a k) = (args m c).weights.gate (expOf t) a k := by
  have hi := idx13 t
  unfold iblk
  rw [View.read_apply]
  show V m c main_v23 _ = _
  have h : ((cfg0.win 13).blk t).view.emb (ix3 0 a k) = (ix3 (expOf t) a k) := by
    funext q; apply Fin.ext
    match q with
    | ⟨0, _⟩ => show win0_13.index t (0 : Fin 3) * 1 + 1 * 0 = t.val % 32; omega
    | ⟨1, _⟩ => show win0_13.index t (1 : Fin 3) * 1024 + 1 * a.val = a.val; omega
    | ⟨2, _⟩ => show win0_13.index t (2 : Fin 3) * 256 + 1 * k.val = k.val; omega
  rw [h]
  exact V_gate m c (expOf t) a k

theorem idx14 : ∀ t : Fin cfg0.N, win0_14.index t (0 : Fin 3) = t.val % 32 ∧ win0_14.index t (1 : Fin 3) = 0 ∧ win0_14.index t (2 : Fin 3) = 0 :=
  (by decide +kernel : ∀ t : Fin grid0.N, _)

theorem blk_up (c : Dev nD) (t : Fin cfg0.N) (a : Fin 1024) (k : Fin 256) : iblk m c 14 t (ix3 0 a k) = (args m c).weights.up (expOf t) a k := by
  have hi := idx14 t
  unfold iblk
  rw [View.read_apply]
  show V m c main_v24 _ = _
  have h : ((cfg0.win 14).blk t).view.emb (ix3 0 a k) = (ix3 (expOf t) a k) := by
    funext q; apply Fin.ext
    match q with
    | ⟨0, _⟩ => show win0_14.index t (0 : Fin 3) * 1 + 1 * 0 = t.val % 32; omega
    | ⟨1, _⟩ => show win0_14.index t (1 : Fin 3) * 1024 + 1 * a.val = a.val; omega
    | ⟨2, _⟩ => show win0_14.index t (2 : Fin 3) * 256 + 1 * k.val = k.val; omega
  rw [h]
  exact V_up m c (expOf t) a k

theorem idx15 : ∀ t : Fin cfg0.N, win0_15.index t (0 : Fin 3) = t.val % 32 ∧ win0_15.index t (1 : Fin 3) = 0 ∧ win0_15.index t (2 : Fin 3) = 0 :=
  (by decide +kernel : ∀ t : Fin grid0.N, _)

theorem blk_down (c : Dev nD) (t : Fin cfg0.N) (a : Fin 256) (k : Fin 1024) : iblk m c 15 t (ix3 0 a k) = (args m c).weights.down (expOf t) a k := by
  have hi := idx15 t
  unfold iblk
  rw [View.read_apply]
  show V m c main_v25 _ = _
  have h : ((cfg0.win 15).blk t).view.emb (ix3 0 a k) = (ix3 (expOf t) a k) := by
    funext q; apply Fin.ext
    match q with
    | ⟨0, _⟩ => show win0_15.index t (0 : Fin 3) * 1 + 1 * 0 = t.val % 32; omega
    | ⟨1, _⟩ => show win0_15.index t (1 : Fin 3) * 256 + 1 * a.val = a.val; omega
    | ⟨2, _⟩ => show win0_15.index t (2 : Fin 3) * 1024 + 1 * k.val = k.val; omega
  rw [h]
  exact V_down m c (expOf t) a k

theorem idx10 : ∀ t : Fin cfg0.N, win0_10.index t (0 : Fin 2) = 0 ∧ win0_10.index t (1 : Fin 2) = 0 :=
  (by decide +kernel : ∀ t : Fin grid0.N, _)

theorem blk_r1 (c : Dev nD) (t : Fin cfg0.N) (d : Fin 1024) (k : Fin 128) : iblk m c 10 t (ix2 d k) = V m c main_v5 (ix2 d k) := by
  have hi := idx10 t
  unfold iblk
  rw [View.read_apply]
  show V m c main_v5 _ = _
  have h : ((cfg0.win 10).blk t).view.emb (ix2 d k) = (ix2 d k) := by
    funext q; apply Fin.ext
    match q with
    | ⟨0, _⟩ => show win0_10.index t (0 : Fin 2) * 1024 + 1 * d.val = d.val; omega
    | ⟨1, _⟩ => show win0_10.index t (1 : Fin 2) * 128 + 1 * k.val = k.val; omega
  rw [h]

theorem idx11 : ∀ t : Fin cfg0.N, win0_11.index t (0 : Fin 2) = 0 ∧ win0_11.index t (1 : Fin 2) = 0 :=
  (by decide +kernel : ∀ t : Fin grid0.N, _)

theorem blk_r2 (c : Dev nD) (t : Fin cfg0.N) (d : Fin 1024) (k : Fin 128) : iblk m c 11 t (ix2 d k) = V m c main_v8 (ix2 d k) := by
  have hi := idx11 t
  unfold iblk
  rw [View.read_apply]
  show V m c main_v8 _ = _
  have h : ((cfg0.win 11).blk t).view.emb (ix2 d k) = (ix2 d k) := by
    funext q; apply Fin.ext
    match q with
    | ⟨0, _⟩ => show win0_11.index t (0 : Fin 2) * 1024 + 1 * d.val = d.val; omega
    | ⟨1, _⟩ => show win0_11.index t (1 : Fin 2) * 128 + 1 * k.val = k.val; omega
  rw [h]

theorem idx12 : ∀ t : Fin cfg0.N, win0_12.index t (0 : Fin 2) = 0 ∧ win0_12.index t (1 : Fin 2) = 0 :=
  (by decide +kernel : ∀ t : Fin grid0.N, _)

theorem blk_rb (c : Dev nD) (t : Fin cfg0.N) (k : Fin 128) : iblk m c 12 t (ix2 0 k) = V m c main_v12 (ix2 0 k) := by
  have hi := idx12 t
  unfold iblk
  rw [View.read_apply]
  show V m c main_v12 _ = _
  have h : ((cfg0.win 12).blk t).view.emb (ix2 0 k) = (ix2 0 k) := by
    funext q; apply Fin.ext
    match q with
    | ⟨0, _⟩ => show win0_12.index t (0 : Fin 2) * 1 + 1 * 0 = 0; omega
    | ⟨1, _⟩ => show win0_12.index t (1 : Fin 2) * 128 + 1 * k.val = k.val; omega
  rw [h]

end Cert.KernelIdeal.Launched

end
-- ==== Proof.Blocks.lean ====
/-
  What the kernel's vector expressions are at one entry, for the norms, the router's logits and the experts.
-/
module

public import proofs.«01_k».proof.Proof.Gen.KernelIdeal.Skeleton
public import proofs.«01_k».proof.Proof.Rows
public import Idealize.ShloMosaic.Lib.Pointwise

@[expose] public section

set_option maxRecDepth 16384

noncomputable section

namespace Cert.KernelIdeal.Launched

open Cert.KernelIdeal Cert.KernelIdeal.Gen Cert.Moe
open Idealize.ShloMosaic Idealize.ShloMosaic.TcCoe

/-- A row of the residual block, joined with the projections of the three attentions' rows. -/
def preBlk (x0 : Vec Ideal S512x1024 .f32) (x1 : Vec Ideal S512x384 .bf16) (x2 : Vec Ideal S512x384 .bf16)
    (x3 : Vec Ideal S512x256 .bf16) (x5 : Vec Ideal S384x1024 .bf16) (x6 : Vec Ideal S384x1024 .bf16)
    (x7 : Vec Ideal S256x1024 .bf16) (r : Fin 512) (k : Fin 1024) : EReal :=
  alpha * x0 (ix2 r k) + (∑ a : Fin 384, x1 (ix2 r a) * x5 (ix2 a k) + ∑ a : Fin 384, x2 (ix2 r a) * x6 (ix2 a k)
    + ∑ a : Fin 256, x3 (ix2 r a) * x7 (ix2 a k))

section first

variable (x0 : Vec Ideal S512x1024 .f32) (x1 : Vec Ideal S512x384 .bf16) (x2 : Vec Ideal S512x384 .bf16)
  (x3 : Vec Ideal S512x256 .bf16) (x5 : Vec Ideal S384x1024 .bf16) (x6 : Vec Ideal S384x1024 .bf16)
  (x7 : Vec Ideal S256x1024 .bf16) (x8 x9 : Vec Ideal S1x1024 .f32)

theorem pay5_apply (r : Fin 512) (k : Fin 1024) :
    k0_pay5 x1 x5 x2 x6 x3 x7 x0 (ix2 r k) = centred (preBlk x0 x1 x2 x3 x5 x6 x7 r) k := by
  pointwise [k0_pay5]
  rfl

theorem pay6_apply (r : Fin 512) (k : Fin 1) :
    k0_pay6 x1 x5 x2 x6 x3 x7 x0 (ix2 r k) = spread (preBlk x0 x1 x2 x3 x5 x6 x7 r) := by
  pointwise [k0_pay6]
  exact Finset.sum_congr rfl fun j _ => by rw [pay5_apply]

/-- The first norm, at one entry. -/
theorem pay7_apply (r : Fin 512) (k : Fin 1024) :
    k0_pay7 (k0_pay3 x8) (k0_pay4 x9) (k0_pay5 x1 x5 x2 x6 x3 x7 x0) (k0_pay6 x1 x5 x2 x6 x3 x7 x0) (ix2 r k)
      = normRow (preBlk x0 x1 x2 x3 x5 x6 x7 r) (fun k => x8 (ix2 0 k)) (fun k => x9 (ix2 0 k)) k := by
  pointwise [k0_pay7, k0_pay3, k0_pay4]
  rw [pay5_apply, pay6_apply]
  rfl

end first

theorem pay8_eq (a b : FVec Ideal S1x1024 .f32) (v : FVec Ideal S512x1024 .f32) (w : FVec Ideal S512x1 .f32) :
    k0_pay8 a b v w = k0_pay7 a b v w := by
  unfold k0_pay8; exact shapeCast_self _ _

theorem pay9_eq (a b : FVec Ideal S1x1024 .f32) (v : FVec Ideal S512x1024 .f32) (w : FVec Ideal S512x1 .f32) :
    k0_pay9 a b v w = k0_pay7 a b v w := by
  unfold k0_pay9; exact shapeCast_self _ _

/-- The router's logits, at one entry: the product in three parts and the bias. -/
theorem pay10_apply (a b : FVec Ideal S1x1024 .f32) (v : FVec Ideal S512x1024 .f32) (w : FVec Ideal S512x1 .f32)
    (x10 x11 : Vec Ideal S1024x128 .bf16) (x12 : Vec Ideal S1x128 .f32) (h : Fin 1024 → EReal) (r : Fin 512)
    (hh : ∀ k, k0_pay7 a b v w (ix2 r k) = h k) (j : Fin 128) :
    k0_pay10 a b v w x10 x11 x12 (ix2 r j)
      = ∑ d, h d * x10 (ix2 d j) + ∑ d, (h d - h d) * x10 (ix2 d j) + ∑ d, h d * x11 (ix2 d j) + x12 (ix2 0 j) := by
  pointwise [k0_pay10]
  simp only [hh]

/-- An expert's activations, at one entry. -/
theorem pay27_apply (i : grid0.Coords) (hb : Vec Ideal S512x1024 .bf16) (wg wu : Vec Ideal S1x1024x256 .bf16)
    (comb : Vec Ideal S512x128 .f32) (r : Fin 512) (f : Fin 256) :
    k0_pay27 i hb wg wu comb (ix2 r f)
      = actRow (fun d => hb (ix2 r d)) (fun d f => wg (ix3 0 d f)) (fun d f => wu (ix3 0 d f))
          (comb (ix2 r ⟨(i 1).val + 4, Nat.lt_of_lt_of_le (Nat.add_lt_add_right (i 1).isLt 4) (by decide)⟩)) f := by
  pointwise [k0_pay27]
  have hi : (i 1).val < 32 := (i 1).isLt
  unfold actRow gateRow Moe.sig
  rw [zero_sub]
  congr 1
  have hw : Scalar.addi (BitVec.ofNat 32 (i 1).val) 4#32 = BitVec.ofNat 32 ((i 1).val + 4) := by
    apply BitVec.eq_of_toNat_eq
    simp [Scalar.addi, IntOp.addi]
  rw [hw, Finset.sum_eq_single_of_mem (⟨(i 1).val + 4, by omega⟩ : Fin 128) (Finset.mem_univ _)]
  · simp [Scalar.select, IntOp.cmpi]
  · intro b _ hne
    have hb : (BitVec.ofNat 32 b.val == BitVec.ofNat 32 ((i 1).val + 4)) = false := by
      rw [beq_eq_false_iff_ne]
      intro h
      have h' := congrArg BitVec.toNat h
      simp only [BitVec.toNat_ofNat] at h'
      exact hne (Fin.ext (by show b.val = (i 1).val + 4; omega))
    simp [Scalar.select, IntOp.cmpi, hb]

/-- The running sum over experts, after one more. -/
theorem pay1_apply (acc : Vec Ideal S512x1024 .f32) (act : FVec Ideal S512x256 .bf16) (wd : Vec Ideal S1x256x1024 .bf16)
    (r : Fin 512) (k : Fin 1024) :
    k0_pay1 acc act wd (ix2 r k) = acc (ix2 r k) + ∑ f : Fin 256, act (ix2 r f) * wd (ix3 0 f k) := by
  pointwise [k0_pay1]

theorem pay26_apply (r : Fin 512) (k : Fin 1024) : (k0_pay26 : FVec Ideal S512x1024 .f32) (ix2 r k) = 0 := by
  pointwise [k0_pay26]

section last

variable (h : Vec Ideal S512x1024 .f32) (hb : Vec Ideal S512x1024 .bf16) (x16 : Vec Ideal S1024x1024 .bf16)
  (x4 : Vec Ideal S512x256 .f32) (x17 : Vec Ideal S256x1024 .bf16) (acc : Vec Ideal S512x1024 .f32)
  (x18 x19 : Vec Ideal S1x1024 .f32)

/-- A row before the second norm. -/
def postBlk (r : Fin 512) (k : Fin 1024) : EReal :=
  alpha * h (ix2 r k) + acc (ix2 r k)
    + Moe.sig (∑ d : Fin 1024, hb (ix2 r d) * x16 (ix2 d k)) * ∑ a : Fin 256, x4 (ix2 r a) * x17 (ix2 a k)

theorem pay23_apply (r : Fin 512) (k : Fin 1024) :
    k0_pay23 h hb x16 x4 x17 acc (ix2 r k) = centred (postBlk h hb x16 x4 x17 acc r) k := by
  pointwise [k0_pay23]
  simp only [zero_sub]
  rfl

/-- The second norm, at one entry. -/
theorem pay2_apply (r : Fin 512) (k : Fin 1024) :
    k0_pay2 (k0_pay21 x18) (k0_pay22 x19) (k0_pay23 h hb x16 x4 x17 acc) (k0_pay24 h hb x16 x4 x17 acc) (ix2 r k)
      = normRow (postBlk h hb x16 x4 x17 acc r) (fun k => x18 (ix2 0 k)) (fun k => x19 (ix2 0 k)) k := by
  pointwise [k0_pay2, k0_pay21, k0_pay22, k0_pay24]
  simp only [pay23_apply]
  rfl

end last

end Cert.KernelIdeal.Launched

end
-- ==== Proof.Routing.lean ====
/-
  The kernel's routing on one row of logits: from columns of group and expert logits to the experts' weights.
-/
module

public import proofs.«01_k».proof.Proof.Gen.KernelIdeal.Skeleton
public import proofs.«01_k».proof.Proof.Rows
public import Idealize.ShloMosaic.Lib.Pointwise

@[expose] public section

set_option maxRecDepth 16384

noncomputable section

namespace Cert.KernelIdeal.Launched

open Cert.KernelIdeal Cert.KernelIdeal.Gen Cert.Moe
open Idealize.ShloMosaic Idealize.ShloMosaic.TcCoe

theorem ofBits_top : Ideal.ofBits FTy.f32 2139095040#32 = ⊤ := by
  simp [Ideal.ofBits, Ideal.ieee]

theorem ofBits_bot : Ideal.ofBits FTy.f32 4286578688#32 = ⊥ := by
  simp [Ideal.ofBits, Ideal.ieee]

theorem ofBits_128 : Ideal.ofBits FTy.f32 1124073472#32 = ((128 : ℝ) : EReal) := by
  simp [Ideal.ofBits, Ideal.ieee, -EReal.coe_mul]; norm_num

theorem ofBits_8 : Ideal.ofBits FTy.f32 1090519040#32 = ((8 : ℝ) : EReal) := by
  simp [Ideal.ofBits, Ideal.ieee, -EReal.coe_mul]; norm_num

theorem ofBits_4 : Ideal.ofBits FTy.f32 1082130432#32 = ((4 : ℝ) : EReal) := by
  simp [Ideal.ofBits, Ideal.ieee, -EReal.coe_mul]; norm_num

/-- The column of a group's logit. -/
def gcol (j : Fin 4) : Fin 128 := ⟨j.val, by omega⟩
/-- The column of an expert's logit. -/
def ecol (g : Fin 4) (e : Fin 8) : Fin 128 := ⟨4 + 8 * g.val + e.val, by omega⟩

theorem gcol_mono : StrictMono gcol := fun _ _ h => h
theorem ecol_mono (g : Fin 4) : StrictMono (ecol g) := fun a b h => by
  show 4 + 8 * g.val + a.val < 4 + 8 * g.val + b.val
  have : a.val < b.val := h
  omega

theorem andi_ofBool (p q : Bool) : IntOp.andi (BitVec.ofBool p) (BitVec.ofBool q) = BitVec.ofBool (p && q) := by
  cases p <;> cases q <;> rfl

theorem select_ofBool {α : Type} (p : Prop) [Decidable p] (a b : α) :
    Scalar.select (BitVec.ofBool (decide p)) a b = if p then a else b := by
  by_cases h : p <;> simp [Scalar.select, h]

theorem pay12_apply (r : Fin 512) (c : Fin 128) : k0_pay12 (ix2 r c) = BitVec.ofBool (decide (c.val < 4)) := by
  pointwise [k0_pay12]
  revert c
  decide +kernel

theorem pay11_apply (r : Fin 512) (c : Fin 128) :
    (k0_pay11 : FVec Ideal S512x128 .f32) (ix2 r c) = ((c.val : ℝ) : EReal) := by
  have h : ∀ c : Fin 128, (BitVec.ofNat 32 c.val).toInt = c.val := by decide +kernel
  pointwise [k0_pay11]
  show ((((BitVec.ofNat 32 c.val).toInt : ℤ) : ℝ) : EReal) = _
  rw [h, Int.cast_natCast]

theorem cast_le_128 (j : Fin 128) : ((j.val : ℝ) : EReal) ≤ ((128 : ℝ) : EReal) := by
  have : (j.val : ℝ) ≤ 128 := by exact_mod_cast j.isLt.le
  exact_mod_cast this

theorem cast_inj {a b : ℕ} : (((a : ℝ) : EReal) = ((b : ℝ) : EReal)) ↔ a = b := by
  rw [EReal.coe_eq_coe_iff, Nat.cast_inj]

section row

variable (v111 v113 v117 : FVec Ideal S512x128 .f32) (v115 : IVec S512x128 1) (r : Fin 512)
  (G : Fin 4 → EReal) (E : Fin 4 → Fin 8 → EReal)

/-- What the routing's operands hold on row `r`. -/
structure RowFacts : Prop where
  col : ∀ c, v113 (ix2 r c) = ((c.val : ℝ) : EReal)
  low : ∀ c, v115 (ix2 r c) = BitVec.ofBool (decide (c.val < 4))
  masked : ∀ c, v117 (ix2 r c) = if c.val < 4 then v111 (ix2 r c) else ⊥
  groups : ∀ j, v111 (ix2 r (gcol j)) = G j
  experts : ∀ g e, v111 (ix2 r (ecol g e)) = E g e

variable {v111 v113 v117 v115 r G E} (H : RowFacts v111 v113 v117 v115 r G E)
include H

theorem first_group : IsFirstMax (fun c : Fin 128 => c.val < 4) (fun c => v111 (ix2 r c)) (gcol (group G)) :=
  (firstMax_spec (fun _ => True) G ⟨0, trivial⟩).map gcol gcol_mono _ _
    (fun j hj => ⟨⟨j.val, hj⟩, rfl, trivial⟩) (group G).isLt H.groups

theorem pay14_row (c : Fin 1) : k0_pay14 v117 (ix2 r c) = G (group G) := by
  pointwise [k0_pay14]
  rw [ofBits_bot, (first_group H).fold_max _ (fun j hj => by rw [H.masked, if_pos hj]) (fun j hj => by rw [H.masked, if_neg hj])]
  exact H.groups _

theorem pay15_row (c : Fin 1) : k0_pay15 v111 v115 v117 (ix2 r c) = groupWeight G := by
  pointwise [k0_pay15]
  simp only [pay14_row H, H.low, select_ofBool]
  unfold groupWeight
  congr 1
  have hs : ∀ f : Fin 128 → EReal, ∑ c : Fin (4 + 124), (if c.val < 4 then f c else 0)
      = ∑ j : Fin 4, f (gcol j) := fun f => by
    rw [Fin.sum_univ_add]
    have h2 : ∑ i : Fin 124, (if (Fin.natAdd 4 i).val < 4 then f (Fin.natAdd 4 i) else 0) = 0 :=
      Finset.sum_eq_zero fun i _ => by rw [if_neg]; simp [Fin.natAdd]
    rw [h2, add_zero]
    refine Finset.sum_congr rfl fun j _ => ?_
    rw [if_pos (by exact j.isLt)]
    rfl
  refine (hs fun c => Ideal.exp (v111 (ix2 r c) - G (group G))).trans ?_
  exact Finset.sum_congr rfl fun j _ => by rw [H.groups]

/-- The expert mask: the columns of the chosen group's experts. -/
theorem pay16_row (c : Fin 128) : k0_pay16 v111 v113 v115 v117 (ix2 r c)
    = BitVec.ofBool (decide (4 + 8 * (group G).val ≤ c.val ∧ c.val < 4 + 8 * (group G).val + 8)) := by
  pointwise [k0_pay16]
  simp only [pay14_row H, H.low, H.col, andi_ofBool, ofBits_top, ofBits_128, ofBits_8, ofBits_4]
  rw [(first_group H).fold_min _ ((128 : ℝ) : EReal) cast_le_128 (fun j hj he => by
      have he' : v111 (ix2 r j) = G (group G) := he.trans (H.groups _)
      simp [Scalar.select, hj, he'])
    (fun j hj => by
      have : ¬(j.val < 4 ∧ v111 (ix2 r j) = G (group G)) := fun h => hj ⟨h.1, h.2.trans (H.groups _).symm⟩
      rw [← Bool.decide_and, select_ofBool, if_neg this])]
  rw [← Bool.decide_and]
  congr 1
  apply decide_eq_decide.mpr
  show (((4 : ℝ) : EReal) + (((group G).val : ℝ) : EReal) * ((8 : ℝ) : EReal) ≤ ((c.val : ℝ) : EReal) ∧
    ((c.val : ℝ) : EReal) < ((4 : ℝ) : EReal) + (((group G).val : ℝ) : EReal) * ((8 : ℝ) : EReal) + ((8 : ℝ) : EReal)) ↔ _
  rw [← EReal.coe_mul, ← EReal.coe_add, ← EReal.coe_add, EReal.coe_le_coe_iff, EReal.coe_lt_coe_iff]
  constructor
  · rintro ⟨h1, h2⟩
    have h1' : 4 + (group G).val * 8 ≤ c.val := by exact_mod_cast h1
    have h2' : c.val < 4 + (group G).val * 8 + 8 := by exact_mod_cast h2
    omega
  · rintro ⟨h1, h2⟩
    have h1' : 4 + (group G).val * 8 ≤ c.val := by omega
    have h2' : c.val < 4 + (group G).val * 8 + 8 := by omega
    exact ⟨by exact_mod_cast h1', by exact_mod_cast h2'⟩

theorem first_best : IsFirstMax (fun c : Fin 128 => 4 + 8 * (group G).val ≤ c.val ∧ c.val < 4 + 8 * (group G).val + 8)
    (fun c => v111 (ix2 r c)) (ecol (group G) (best (E (group G)))) :=
  (firstMax_spec (fun _ => True) (E (group G)) ⟨0, trivial⟩).map (ecol (group G)) (ecol_mono _) _ _
    (fun j hj => ⟨⟨j.val - (4 + 8 * (group G).val), by omega⟩, Fin.ext (by simp only [ecol]; omega), trivial⟩)
    (by have := (best (E (group G))).isLt; simp only [ecol]; show _ ≤ 4 + 8 * _ + (best (E (group G))).val ∧ 4 + 8 * _ + (best (E (group G))).val < _; omega) (H.experts _)

theorem pay17_row (c : Fin 1) : k0_pay17 v111 v113 v115 v117 (ix2 r c) = E (group G) (best (E (group G))) := by
  pointwise [k0_pay17]
  simp only [pay16_row H, select_ofBool, ofBits_bot]
  rw [(first_best H).fold_max _ (fun j hj => by rw [if_pos hj]) (fun j hj => by rw [if_neg hj]; rfl)]
  exact H.experts _ _

theorem pay18_row (c : Fin 1) : k0_pay18 v111 v113 v115 v117 (ix2 r c)
    = (((ecol (group G) (best (E (group G)))).val : ℝ) : EReal) := by
  pointwise [k0_pay18]
  simp only [pay17_row H, pay16_row H, H.col, andi_ofBool, ofBits_top, ofBits_128]
  refine (first_best H).fold_min _ ((128 : ℝ) : EReal) cast_le_128 (fun j hj he => ?_) (fun j hj => ?_)
  · have he' : v111 (ix2 r j) = E (group G) (best (E (group G))) := he.trans (H.experts _ _)
    rw [← Bool.decide_and, select_ofBool, if_pos ⟨hj, he'⟩]
  · have : ¬(_ ∧ v111 (ix2 r j) = E (group G) (best (E (group G)))) := fun h => hj ⟨h.1, h.2.trans (H.experts _ _).symm⟩
    rw [← Bool.decide_and, select_ofBool, if_neg this]

/-- The mask of the second choice. -/
theorem pay19_row (c : Fin 128) : k0_pay19 v111 v113 v115 v117 (ix2 r c)
    = BitVec.ofBool (decide ((4 + 8 * (group G).val ≤ c.val ∧ c.val < 4 + 8 * (group G).val + 8) ∧
        c ≠ ecol (group G) (best (E (group G))))) := by
  pointwise [k0_pay19]
  rw [pay16_row H, pay18_row H, H.col, andi_ofBool, ← Bool.decide_and]
  congr 1
  apply decide_eq_decide.mpr
  rw [Ne, cast_inj, ← Fin.ext_iff]

theorem first_second : IsFirstMax (fun c : Fin 128 => (4 + 8 * (group G).val ≤ c.val ∧ c.val < 4 + 8 * (group G).val + 8) ∧
        c ≠ ecol (group G) (best (E (group G))))
    (fun c => v111 (ix2 r c)) (ecol (group G) (second (E (group G)))) := by
  have hs := firstMax_spec (fun j => j ≠ best (E (group G))) (E (group G))
    (by by_cases h : best (E (group G)) = 0
        · exact ⟨1, by rw [h]; decide⟩
        · exact ⟨0, fun h' => h h'.symm⟩)
  refine hs.map (ecol (group G)) (ecol_mono _) _ _ ?_ ?_ (H.experts _)
  · rintro j ⟨hj, hne⟩
    have e : ecol (group G) ⟨j.val - (4 + 8 * (group G).val), by omega⟩ = j := Fin.ext (by simp only [ecol]; omega)
    exact ⟨_, e, fun h => hne (by rw [← e, h])⟩
  · refine ⟨?_, fun h => hs.mem ((ecol_mono _).injective h)⟩
    have := (second (E (group G))).isLt
    show 4 + 8 * (group G).val ≤ 4 + 8 * (group G).val + (second (E (group G))).val ∧
      4 + 8 * (group G).val + (second (E (group G))).val < _
    omega

theorem pay20_row (c : Fin 128) : k0_pay20 v111 v113 v115 v117 (ix2 r c)
    = if (4 + 8 * (group G).val ≤ c.val ∧ c.val < 4 + 8 * (group G).val + 8) ∧
        c ≠ ecol (group G) (best (E (group G))) then v111 (ix2 r c) else ⊥ := by
  pointwise [k0_pay20]
  rw [pay19_row H, select_ofBool]
  rfl

/-- The experts' weights, at an expert's column. -/
theorem pay25_row (e : Fin 32) (c : Fin 128) (hc : c.val = e.val + 4) :
    k0_pay25 v111 v113 (k0_pay15 v111 v115 v117) (k0_pay17 v111 v113 v115 v117) (k0_pay18 v111 v113 v115 v117)
      (k0_pay19 v111 v113 v115 v117) (k0_pay20 v111 v113 v115 v117) (ix2 r c) = combine G E e := by
  pointwise [k0_pay25]
  simp only [pay15_row H, pay17_row H, pay18_row H, pay19_row H, pay20_row H, H.col, andi_ofBool, ofBits_top, ofBits_bot,
    ofBits_128]
  rw [(first_second H).fold_max _ (fun j hj => by rw [if_pos hj]) (fun j hj => by rw [if_neg hj]), H.experts]
  rw [(first_second H).fold_min _ ((128 : ℝ) : EReal) cast_le_128 (fun j hj he => by
      have he' : v111 (ix2 r j) = E (group G) (second (E (group G))) := he.trans (H.experts _ _)
      rw [← Bool.decide_and, select_ofBool, if_pos ⟨hj, he'⟩])
    (fun j hj => by
      rw [← Bool.decide_and, select_ofBool, if_neg]
      exact fun h => hj ⟨h.1, h.2.trans (H.experts _ _).symm⟩)]
  unfold combine ratio
  simp only [cast_inj]
  congr 1 <;> refine if_congr ?_ rfl rfl <;> simp only [ecol, hc] <;> omega

end row

end Cert.KernelIdeal.Launched

end
-- ==== Proof.KernelPoints.lean ====
/-
  After each grid point the scratch buffers hold the tile's rows, the experts' weights and the sum over the experts so
  far; after the last expert's point the output's block holds the layer's rows.
-/
module

public import proofs.«01_k».proof.Proof.StateA
public import proofs.«01_k».proof.Proof.StateB
public import proofs.«01_k».proof.Proof.StateC
public import proofs.«01_k».proof.Proof.KernelBlocks
public import proofs.«01_k».proof.Proof.Blocks
public import proofs.«01_k».proof.Proof.Routing

@[expose] public section

set_option maxRecDepth 16384
set_option maxHeartbeats 1000000

noncomputable section

namespace Cert.KernelIdeal.Launched

open Cert.KernelIdeal Cert.KernelIdeal.Gen Cert.Moe
open Idealize.ShloMosaic Idealize.ShloMosaic.TcCoe

variable (m : (ℓ : Loc nD τ sig) → Buf (Elt Ideal) ℓ)

/-- The layer's weights, from the kernel's arguments. -/
abbrev wts (c : Dev nD) : Weights := (args m c).weights
/-- The token of row `r` of point `t`'s tile, from the kernel's arguments. -/
abbrev tok (c : Dev nD) (t : Fin cfg0.N) (r : Fin 512) : Token := (args m c).token (tokOf t r)

theorem preBlk_eq (c : Dev nD) (t : Fin cfg0.N) (r : Fin 512) :
    preBlk (iblk m c 0 t) (iblk m c 1 t) (iblk m c 2 t) (iblk m c 3 t) (iblk m c 5 t) (iblk m c 6 t) (iblk m c 7 t) r
      = preRow (wts m c) (tok m c t r) := by
  funext k
  unfold preBlk preRow
  simp only [blk_x, blk_oa, blk_ob, blk_oc, blk_woa, blk_wob, blk_woc]

theorem row_h (c : Dev nD) (t : Fin cfg0.N) (r : Fin 512) (k : Fin 1024) :
    k0_pay7 (k0_pay3 (iblk m c 8 t)) (k0_pay4 (iblk m c 9 t))
        (k0_pay5 (iblk m c 1 t) (iblk m c 5 t) (iblk m c 2 t) (iblk m c 6 t) (iblk m c 3 t) (iblk m c 7 t) (iblk m c 0 t))
        (k0_pay6 (iblk m c 1 t) (iblk m c 5 t) (iblk m c 2 t) (iblk m c 6 t) (iblk m c 3 t) (iblk m c 7 t) (iblk m c 0 t)) (ix2 r k)
      = hRow (wts m c) (tok m c t r) k := by
  rw [pay7_apply, preBlk_eq]
  unfold hRow
  simp only [blk_g1, blk_b1]

theorem hBlk_apply (c : Dev nD) (t : Fin cfg0.N) (r : Fin 512) (k : Fin 1024) :
    hBlk m c t (ix2 r k) = hRow (wts m c) (tok m c t r) k := by
  unfold hBlk
  rw [pay8_eq, row_h]

theorem hbBlk_apply (c : Dev nD) (t : Fin cfg0.N) (r : Fin 512) (k : Fin 1024) :
    hbBlk m c t (ix2 r k) = hRow (wts m c) (tok m c t r) k := by
  unfold hbBlk
  rw [pay9_eq]
  exact row_h m c t r k

/-- The normalized rows are finite. -/
theorem hRow_real {A : Args} (R : A.Routing) (T : Token) (k : Fin 1024) : Real' (hRow A.weights T k) :=
  normRow_real _ (fun k => R.g1 _) (fun k => R.b1 _) k

/-- With finite rows and weights the product in three parts is the product. -/
theorem three_parts {h w : Fin 1024 → EReal} (hh : ∀ d, Real' (h d)) (hw : ∀ d, Real' (w d)) (b : EReal) :
    ∑ d, h d * w d + ∑ d, (h d - h d) * w d + ∑ d, h d * (w d - w d) + b = ∑ d, h d * w d + b := by
  have h1 : ∑ d, (h d - h d) * w d = 0 := Finset.sum_eq_zero fun d _ => by rw [(hh d).sub_self, zero_mul]
  have h2 : ∑ d, h d * (w d - w d) = 0 := Finset.sum_eq_zero fun d _ => by rw [(hw d).sub_self, mul_zero]
  rw [h1, h2, add_zero, add_zero]

theorem logit_apply (c : Dev nD) (t : Fin cfg0.N) (r : Fin 512) (j : Fin 128) :
    logitBlk m c t (ix2 r j) = ∑ d, hRow (wts m c) (tok m c t r) d * iblk m c 10 t (ix2 d j)
      + ∑ d, (hRow (wts m c) (tok m c t r) d - hRow (wts m c) (tok m c t r) d) * iblk m c 10 t (ix2 d j)
      + ∑ d, hRow (wts m c) (tok m c t r) d * iblk m c 11 t (ix2 d j) + iblk m c 12 t (ix2 0 j) := by
  unfold logitBlk
  exact pay10_apply _ _ _ _ _ _ _ _ r (fun k => row_h m c t r k) j

theorem logit_group (c : Dev nD) (R : (args m c).Routing) (t : Fin cfg0.N) (r : Fin 512) (j : Fin 4) :
    logitBlk m c t (ix2 r (gcol j)) = gLogit (wts m c) (tok m c t r) j := by
  have e1 : ∀ d, (iblk m c 10 t (ix2 d (gcol j)) : EReal) = (wts m c).rg d j := fun d => (blk_r1 m c t d _).trans (V_rg m c d (gcol j) j.isLt)
  have e2 : ∀ d, (iblk m c 11 t (ix2 d (gcol j)) : EReal) = (wts m c).rg d j - (wts m c).rg d j := fun d =>
    ((blk_r2 m c t d _).trans (V_rest m c d _)).trans (congrArg (fun x : EReal => x - x) (V_rg m c d (gcol j) j.isLt))
  have e3 : (iblk m c 12 t (ix2 0 (gcol j)) : EReal) = (wts m c).rgb j := (blk_rb m c t _).trans (V_rgb m c (gcol j) j.isLt)
  have key := three_parts (h := hRow (wts m c) (tok m c t r)) (w := fun d => (wts m c).rg d j) (hRow_real R _) (fun d => R.rg _)
    ((wts m c).rgb j)
  refine (logit_apply m c t r _).trans (Eq.trans ?_ key)
  rw [e3]
  exact congrArg (· + (wts m c).rgb j) (congrArg₂ (· + ·)
    (congrArg₂ (· + ·) (Finset.sum_congr rfl fun d _ => congrArg (hRow (wts m c) (tok m c t r) d * ·) (e1 d))
      (Finset.sum_congr rfl fun d _ =>
        congrArg ((hRow (wts m c) (tok m c t r) d - hRow (wts m c) (tok m c t r) d) * ·) (e1 d)))
    (Finset.sum_congr rfl fun d _ => congrArg (hRow (wts m c) (tok m c t r) d * ·) (e2 d)))

theorem logit_expert (c : Dev nD) (R : (args m c).Routing) (t : Fin cfg0.N) (r : Fin 512) (g : Fin 4) (e : Fin 8) :
    logitBlk m c t (ix2 r (ecol g e)) = eLogit (wts m c) (tok m c t r) g e := by
  have e1 : ∀ d, (iblk m c 10 t (ix2 d (ecol g e)) : EReal) = (wts m c).re g d e := fun d => (blk_r1 m c t d _).trans (V_re m c d g e (ecol g e) rfl)
  have e2 : ∀ d, (iblk m c 11 t (ix2 d (ecol g e)) : EReal) = (wts m c).re g d e - (wts m c).re g d e := fun d =>
    ((blk_r2 m c t d _).trans (V_rest m c d _)).trans (congrArg (fun x : EReal => x - x) (V_re m c d g e (ecol g e) rfl))
  have e3 : (iblk m c 12 t (ix2 0 (ecol g e)) : EReal) = (wts m c).reb g e := (blk_rb m c t _).trans (V_reb m c g e (ecol g e) rfl)
  have key := three_parts (h := hRow (wts m c) (tok m c t r)) (w := fun d => (wts m c).re g d e) (hRow_real R _) (fun d => R.re _)
    ((wts m c).reb g e)
  refine (logit_apply m c t r _).trans (Eq.trans ?_ key)
  rw [e3]
  exact congrArg (· + (wts m c).reb g e) (congrArg₂ (· + ·)
    (congrArg₂ (· + ·) (Finset.sum_congr rfl fun d _ => congrArg (hRow (wts m c) (tok m c t r) d * ·) (e1 d))
      (Finset.sum_congr rfl fun d _ =>
        congrArg ((hRow (wts m c) (tok m c t r) d - hRow (wts m c) (tok m c t r) d) * ·) (e1 d)))
    (Finset.sum_congr rfl fun d _ => congrArg (hRow (wts m c) (tok m c t r) d * ·) (e2 d)))

theorem masked_apply (c : Dev nD) (t : Fin cfg0.N) (r : Fin 512) (j : Fin 128) :
    maskedBlk m c t (ix2 r j) = if j.val < 4 then logitBlk m c t (ix2 r j) else ⊥ := by
  unfold maskedBlk
  pointwise [k0_pay13]
  rw [pay12_apply, select_ofBool]
  rfl

theorem comb_apply (c : Dev nD) (R : (args m c).Routing) (t : Fin cfg0.N) (r : Fin 512) (e : Fin 32) (j : Fin 128)
    (hj : j.val = e.val + 4) : combBlk m c t (ix2 r j) = cw (wts m c) (tok m c t r) e :=
  pay25_row (G := gLogit (wts m c) (tok m c t r)) (E := eLogit (wts m c) (tok m c t r))
    ⟨fun j => pay11_apply r j, fun j => pay12_apply r j, fun j => masked_apply m c t r j,
      fun j => logit_group m c R t r j, fun g e => logit_expert m c R t r g e⟩ e j hj

/-- What one expert adds, at one entry. -/
theorem add_apply (c : Dev nD) (t : Fin cfg0.N) (hb : Vec Ideal S512x1024 .bf16) (comb : Vec Ideal S512x128 .f32)
    (acc : Vec Ideal S512x1024 .f32) (r : Fin 512)
    (hhb : ∀ k, hb (ix2 r k) = hRow (wts m c) (tok m c t r) k)
    (hcomb : ∀ (e : Fin 32) (j : Fin 128), j.val = e.val + 4 → comb (ix2 r j) = cw (wts m c) (tok m c t r) e)
    (k : Fin 1024) :
    addBlk m c t hb comb acc (ix2 r k) = acc (ix2 r k) + expertRow (wts m c) (tok m c t r) (expOf t) k := by
  unfold addBlk
  rw [pay1_apply]
  unfold expertRow
  congr 1
  refine Finset.sum_congr rfl fun f _ => ?_
  rw [pay27_apply, hcomb (expOf t) _ (by show (grid0.coords t 1).val + 4 = t.val % 32 + 4; rw [coords_exp]), blk_down]
  simp only [hhb, blk_gate, blk_up]

/-- The sum over the experts up to number `e`. -/
def partRow (W : Weights) (T : Token) (e : ℕ) (k : Fin 1024) : EReal :=
  ∑ i ∈ Finset.univ.filter (fun i : Fin 32 => i.val ≤ e), expertRow W T i k

theorem partRow_zero (W : Weights) (T : Token) (k : Fin 1024) : partRow W T 0 k = expertRow W T 0 k := by
  unfold partRow
  rw [show Finset.univ.filter (fun i : Fin 32 => i.val ≤ 0) = {0} by decide, Finset.sum_singleton]

theorem partRow_succ (W : Weights) (T : Token) (e : ℕ) (he : e + 1 < 32) (k : Fin 1024) :
    partRow W T (e + 1) k = partRow W T e k + expertRow W T ⟨e + 1, he⟩ k := by
  unfold partRow
  have h : Finset.univ.filter (fun i : Fin 32 => i.val ≤ e + 1)
      = insert ⟨e + 1, he⟩ (Finset.univ.filter (fun i : Fin 32 => i.val ≤ e)) := by
    ext i
    simp only [Finset.mem_filter, Finset.mem_univ, true_and, Finset.mem_insert, Fin.ext_iff]
    omega
  rw [h, Finset.sum_insert (by simp), add_comm]

theorem partRow_all (W : Weights) (T : Token) (k : Fin 1024) : partRow W T 31 k = ∑ e, expertRow W T e k := by
  unfold partRow
  rw [Finset.filter_true_of_mem fun i _ => by omega]

/-- What the scratch buffers hold after point `t`, at row `r`. -/
structure Holds (c : Dev nD) (t : Fin cfg0.N) (r : Fin 512) : Prop where
  h : ∀ k, (outsAt0 m c t.val t.isLt).2.1 (ix2 r k) = hRow (wts m c) (tok m c t r) k
  hb : ∀ k, (outsAt0 m c t.val t.isLt).2.2.1 (ix2 r k) = hRow (wts m c) (tok m c t r) k
  comb : ∀ (e : Fin 32) (j : Fin 128), j.val = e.val + 4 →
    (outsAt0 m c t.val t.isLt).2.2.2.1 (ix2 r j) = cw (wts m c) (tok m c t r) e
  acc : ∀ k, (outsAt0 m c t.val t.isLt).2.2.2.2 (ix2 r k) = partRow (wts m c) (tok m c t r) (t.val % 32) k

theorem holds_first (c : Dev nD) (R : (args m c).Routing) (t : Fin cfg0.N) (h0 : t.val % 32 = 0) (r : Fin 512) :
    Holds m c t r := by
  have h1 : ¬t.val % 32 = 31 := by omega
  refine ⟨fun k => ?_, fun k => ?_, fun e j hj => ?_, fun k => ?_⟩
  · rw [state_A_h m c t h0 h1, hBlk_apply]
  · rw [state_A_hb m c t h0 h1, hbBlk_apply]
  · rw [state_A_comb m c t h0 h1, comb_apply m c R t r e j hj]
  · rw [state_A_acc m c t h0 h1, add_apply m c t _ _ _ r (hbBlk_apply m c t r) (comb_apply m c R t r), pay26_apply, zero_add,
      h0, partRow_zero]
    congr 1
    exact Fin.ext h0

theorem tokOf_pred (t : Fin cfg0.N) (h0 : ¬t.val % 32 = 0) (r : Fin 512) :
    tokOf ⟨t.val - 1, Nat.lt_of_le_of_lt (Nat.sub_le _ _) t.isLt⟩ r = tokOf t r :=
  Fin.ext (by show 512 * ((t.val - 1) / 32) + r.val = 512 * (t.val / 32) + r.val; omega)

/-- The point before holds the same token's rows. -/
theorem holds_next_acc (c : Dev nD) (t : Fin cfg0.N) (h0 : ¬t.val % 32 = 0) (r : Fin 512)
    (P : Holds m c ⟨t.val - 1, Nat.lt_of_le_of_lt (Nat.sub_le _ _) t.isLt⟩ r) (k : Fin 1024) :
    addBlk m c t (outsAt0 m c (t.val - 1) (Nat.lt_of_le_of_lt (Nat.sub_le _ _) t.isLt)).2.2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2 (ix2 r k)
      = partRow (wts m c) (tok m c t r) (t.val % 32) k := by
  obtain ⟨p1, p2, p3, p4⟩ := P
  simp only [tok, tokOf_pred t h0 r] at p1 p2 p3 p4
  rw [add_apply m c t _ _ _ r p2 p3, p4]
  have hs : t.val % 32 = (t.val - 1) % 32 + 1 := by omega
  have hl : (t.val - 1) % 32 + 1 < 32 := by omega
  simp only [tok]
  rw [hs, partRow_succ _ _ _ hl]
  congr 2
  exact Fin.ext hs

theorem holds_next (c : Dev nD) (t : Fin cfg0.N) (h0 : ¬t.val % 32 = 0) (r : Fin 512)
    (P : Holds m c ⟨t.val - 1, Nat.lt_of_le_of_lt (Nat.sub_le _ _) t.isLt⟩ r) : Holds m c t r := by
  have hacc := holds_next_acc m c t h0 r P
  obtain ⟨p1, p2, p3, p4⟩ := P
  simp only [tok, tokOf_pred t h0 r] at p1 p2 p3 p4
  by_cases h1 : t.val % 32 = 31
  · refine ⟨fun k => ?_, fun k => ?_, fun e j hj => ?_, fun k => ?_⟩
    · rw [outsAt0_C m c t h0 h1]; exact p1 k
    · rw [outsAt0_C m c t h0 h1]; exact p2 k
    · rw [outsAt0_C m c t h0 h1]; exact p3 e j hj
    · rw [state_C_acc m c t h0 h1]; exact hacc k
  · refine ⟨fun k => ?_, fun k => ?_, fun e j hj => ?_, fun k => ?_⟩
    · rw [outsAt0_B m c t h0 h1]; exact p1 k
    · rw [outsAt0_B m c t h0 h1]; exact p2 k
    · rw [outsAt0_B m c t h0 h1]; exact p3 e j hj
    · rw [state_B_acc m c t h0 h1]; exact hacc k

/-- The scratch buffers after every grid point. -/
theorem holds (c : Dev nD) (R : (args m c).Routing) (r : Fin 512) : ∀ (n : ℕ) (hn : n < cfg0.N), Holds m c ⟨n, hn⟩ r := by
  intro n
  induction n with
  | zero => exact fun hn => holds_first m c R ⟨0, hn⟩ rfl r
  | succ n ih =>
    intro hn
    by_cases h0 : (n + 1) % 32 = 0
    · exact holds_first m c R ⟨n + 1, hn⟩ h0 r
    · exact holds_next m c ⟨n + 1, hn⟩ h0 r (ih (Nat.lt_of_succ_lt hn))

/-- The output's block after the last expert's point. -/
theorem out_apply (c : Dev nD) (R : (args m c).Routing) (t : Fin cfg0.N) (h1 : t.val % 32 = 31) (r : Fin 512) (k : Fin 1024) :
    (outsAt0 m c t.val t.isLt).1 (ix2 r k) = outRow (wts m c) (tok m c t r) k := by
  have h0 : ¬t.val % 32 = 0 := by omega
  have P := holds m c R r (t.val - 1) (Nat.lt_of_le_of_lt (Nat.sub_le _ _) t.isLt)
  have hacc := holds_next_acc m c t h0 r P
  obtain ⟨p1, p2, p3, p4⟩ := P
  simp only [tok, tokOf_pred t h0 r] at p1 p2 p3 p4
  rw [state_C_out m c t h0 h1]
  unfold outBlk
  rw [pay2_apply]
  unfold outRow
  have hp : postBlk (outsAt0 m c (t.val - 1) (Nat.lt_of_le_of_lt (Nat.sub_le _ _) t.isLt)).2.1
      (outsAt0 m c (t.val - 1) (Nat.lt_of_le_of_lt (Nat.sub_le _ _) t.isLt)).2.2.1 (iblk m c 16 t) (iblk m c 4 t) (iblk m c 17 t)
      (addBlk m c t (outsAt0 m c (t.val - 1) (Nat.lt_of_le_of_lt (Nat.sub_le _ _) t.isLt)).2.2.1
        (outsAt0 m c (t.val - 1) (Nat.lt_of_le_of_lt (Nat.sub_le _ _) t.isLt)).2.2.2.1
        (outsAt0 m c (t.val - 1) (Nat.lt_of_le_of_lt (Nat.sub_le _ _) t.isLt)).2.2.2.2) r
      = postRow (wts m c) (tok m c t r) := by
    funext k
    unfold postBlk postRow pleRow
    rw [hacc k, h1, partRow_all, p1]
    simp only [p2, blk_pg, blk_p, blk_pp, tok]
  rw [hp]
  simp only [blk_g2, blk_b2]

end Cert.KernelIdeal.Launched

end
-- ==== Proof.Rowwise.lean ====
/-
  The layer's rows as one array.
-/
module

public import proofs.«01_k».proof.Proof.Inputs

@[expose] public section

noncomputable section

namespace Cert.Moe

open Idealize.ShloMosaic

/-- The layer's rows as one array, from the arguments: row `n` is token `n`'s result. -/
def rows (A : Args) (i : (⟨2, ![16384, 1024]⟩ : Shape).Idx) : EReal :=
  outRow A.weights (A.token ⟨(i 0).val, (i 0).isLt⟩) ⟨(i 1).val, (i 1).isLt⟩

end Cert.Moe

end
-- ==== Proof.KernelRun.lean ====
/-
  The kernel's run leaves the layer's rows in the result, token by token, and its arguments as they were.
-/
module

public import proofs.«01_k».proof.Proof.KernelPoints
public import proofs.«01_k».proof.Proof.Rowwise

@[expose] public section

set_option maxRecDepth 16384
set_option maxHeartbeats 1000000

noncomputable section

namespace Cert.KernelIdeal.Launched

open Cert.KernelIdeal Cert.KernelIdeal.Gen Cert.Moe
open Idealize.ShloMosaic Idealize.ShloMosaic.TcCoe Idealize.SL.Sem

variable (m : (ℓ : Loc nD τ sig) → Buf (Elt Ideal) ℓ) (ρ : Dev nD → PrngReg)

theorem idx20 : ∀ t : Fin cfg0.N, win0_20.index t (0 : Fin 2) = t.val / 32 ∧ win0_20.index t (1 : Fin 2) = 0 :=
  (by decide +kernel : ∀ t : Fin grid0.N, _)

theorem flush_iff (t : Fin cfg0.N) : (cfg0.win 20).flush t = true ↔ t.val % 32 = 31 := flush0_20 t

/-- What the last expert's point writes back is the block of the layer's rows. -/
theorem flushed_eq (c : Dev nD) (R : (args m c).Routing) (t : Fin cfg0.N) (hf : (cfg0.win 20).flush t = true) :
    (dats m 0 c).flushed 20 t = ((cfg0.win 20).blk t).view.read (Elt Ideal) (rows (args m c)) := by
  show (cfg0.win 20).cut (grid0.coords t) ((dats m 0 c).after 20 t) = _
  rw [after0_20]
  have hm := (flush_iff t).mp hf
  obtain ⟨e0, e1⟩ := idx20 t
  funext y
  have hb0 : (((cfg0.win 20).blk t).view.emb y 0).val = win0_20.index t (0 : Fin 2) * 512 + 1 * (y 0).val := rfl
  have hb1 : (((cfg0.win 20).blk t).view.emb y 1).val = win0_20.index t (1 : Fin 2) * 1024 + 1 * (y 1).val := rfl
  rw [View.read_apply]
  have hy : (outsAt0 m c t.val t.isLt).1 (ix2 ⟨(y 0).val, (y 0).isLt⟩ ⟨(y 1).val, (y 1).isLt⟩)
      = outRow (wts m c) (tok m c t ⟨(y 0).val, (y 0).isLt⟩) ⟨(y 1).val, (y 1).isLt⟩ := out_apply m c R t hm _ _
  have hl : (cfg0.win 20).cut (grid0.coords t) (outsAt0 m c t.val t.isLt).1 y
      = (outsAt0 m c t.val t.isLt).1 (ix2 ⟨(y 0).val, (y 0).isLt⟩ ⟨(y 1).val, (y 1).isLt⟩) := by
    show (outsAt0 m c t.val t.isLt).1 ((cfg0.win 20).xinj (grid0.coords t) y) = _
    refine congrArg (outsAt0 m c t.val t.isLt).1 (funext fun a => Fin.ext ?_)
    match a with
    | ⟨0, _⟩ => rfl
    | ⟨1, _⟩ => rfl
  rw [hl, hy]
  unfold rows
  have h0 : tokOf t ⟨(y 0).val, (y 0).isLt⟩ = ⟨(((cfg0.win 20).blk t).view.emb y 0).val, (((cfg0.win 20).blk t).view.emb y 0).isLt⟩ :=
    Fin.ext (by show 512 * (t.val / 32) + (y 0).val = (((cfg0.win 20).blk t).view.emb y 0).val; rw [hb0, e0]; omega)
  have h1 : (⟨(y 1).val, (y 1).isLt⟩ : Fin 1024) = ⟨(((cfg0.win 20).blk t).view.emb y 1).val, (((cfg0.win 20).blk t).view.emb y 1).isLt⟩ :=
    Fin.ext (by show (y 1).val = (((cfg0.win 20).blk t).view.emb y 1).val; rw [hb1, e1]; omega)
  simp only [tok]
  rw [h0, h1]
  rfl

theorem mem_block (t : Fin cfg0.N) (i : S16384x1024.Idx) :
    i ∈ ((cfg0.win 20).blk t).view.set ↔ ∀ a : Fin 2, win0_20.index t a * S512x1024.size a ≤ (i a).val ∧ (i a).val < win0_20.index t a * S512x1024.size a + S512x1024.size a := by
  show i ∈ ((View.whole main_v30).slice (win0_20.rect t)).set ↔ _
  rw [View.set_slice_whole, Rect.mem_set_unit]
  exact Iff.rfl

/-- The result array after the run. -/
theorem final (c : Dev nD) (R : (args m c).Routing) : (dats m 0 c).arrAt 20 cfg0.N = rows (args m c) :=
  (dats m 0 c).arrAt_eq_of_cover 20 _ (fun t hf => flushed_eq m c R t hf) (fun i => by
    have hi0 : (i 0).val < 16384 := (i 0).isLt
    have hi1 : (i 1).val < 1024 := (i 1).isLt
    refine ⟨⟨32 * ((i 0).val / 512) + 31, lt_of_lt_of_eq (by omega) N_0.symm⟩, (flush_iff _).mpr (by show (32 * _ + 31) % 32 = 31; omega), ?_⟩
    rw [mem_block]
    obtain ⟨e0, e1⟩ := idx20 ⟨32 * ((i 0).val / 512) + 31, lt_of_lt_of_eq (by omega) N_0.symm⟩
    intro a
    match a with
    | ⟨0, _⟩ =>
      show win0_20.index _ (0 : Fin 2) * 512 ≤ (i 0).val ∧ (i 0).val < win0_20.index _ (0 : Fin 2) * 512 + 512
      rw [e0]
      show (32 * ((i 0).val / 512) + 31) / 32 * 512 ≤ _ ∧ _ < (32 * ((i 0).val / 512) + 31) / 32 * 512 + 512
      omega
    | ⟨1, _⟩ =>
      show win0_20.index _ (1 : Fin 2) * 1024 ≤ (i 1).val ∧ (i 1).val < win0_20.index _ (1 : Fin 2) * 1024 + 1024
      rw [e1]
      omega)

/-- The kernel's run: the result holds the layer's rows, the arguments are unchanged. -/
theorem run (R : ∀ c, (args m c).Routing) :
    θ_run defs (onTc (τ := τ) (main (F := Ideal))) ⟨m, fun _ => 0, ρ⟩ fun r => ∀ c : Dev nD,
      r.2.mem ((c : Thread nD τ).loc main_v30) = rows (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨((h c).1 20).trans (final m c (R c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) (run_main m ρ)

end Cert.KernelIdeal.Launched

end
-- ==== Proof.SortTop.lean ====
/-
  The first places of a stable descending sort: the place of the first greatest entry, then that of the first greatest of
  the others.
-/
module

public import proofs.«01_k».proof.Proof.Rows
public import Idealize.ShloMosaic.Lib.SortPrefix
public import Idealize.ShloMosaic.Lib.Pointwise

@[expose] public section

noncomputable section

namespace Cert.Moe

open Idealize.ShloMosaic

/-- Two orders that agree on every later entry against every earlier one sort a list alike. -/
theorem stableSort_agree {ι : Type} (R R' : ι → ι → Bool) (l : List ι) (h : l.Pairwise fun a b => R b a = R' b a) :
    stableSort R l = stableSort R' l := by
  induction l with
  | nil => rfl
  | cons a l ih =>
    obtain ⟨ha, hl⟩ := List.pairwise_cons.mp h
    unfold stableSort
    rw [ih hl]
    exact insertBefore_congr R R' a _ fun b hb => ha b ((perm_stableSort R' l).mem_iff.mp hb)

variable {n : ℕ} (f : Fin n → EReal)

/-- The greater entry first. -/
def greater (k k' : Fin n) : Bool := decide (f k' < f k)

/-- The greater entry first, of equal entries the earlier. -/
def greaterEarlier (k k' : Fin n) : Bool :=
  decide (f k' < f k) || (decide (f k = f k') && decide (k < k'))

theorem greaterEarlier_total : StrictTotalBefore (greaterEarlier f) :=
  StrictTotalBefore.of_key_then_position (fun a b : EReal => decide (b < a)) f (fun a => by simp)
    (fun a b c h1 h2 => by simp only [decide_eq_true_eq] at *; exact h2.trans h1)
    (fun a b => by simp only [decide_eq_true_eq]; rcases lt_trichotomy a b with h | h | h <;> simp [h])

/-- A stable sort by the entries alone is the sort by entry and then place. -/
theorem sortedFrom_greater : sortedFrom (greater f) = sortedFrom (greaterEarlier f) := by
  have e : sortPositions n (greater f) = sortPositions n (greaterEarlier f) := by
    refine stableSort_agree _ _ _ ((List.pairwise_lt_finRange n).imp fun {a b} hab => ?_)
    unfold greater greaterEarlier
    have : ¬ b < a := not_lt.mpr hab.le
    simp [this]
  funext k
  unfold sortedFrom
  rw [List.get_of_eq e]
  rfl

theorem not_before {i p : Fin n} (h : f p < f i ∨ (f p ≤ f i ∧ i < p)) : greaterEarlier f p i = false := by
  unfold greaterEarlier
  rcases h with h | ⟨h, hp⟩
  · simp [h.ne, h.le]
  · have h1 : ¬ p < i := not_lt.mpr hp.le
    simp [h, h1]

variable [NeZero n]

/-- The sort's first place. -/
theorem sortedFrom_first (hn : 0 < n) : sortedFrom (greater f) ⟨0, hn⟩ = firstMax (fun _ => True) f := by
  have H := firstMax_spec (fun _ => True) f ⟨0, trivial⟩
  rw [sortedFrom_greater]
  refine (greaterEarlier_total f).sortedFrom_eq_of_prefix (k := 1) hn (fun _ => firstMax (fun _ => True) f)
    (fun a b _ => Subsingleton.elim a b) (fun i j hij => absurd hij (by omega)) (fun i p hp => ?_) 0
  apply not_before
  rcases lt_or_gt_of_ne (hp 0) with h | h
  · exact Or.inr ⟨H.le p trivial, h⟩
  · exact Or.inl (H.lt p trivial h)

/-- The sort's second place. -/
theorem sortedFrom_second (hn : 1 < n) :
    sortedFrom (greater f) ⟨1, hn⟩ = firstMax (fun j => j ≠ firstMax (fun _ => True) f) f := by
  have H := firstMax_spec (fun _ => True) f ⟨0, trivial⟩
  set b := firstMax (fun _ => True) f with hb
  have hex : ∃ i : Fin n, i ≠ b := by
    by_cases h : b = ⟨0, by omega⟩
    · exact ⟨⟨1, hn⟩, fun e => by rw [h] at e; exact absurd (congrArg Fin.val e) (by simp)⟩
    · exact ⟨⟨0, by omega⟩, fun e => h e.symm⟩
  have S := firstMax_spec (fun j => j ≠ b) f hex
  set s := firstMax (fun j => j ≠ b) f with hs
  rw [sortedFrom_greater]
  have dom : ∀ p, p ≠ b → greaterEarlier f p b = false := fun p hp => by
    apply not_before
    rcases lt_or_gt_of_ne hp with h | h
    · exact Or.inl (H.lt p trivial h)
    · exact Or.inr ⟨H.le p trivial, h⟩
  refine (greaterEarlier_total f).sortedFrom_eq_of_prefix (k := 2) hn ![b, s] ?_ ?_ ?_ 1
  · intro x y h
    fin_cases x <;> fin_cases y
    · rfl
    · exact absurd h (Ne.symm S.mem)
    · exact absurd h S.mem
    · rfl
  · intro x y hxy
    fin_cases x <;> fin_cases y
    · exact absurd hxy (by decide)
    · exact dom s S.mem
    · exact absurd hxy (by decide)
    · exact absurd hxy (by decide)
  · intro x p hp
    have h0 : p ≠ b := fun e => hp 0 e.symm
    have h1 : p ≠ s := fun e => hp 1 e.symm
    fin_cases x
    · exact dom p h0
    · apply not_before
      rcases lt_or_gt_of_ne h1 with h | h
      · exact Or.inl (S.lt p h0 h)
      · exact Or.inr ⟨S.le p h0, h⟩

/-- The comparison of a top-k, on extended reals. -/
theorem cmp_greater (a b : EReal) :
    (FloatOps.cmpfTotal (F := Ideal) (φ := .f32) CmpDirection.gt a b == 1#1) = decide (b < a) := by
  show (Ideal.cmp CmpDirection.gt.ordered a b == 1#1) = _
  by_cases h : b < a <;> simp [Ideal.cmp, CmpDirection.ordered, h]

end Cert.Moe

end
-- ==== Proof.RefTop.lean ====
/-
  A row's greatest entries and their places as the sort gives them, and a row's entry taken at an index.
-/
module

public import proofs.«01_k».proof.Proof.Gen.ReferenceIdeal.Read
public import proofs.«01_k».proof.Proof.SortTop
public import proofs.«01_k».proof.Proof.Inputs

@[expose] public section

set_option maxRecDepth 16384

noncomputable section

namespace Cert.ReferenceIdeal.Rows

open Cert.ReferenceIdeal Cert.ReferenceIdeal.Gen Cert.ReferenceIdeal.Read Cert.Moe
open Idealize.ShloMosaic Idealize.ShloMosaic.TcCoe Idealize.SL.Sem

/-- A row's index with its column replaced. -/
theorem along_col {N C : ℕ} (n : Fin N) (c k : Fin C) :
    Shape.Idx.along (s := ⟨2, ![N, C]⟩) (ix2 n c) (1 : Fin 2) k = ix2 n k := by
  funext q; apply Fin.ext
  match q with
  | ⟨0, _⟩ => rfl
  | ⟨1, _⟩ => rfl

section top
variable {N C K : ℕ} (x : (⟨2, ![N, C]⟩ : Shape).Idx → EReal)
  (h : Shape.Slices ⟨2, ![N, C]⟩ (fun _ => 0) ⟨2, ![N, K]⟩) (n : Fin N) (k : Fin K) (hk : k.val < C)

theorem top_index : (fun a => ⟨0 + (ix2 n k (Fin.cast h.1 a)).val, by
      have := h.2 a; have := (ix2 n k (Fin.cast h.1 a)).isLt; omega⟩ : (⟨2, ![N, C]⟩ : Shape).Idx) = ix2 n ⟨k.val, hk⟩
      := by
  funext q; apply Fin.ext
  match q with
  | ⟨0, _⟩ => exact Nat.zero_add _
  | ⟨1, _⟩ => exact Nat.zero_add _

omit h k hk in
/-- The order of the sort along a row. -/
theorem order_eq (c : Fin C) : (fun k k' : Fin C => FloatOps.cmpfTotal (F := Ideal) (φ := .f32) .gt
      (x (Shape.Idx.along (s := ⟨2, ![N, C]⟩) (ix2 n c) (1 : Fin 2) k))
      (x (Shape.Idx.along (s := ⟨2, ![N, C]⟩) (ix2 n c) (1 : Fin 2) k')) == 1#1) = greater fun j : Fin C => x (ix2 n j)
      := by
  funext k k'
  refine (cmp_greater _ _).trans ?_
  rw [along_col, along_col]
  rfl

/-- A row's greatest entries, in order: the entries at the sort's first places. -/
theorem top_value :
    (Host.topK ⟨2, ![N, K]⟩ 1 (FloatOps.cmpfTotal (F := Ideal) (φ := .f32) .gt) x h).1 (ix2 n k)
      = x (ix2 n (sortedFrom (greater fun j : Fin C => x (ix2 n j)) ⟨k.val, hk⟩)) := by
  let at' (J : (⟨2, ![N, C]⟩ : Shape).Idx) : EReal := x (J.along (1 : Fin 2) (sortedFrom (fun k k' =>
    FloatOps.cmpfTotal (F := Ideal) (φ := .f32) .gt (x (J.along (1 : Fin 2) k)) (x (J.along (1 : Fin 2) k')) == 1#1) (J
      (1 : Fin 2))))
  refine (congrArg at' (top_index h n k hk)).trans ?_
  exact (congrArg x (along_col n _ _)).trans
    (congrArg (fun B : Fin C → Fin C → Bool => x (ix2 n (sortedFrom B ⟨k.val, hk⟩))) (order_eq x n ⟨k.val, hk⟩))

/-- Their places. -/
theorem top_place :
    (Host.topK ⟨2, ![N, K]⟩ 1 (FloatOps.cmpfTotal (F := Ideal) (φ := .f32) .gt) x h).2 (ix2 n k)
      = BitVec.ofNat 32 (sortedFrom (greater fun j : Fin C => x (ix2 n j)) ⟨k.val, hk⟩).val := by
  let at' (J : (⟨2, ![N, C]⟩ : Shape).Idx) : BitVec 32 := BitVec.ofNat 32 (J.along (1 : Fin 2) (sortedFrom (fun k k' =>
    FloatOps.cmpfTotal (F := Ideal) (φ := .f32) .gt (x (J.along (1 : Fin 2) k)) (x (J.along (1 : Fin 2) k')) == 1#1) (J
      (1 : Fin 2))) (1 : Fin 2)).val
  refine (congrArg at' (top_index h n k hk)).trans ?_
  exact (congrArg (fun J : (⟨2, ![N, C]⟩ : Shape).Idx => BitVec.ofNat 32 (J (1 : Fin 2)).val) (along_col n _ _)).trans
    (congrArg (fun B : Fin C → Fin C → Bool => BitVec.ofNat 32 (sortedFrom B ⟨k.val, hk⟩).val) (order_eq x n ⟨k.val,
      hk⟩))

end top

/-- The entry of a row taken along its columns at the row's index. -/
theorem take_apply (x : S16384x4.Idx → EReal) (idx : IVec S16384x1x1 32) (n : Fin 16384) (g : Fin 4)
    (h : idx (ix3 n (0 : Fin 1) (0 : Fin 1)) = BitVec.ofNat 32 g.val) :
    Host.gather gather_S16384x4_S16384x1x1_S16384x1_n_1_0_0_1_2_11 x idx (ix2 n (0 : Fin 1)) = x (ix2 n g) := by
  unfold Host.gather
  refine congrArg x (funext fun q => Fin.ext ?_)
  show GatherDims.start _ _ _ _ + GatherDims.batchCoord _ _ _ + GatherDims.offCoord _ _ _ = _
  have h01 : q = (0 : Fin 2) ∨ q = (1 : Fin 2) := by
    match q with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S16384x4_S16384x1x1_S16384x1_n_1_0_0_1_2_11.operandBatchingDims from
      List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16384x4_S16384x1x1_S16384x1_n_1_0_0_1_2_11.startIndexMap from
      List.mem_singleton.mpr rfl)]
    have hsi : GatherDims.siIdx gather_S16384x4_S16384x1x1_S16384x1_n_1_0_0_1_2_11 (ix2 n (0 : Fin 1))
        ⟨List.idxOf (1 : Fin 2) gather_S16384x4_S16384x1x1_S16384x1_n_1_0_0_1_2_11.startIndexMap,
          List.idxOf_lt_length_iff.2 (List.mem_singleton.mpr rfl)⟩ = ix3 n (0 : Fin 1) (0 : Fin 1) := by
      funext b; refine Fin.ext ?_
      match b with
      | ⟨0, _⟩ => rfl
      | ⟨1, _⟩ => rfl
      | ⟨2, _⟩ => rfl
    rw [hsi, h]
    show min (BitVec.ofNat 32 g.val).toInt.toNat 3 = g.val
    revert g
    exact fun g _ => (by decide : ∀ g : Fin 4, min (BitVec.ofNat 32 g.val).toInt.toNat 3 = g.val) g

end Cert.ReferenceIdeal.Rows

end
-- ==== Proof.RefHidden.lean ====
/-
  The reference's rows: the row before the first norm, the row after it, and the routers' logits.
-/
module

public import proofs.«01_k».proof.Proof.Gen.ReferenceIdeal.Read
public import proofs.«01_k».proof.Proof.Inputs

@[expose] public section

set_option maxRecDepth 16384

noncomputable section

namespace Cert.ReferenceIdeal.Rows

open Cert.ReferenceIdeal Cert.ReferenceIdeal.Gen Cert.ReferenceIdeal.Read Cert.Moe
open Idealize.ShloMosaic Idealize.ShloMosaic.TcCoe Idealize.SL.Sem

variable (A : Args)

/-- A sum over the joined columns of the three attentions' outputs, part by part. -/
theorem three (f : Fin 384 → EReal) (g : Fin 384 → EReal) (h : Fin 256 → EReal) (w : Fin 1024 → EReal) :
    (∑ x : Fin 1024, (if h1 : x.val < 384 then f ⟨x.val, h1⟩
        else if h2 : x.val - 384 < 384 then g ⟨x.val - 384, h2⟩ else h ⟨x.val - 384 - 384, by omega⟩) * w x)
      = ∑ a : Fin 384, f a * w ⟨a.val, by omega⟩ + ∑ a : Fin 384, g a * w ⟨384 + a.val, by omega⟩
        + ∑ a : Fin 256, h a * w ⟨768 + a.val, by omega⟩ := by
  refine (Fin.sum_univ_add (a := 768) (b := 256) _).trans ?_
  refine congrArg₂ (· + ·) ?_ ?_
  · refine (Fin.sum_univ_add (a := 384) (b := 384) _).trans ?_
    refine congrArg₂ (· + ·) (Finset.sum_congr rfl fun q _ => ?_) (Finset.sum_congr rfl fun q _ => ?_)
    · have h1 : q.val < 384 := q.isLt
      show (dite (q.val < 384) _ _) * _ = _
      rw [dif_pos h1]
      rfl
    · have h1 : ¬ 384 + q.val < 384 := by omega
      have h2 : 384 + q.val - 384 < 384 := by have := q.isLt; omega
      refine (congrArg (· * _) ((dif_neg h1).trans (dif_pos h2))).trans ?_
      refine congrArg₂ (· * ·) (congrArg g (Fin.ext ?_)) rfl
      show 384 + q.val - 384 = q.val
      omega
  · refine Finset.sum_congr rfl fun q _ => ?_
    have h1 : ¬ 768 + q.val < 384 := by omega
    have h2 : ¬ 768 + q.val - 384 < 384 := by omega
    refine (congrArg (· * _) ((dif_neg h1).trans (dif_neg h2))).trans ?_
    refine congrArg₂ (· * ·) (congrArg h (Fin.ext ?_)) rfl
    show 768 + q.val - 384 - 384 = q.val
    omega

/-- The row before the first norm. -/
theorem pre_apply (n : Fin 16384) (k : Fin 1024) :
    val_main_v7 (F := Ideal) A.a0 A.a1 A.a2 A.a3 A.a5 (ix3 (seqOf n) (posOf n) k) = preRow A.weights (A.token n) k := by
  pointwise [val_main_v7, val_main_v6, val_main_v5, val_main_cst, val_main_v4, val_main_v3, val_main_v0, val_main_v1,
      val_main_v2]
  refine congrArg₂ (· + ·) rfl ?_
  exact three (A.token n).oa (A.token n).ob (A.token n).oc fun x => A.weights.out x k

/-- The row after the first norm. -/
theorem h_apply (n : Fin 16384) (k : Fin 1024) :
    val_main_v31 (F := Ideal) A.a0 A.a1 A.a2 A.a3 A.a5 A.a6 A.a7 (ix3 (seqOf n) (posOf n) k) = hRow A.weights (A.token
      n) k := by
  pointwise [val_main_v31, val_main_v28, val_main_v25, val_main_v20, val_main_v19, val_main_v11, val_main_v9,
      val_main_v8, val_main_cst_0, val_main_v10, val_main_cst_1, val_main_v24, val_main_v23, val_main_v22,
      val_main_v18, val_main_v16, val_main_v15, val_main_v14, val_main_v13, val_main_v12, val_main_cst_2, val_main_v17,
      val_main_cst_3, val_main_v21, val_main_cst_4, val_main_v27, val_main_v26, val_main_v30, val_main_v29]
  have e : (fun x => val_main_v7 (F := Ideal) A.a0 A.a1 A.a2 A.a3 A.a5 (ix3 (seqOf n) (posOf n) x)) = preRow A.weights
      (A.token n) :=
    funext fun x => pre_apply A n x
  have e' : ∀ x, val_main_v7 (F := Ideal) A.a0 A.a1 A.a2 A.a3 A.a5 (ix3 (seqOf n) (posOf n) x) = preRow A.weights
      (A.token n) x := fun x => pre_apply A n x
  simp only [e']
  rfl

/-- The same rows, token by token. -/
theorem h_flat (n : Fin 16384) (k : Fin 1024) :
    val_main_v32 (F := Ideal) A.a0 A.a1 A.a2 A.a3 A.a5 A.a6 A.a7 (ix2 n k) = hRow A.weights (A.token n) k := by
  pointwise [val_main_v32]
  exact h_apply A n k

/-- The groups' logits. -/
theorem g_apply (n : Fin 16384) (j : Fin 4) :
    val_main_v36 (F := Ideal) A.a0 A.a1 A.a2 A.a3 A.a5 A.a6 A.a7 A.a8 A.a9 (ix2 n j) = gLogit A.weights (A.token n) j
      := by
  pointwise [val_main_v36, val_main_v33, val_main_v35, val_main_v34]
  simp only [h_flat]
  rfl

/-- The experts' logits, group by group. -/
theorem e_apply (n : Fin 16384) (g : Fin 4) (e : Fin 8) :
    val_main_v52 (F := Ideal) A.a0 A.a1 A.a2 A.a3 A.a5 A.a6 A.a7 A.a10 A.a11 (ix3 n g e) = eLogit A.weights (A.token n)
      g e := by
  pointwise [val_main_v52, val_main_v49, val_main_v51, val_main_v50]
  simp only [h_flat]
  rfl

end Cert.ReferenceIdeal.Rows

end
-- ==== Proof.RefChoice.lean ====
/-
  The reference's routing: the chosen group and its probability, the two chosen experts and their weights.
-/
module

public import proofs.«01_k».proof.Proof.RefTop
public import proofs.«01_k».proof.Proof.RefHidden
public import proofs.«01_k».proof.Proof.Finite

@[expose] public section

set_option maxRecDepth 16384

noncomputable section

namespace Cert.ReferenceIdeal.Rows

open Cert.ReferenceIdeal Cert.ReferenceIdeal.Gen Cert.ReferenceIdeal.Read Cert.Moe
open Idealize.ShloMosaic Idealize.ShloMosaic.TcCoe Idealize.SL.Sem

/-- The least value, as a word. -/
theorem ofBits_bot : Ideal.ofBits FTy.f32 4286578688#32 = ⊥ := by
  simp [Ideal.ofBits, Ideal.ieee]

variable (A : Args) (n : Fin 16384)

/-- The token's group logits. -/
abbrev G : Fin 4 → EReal := gLogit A.weights (A.token n)
/-- The token's expert logits in the chosen group. -/
abbrev L : Fin 8 → EReal := eLogit A.weights (A.token n) (group (G A n))

/-- The chosen group, as a word. -/
theorem place_group : val_main_indices (F := Ideal) A.a0 A.a1 A.a2 A.a3 A.a5 A.a6 A.a7 A.a8 A.a9 (ix2 n (0 : Fin 1)) =
      BitVec.ofNat 32 (group (G A n)).val := by
  have e : (fun j : Fin 4 => val_main_v36 (F := Ideal) A.a0 A.a1 A.a2 A.a3 A.a5 A.a6 A.a7 A.a8 A.a9 (ix2 n j)) = G A n
      := funext fun j => g_apply A n j
  refine (top_place (C := 4) (K := 1) _ sliceFits_S16384x4_S16384x1 n 0 (by decide)).trans ?_
  rw [e]
  exact congrArg (fun i : Fin 4 => BitVec.ofNat 32 i.val) (sortedFrom_first (G A n) (by decide))

/-- The index along which the group's probability is taken. -/
theorem wrapped : val_main_call0_v5 (F := Ideal) A.a0 A.a1 A.a2 A.a3 A.a5 A.a6 A.a7 A.a8 A.a9 (ix3 n (0 : Fin 1) (0 :
      Fin 1)) = BitVec.ofNat 32 (group (G A n)).val := by
  pointwise [val_main_call0_v5, val_main_call0_v4, val_main_call0_v1, val_main_call0_v0, val_main_call0_c,
      val_main_call0_v3, val_main_call0_v2, val_main_call0_c_0]
  rw [place_group]
  generalize group (G A n) = g
  revert g
  decide

/-- That index is in range. -/
theorem inRange : val_main_call0_v12 (F := Ideal) A.a0 A.a1 A.a2 A.a3 A.a5 A.a6 A.a7 A.a8 A.a9 (ix2 n (0 : Fin 1)) =
      1#1 := by
  pointwise [val_main_call0_v12, val_main_call0_v11, val_main_call0_v7, val_main_call0_v6, val_main_call0_c_2,
      val_main_call0_v10, val_main_call0_v9, val_main_call0_v8, val_main_call0_c_1, val_main_call0_c_3]
  rw [Finset.univ_unique, Finset.fold_singleton]
  have e : val_main_call0_v5 (F := Ideal) A.a0 A.a1 A.a2 A.a3 A.a5 A.a6 A.a7 A.a8 A.a9 (ix3 n (0 : Fin 1) default) =
      BitVec.ofNat 32 (group (G A n)).val := wrapped A n
  rw [e]
  generalize group (G A n) = g
  revert g
  decide

/-- One at the chosen group, zero at the others. -/
theorem hot_group (g : Fin 4) : val_main_v54 (F := Ideal) A.a0 A.a1 A.a2 A.a3 A.a5 A.a6 A.a7 A.a8 A.a9 (ix2 n g) = if g
      = group (G A n) then 1 else 0 := by
  pointwise [val_main_v54, val_main_call1_v4, val_main_call1_v2, val_main_call1_v0, val_main_v53, val_main_call1_v3,
      val_main_call1_v1]
  rw [place_group]
  generalize group (G A n) = g'
  show (((IntOp.cmpi CmpIPredicate.eq (BitVec.ofNat 32 g'.val) (BitVec.ofNat 32 g.val)).toNat : ℝ) : EReal) = _
  have e : (IntOp.cmpi CmpIPredicate.eq (BitVec.ofNat 32 g'.val) (BitVec.ofNat 32 g.val)).toNat = if g = g' then 1 else
      0 := by
    revert g g'
    decide
  rw [e]
  split <;> simp

/-- The expert logits of the chosen group. -/
theorem l_apply (e : Fin 8) : val_main_v55 (F := Ideal) A.a0 A.a1 A.a2 A.a3 A.a5 A.a6 A.a7 A.a8 A.a9 A.a10 A.a11 (ix2 n
      e) = L A n e := by
  pointwise [val_main_v55]
  simp only [hot_group, e_apply, ite_mul, one_mul, zero_mul, Finset.sum_ite_eq', Finset.mem_univ, if_true]

/-- The first expert, as a word. -/
theorem place_best : val_main_indices_9 (F := Ideal) A.a0 A.a1 A.a2 A.a3 A.a5 A.a6 A.a7 A.a8 A.a9 A.a10 A.a11 (ix2 n (0
      : Fin 2)) = BitVec.ofNat 32 (best (L A n)).val := by
  have e : (fun j : Fin 8 => val_main_v55 (F := Ideal) A.a0 A.a1 A.a2 A.a3 A.a5 A.a6 A.a7 A.a8 A.a9 A.a10 A.a11 (ix2 n
      j)) = L A n := funext fun j => l_apply A n j
  refine (top_place (C := 8) (K := 2) _ sliceFits_S16384x8_S16384x2 n 0 (by decide)).trans ?_
  rw [e]
  exact congrArg (fun i : Fin 8 => BitVec.ofNat 32 i.val) (sortedFrom_first (L A n) (by decide))

/-- The second expert, as a word. -/
theorem place_second : val_main_indices_9 (F := Ideal) A.a0 A.a1 A.a2 A.a3 A.a5 A.a6 A.a7 A.a8 A.a9 A.a10 A.a11 (ix2 n
      (1 : Fin 2)) = BitVec.ofNat 32 (second (L A n)).val := by
  have e : (fun j : Fin 8 => val_main_v55 (F := Ideal) A.a0 A.a1 A.a2 A.a3 A.a5 A.a6 A.a7 A.a8 A.a9 A.a10 A.a11 (ix2 n
      j)) = L A n := funext fun j => l_apply A n j
  refine (top_place (C := 8) (K := 2) _ sliceFits_S16384x8_S16384x2 n 1 (by decide)).trans ?_
  rw [e]
  exact congrArg (fun i : Fin 8 => BitVec.ofNat 32 i.val) (sortedFrom_second (L A n) (by decide))

/-- The first expert's logit. -/
theorem value_best : val_main_values_8 (F := Ideal) A.a0 A.a1 A.a2 A.a3 A.a5 A.a6 A.a7 A.a8 A.a9 A.a10 A.a11 (ix2 n (0
      : Fin 2)) = L A n (best (L A n)) := by
  have e : (fun j : Fin 8 => val_main_v55 (F := Ideal) A.a0 A.a1 A.a2 A.a3 A.a5 A.a6 A.a7 A.a8 A.a9 A.a10 A.a11 (ix2 n
      j)) = L A n := funext fun j => l_apply A n j
  refine (top_value (C := 8) (K := 2) _ sliceFits_S16384x8_S16384x2 n 0 (by decide)).trans ?_
  rw [e, l_apply]
  exact congrArg (L A n) (sortedFrom_first (L A n) (by decide))

/-- The second expert's logit. -/
theorem value_second : val_main_values_8 (F := Ideal) A.a0 A.a1 A.a2 A.a3 A.a5 A.a6 A.a7 A.a8 A.a9 A.a10 A.a11 (ix2 n
      (1 : Fin 2)) = L A n (second (L A n)) := by
  have e : (fun j : Fin 8 => val_main_v55 (F := Ideal) A.a0 A.a1 A.a2 A.a3 A.a5 A.a6 A.a7 A.a8 A.a9 A.a10 A.a11 (ix2 n
      j)) = L A n := funext fun j => l_apply A n j
  refine (top_value (C := 8) (K := 2) _ sliceFits_S16384x8_S16384x2 n 1 (by decide)).trans ?_
  rw [e, l_apply]
  exact congrArg (L A n) (sortedFrom_second (L A n) (by decide))

variable {A} (R : A.Routing)
include R

theorem h_real (k : Fin 1024) : Real' (hRow A.weights (A.token n) k) :=
  normRow_real _ (fun _ => R.g1 _) (fun _ => R.b1 _) k
theorem g_real (j : Fin 4) : Real' (G A n j) :=
  (real_sum fun d => (h_real n R d).mul (R.rg _)).add (R.rgb _)
theorem l_real (e : Fin 8) : Real' (L A n e) :=
  (real_sum fun d => (h_real n R d).mul (R.re _)).add (R.reb _)

/-- The chosen group's probability. -/
theorem weight_group : val_main_v48 (F := Ideal) A.a0 A.a1 A.a2 A.a3 A.a5 A.a6 A.a7 A.a8 A.a9 (ix2 n (0 : Fin 1)) =
      groupWeight (G A n) := by
  pointwise [val_main_v48, val_main_call0_v14, val_main_call0_cst]
  rw [inRange]
  refine Eq.trans (b := val_main_call0_v13 (F := Ideal) A.a0 A.a1 A.a2 A.a3 A.a5 A.a6 A.a7 A.a8 A.a9 (ix2 n (0 : Fin
      1))) rfl ?_
  refine (take_apply _ _ n (group (G A n)) (wrapped A n)).trans ?_
  pointwise [val_main_v47, val_main_v43, val_main_v42, val_main_v41, val_main_v40, val_main_v39, val_main_v38,
      val_main_cst_6, val_main_v37, val_main_cst_5, val_main_v46, val_main_v45, val_main_v44, val_main_cst_7]
  simp only [g_apply, ofBits_bot]
  have hm := (firstMax_spec (fun _ => True) (G A n) ⟨0, trivial⟩).fold_max (G A n) (fun _ _ => rfl) (fun _ h => absurd
      trivial h)
  rw [hm, max_bot_left]
  show Ideal.div (Ideal.exp (G A n (group (G A n)) - G A n (group (G A n)))) _ = _
  rw [(g_real n R _).sub_self, ← EReal.coe_zero, Ideal.exp_coe, Real.exp_zero, EReal.coe_one]
  rfl

omit R in
theorem best_le : L A n (second (L A n)) ≤ L A n (best (L A n)) :=
  (firstMax_spec (fun _ => True) (L A n) ⟨0, trivial⟩).le _ trivial

omit R in
theorem top_max : max ⊥ (Finset.fold max ⊥ (fun x : Fin 2 => val_main_values_8 (F := Ideal) A.a0 A.a1 A.a2 A.a3 A.a5
      A.a6 A.a7 A.a8 A.a9 A.a10 A.a11 (ix2 n x)) Finset.univ)
    = L A n (best (L A n)) := by
  apply le_antisymm
  · refine max_le bot_le (Finset.fold_max_le _ |>.mpr ⟨bot_le, fun x _ => ?_⟩)
    fin_cases x
    · exact (value_best A n).le
    · exact (value_second A n).le.trans (best_le n)
  · exact le_max_of_le_right (Finset.le_fold_max _ |>.mpr (Or.inr ⟨0, Finset.mem_univ _, (value_best A n).ge⟩))

theorem exp_best : Ideal.exp (L A n (best (L A n)) - L A n (best (L A n))) = 1 := by
  rw [(l_real n R _).sub_self, ← EReal.coe_zero, Ideal.exp_coe, Real.exp_zero, EReal.coe_one]

theorem ratio_pos : ∃ r : ℝ, 0 < r ∧ ratio (L A n) = (r : EReal) := by
  obtain ⟨r, hr⟩ := (l_real n R (second (L A n))).sub (l_real n R (best (L A n)))
  exact ⟨Real.exp r, Real.exp_pos r, by unfold ratio; rw [hr, Ideal.exp_coe]⟩

theorem whole_ne : 1 + ratio (L A n) ≠ 0 := by
  obtain ⟨r, h, e⟩ := ratio_pos n R
  rw [e, ← EReal.coe_one, ← EReal.coe_add]
  exact fun h0 => absurd (EReal.coe_eq_zero.mp h0) (by linarith)

/-- The first expert's weight. -/
theorem weight_best : val_main_v68 (F := Ideal) A.a0 A.a1 A.a2 A.a3 A.a5 A.a6 A.a7 A.a8 A.a9 A.a10 A.a11 (ix2 n (0 :
      Fin 2)) = Ideal.div (groupWeight (G A n)) (1 + ratio (L A n)) := by
  pointwise [val_main_v68, val_main_v66, val_main_v62, val_main_v61, val_main_v60, val_main_v59, val_main_v58,
      val_main_v57, val_main_cst_11, val_main_v56, val_main_cst_10, val_main_v65, val_main_v64, val_main_v63,
      val_main_cst_12, val_main_v67]
  simp only [ofBits_bot]
  rw [top_max, weight_group n R, Fin.sum_univ_two, value_best, value_second, exp_best n R]
  show Ideal.div 1 (1 + ratio (L A n)) * _ = _
  unfold Ideal.div
  rw [if_neg (whole_ne n R), if_neg (whole_ne n R), one_mul, mul_comm]

/-- The second expert's weight. -/
theorem weight_second : val_main_v68 (F := Ideal) A.a0 A.a1 A.a2 A.a3 A.a5 A.a6 A.a7 A.a8 A.a9 A.a10 A.a11 (ix2 n (1 :
      Fin 2))
    = Ideal.div (groupWeight (G A n) * ratio (L A n)) (1 + ratio (L A n)) := by
  pointwise [val_main_v68, val_main_v66, val_main_v62, val_main_v61, val_main_v60, val_main_v59, val_main_v58,
      val_main_v57, val_main_cst_11, val_main_v56, val_main_cst_10, val_main_v65, val_main_v64, val_main_v63,
      val_main_cst_12, val_main_v67]
  simp only [ofBits_bot]
  rw [top_max, weight_group n R, Fin.sum_univ_two, value_best, value_second, exp_best n R]
  show Ideal.div (ratio (L A n)) (1 + ratio (L A n)) * _ = _
  unfold Ideal.div
  rw [if_neg (whole_ne n R), if_neg (whole_ne n R), mul_comm _ (groupWeight _), mul_assoc]

omit R in
/-- One where the numbers of an expert agree, zero elsewhere. -/
theorem hot_expert (g : Fin 4) (l : Fin 8) (e : Fin 32) :
    (FloatOps.uitofp FTy.f32 (IntOp.cmpi CmpIPredicate.eq
      (IntOp.addi (IntOp.muli (BitVec.ofNat 32 g.val) 8#32) (BitVec.ofNat 32 l.val)) (BitVec.ofNat 32 e.val)) : Ideal
      .f32)
      = if e.val = 8 * g.val + l.val then (1 : EReal) else 0 := by
  show (((IntOp.cmpi CmpIPredicate.eq
      (IntOp.addi (IntOp.muli (BitVec.ofNat 32 g.val) 8#32) (BitVec.ofNat 32 l.val)) (BitVec.ofNat 32 e.val)).toNat :
      ℝ) : EReal) = _
  have h : (IntOp.cmpi CmpIPredicate.eq
      (IntOp.addi (IntOp.muli (BitVec.ofNat 32 g.val) 8#32) (BitVec.ofNat 32 l.val)) (BitVec.ofNat 32 e.val)).toNat
        = if e.val = 8 * g.val + l.val then 1 else 0 := by
    revert g l e
    decide +kernel
  rw [h]
  split <;> simp

/-- The experts' weights. -/
theorem cw_apply (e : Fin 32) : val_main_v77 (F := Ideal) A.a0 A.a1 A.a2 A.a3 A.a5 A.a6 A.a7 A.a8 A.a9 A.a10 A.a11 (ix2
      n e) = cw A.weights (A.token n) e := by
  pointwise [val_main_v77, val_main_v76, val_main_v73, val_main_call2_v4, val_main_call2_v2, val_main_call2_v0,
      val_main_v72, val_main_v71, val_main_v70, val_main_v69, val_main_c, val_main_call2_v3, val_main_call2_v1,
      val_main_v75, val_main_v74, val_main_cst_13]
  rw [Fin.sum_univ_two, place_group, place_best, place_second, weight_best n R, weight_second n R]
  refine (congrArg₂ (· + ·) (congrArg (· * _) (hot_expert _ _ e)) (congrArg (· * _) (hot_expert _ _ e))).trans ?_
  simp only [ite_mul, one_mul, zero_mul]
  rfl

end Cert.ReferenceIdeal.Rows

end
-- ==== Proof.RefOut.lean ====
/-
  The reference's experts and its result, token by token.
-/
module

public import proofs.«01_k».proof.Proof.RefChoice

@[expose] public section

set_option maxRecDepth 16384

noncomputable section

namespace Cert.ReferenceIdeal.Rows

open Cert.ReferenceIdeal Cert.ReferenceIdeal.Gen Cert.ReferenceIdeal.Read Cert.Moe
open Idealize.ShloMosaic Idealize.ShloMosaic.TcCoe Idealize.SL.Sem

variable {A : Args} (n : Fin 16384) (R : A.Routing)

/-- The row before the first norm does not depend on how the token is numbered. -/
theorem flat_index : (⟨(seqOf n).val * 2048 + (posOf n).val, by have := (seqOf n).isLt; have := (posOf n).isLt; omega⟩
      : Fin 16384) = n :=
  Fin.ext (by show n.val / 2048 * 2048 + n.val % 2048 = n.val; omega)

include R in
/-- The experts' activations. -/
theorem act_apply (e : Fin 32) (f : Fin 256) : val_main_v84 (F := Ideal) A.a0 A.a1 A.a2 A.a3 A.a5 A.a6 A.a7 A.a8 A.a9
      A.a10 A.a11 A.a12 A.a13 (ix3 n e f)
    = actRow (hRow A.weights (A.token n)) (A.weights.gate e) (A.weights.up e) (cw A.weights (A.token n) e) f := by
  pointwise [val_main_v84, val_main_v81, val_main_v80, val_main_v78, val_main_call3_v5, val_main_call3_v4,
      val_main_call3_cst_0, val_main_call3_v3, val_main_call3_v2, val_main_call3_cst, val_main_call3_v1,
      val_main_call3_v0, val_main_v79, val_main_v83, val_main_v82]
  rw [cw_apply n R]
  simp only [h_flat, Ideal.ofBits_one_f32]
  rfl

include R in
/-- The experts' sum. -/
theorem moe_apply (k : Fin 1024) : val_main_v85 (F := Ideal) A.a0 A.a1 A.a2 A.a3 A.a5 A.a6 A.a7 A.a8 A.a9 A.a10 A.a11
      A.a12 A.a13 A.a14 (ix2 n k) = ∑ e, expertRow A.weights (A.token n) e k := by
  pointwise [val_main_v85]
  refine Finset.sum_congr rfl fun e _ => Finset.sum_congr rfl fun f _ => ?_
  rw [act_apply n R]
  rfl

include R in
/-- The row before the second norm. -/
theorem post_apply (k : Fin 1024) : val_main_v99 (F := Ideal) A.a0 A.a1 A.a2 A.a3 A.a4 A.a5 A.a6 A.a7 A.a8 A.a9 A.a10
      A.a11 A.a12 A.a13 A.a14 A.a15 A.a16 (ix3 (seqOf n) (posOf n) k) = postRow A.weights (A.token n) k := by
  pointwise [val_main_v99, val_main_v98, val_main_v97, val_main_v96, val_main_cst_16, val_main_v86, val_main_v95,
      val_main_v93, val_main_v92, val_main_cst_15, val_main_v91, val_main_v90, val_main_cst_14, val_main_v89,
      val_main_v88, val_main_v87, val_main_v94]
  simp only [h_apply, Ideal.ofBits_one_f32]
  rw [flat_index n, moe_apply n R]
  rfl

include R in
/-- The result. -/
theorem result_apply (k : Fin 1024) : val_main_v124 (F := Ideal) A.a0 A.a1 A.a2 A.a3 A.a4 A.a5 A.a6 A.a7 A.a8 A.a9
      A.a10 A.a11 A.a12 A.a13 A.a14 A.a15 A.a16 A.a17 A.a18 (ix2 n k) = outRow A.weights (A.token n) k := by
  pointwise [val_main_v124, val_main_v123, val_main_v120, val_main_v117, val_main_v112, val_main_v111, val_main_v103,
      val_main_v101, val_main_v100, val_main_cst_17, val_main_v102, val_main_cst_18, val_main_v116, val_main_v115,
      val_main_v114, val_main_v110, val_main_v108, val_main_v107, val_main_v106, val_main_v105, val_main_v104,
      val_main_cst_19, val_main_v109, val_main_cst_20, val_main_v113, val_main_cst_21, val_main_v119, val_main_v118,
      val_main_v122, val_main_v121]
  have e' : ∀ x, val_main_v99 (F := Ideal) A.a0 A.a1 A.a2 A.a3 A.a4 A.a5 A.a6 A.a7 A.a8 A.a9 A.a10 A.a11 A.a12 A.a13
      A.a14 A.a15 A.a16 (ix3 (seqOf n) (posOf n) x) = postRow A.weights (A.token n) x := fun x => post_apply n R x
  have e : ∀ x, val_main_v99 (F := Ideal) A.a0 A.a1 A.a2 A.a3 A.a4 A.a5 A.a6 A.a7 A.a8 A.a9 A.a10 A.a11 A.a12 A.a13
      A.a14 A.a15 A.a16 (ix3 (⟨n.val / 2048, (seqOf n).isLt⟩ : Fin 8) (⟨n.val % 2048, (posOf n).isLt⟩ : Fin 2048) x)
      = postRow A.weights (A.token n) x := e'
  simp only [e]
  rfl

end Cert.ReferenceIdeal.Rows

end
-- ==== Proof.RefRun.lean ====
/-
  The reference's run: its result holds the layer's rows, and its arguments are unchanged.
-/
module

public import proofs.«01_k».proof.Proof.RefOut
public import proofs.«01_k».proof.Proof.Rowwise
public import Idealize.ShloMosaic.Lib.Quiescent
public import Idealize.ShloMosaic.Lib.Claim

@[expose] public section

set_option maxRecDepth 16384

noncomputable section

namespace Cert.ReferenceIdeal.Rows

open Cert.ReferenceIdeal Cert.ReferenceIdeal.Gen Cert.ReferenceIdeal.Read Cert.Moe
open Idealize.ShloMosaic Idealize.ShloMosaic.TcCoe Idealize.SL.Sem

/-- The reference runs, leaves the layer's rows in its result, token by token, and its arguments as they were. -/
theorem run (m : (ℓ : Loc nD τ sig) → Buf (Elt Ideal) ℓ) (ρ : Dev nD → PrngReg) (A : Dev nD → Args)
    (R : ∀ c, (A c).Routing)
    (h : ∀ c : Dev nD, m ((c.tc : Thread nD τ).loc main_arg0) = (A c).a0
      ∧ m ((c.tc : Thread nD τ).loc main_arg1) = (A c).a1
      ∧ m ((c.tc : Thread nD τ).loc main_arg2) = (A c).a2
      ∧ m ((c.tc : Thread nD τ).loc main_arg3) = (A c).a3
      ∧ m ((c.tc : Thread nD τ).loc main_arg4) = (A c).a4
      ∧ m ((c.tc : Thread nD τ).loc main_arg5) = (A c).a5
      ∧ m ((c.tc : Thread nD τ).loc main_arg6) = (A c).a6
      ∧ m ((c.tc : Thread nD τ).loc main_arg7) = (A c).a7
      ∧ m ((c.tc : Thread nD τ).loc main_arg8) = (A c).a8
      ∧ m ((c.tc : Thread nD τ).loc main_arg9) = (A c).a9
      ∧ m ((c.tc : Thread nD τ).loc main_arg10) = (A c).a10
      ∧ m ((c.tc : Thread nD τ).loc main_arg11) = (A c).a11
      ∧ m ((c.tc : Thread nD τ).loc main_arg12) = (A c).a12
      ∧ m ((c.tc : Thread nD τ).loc main_arg13) = (A c).a13
      ∧ m ((c.tc : Thread nD τ).loc main_arg14) = (A c).a14
      ∧ m ((c.tc : Thread nD τ).loc main_arg15) = (A c).a15
      ∧ m ((c.tc : Thread nD τ).loc main_arg16) = (A c).a16
      ∧ m ((c.tc : Thread nD τ).loc main_arg17) = (A c).a17
      ∧ m ((c.tc : Thread nD τ).loc main_arg18) = (A c).a18) :
    θ_run defs (onTc (τ := τ) (main (F := Ideal))) ⟨m, fun _ => 0, ρ⟩ fun r => ∀ c : Dev nD,
      r.2.mem ((c.tc : Thread nD τ).loc main_v124) = rows (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r H c => ⟨(H c).1.trans ((val_main_v124_eq (StableHlo.launchContents m c)).trans (by
    obtain ⟨e0, e1, e2, e3, e4, e5, e6, e7, e8, e9, e10, e11, e12, e13, e14, e15, e16, e17, e18⟩ := h c
    refine Eq.trans (b := val_main_v124 (F := Ideal) (A c).a0 (A c).a1 (A c).a2 (A c).a3 (A c).a4 (A c).a5 (A c).a6 (A
      c).a7 (A c).a8 (A c).a9 (A c).a10 (A c).a11 (A c).a12 (A c).a13 (A c).a14 (A c).a15 (A c).a16 (A c).a17 (A
      c).a18) ?_ ?_
    · rw [← e0, ← e1, ← e2, ← e3, ← e4, ← e5, ← e6, ← e7, ← e8, ← e9, ← e10, ← e11, ← e12, ← e13, ← e14, ← e15, ← e16,
      ← e17, ← e18]
    funext i
    have hi : i = ix2 (⟨(i 0).val, (i 0).isLt⟩ : Fin 16384) (⟨(i 1).val, (i 1).isLt⟩ : Fin 1024) := by
      funext q
      match q with
      | ⟨0, _⟩ => rfl
      | ⟨1, _⟩ => rfl
    rw [hi]
    exact result_apply _ (R c) _)), (H c).2⟩) (Value.run m ρ)

/-- The reference runs, leaves its arguments as they were and every semaphore at zero. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0 :=
  (θ_run defs _ _).mono (fun r H => ⟨fun c => (H c).2, sem_eq_zero_of_no_sems rfl r.2⟩) (Value.run m ρ)

end Cert.ReferenceIdeal.Rows

end
-- ==== Proof.Finiteness.lean ====
/-
  What the precondition says: the first norm's weights and the routers' weights are finite.
-/
module

public import proofs.«01_k».proof.Pre_routing_finite
public import proofs.«01_k».proof.Proof.Inputs

@[expose] public section

noncomputable section

namespace Cert.Moe

open Idealize.ShloMosaic

/-- The shapes the precondition broadcasts to. -/
theorem finiteFacts : Cert.Pre_routing_finite.Facts where
  bcast_S_S1024 := by decide
  bcast_S_S1024x4 := by decide
  bcast_S_S4 := by decide
  bcast_S_S4x1024x8 := by decide
  bcast_S_S4x8 := by decide

/-- A value whose absolute value is below infinity is a real number. -/
theorem real_of_below (x : EReal)
    (h : BitVec.ofBool (decide (max x (-x) < Ideal.ofBits .f32 0x7F800000#32)) = 1#1) : ∃ r : ℝ, x = r := by
  have ht : Ideal.ofBits .f32 0x7F800000#32 = ⊤ := by simp [Ideal.ofBits, Ideal.ieee]
  rw [ht] at h
  have hlt : max x (-x) < ⊤ := by
    by_contra hn
    rw [decide_eq_false hn] at h
    exact absurd h (by decide)
  obtain ⟨h1, h2⟩ := max_lt_iff.mp hlt
  refine ⟨x.toReal, (EReal.coe_toReal h1.ne fun hb => ?_).symm⟩
  rw [hb, EReal.neg_bot] at h2
  exact lt_irrefl _ h2

/-- The precondition, read at the arguments. -/
theorem routing (A : Args) (h : letI := finiteFacts
    let p := Cert.Pre_routing_finite.fn (F := Ideal) A.a0 A.a1 A.a2 A.a3 A.a4 A.a5 A.a6 A.a7 A.a8 A.a9 A.a10 A.a11 A.a12 A.a13
      A.a14 A.a15 A.a16 A.a17 A.a18
    p.1 = (fun _ => 1#1) ∧ p.2.1 = (fun _ => 1#1) ∧ p.2.2.1 = (fun _ => 1#1) ∧ p.2.2.2.1 = (fun _ => 1#1)
      ∧ p.2.2.2.2.1 = (fun _ => 1#1) ∧ p.2.2.2.2.2 = (fun _ => 1#1)) : A.Routing where
  g1 i := real_of_below _ (congrFun h.1 i)
  b1 i := real_of_below _ (congrFun h.2.1 i)
  rg i := real_of_below _ (congrFun h.2.2.1 i)
  rgb i := real_of_below _ (congrFun h.2.2.2.1 i)
  re i := real_of_below _ (congrFun h.2.2.2.2.1 i)
  reb i := real_of_below _ (congrFun h.2.2.2.2.2 i)

end Cert.Moe

end
-- ==== Proof.Attend.lean ====
/-
  Softmax-weighted means in the extended reals, whole and in parts. A row of scores `f`, none of them `⊤`, weighs a row
  of values `v`. Going through the keys a block at a time, with the greatest score so far, the sum of the weights so far
  and the weighted sum so far, gives the same mean as the whole row at once.
-/
module

public import proofs.«01_k».proof.Proof.Finite

@[expose] public section

noncomputable section

namespace Cert.Attn

open Idealize.ShloMosaic

/-- The greatest score of a row, `⊥` for none. -/
def top {n : ℕ} (f : Fin n → EReal) : EReal := Finset.univ.fold max ⊥ f

/-- The mean of `v` with the softmax of `f` as weights. -/
def attend {n : ℕ} (f v : Fin n → EReal) : EReal :=
  ∑ k, Ideal.div (Ideal.exp (f k - top f)) (∑ j, Ideal.exp (f j - top f)) * v k

/-- The greatest score after a block of scores `s`. -/
def nextM {b : ℕ} (m : EReal) (s : Fin b → EReal) : EReal := max m (top s)
/-- The sum of the weights after a block of scores `s`. -/
def nextL {b : ℕ} (m l : EReal) (s : Fin b → EReal) : EReal :=
  Ideal.exp (m - nextM m s) * l + ∑ c, Ideal.exp (s c - nextM m s)
/-- The weighted sum after a block of scores `s` with the values `w`. -/
def nextA {b : ℕ} (m a : EReal) (s w : Fin b → EReal) : EReal :=
  Ideal.exp (m - nextM m s) * a + ∑ c, Ideal.exp (s c - nextM m s) * w c

/-- A score's weight, relative to the score 0. -/
def weight (x : EReal) : ℝ := if x = ⊥ then 0 else Real.exp x.toReal

theorem weight_nonneg (x : EReal) : 0 ≤ weight x := by
  unfold weight; split
  · exact le_rfl
  · exact (Real.exp_pos _).le

theorem weight_pos {x : EReal} (h : x ≠ ⊥) : 0 < weight x := by
  unfold weight; rw [if_neg h]; exact Real.exp_pos _

theorem exp_sub {x : EReal} (h : x ≠ ⊤) (r : ℝ) : Ideal.exp (x - r) = ((weight x * Real.exp (-r) : ℝ) : EReal) := by
  unfold weight
  by_cases hb : x = ⊥
  · rw [if_pos hb, hb, EReal.bot_sub, zero_mul]; simp
  · rw [if_neg hb]
    lift x to ℝ using ⟨h, hb⟩
    rw [← EReal.coe_sub, EReal.toReal_coe, ← Real.exp_add, ← sub_eq_add_neg, Ideal.exp_coe]

theorem sum_mul {ι : Type} (S : Finset ι) (g : ι → EReal) {c : ℝ} (hc : 0 ≤ c) :
    (∑ k ∈ S, g k) * (c : EReal) = ∑ k ∈ S, g k * c := by
  classical
  induction S using Finset.induction_on with
  | empty => simp
  | insert a s ha ih =>
    rw [Finset.sum_insert ha, Finset.sum_insert ha,
      EReal.right_distrib_of_nonneg_of_ne_top (EReal.coe_nonneg.mpr hc) (EReal.coe_ne_top c), ih]

theorem coe_sum {ι : Type} (S : Finset ι) (r : ι → ℝ) : ((∑ i ∈ S, r i : ℝ) : EReal) = ∑ i ∈ S, (r i : EReal) := by
  classical
  induction S using Finset.induction_on with
  | empty => simp
  | insert a s ha ih => rw [Finset.sum_insert ha, Finset.sum_insert ha, EReal.coe_add, ih]

theorem le_top {n : ℕ} (f : Fin n → EReal) (k : Fin n) : f k ≤ top f := by
  unfold top
  exact (Finset.le_fold_max _).mpr (Or.inr ⟨k, Finset.mem_univ k, le_rfl⟩)

theorem top_ne_top {n : ℕ} {f : Fin n → EReal} (h : ∀ k, f k ≠ ⊤) : top f ≠ ⊤ := by
  unfold top
  have : Finset.univ.fold max ⊥ f < ⊤ :=
    (Finset.fold_max_lt _).mpr ⟨bot_lt_top, fun k _ => lt_top_iff_ne_top.mpr (h k)⟩
  exact this.ne

theorem top_ne_bot {n : ℕ} {f : Fin n → EReal} (k : Fin n) (h : f k ≠ ⊥) : top f ≠ ⊥ := fun e =>
  h (le_bot_iff.mp (e ▸ le_top f k))

/-- The state of a row after the keys in `S`. -/
def After {n : ℕ} (f v : Fin n → EReal) (S : Finset (Fin n)) (m l a : EReal) : Prop :=
  ∃ r : ℝ, m = r ∧ l = ((∑ k ∈ S, weight (f k) * Real.exp (-r) : ℝ) : EReal)
    ∧ a = ∑ k ∈ S, ((weight (f k) * Real.exp (-r) : ℝ) : EReal) * v k

section block
variable {n b : ℕ} {f v : Fin n → EReal} (hf : ∀ k, f k ≠ ⊤) (g : Fin b ↪ Fin n)
include hf

theorem block_sum (r : ℝ) : ∑ c, Ideal.exp (f (g c) - r)
    = ((∑ k ∈ Finset.univ.map g, weight (f k) * Real.exp (-r) : ℝ) : EReal) := by
  rw [coe_sum, Finset.sum_map]
  exact Finset.sum_congr rfl fun c _ => exp_sub (hf _) r

theorem block_weighted (r : ℝ) : ∑ c, Ideal.exp (f (g c) - r) * v (g c)
    = ∑ k ∈ Finset.univ.map g, ((weight (f k) * Real.exp (-r) : ℝ) : EReal) * v k := by
  rw [Finset.sum_map]
  exact Finset.sum_congr rfl fun c _ => by rw [exp_sub (hf _) r]

/-- The first block, one score of which is a real number. -/
theorem After.first (c : Fin b) (hc : f (g c) ≠ ⊥) :
    After f v (Finset.univ.map g) (nextM ⊥ fun c => f (g c)) (nextL ⊥ 0 fun c => f (g c))
      (nextA ⊥ 0 (fun c => f (g c)) fun c => v (g c)) := by
  obtain ⟨r, hr⟩ : ∃ r : ℝ, nextM ⊥ (fun c => f (g c)) = r := by
    unfold nextM
    rw [max_eq_right bot_le]
    exact ⟨_, (EReal.coe_toReal (top_ne_top fun c => hf _) (top_ne_bot c hc)).symm⟩
  refine ⟨r, hr, ?_, ?_⟩
  · unfold nextL; rw [hr, mul_zero, zero_add]; exact block_sum hf g r
  · unfold nextA; rw [hr, mul_zero, zero_add]; exact block_weighted hf g r

/-- A further block. -/
theorem After.next {S : Finset (Fin n)} {m l a : EReal} (h : After f v S m l a)
    (hd : Disjoint S (Finset.univ.map g)) :
    After f v (S ∪ Finset.univ.map g) (nextM m fun c => f (g c)) (nextL m l fun c => f (g c))
      (nextA m a (fun c => f (g c)) fun c => v (g c)) := by
  obtain ⟨r, rfl, rfl, rfl⟩ := h
  obtain ⟨r', hr⟩ : ∃ r' : ℝ, nextM (r : EReal) (fun c => f (g c)) = r' := by
    unfold nextM
    refine ⟨_, (EReal.coe_toReal ?_ ?_).symm⟩
    · exact (max_lt (EReal.coe_lt_top r) (lt_top_iff_ne_top.mpr (top_ne_top fun c => hf _))).ne
    · exact ((EReal.bot_lt_coe r).trans_le (le_max_left _ _)).ne'
  have hα : Ideal.exp ((r : EReal) - r') = ((Real.exp (r - r') : ℝ) : EReal) := by
    rw [← EReal.coe_sub, Ideal.exp_coe]
  have hw : ∀ x : EReal, weight x * Real.exp (-r) * Real.exp (r - r') = weight x * Real.exp (-r') := fun x => by
    rw [mul_assoc, ← Real.exp_add]; congr 2; ring
  refine ⟨r', hr, ?_, ?_⟩
  · unfold nextL
    rw [hr, hα, block_sum hf g r', ← EReal.coe_mul, ← EReal.coe_add, Finset.sum_union hd, mul_comm, Finset.sum_mul]
    simp only [hw]
  · unfold nextA
    rw [hr, hα, block_weighted hf g r', Finset.sum_union hd, mul_comm, sum_mul _ _ (Real.exp_pos _).le]
    congr 1
    refine Finset.sum_congr rfl fun k _ => ?_
    rw [mul_right_comm, ← EReal.coe_mul, hw]

omit hf in
theorem sum_pos {S : Finset (Fin n)} (k : Fin n) (hk : k ∈ S) (hb : f k ≠ ⊥) : 0 < ∑ k ∈ S, weight (f k) :=
  Finset.sum_pos' (fun j _ => weight_nonneg _) ⟨k, hk, weight_pos hb⟩

/-- The whole row, the keys outside `S` having the score `⊥`. -/
theorem After.attend {S : Finset (Fin n)} {m l a : EReal} (h : After f v S m l a)
    (hS : ∀ k, k ∉ S → f k = ⊥) (k : Fin n) (hk : f k ≠ ⊥) : a * Ideal.div 1 l = attend f v := by
  obtain ⟨r, rfl, rfl, rfl⟩ := h
  have hkS : k ∈ S := by by_contra hn; exact hk (hS k hn)
  have hW := sum_pos (f := f) k hkS hk
  obtain ⟨M, hM⟩ : ∃ M : ℝ, top f = M := ⟨_, (EReal.coe_toReal (top_ne_top hf) (top_ne_bot k hk)).symm⟩
  have hall : ∑ j, weight (f j) = ∑ j ∈ S, weight (f j) :=
    (Finset.sum_subset (Finset.subset_univ S) fun j _ hj => by rw [hS j hj]; simp [weight]).symm
  unfold Cert.Attn.attend
  simp only [hM, exp_sub (hf _) M]
  rw [← coe_sum, ← Finset.sum_mul, ← Finset.sum_mul, hall]
  set W := ∑ j ∈ S, weight (f j) with hWd
  have h1 : W * Real.exp (-r) ≠ 0 := (mul_pos hW (Real.exp_pos _)).ne'
  have h2 : W * Real.exp (-M) ≠ 0 := (mul_pos hW (Real.exp_pos _)).ne'
  rw [Ideal.div_coe h1, one_mul, sum_mul _ _ (by positivity)]
  rw [← Finset.sum_subset (Finset.subset_univ S) fun j _ hj => by
    rw [hS j hj, Ideal.div_coe h2]; simp [weight]]
  refine Finset.sum_congr rfl fun j _ => ?_
  rw [Ideal.div_coe h2, mul_right_comm, ← EReal.coe_mul, ← EReal.coe_mul]
  congr 2
  have e1 := (Real.exp_pos (-r)).ne'
  have e2 := (Real.exp_pos (-M)).ne'
  have e3 := hW.ne'
  field_simp

end block

end Cert.Attn

end
-- ==== Proof.AttnSteps.lean ====
/-
  The attention kernel's block products, at one entry: one block of keys is one step of the softmax in parts.
-/
module

public import proofs.«01_k».proof.Proof.Gen.Kernel2Ideal.Skeleton
public import proofs.«01_k».proof.Proof.Attend
public import Idealize.ShloMosaic.Lib.Pointwise

@[expose] public section

set_option maxRecDepth 16384
set_option maxHeartbeats 1000000

noncomputable section

namespace Cert.Kernel2Ideal.Attn

open Cert.Kernel2Ideal Cert.Kernel2Ideal.Gen Cert.Attn
open Idealize.ShloMosaic Idealize.ShloMosaic.TcCoe

/-- The scores of row `r` of the queries against a block of keys. -/
def score (Q : FVec Ideal S256x128 .bf16) (K : Vec Ideal S1x128x256 .bf16) (r c : Fin 256) : EReal :=
  ∑ d : Fin 128, Q (ix2 r d) * K (ix3 0 d c)

/-- The word that starts a maximum. -/
theorem low : Ideal.ofBits .f32 0xFF800000#32 = ⊥ := by simp [Ideal.ofBits, Ideal.ieee]
/-- The word of the mask. -/
theorem mask : (Named.named (F := Ideal) κ "mask" (φ := .f32) 0xF149F2CA#32) = (⊥ : EReal) := rfl

section trip
variable (Q : FVec Ideal S256x128 .bf16) (m l : FVec Ideal S256x1 .f32) (a : FVec Ideal S256x128 .f32)
  (V : Vec Ideal S1x256x128 .bf16) (K : Vec Ideal S1x128x256 .bf16) (r : Fin 256)

theorem pay31_apply (c : Fin 256) : k0_pay31 Q K (ix2 r c) = score Q K r c := by
  pointwise [k0_pay31]
  rfl

theorem pay32_apply (z : Fin 1) : k0_pay32 Q m K (ix2 r z) = nextM (m (ix2 r z)) (score Q K r) := by
  pointwise [k0_pay32]
  simp only [pay31_apply, low]
  rfl

theorem pay33_apply (z : Fin 1) : k0_pay33 Q m K (ix2 r z)
    = Ideal.exp (m (ix2 r z) - nextM (m (ix2 r z)) (score Q K r)) := by
  pointwise [k0_pay33]
  rw [pay32_apply]

theorem pay34_apply (c : Fin 256) : k0_pay34 Q m K (ix2 r c)
    = Ideal.exp (score Q K r c - nextM (m (ix2 r 0)) (score Q K r)) := by
  pointwise [k0_pay34]
  rw [pay32_apply, pay31_apply]

theorem pay35_apply (z : Fin 1) : k0_pay35 Q m l K (ix2 r z) = nextL (m (ix2 r 0)) (l (ix2 r z)) (score Q K r) := by
  obtain rfl : z = 0 := Subsingleton.elim _ _
  pointwise [k0_pay35]
  simp only [pay33_apply, pay34_apply]
  rfl

theorem pay36_apply (d : Fin 128) : k0_pay36 Q m a V K (ix2 r d)
    = nextA (m (ix2 r 0)) (a (ix2 r d)) (score Q K r) fun c => V (ix3 0 c d) := by
  pointwise [k0_pay36]
  simp only [pay33_apply, pay34_apply]
  rfl

theorem pay4_eq : k0_pay4 Q m K = k0_pay32 Q m K := rfl
theorem pay7_eq : k0_pay7 Q m l K = k0_pay35 Q m l K := rfl
theorem pay8_eq : k0_pay8 Q m a V K = k0_pay36 Q m a V K := rfl

end trip

section diagonal
variable (q : Vec Ideal S1x256x128 .bf16) (V : Vec Ideal S1x256x128 .bf16) (K : Vec Ideal S1x128x256 .bf16) (r : Fin 256)

/-- The mask of the diagonal block. -/
abbrev near : IVec S256x256 1 := k0_pay20 k0_pay16 k0_pay17 k0_pay18 k0_pay19

/-- The masked scores of the diagonal block. -/
def masked (c : Fin 256) : EReal := if c.val / 64 ≤ r.val / 64 then score (k0_pay21 q) K r c else ⊥

theorem chunk16 : ∀ r c : Fin 256, k0_pay16 (ix2 r c) = BitVec.ofNat 32 (c.val / 64) := by
  intro r c
  pointwise [k0_pay16]
  revert c
  decide +kernel

/-- The chunk of a row of the block. -/
theorem chunk20 : ∀ r : Fin 256, Scalar.select
    (IntOp.andi
      (IntOp.cmpi CmpIPredicate.ne
        (IntOp.subi (BitVec.setWidth 32 (IntOp.cmpi CmpIPredicate.sgt (BitVec.ofNat 32 r.val) 0#32))
          (BitVec.setWidth 32 (IntOp.cmpi CmpIPredicate.slt (BitVec.ofNat 32 r.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 r.val) 64#32) 0#32))
    (IntOp.subi (IntOp.divsi ArithUnit.vector (BitVec.ofNat 32 r.val) 64#32) 1#32)
    (IntOp.divsi ArithUnit.vector (BitVec.ofNat 32 r.val) 64#32) = BitVec.ofNat 32 (r.val / 64) := by
  decide +kernel

theorem chunk_le : ∀ a b : Fin 4, IntOp.cmpi CmpIPredicate.sle (BitVec.ofNat 32 a.val) (BitVec.ofNat 32 b.val)
    = BitVec.ofBool (decide (a.val ≤ b.val)) := by
  decide +kernel

theorem near_apply (c : Fin 256) : near (ix2 r c) = BitVec.ofBool (decide (c.val / 64 ≤ r.val / 64)) := by
  pointwise [k0_pay20, k0_pay17, k0_pay18, k0_pay19]
  rw [chunk16]
  refine (congrArg (IntOp.cmpi CmpIPredicate.sle _) (chunk20 r)).trans ?_
  exact chunk_le ⟨c.val / 64, by omega⟩ ⟨r.val / 64, by omega⟩

theorem pay23_apply (c : Fin 256) : k0_pay23 k0_pay16 k0_pay17 k0_pay18 k0_pay19 q K (ix2 r c) = masked q K r c := by
  pointwise [k0_pay23]
  refine (congrArg₂ (fun w x => Scalar.select w _ x) (near_apply r c) mask).trans ?_
  unfold masked
  by_cases h : c.val / 64 ≤ r.val / 64
  · rw [if_pos h, decide_eq_true h]; rfl
  · rw [if_neg h, decide_eq_false h]; rfl

theorem pay24_apply (z : Fin 1) : k0_pay24 k0_pay16 k0_pay17 k0_pay18 k0_pay19 q K (ix2 r z) = nextM ⊥ (masked q K r) := by
  pointwise [k0_pay24, k0_pay22]
  simp only [pay23_apply, low, mask]
  rfl

theorem pay25_apply (z : Fin 1) : k0_pay25 k0_pay16 k0_pay17 k0_pay18 k0_pay19 q K (ix2 r z)
    = Ideal.exp (⊥ - nextM ⊥ (masked q K r)) := by
  pointwise [k0_pay25, k0_pay22]
  rw [pay24_apply, mask]

theorem pay26_apply (c : Fin 256) : k0_pay26 k0_pay16 k0_pay17 k0_pay18 k0_pay19 q K (ix2 r c)
    = Ideal.exp (masked q K r c - nextM ⊥ (masked q K r)) := by
  pointwise [k0_pay26]
  rw [pay24_apply, pay23_apply]

theorem pay27_apply (z : Fin 1) : k0_pay27 k0_pay16 k0_pay17 k0_pay18 k0_pay19 q K (ix2 r z)
    = nextL ⊥ 0 (masked q K r) := by
  pointwise [k0_pay27]
  simp only [pay25_apply, pay26_apply]
  rfl

theorem pay30_apply (d : Fin 128) :
    k0_pay30 (k0_pay28 k0_pay16 k0_pay17 k0_pay18 k0_pay19 q K) (k0_pay29 k0_pay16 k0_pay17 k0_pay18 k0_pay19 q V K) (ix2 r d)
      = nextA ⊥ 0 (masked q K r) fun c => V (ix3 0 c d) := by
  pointwise [k0_pay30, k0_pay28, k0_pay29]
  simp only [pay25_apply, pay26_apply]
  rfl

/-! The second head's products are the first head's. -/

theorem pay44_eq : k0_pay44 q = k0_pay21 q := rfl
theorem pay49_eq : k0_pay49 near q K = k0_pay24 k0_pay16 k0_pay17 k0_pay18 k0_pay19 q K := rfl
theorem pay1_eq : k0_pay1 (k0_pay51 near q K) (k0_pay52 near q K) = k0_pay27 k0_pay16 k0_pay17 k0_pay18 k0_pay19 q K := rfl
theorem pay2_eq : k0_pay2 k0_pay46 (k0_pay47 V) (k0_pay50 near q K) (k0_pay51 near q K)
    = k0_pay30 (k0_pay28 k0_pay16 k0_pay17 k0_pay18 k0_pay19 q K) (k0_pay29 k0_pay16 k0_pay17 k0_pay18 k0_pay19 q V K) := rfl

theorem pay21_apply (d : Fin 128) : k0_pay21 q (ix2 r d) = q (ix3 0 r d) := by
  pointwise [k0_pay21]

end diagonal

/-- The first head's rows. -/
theorem pay43_apply (l : FVec Ideal S256x1 .f32) (a : FVec Ideal S256x128 .f32) (r : Fin 256) (d : Fin 128) :
    k0_pay43 l a (ix2 r d) = a (ix2 r d) * Ideal.div 1 (l (ix2 r 0)) := by
  pointwise [k0_pay43]

theorem lane : ∀ d : Fin 128, IntOp.cmpi CmpIPredicate.slt (BitVec.ofNat 32 d.val) 64#32 = BitVec.ofBool (decide (d.val < 64)) := by
  decide +kernel

/-- The block written: the first 64 lanes are the first head's, the others the second head's. -/
theorem pay15_apply (o : FVec Ideal S256x128 .f32) (l : FVec Ideal S256x1 .f32) (a : FVec Ideal S256x128 .f32) (z : Fin 1) (r : Fin 256)
    (d : Fin 128) : k0_pay15 (iota .tc S256x128 32 [1] iota_S256x128_d1_w32) o l a (ix3 z r d)
      = if d.val < 64 then o (ix2 r d) else a (ix2 r d) * Ideal.div 1 (l (ix2 r 0)) := by
  pointwise [k0_pay15]
  rw [lane]
  by_cases h : d.val < 64
  · rw [if_pos h, decide_eq_true h]; rfl
  · rw [if_neg h, decide_eq_false h]; rfl

end Cert.Kernel2Ideal.Attn

end
-- ==== Proof.AttnLoops.lean ====
/-
  The attention kernel's loops over the earlier blocks of keys, and the block a grid point writes.
-/
module

public import proofs.«01_k».proof.Proof.Gen.Kernel2Ideal.Frame
public import Idealize.ShloMosaic.Lib.Pipeline.ReadBack
public import Idealize.ShloMosaic.Lib.Pointwise

@[expose] public section

set_option maxRecDepth 16384
set_option maxHeartbeats 1000000

noncomputable section

namespace Cert.Kernel2Ideal.Attn

open Cert.Kernel2Ideal Cert.Kernel2Ideal.Gen
open Idealize.ShloMosaic Idealize.ShloMosaic.TcCoe

variable {F : FTy → Type} [FloatOps F] [Named F]

theorem hz3 : (![0, 0, 0] : Fin 3 → ℕ) = fun _ => 0 := by decide

/-- The queries of head `h` of a block. -/
def qOf (x : Vec F S1x256x256 .bf16) (h : Fin 2) : Vec F S1x256x128 .bf16 := fun y =>
  x (ix3 0 ⟨(y 1).val, (y 1).isLt⟩ ⟨128 * h.val + (y 2).val, by have : (y 2).val < 128 := (y 2).isLt; omega⟩)
/-- The keys of head `h` in block `j`. -/
def kOf (x : Vec F S1x256x2048 .bf16) (h : Fin 2) (j : Fin 8) : Vec F S1x128x256 .bf16 := fun y =>
  x (ix3 0 ⟨128 * h.val + (y 1).val, by have : (y 1).val < 128 := (y 1).isLt; omega⟩
    ⟨256 * j.val + (y 2).val, by have : (y 2).val < 256 := (y 2).isLt; omega⟩)
/-- The values in block `j`. -/
def vOf (x : Vec F S1x2048x128 .bf16) (j : Fin 8) : Vec F S1x256x128 .bf16 := fun y =>
  x (ix3 0 ⟨256 * j.val + (y 1).val, by have : (y 1).val < 256 := (y 1).isLt; omega⟩ ⟨(y 2).val, (y 2).isLt⟩)

theorem ld_q (x : Vec F S1x256x256 .bf16) (h : Fin 2) {off : Fin 3 → ℕ} (ho : off = ![0, 0, 128 * h.val])
    (inb : ∀ a, off a + S1x256x128.size a ≤ S1x256x256.size a) :
    View.ld x (Rect.unit (s := S1x256x256) off S1x256x128.size inb) = qOf x h := by
  subst ho
  funext y
  refine congrArg x (funext fun a => Fin.ext ?_)
  match a with
  | ⟨0, _⟩ => show 0 + 1 * (y 0).val = 0; have : (y 0).val < 1 := (y 0).isLt; omega
  | ⟨1, _⟩ => show 0 + 1 * (y 1).val = (y 1).val; omega
  | ⟨2, _⟩ => show 128 * h.val + 1 * (y 2).val = 128 * h.val + (y 2).val; omega

theorem ld_k (x : Vec F S1x256x2048 .bf16) (h : Fin 2) (j : Fin 8) {off : Fin 3 → ℕ}
    (ho : off = ![0, 128 * h.val, 256 * j.val]) (inb : ∀ a, off a + S1x128x256.size a ≤ S1x256x2048.size a) :
    View.ld x (Rect.unit (s := S1x256x2048) off S1x128x256.size inb) = kOf x h j := by
  subst ho
  funext y
  refine congrArg x (funext fun a => Fin.ext ?_)
  match a with
  | ⟨0, _⟩ => show 0 + 1 * (y 0).val = 0; have : (y 0).val < 1 := (y 0).isLt; omega
  | ⟨1, _⟩ => show 128 * h.val + 1 * (y 1).val = 128 * h.val + (y 1).val; omega
  | ⟨2, _⟩ => show 256 * j.val + 1 * (y 2).val = 256 * j.val + (y 2).val; omega

theorem ld_v (x : Vec F S1x2048x128 .bf16) (j : Fin 8) {off : Fin 3 → ℕ} (ho : off = ![0, 256 * j.val, 0])
    (inb : ∀ a, off a + S1x256x128.size a ≤ S1x2048x128.size a) :
    View.ld x (Rect.unit (s := S1x2048x128) off S1x256x128.size inb) = vOf x j := by
  subst ho
  funext y
  refine congrArg x (funext fun a => Fin.ext ?_)
  match a with
  | ⟨0, _⟩ => show 0 + 1 * (y 0).val = 0; have : (y 0).val < 1 := (y 0).isLt; omega
  | ⟨1, _⟩ => show 256 * j.val + 1 * (y 1).val = 256 * j.val + (y 1).val; omega
  | ⟨2, _⟩ => show 0 + 1 * (y 2).val = (y 2).val; omega

/-! The loops' trips and offsets. -/

theorem trips_first : ∀ n : Fin 8, Scf.trips 0#32 (Scalar.addi 0#32 (Scalar.muli (Scalar.divsi
    (Scalar.subi (BitVec.ofNat 32 n.val) 0#32) 1#32) 1#32)) 1#32 = n.val := by
  decide +kernel
theorem trips_rest : ∀ n : Fin 8, Scf.trips (Scalar.addi 0#32 (Scalar.muli (Scalar.divsi
    (Scalar.subi (BitVec.ofNat 32 n.val) 0#32) 1#32) 1#32)) (Scalar.addi 0#32 (Scalar.subi (BitVec.ofNat 32 n.val) 0#32)) 1#32 = 0 := by
  decide +kernel
theorem trips1 (i : grid0.Coords) : (k0_t1_loop i).trips = (i 2).val := trips_first (i 2)
theorem trips2 (i : grid0.Coords) : (k0_t2_loop i).trips = 0 := trips_rest (i 2)
theorem trips3 (i : grid0.Coords) : (k0_t3_loop i).trips = (i 2).val := trips_first (i 2)
theorem trips4 (i : grid0.Coords) : (k0_t4_loop i).trips = 0 := trips_rest (i 2)

theorem off_trip : ∀ k : Fin 8, (Scalar.indexCast (Scalar.muli (Scf.iv 0#32 1#32 k.val) 256#32)).toNat = 256 * k.val := by
  decide +kernel
theorem off_self : ∀ k : Fin 8, (Scalar.indexCast (Scalar.muli (BitVec.ofNat 32 k.val) 256#32)).toNat = 256 * k.val := by
  decide +kernel

/-- A block before the point's own. -/
def before (i : grid0.Coords) (k : ℕ) (hk : k < (i 2).val) : Fin 8 := ⟨k, hk.trans (i 2).isLt⟩

theorem off1 (i : grid0.Coords) : k0_off1 i = ![0, 256 * (i 2).val, 0] := by
  show ![0, _, 0] = _; exact congrArg (fun n => ![0, n, 0]) (off_self (i 2))
theorem off2 (i : grid0.Coords) : k0_off2 i = ![0, 128 * (0 : Fin 2).val, 256 * (i 2).val] := by
  show ![0, 0, _] = _; exact congrArg (fun n => ![0, 0, n]) (off_self (i 2))
theorem off7 (i : grid0.Coords) : k0_off7 i = ![0, 128 * (1 : Fin 2).val, 256 * (i 2).val] := by
  show ![0, 128, _] = _; exact congrArg (fun n => ![0, 128, n]) (off_self (i 2))
theorem off3 (i : grid0.Coords) (k : Fin (k0_t1_loop i).trips) (hk : k.val < (i 2).val) :
    k0_off3 i k = ![0, 256 * (before i k.val hk).val, 0] := by
  show ![0, _, 0] = _; exact congrArg (fun n => ![0, n, 0]) (off_trip (before i k.val hk))
theorem off4 (i : grid0.Coords) (k : Fin (k0_t1_loop i).trips) (hk : k.val < (i 2).val) :
    k0_off4 i k = ![0, 128 * (0 : Fin 2).val, 256 * (before i k.val hk).val] := by
  show ![0, 0, _] = _; exact congrArg (fun n => ![0, 0, n]) (off_trip (before i k.val hk))
theorem off8 (i : grid0.Coords) (k : Fin (k0_t3_loop i).trips) (hk : k.val < (i 2).val) :
    k0_off8 i k = ![0, 256 * (before i k.val hk).val, 0] := by
  show ![0, _, 0] = _; exact congrArg (fun n => ![0, n, 0]) (off_trip (before i k.val hk))
theorem off9 (i : grid0.Coords) (k : Fin (k0_t3_loop i).trips) (hk : k.val < (i 2).val) :
    k0_off9 i k = ![0, 128 * (1 : Fin 2).val, 256 * (before i k.val hk).val] := by
  show ![0, 128, _] = _; exact congrArg (fun n => ![0, 128, n]) (off_trip (before i k.val hk))

/-- What a row block carries: the greatest scores, the sums of the weights, the weighted sums. -/
abbrev Carried (F : FTy → Type) : Type := FVec F S256x1 .f32 × FVec F S256x1 .f32 × FVec F S256x128 .f32

/-- One earlier block of keys. -/
def stepOf (Q : FVec F S256x128 .bf16) (K : Vec F S1x128x256 .bf16) (V : Vec F S1x256x128 .bf16) (s : Carried F) : Carried F :=
  (k0_pay32 Q s.1 K, k0_pay35 Q s.1 s.2.1 K, k0_pay36 Q s.1 s.2.2 V K)

/-- The state after the first `n` blocks. -/
def stepsOf (x1 : Vec F S1x256x2048 .bf16) (x2 : Vec F S1x2048x128 .bf16) (h : Fin 2) (Q : FVec F S256x128 .bf16)
    (s : Carried F) : ℕ → Carried F
  | 0 => s
  | n + 1 => if hn : n < 8 then stepOf Q (kOf x1 h ⟨n, hn⟩) (vOf x2 ⟨n, hn⟩) (stepsOf x1 x2 h Q s n) else stepsOf x1 x2 h Q s n

section loops
variable (𝒱 : Variants) (c : Dev nD) (bd : Option 𝒱.V) (i : grid0.Coords) (arg3 : Memref sig .tc .vmem S1x256x256 .bf16) (harg3 : arg3.IsWhole) (arg4 : Memref sig .tc .vmem S1x256x2048 .bf16) (harg4 : arg4.IsWhole) (arg5 : Memref sig .tc .vmem S1x2048x128 .bf16) (harg5 : arg5.IsWhole) (arg6 : Memref sig .tc .vmem S1x256x128 .bf16) (harg6 : arg6.IsWhole)
  (x1 : Vec F S1x256x2048 .bf16) (x2 : Vec F S1x2048x128 .bf16) (Q : FVec F S256x128 .bf16) (s : Carried F)

theorem loop1 (arg2 : BitVec 32) (v51 : IVec S256x256 1) (v72 : FVec F S256x1 .f32) (v81 : FVec F S256x1 .f32) (v83 : FVec F S256x128 .f32) (v85 : FVec F S256x128 .f32)
    (n : ℕ) (hn : n ≤ (i 2).val) :
    st_k0_t1 𝒱 c bd i arg3 harg3 arg4 harg4 arg5 harg5 arg6 harg6 arg2 v51 Q v72 v81 v83 v85 (harg4.unread x1) (harg5.unread x2) s n
      = stepsOf x1 x2 0 Q s n := by
  induction n with
  | zero => rfl
  | succ n ih =>
    have h8 : n < 8 := lt_of_lt_of_le hn (i 2).isLt.le
    have hk : n < (k0_t1_loop i).trips := by rw [trips1]; omega
    rw [st_k0_t1_succ 𝒱 c bd i arg3 harg3 arg4 harg4 arg5 harg5 arg6 harg6 arg2 v51 Q v72 v81 v83 v85 (harg4.unread x1) (harg5.unread x2) s ⟨n, hk⟩,
      ih (by omega)]
    unfold tripR_k0_t1 trip_k0_t1
    dsimp only
    simp only [View.readAt_eq_ld, harg4.read_unread, harg5.read_unread]
    rw [ld_k x1 0 (before i n hn) (off4 i ⟨n, hk⟩ hn), ld_v x2 (before i n hn) (off3 i ⟨n, hk⟩ hn)]
    show _ = dite _ _ _
    rw [dif_pos h8]
    rfl

theorem loop3 (n : ℕ) (hn : n ≤ (i 2).val) :
    st_k0_t3 𝒱 c bd i arg3 harg3 arg4 harg4 arg5 harg5 arg6 harg6 Q (harg4.unread x1) (harg5.unread x2) s n
      = stepsOf x1 x2 1 Q s n := by
  induction n with
  | zero => rfl
  | succ n ih =>
    have h8 : n < 8 := lt_of_lt_of_le hn (i 2).isLt.le
    have hk : n < (k0_t3_loop i).trips := by rw [trips3]; omega
    rw [st_k0_t3_succ 𝒱 c bd i arg3 harg3 arg4 harg4 arg5 harg5 arg6 harg6 Q (harg4.unread x1) (harg5.unread x2) s ⟨n, hk⟩,
      ih (by omega)]
    unfold tripR_k0_t3 trip_k0_t3
    dsimp only
    simp only [View.readAt_eq_ld, harg4.read_unread, harg5.read_unread]
    rw [ld_k x1 1 (before i n hn) (off9 i ⟨n, hk⟩ hn), ld_v x2 (before i n hn) (off8 i ⟨n, hk⟩ hn)]
    show _ = dite _ _ _
    rw [dif_pos h8]
    rfl

end loops

/-- The state after the block on the diagonal. -/
def startOf (x0 : Vec F S1x256x256 .bf16) (x1 : Vec F S1x256x2048 .bf16) (x2 : Vec F S1x2048x128 .bf16) (h : Fin 2) (j : Fin 8) : Carried F :=
  (k0_pay24 k0_pay16 k0_pay17 k0_pay18 k0_pay19 (qOf x0 h) (kOf x1 h j),
    k0_pay27 k0_pay16 k0_pay17 k0_pay18 k0_pay19 (qOf x0 h) (kOf x1 h j),
    k0_pay30 (k0_pay28 k0_pay16 k0_pay17 k0_pay18 k0_pay19 (qOf x0 h) (kOf x1 h j))
      (k0_pay29 k0_pay16 k0_pay17 k0_pay18 k0_pay19 (qOf x0 h) (vOf x2 j) (kOf x1 h j)))

/-- The state after all the blocks up to `j`. -/
def endOf (x0 : Vec F S1x256x256 .bf16) (x1 : Vec F S1x256x2048 .bf16) (x2 : Vec F S1x2048x128 .bf16) (h : Fin 2) (j : Fin 8) : Carried F :=
  stepsOf x1 x2 h (k0_pay21 (qOf x0 h)) (startOf x0 x1 x2 h j) j.val

/-- The block a grid point writes. -/
theorem out_eq (c : Dev nD) (i : grid0.Coords) (arg3 : Memref sig .tc .vmem S1x256x256 .bf16) (harg3 : arg3.IsWhole) (arg4 : Memref sig .tc .vmem S1x256x2048 .bf16) (harg4 : arg4.IsWhole) (arg5 : Memref sig .tc .vmem S1x2048x128 .bf16) (harg5 : arg5.IsWhole) (arg6 : Memref sig .tc .vmem S1x256x128 .bf16) (harg6 : arg6.IsWhole)
    (x0 : Vec F S1x256x256 .bf16) (x1 : Vec F S1x256x2048 .bf16) (x2 : Vec F S1x2048x128 .bf16) :
    out0_A_3 c i arg3 harg3 arg4 harg4 arg5 harg5 arg6 harg6 x0 x1 x2
      = k0_pay15 (iota .tc S256x128 32 [1] iota_S256x128_d1_w32)
          (k0_pay43 (endOf x0 x1 x2 0 (i 2)).2.1 (endOf x0 x1 x2 0 (i 2)).2.2)
          (endOf x0 x1 x2 1 (i 2)).2.1 (endOf x0 x1 x2 1 (i 2)).2.2 := by
  unfold out0_A_3
  refine (View.read_writes_eq_canon _ _ _ ?_).trans ?_
  · intro y; apply cover0_A_3
  unfold kernelRun0_A
  dsimp only
  sl_unfold_words
  rw [View.canon_unit_zero hz3]
  have t1 : Scf.trips (k0_t1_loop i).lb (k0_t1_loop i).ub (k0_t1_loop i).st = (i 2).val := trips1 i
  have t2 : Scf.trips (k0_t2_loop i).lb (k0_t2_loop i).ub (k0_t2_loop i).st = 0 := trips2 i
  have t3 : Scf.trips (k0_t3_loop i).lb (k0_t3_loop i).ub (k0_t3_loop i).st = (i 2).val := trips3 i
  have t4 : Scf.trips (k0_t4_loop i).lb (k0_t4_loop i).ub (k0_t4_loop i).st = 0 := trips4 i
  simp only [t1, t2, t3, t4, st_k0_t2_zero, st_k0_t4_zero, View.readAt_eq_ld, harg3.read_unread, harg4.read_unread, harg5.read_unread]
  rw [loop1 Variants.none c none i arg3 harg3 arg4 harg4 arg5 harg5 arg6 harg6 x1 x2 _ _ _ _ _ _ _ _ _ le_rfl]
  rw [loop3 Variants.none c none i arg3 harg3 arg4 harg4 arg5 harg5 arg6 harg6 x1 x2 _ _ _ le_rfl]
  have e1 : View.ld x1 (Rect.unit (s := S1x256x2048) (k0_off2 i) S1x128x256.size (k0_off2_inb i)) = kOf x1 0 (i 2) :=
    ld_k x1 0 (i 2) (off2 i) _
  have e2 : View.ld x1 (Rect.unit (s := S1x256x2048) (k0_off7 i) S1x128x256.size (k0_off7_inb i)) = kOf x1 1 (i 2) :=
    ld_k x1 1 (i 2) (off7 i) _
  have e3 : View.ld x2 (Rect.unit (s := S1x2048x128) (k0_off1 i) S1x256x128.size (k0_off1_inb i)) = vOf x2 (i 2) :=
    ld_v x2 (i 2) (off1 i) _
  have e4 : View.ld x0 (Rect.unit (s := S1x256x256) ![0, 0, 0] S1x256x128.size inb_S1x256x256_S1x256x128_0_0_0) = qOf x0 0 :=
    ld_q x0 0 rfl _
  have e5 : View.ld x0 (Rect.unit (s := S1x256x256) ![0, 0, 128] S1x256x128.size inb_S1x256x256_S1x256x128_0_0_128) = qOf x0 1 :=
    ld_q x0 1 rfl _
  unfold endOf startOf
  rw [← e1, ← e2, ← e3, ← e4, ← e5]
  rfl

end Cert.Kernel2Ideal.Attn

end
-- ==== Proof.AttnSweep.lean ====
/-
  A row of scores over 2048 keys in blocks of 256, taken from its own block on, then over the blocks before.
-/
module

public import proofs.«01_k».proof.Proof.Attend

@[expose] public section

noncomputable section

namespace Cert.Attn

open Idealize.ShloMosaic

/-- The keys of block `j`. -/
def keys (j : Fin 8) : Fin 256 ↪ Fin 2048 :=
  ⟨fun c => ⟨256 * j.val + c.val, by omega⟩, fun a b h => Fin.ext (by have := congrArg Fin.val h; simp only at this; omega)⟩

/-- The keys seen after `n` of the earlier blocks. -/
def seen (j : Fin 8) : ℕ → Finset (Fin 2048)
  | 0 => Finset.univ.map (keys j)
  | n + 1 => if hn : n < 8 then seen j n ∪ Finset.univ.map (keys ⟨n, hn⟩) else seen j n

theorem mem_keys (j : Fin 8) (k : Fin 2048) : k ∈ Finset.univ.map (keys j) ↔ k.val / 256 = j.val := by
  rw [Finset.mem_map]
  constructor
  · rintro ⟨c, -, rfl⟩; show (256 * j.val + c.val) / 256 = _; omega
  · intro h
    exact ⟨⟨k.val % 256, Nat.mod_lt _ (by decide)⟩, Finset.mem_univ _,
      Fin.ext (by show 256 * j.val + k.val % 256 = k.val; omega)⟩

theorem mem_seen (j : Fin 8) (n : ℕ) (hn : n ≤ 8) (k : Fin 2048) : k ∈ seen j n ↔ k.val / 256 = j.val ∨ k.val / 256 < n := by
  induction n with
  | zero => unfold seen; rw [mem_keys]; omega
  | succ n ih =>
    unfold seen
    rw [dif_pos (by omega), Finset.mem_union, ih (by omega), mem_keys]
    show (_ ∨ _) ∨ k.val / 256 = n ↔ _
    omega

/-- The blocks one after the other give the mean of the whole row, the later blocks having the score `⊥`. -/
theorem sweep {f v : Fin 2048 → EReal} (hf : ∀ k, f k ≠ ⊤) (j : Fin 8) (r : Fin 256) (hd : f (keys j r) ≠ ⊥)
    (hS : ∀ k : Fin 2048, j.val < k.val / 256 → f k = ⊥) {m l a : ℕ → EReal}
    (h0 : m 0 = nextM ⊥ (fun c => f (keys j c)) ∧ l 0 = nextL ⊥ 0 (fun c => f (keys j c))
      ∧ a 0 = nextA ⊥ 0 (fun c => f (keys j c)) fun c => v (keys j c))
    (hs : ∀ n (hn : n < j.val), m (n + 1) = nextM (m n) (fun c => f (keys ⟨n, hn.trans j.isLt⟩ c))
      ∧ l (n + 1) = nextL (m n) (l n) (fun c => f (keys ⟨n, hn.trans j.isLt⟩ c))
      ∧ a (n + 1) = nextA (m n) (a n) (fun c => f (keys ⟨n, hn.trans j.isLt⟩ c)) fun c => v (keys ⟨n, hn.trans j.isLt⟩ c)) :
    a j.val * Ideal.div 1 (l j.val) = attend f v := by
  have key : ∀ n ≤ j.val, After f v (seen j n) (m n) (l n) (a n) := by
    intro n
    induction n with
    | zero =>
      intro _
      rw [h0.1, h0.2.1, h0.2.2]
      exact After.first hf (keys j) r hd
    | succ n ih =>
      intro hn
      have h8 : n < 8 := by omega
      have es : seen j (n + 1) = seen j n ∪ Finset.univ.map (keys ⟨n, h8⟩) := dif_pos h8
      rw [es, (hs n hn).1, (hs n hn).2.1, (hs n hn).2.2]
      refine After.next hf (keys ⟨n, h8⟩) (ih (by omega)) ?_
      rw [Finset.disjoint_left]
      intro k hk hk'
      rw [mem_seen j n h8.le] at hk
      rw [mem_keys] at hk'
      have : k.val / 256 = n := hk'
      omega
  refine After.attend hf (key j.val le_rfl) ?_ (keys j r) hd
  intro k hk
  rw [mem_seen j j.val j.isLt.le] at hk
  exact hS k (by omega)

end Cert.Attn

end
-- ==== Proof.AttnValue.lean ====
/-
  A row of the attention kernel's block: the state after the blocks of keys, and the row's result.
-/
module

public import proofs.«01_k».proof.Proof.AttnSteps
public import proofs.«01_k».proof.Proof.AttnLoops
public import proofs.«01_k».proof.Proof.AttnSweep

@[expose] public section

set_option maxRecDepth 16384
set_option maxHeartbeats 1000000

noncomputable section

namespace Cert.Kernel2Ideal.Attn

open Cert.Kernel2Ideal Cert.Kernel2Ideal.Gen Cert.Attn
open Idealize.ShloMosaic Idealize.ShloMosaic.TcCoe

variable (x0 : Vec Ideal S1x256x256 .bf16) (x1 : Vec Ideal S1x256x2048 .bf16) (x2 : Vec Ideal S1x2048x128 .bf16)
  (h : Fin 2) (j : Fin 8) (r : Fin 256)

/-- The masked scores of a row. -/
def rowScores (s : Fin 2048) : EReal :=
  if s.val / 64 ≤ (256 * j.val + r.val) / 64 then
    ∑ d : Fin 128, x0 (ix3 0 r ⟨128 * h.val + d.val, by omega⟩) * x1 (ix3 0 ⟨128 * h.val + d.val, by omega⟩ s)
  else ⊥

theorem score_eq (n : Fin 8) (c : Fin 256) : score (k0_pay21 (qOf x0 h)) (kOf x1 h n) r c
    = ∑ d : Fin 128, x0 (ix3 0 r ⟨128 * h.val + d.val, by omega⟩)
        * x1 (ix3 0 ⟨128 * h.val + d.val, by omega⟩ (keys n c)) := by
  unfold score
  simp only [pay21_apply]
  rfl

theorem masked_eq : masked (qOf x0 h) (kOf x1 h j) r = fun c => rowScores x0 x1 h j r (keys j c) := by
  funext c
  unfold masked rowScores
  rw [score_eq]
  have e : (c.val / 64 ≤ r.val / 64) ↔ ((keys j c).val / 64 ≤ (256 * j.val + r.val) / 64) := by
    show _ ↔ (256 * j.val + c.val) / 64 ≤ _
    omega
  simp only [e]

theorem unmasked_eq (n : Fin 8) (hn : n.val < j.val) :
    score (k0_pay21 (qOf x0 h)) (kOf x1 h n) r = fun c => rowScores x0 x1 h j r (keys n c) := by
  funext c
  unfold rowScores
  rw [score_eq, if_pos (show (keys n c).val / 64 ≤ _ from (show (256 * n.val + c.val) / 64 ≤ (256 * j.val + r.val) / 64 by omega))]

variable (hf : ∀ s, rowScores x0 x1 h j r s ≠ ⊤)
  (hd : rowScores x0 x1 h j r (keys j r) ≠ ⊥)
include hf hd

/-- A row's result: its values, weighed by the softmax of its masked scores. -/
theorem end_attend (d : Fin 128) :
    (endOf x0 x1 x2 h j).2.2 (ix2 r d) * Ideal.div 1 ((endOf x0 x1 x2 h j).2.1 (ix2 r 0))
      = attend (rowScores x0 x1 h j r) fun s => x2 (ix3 0 s d) := by
  refine sweep (v := fun s => x2 (ix3 0 s d)) hf j r hd ?_
    (m := fun n => (stepsOf x1 x2 h (k0_pay21 (qOf x0 h)) (startOf x0 x1 x2 h j) n).1 (ix2 r 0))
    (l := fun n => (stepsOf x1 x2 h (k0_pay21 (qOf x0 h)) (startOf x0 x1 x2 h j) n).2.1 (ix2 r 0))
    (a := fun n => (stepsOf x1 x2 h (k0_pay21 (qOf x0 h)) (startOf x0 x1 x2 h j) n).2.2 (ix2 r d)) ⟨?_, ?_, ?_⟩ ?_
  · intro k hk
    unfold rowScores
    rw [if_neg (by omega)]
  · show k0_pay24 _ _ _ _ _ _ (ix2 r 0) = _
    rw [pay24_apply, masked_eq]
  · show k0_pay27 _ _ _ _ _ _ (ix2 r 0) = _
    rw [pay27_apply, masked_eq]
  · show k0_pay30 _ _ (ix2 r d) = _
    rw [pay30_apply, masked_eq]
    rfl
  · intro n hn
    have h8 : n < 8 := by omega
    have e : stepsOf x1 x2 h (k0_pay21 (qOf x0 h)) (startOf x0 x1 x2 h j) (n + 1)
        = stepOf (k0_pay21 (qOf x0 h)) (kOf x1 h ⟨n, h8⟩) (vOf x2 ⟨n, h8⟩)
            (stepsOf x1 x2 h (k0_pay21 (qOf x0 h)) (startOf x0 x1 x2 h j) n) := dif_pos h8
    rw [e]
    refine ⟨(pay32_apply _ _ _ _ _).trans ?_, (pay35_apply _ _ _ _ _ _).trans ?_, (pay36_apply _ _ _ _ _ _ _).trans ?_⟩
      <;> rw [unmasked_eq x0 x1 h j r ⟨n, h8⟩ hn]
    rfl

end Cert.Kernel2Ideal.Attn

end
-- ==== Proof.AttnInputs.lean ====
/-
  The attention's inputs and result: six heads of width 128 (queries and keys) and 64 (values), each query attending to
  the keys of its own chunk of 64 positions and of the chunks before.
-/
module

public import proofs.«01_k».proof.Proof.Attend
public import Idealize.ShloMosaic.Lib.Pointwise

@[expose] public section

noncomputable section

namespace Cert.Attn

open Idealize.ShloMosaic

/-- The queries, the transposed keys and the values. -/
structure Args where
  q : (⟨3, ![8, 2048, 768]⟩ : Shape).Idx → EReal
  k : (⟨3, ![8, 768, 2048]⟩ : Shape).Idx → EReal
  v : (⟨3, ![8, 2048, 384]⟩ : Shape).Idx → EReal

/-- The queries and keys are real numbers. -/
structure Args.Finite (A : Args) : Prop where
  q : ∀ i, ∃ r : ℝ, A.q i = r
  k : ∀ i, ∃ r : ℝ, A.k i = r

/-- The masked scores of query `t` of head `h` against the keys. -/
def Args.scores (A : Args) (b : Fin 8) (h : Fin 6) (t s : Fin 2048) : EReal :=
  if s.val / 64 ≤ t.val / 64 then
    ∑ d : Fin 128, A.q (ix3 b t ⟨h.val * 128 + d.val, by omega⟩) * A.k (ix3 b ⟨h.val * 128 + d.val, by omega⟩ s)
  else ⊥

/-- The result at query `t`, lane `e`. -/
def Args.out (A : Args) (b : Fin 8) (t : Fin 2048) (e : Fin 384) : EReal :=
  attend (A.scores b ⟨e.val / 64, by omega⟩ t) fun s => A.v (ix3 b s e)

theorem scores_ne_top {A : Args} (R : A.Finite) (b : Fin 8) (h : Fin 6) (t s : Fin 2048) : A.scores b h t s ≠ ⊤ := by
  unfold Args.scores
  split
  · obtain ⟨r, hr⟩ := Moe.real_sum fun d : Fin 128 =>
      Moe.Real'.mul (R.q (ix3 b t ⟨h.val * 128 + d.val, by omega⟩)) (R.k (ix3 b ⟨h.val * 128 + d.val, by omega⟩ s))
    rw [hr]; exact EReal.coe_ne_top r
  · exact bot_ne_top

theorem scores_self {A : Args} (R : A.Finite) (b : Fin 8) (h : Fin 6) (t : Fin 2048) : A.scores b h t t ≠ ⊥ := by
  unfold Args.scores
  rw [if_pos le_rfl]
  obtain ⟨r, hr⟩ := Moe.real_sum fun d : Fin 128 =>
    Moe.Real'.mul (R.q (ix3 b t ⟨h.val * 128 + d.val, by omega⟩)) (R.k (ix3 b ⟨h.val * 128 + d.val, by omega⟩ t))
  rw [hr]; exact EReal.coe_ne_bot r

/-- The result array. -/
def Args.rows (A : Args) : (⟨3, ![8, 2048, 384]⟩ : Shape).Idx → EReal := fun i =>
  A.out ⟨(i 0).val, (i 0).isLt⟩ ⟨(i 1).val, (i 1).isLt⟩ ⟨(i 2).val, (i 2).isLt⟩

end Cert.Attn

end
-- ==== Proof.AttnRun.lean ====
/-
  The attention kernel's run: the result array, from the blocks its grid points write.
-/
module

public import proofs.«01_k».proof.Proof.AttnValue
public import proofs.«01_k».proof.Proof.AttnInputs
public import proofs.«01_k».proof.Proof.Gen.Kernel2Ideal.Value

@[expose] public section

set_option maxRecDepth 16384
set_option maxHeartbeats 1000000

noncomputable section

namespace Cert.Kernel2Ideal.Attn

open Cert.Kernel2Ideal Cert.Kernel2Ideal.Gen Cert.Attn
open Idealize.ShloMosaic Idealize.ShloMosaic.TcCoe Idealize.SL.Sem

variable (m : (ℓ : Loc nD τ sig) → Buf (Elt Ideal) ℓ) (ρ : Dev nD → PrngReg)

/-- The arguments, on one device. -/
def args (c : Dev nD) : Args where
  q := m ((c : Thread nD τ).loc main_arg0)
  k := m ((c : Thread nD τ).loc main_arg1)
  v := m ((c : Thread nD τ).loc main_arg2)

theorem points : ∀ t : Fin cfg0.N, t.val < 192 := (by decide +kernel : ∀ t : Fin grid0.N, _)

/-- The batch entry, the pair of heads and the block of queries of a grid point. -/
def bOf (t : Fin cfg0.N) : Fin 8 := ⟨t.val / 24, by have := points t; omega⟩
def pOf (t : Fin cfg0.N) : Fin 3 := ⟨t.val / 8 % 3, Nat.mod_lt _ (by decide)⟩
def jOf (t : Fin cfg0.N) : Fin 8 := ⟨t.val % 8, Nat.mod_lt _ (by decide)⟩
/-- The query of row `r`. -/
def tOf (t : Fin cfg0.N) (r : Fin 256) : Fin 2048 := ⟨256 * (jOf t).val + r.val, by omega⟩

theorem coords_j (t : Fin cfg0.N) : (grid0.coords t 2) = jOf t :=
  Fin.ext ((by decide +kernel : ∀ t : Fin grid0.N, (grid0.coords t 2).val = t.val % 8) t)

theorem idx0 : ∀ t : Fin cfg0.N, win0_0.index t (0 : Fin 3) = (bOf t).val ∧ win0_0.index t (1 : Fin 3) = (jOf t).val ∧ win0_0.index t (2 : Fin 3) = (pOf t).val :=
  (by decide +kernel : ∀ t : Fin grid0.N, _)
theorem idx1 : ∀ t : Fin cfg0.N, win0_1.index t (0 : Fin 3) = (bOf t).val ∧ win0_1.index t (1 : Fin 3) = (pOf t).val ∧ win0_1.index t (2 : Fin 3) = 0 :=
  (by decide +kernel : ∀ t : Fin grid0.N, _)
theorem idx2 : ∀ t : Fin cfg0.N, win0_2.index t (0 : Fin 3) = (bOf t).val ∧ win0_2.index t (1 : Fin 3) = 0 ∧ win0_2.index t (2 : Fin 3) = (pOf t).val :=
  (by decide +kernel : ∀ t : Fin grid0.N, _)
theorem idx3 : ∀ t : Fin cfg0.N, win0_3.index t (0 : Fin 3) = (bOf t).val ∧ win0_3.index t (1 : Fin 3) = (jOf t).val ∧ win0_3.index t (2 : Fin 3) = (pOf t).val :=
  (by decide +kernel : ∀ t : Fin grid0.N, _)

theorem blk_q (c : Dev nD) (t : Fin cfg0.N) (r l : Fin 256) :
    iblk m c 0 t (ix3 0 r l) = (args m c).q (ix3 (bOf t) (tOf t r) ⟨256 * (pOf t).val + l.val, by omega⟩) := by
  obtain ⟨h0, h1, h2⟩ := idx0 t
  unfold iblk
  rw [View.read_apply]
  show m ((c : Thread nD τ).loc main_arg0) _ = _
  have h : ((cfg0.win 0).blk t).view.emb (ix3 0 r l) = ix3 (bOf t) (tOf t r) ⟨256 * (pOf t).val + l.val, by omega⟩ := by
    funext q; apply Fin.ext
    match q with
    | ⟨0, _⟩ => show win0_0.index t (0 : Fin 3) * 1 + 1 * 0 = (bOf t).val; omega
    | ⟨1, _⟩ => show win0_0.index t (1 : Fin 3) * 256 + 1 * r.val = 256 * (jOf t).val + r.val; omega
    | ⟨2, _⟩ => show win0_0.index t (2 : Fin 3) * 256 + 1 * l.val = 256 * (pOf t).val + l.val; omega
  rw [h]
  rfl

theorem blk_k (c : Dev nD) (t : Fin cfg0.N) (l : Fin 256) (s : Fin 2048) :
    iblk m c 1 t (ix3 0 l s) = (args m c).k (ix3 (bOf t) ⟨256 * (pOf t).val + l.val, by omega⟩ s) := by
  obtain ⟨h0, h1, h2⟩ := idx1 t
  unfold iblk
  rw [View.read_apply]
  show m ((c : Thread nD τ).loc main_arg1) _ = _
  have h : ((cfg0.win 1).blk t).view.emb (ix3 0 l s) = ix3 (bOf t) ⟨256 * (pOf t).val + l.val, by omega⟩ s := by
    funext q; apply Fin.ext
    match q with
    | ⟨0, _⟩ => show win0_1.index t (0 : Fin 3) * 1 + 1 * 0 = (bOf t).val; omega
    | ⟨1, _⟩ => show win0_1.index t (1 : Fin 3) * 256 + 1 * l.val = 256 * (pOf t).val + l.val; omega
    | ⟨2, _⟩ => show win0_1.index t (2 : Fin 3) * 2048 + 1 * s.val = s.val; omega
  rw [h]
  rfl

theorem blk_v (c : Dev nD) (t : Fin cfg0.N) (s : Fin 2048) (d : Fin 128) :
    iblk m c 2 t (ix3 0 s d) = (args m c).v (ix3 (bOf t) s ⟨128 * (pOf t).val + d.val, by omega⟩) := by
  obtain ⟨h0, h1, h2⟩ := idx2 t
  unfold iblk
  rw [View.read_apply]
  show m ((c : Thread nD τ).loc main_arg2) _ = _
  have h : ((cfg0.win 2).blk t).view.emb (ix3 0 s d) = ix3 (bOf t) s ⟨128 * (pOf t).val + d.val, by omega⟩ := by
    funext q; apply Fin.ext
    match q with
    | ⟨0, _⟩ => show win0_2.index t (0 : Fin 3) * 1 + 1 * 0 = (bOf t).val; omega
    | ⟨1, _⟩ => show win0_2.index t (1 : Fin 3) * 2048 + 1 * s.val = s.val; omega
    | ⟨2, _⟩ => show win0_2.index t (2 : Fin 3) * 128 + 1 * d.val = 128 * (pOf t).val + d.val; omega
  rw [h]
  rfl

/-- The scores of a row of a grid point's block are the attention's. -/
theorem rowScores_eq (c : Dev nD) (t : Fin cfg0.N) (h : Fin 2) (r : Fin 256) :
    rowScores (iblk m c 0 t) (iblk m c 1 t) h (jOf t) r
      = (args m c).scores (bOf t) ⟨2 * (pOf t).val + h.val, by omega⟩ (tOf t r) := by
  funext s
  unfold rowScores Args.scores
  have e : ∀ d : Fin 128, (⟨256 * (pOf t).val + (128 * h.val + d.val), by omega⟩ : Fin 768)
      = ⟨(2 * (pOf t).val + h.val) * 128 + d.val, by omega⟩ := fun d => Fin.ext (by
    show 256 * (pOf t).val + (128 * h.val + d.val) = (2 * (pOf t).val + h.val) * 128 + d.val; omega)
  refine if_congr Iff.rfl (Finset.sum_congr rfl fun d _ => ?_) rfl
  refine (congrArg₂ (fun x y : EReal => x * y) (blk_q m c t r ⟨128 * h.val + d.val, by omega⟩) (blk_k m c t ⟨128 * h.val + d.val, by omega⟩ s)).trans ?_
  dsimp only
  rw [e d]

/-- The block a grid point writes, at one entry. -/
theorem out_apply (c : Dev nD) (R : (args m c).Finite) (t : Fin cfg0.N) (r : Fin 256) (d : Fin 128) :
    outsAt0 m c t (ix3 0 r d) = (args m c).out (bOf t) (tOf t r) ⟨128 * (pOf t).val + d.val, by omega⟩ := by
  have key : ∀ h : Fin 2, (endOf (iblk m c 0 t) (iblk m c 1 t) (iblk m c 2 t) h (jOf t)).2.2 (ix2 r d)
      * Ideal.div 1 ((endOf (iblk m c 0 t) (iblk m c 1 t) (iblk m c 2 t) h (jOf t)).2.1 (ix2 r 0))
      = attend ((args m c).scores (bOf t) ⟨2 * (pOf t).val + h.val, by omega⟩ (tOf t r))
          fun s => (args m c).v (ix3 (bOf t) s ⟨128 * (pOf t).val + d.val, by omega⟩) := fun h => by
    rw [end_attend _ _ _ h (jOf t) r (by rw [rowScores_eq]; exact scores_ne_top R _ _ _)
      (by rw [rowScores_eq]; exact scores_self R _ _ (tOf t r)), rowScores_eq]
    exact congrArg _ (funext fun s => blk_v m c t s d)
  unfold outsAt0 Args.out
  rw [out_eq, coords_j]
  refine (pay15_apply _ _ _ 0 r d).trans ?_
  by_cases hd : d.val < 64
  · rw [if_pos hd, pay43_apply, key 0]
    congr 2
    exact Fin.ext (by show 2 * (pOf t).val + 0 = (128 * (pOf t).val + d.val) / 64; omega)
  · rw [if_neg hd, key 1]
    congr 2
    exact Fin.ext (by show 2 * (pOf t).val + 1 = (128 * (pOf t).val + d.val) / 64; omega)

/-- What a grid point writes back is its block of the result. -/
theorem flushed_eq (c : Dev nD) (R : (args m c).Finite) (t : Fin cfg0.N) :
    (dats m 0 c).flushed 3 t = ((cfg0.win 3).blk t).view.read (Elt Ideal) (args m c).rows := by
  rw [Value.flushed3]
  obtain ⟨e0, e1, e2⟩ := idx3 t
  funext y
  have hy0 : (y 0).val < 1 := (y 0).isLt
  have hb0 : (((cfg0.win 3).blk t).view.emb y 0).val = win0_3.index t (0 : Fin 3) * 1 + 1 * (y 0).val := rfl
  have hb1 : (((cfg0.win 3).blk t).view.emb y 1).val = win0_3.index t (1 : Fin 3) * 256 + 1 * (y 1).val := rfl
  have hb2 : (((cfg0.win 3).blk t).view.emb y 2).val = win0_3.index t (2 : Fin 3) * 128 + 1 * (y 2).val := rfl
  rw [View.read_apply]
  have hl : (cfg0.win 3).cut (grid0.coords t) (outsAt0 m c t) y
      = outsAt0 m c t (ix3 0 ⟨(y 1).val, (y 1).isLt⟩ ⟨(y 2).val, (y 2).isLt⟩) := by
    show outsAt0 m c t ((cfg0.win 3).xinj (grid0.coords t) y) = _
    refine congrArg (outsAt0 m c t) (funext fun a => Fin.ext ?_)
    match a with
    | ⟨0, _⟩ => show (y 0).val = 0; omega
    | ⟨1, _⟩ => rfl
    | ⟨2, _⟩ => rfl
  rw [hl, out_apply m c R]
  unfold Args.rows
  congr 1
  · exact Fin.ext (by show (bOf t).val = (((cfg0.win 3).blk t).view.emb y 0).val; rw [hb0, e0]; omega)
  · exact Fin.ext (by show 256 * (jOf t).val + (y 1).val = (((cfg0.win 3).blk t).view.emb y 1).val; rw [hb1, e1]; omega)
  · exact Fin.ext (by show 128 * (pOf t).val + (y 2).val = (((cfg0.win 3).blk t).view.emb y 2).val; rw [hb2, e2]; omega)

theorem mem_block (t : Fin cfg0.N) (i : S8x2048x384.Idx) :
    i ∈ ((cfg0.win 3).blk t).view.set ↔ ∀ a : Fin 3, win0_3.index t a * S1x256x128.size a ≤ (i a).val ∧ (i a).val < win0_3.index t a * S1x256x128.size a + S1x256x128.size a := by
  show i ∈ ((View.whole main_v0).slice (win0_3.rect t)).set ↔ _
  rw [View.set_slice_whole, Rect.mem_set_unit]
  exact Iff.rfl

theorem flush_all : ∀ t : Fin cfg0.N, (cfg0.win 3).flush t = true :=
  (by decide +kernel : ∀ t : Fin grid0.N, _)

/-- The result array after the run. -/
theorem final (c : Dev nD) (R : (args m c).Finite) : (dats m 0 c).arrAt 3 cfg0.N = (args m c).rows :=
  (dats m 0 c).arrAt_eq_of_cover 3 _ (fun t _ => flushed_eq m c R t) (fun i => by
    have hi0 : (i 0).val < 8 := (i 0).isLt
    have hi1 : (i 1).val < 2048 := (i 1).isLt
    have hi2 : (i 2).val < 384 := (i 2).isLt
    have hN : cfg0.N = 192 := by decide +kernel
    refine ⟨⟨((i 0).val * 3 + (i 2).val / 128) * 8 + (i 1).val / 256, by omega⟩, flush_all _, ?_⟩
    rw [mem_block]
    obtain ⟨e0, e1, e2⟩ := idx3 ⟨((i 0).val * 3 + (i 2).val / 128) * 8 + (i 1).val / 256, by omega⟩
    intro a
    match a with
    | ⟨0, _⟩ =>
      show win0_3.index _ (0 : Fin 3) * 1 ≤ (i 0).val ∧ (i 0).val < win0_3.index _ (0 : Fin 3) * 1 + 1
      rw [e0]
      show (((i 0).val * 3 + (i 2).val / 128) * 8 + (i 1).val / 256) / 24 * 1 ≤ _ ∧ _ < (((i 0).val * 3 + (i 2).val / 128) * 8 + (i 1).val / 256) / 24 * 1 + 1
      omega
    | ⟨1, _⟩ =>
      show win0_3.index _ (1 : Fin 3) * 256 ≤ (i 1).val ∧ (i 1).val < win0_3.index _ (1 : Fin 3) * 256 + 256
      rw [e1]
      show (((i 0).val * 3 + (i 2).val / 128) * 8 + (i 1).val / 256) % 8 * 256 ≤ _ ∧ _ < (((i 0).val * 3 + (i 2).val / 128) * 8 + (i 1).val / 256) % 8 * 256 + 256
      omega
    | ⟨2, _⟩ =>
      show win0_3.index _ (2 : Fin 3) * 128 ≤ (i 2).val ∧ (i 2).val < win0_3.index _ (2 : Fin 3) * 128 + 128
      rw [e2]
      show (((i 0).val * 3 + (i 2).val / 128) * 8 + (i 1).val / 256) / 8 % 3 * 128 ≤ _ ∧ _ < (((i 0).val * 3 + (i 2).val / 128) * 8 + (i 1).val / 256) / 8 % 3 * 128 + 128
      omega)

/-- The kernel's run: the result holds the attention's rows, the arguments are unchanged. -/
theorem run (R : ∀ c, (args m c).Finite) :
    θ_run defs (onTc (τ := τ) (main (F := Ideal))) ⟨m, fun _ => 0, ρ⟩ fun r => ∀ c : Dev nD,
      r.2.mem ((c : Thread nD τ).loc main_v0) = (args m c).rows
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c (R c)), (h c).2⟩) (Value.run_blocks m ρ)

end Cert.Kernel2Ideal.Attn

end
-- ==== Proof.AttnRef.lean ====
/-
  The attention's reference: its result, and its run.
-/
module

public import proofs.«01_k».proof.Proof.Gen.Reference2Ideal.Read
public import proofs.«01_k».proof.Proof.Gen.Reference2Ideal.Run
public import proofs.«01_k».proof.Proof.AttnInputs
public import Idealize.ShloMosaic.Lib.Quiescent
public import Idealize.ShloMosaic.Lib.Claim

@[expose] public section

set_option maxRecDepth 16384
set_option maxHeartbeats 1000000

noncomputable section

namespace Cert.Reference2Ideal.Rows

open Cert.Reference2Ideal Cert.Reference2Ideal.Gen Cert.Reference2Ideal.Read Cert.Attn
open Idealize.ShloMosaic Idealize.ShloMosaic.TcCoe Idealize.SL.Sem

/-- The floor division of a position by the chunk length, in words. -/
theorem chunk_word : ∀ s : Fin 2048, Scalar.select
      (IntOp.andi
        (IntOp.cmpi CmpIPredicate.ne
          (if BitVec.ofNat 32 s.val = 0 then 0#32 else if (BitVec.ofNat 32 s.val).msb = true then -1 else 1)
          (if 64#32 = 0 then 0#32 else if BitVec.msb 64#32 = true then -1 else 1))
        (IntOp.cmpi CmpIPredicate.ne (IntOp.remsi ArithUnit.host (BitVec.ofNat 32 s.val) 64#32) 0#32))
      (IntOp.subi (IntOp.divsi ArithUnit.host (BitVec.ofNat 32 s.val) 64#32) 1#32)
      (IntOp.divsi ArithUnit.host (BitVec.ofNat 32 s.val) 64#32) = BitVec.ofNat 32 (s.val / 64) := by
  decide +kernel

/-- The chunk of a key. -/
theorem key_chunk (s : Fin 2048) : val_main_v14 (F := Ideal) (ix2 0 s) = BitVec.ofNat 32 (s.val / 64) := by
  pointwise [val_main_v14, val_main_call0_v11, val_main_call0_v13, val_main_call0_v2, val_main_call0_v6,
    val_main_call0_v10, val_main_call0_v3, val_main_call0_v5, val_main_call0_v4, val_main_call0_v8, val_main_call0_v9,
    val_main_call0_v7, val_main_call0_v12, val_main_call0_v1, val_main_call0_v0, val_main_c, val_main_call0_c,
    val_main_call0_c_0, val_main_v13, val_main_v12]
  exact chunk_word s

/-- The chunk of a query. -/
theorem query_chunk (s : Fin 2048) : val_main_v15 (F := Ideal) (ix2 s 0) = BitVec.ofNat 32 (s.val / 64) := by
  pointwise [val_main_v15, val_main_call1_v11, val_main_call1_v13, val_main_call1_v2, val_main_call1_v6,
    val_main_call1_v10, val_main_call1_v3, val_main_call1_v5, val_main_call1_v4, val_main_call1_v8, val_main_call1_v9,
    val_main_call1_v7, val_main_call1_v12, val_main_call1_v1, val_main_call1_v0, val_main_c_0, val_main_call1_c,
    val_main_call1_c_0, val_main_v11, val_main_v10]
  exact chunk_word s

theorem chunk_order : ∀ a b : Fin 32, IntOp.cmpi .sle (BitVec.ofNat 32 a.val) (BitVec.ofNat 32 b.val)
    = if a.val ≤ b.val then 1#1 else 0#1 := by decide +kernel

/-- Which keys a query sees. -/
theorem seen_apply (t s : Fin 2048) : val_main_v18 (F := Ideal) (ix2 t s)
    = if s.val / 64 ≤ t.val / 64 then 1#1 else 0#1 := by
  refine Eq.trans ?_ (chunk_order ⟨s.val / 64, by omega⟩ ⟨t.val / 64, by omega⟩)
  show _ = IntOp.cmpi .sle (BitVec.ofNat 32 (s.val / 64)) (BitVec.ofNat 32 (t.val / 64))
  rw [← key_chunk, ← query_chunk]
  pointwise [val_main_v18, val_main_v17, val_main_v16]

theorem low : Ideal.ofBits .f32 0xFF800000#32 = ⊥ := by simp [Ideal.ofBits, Ideal.ieee]
theorem nought : Ideal.ofBits .f32 0x00000000#32 = 0 := by simp [Ideal.ofBits, Ideal.ieee]

/-- The scores before the mask. -/
theorem product_apply (A : Args) (b : Fin 8) (h : Fin 6) (t s : Fin 2048) : val_main_v9 (F := Ideal) A.q A.k (ix4 b h t s)
    = ∑ d : Fin 128, A.q (ix3 b t ⟨h.val * 128 + d.val, by omega⟩) * A.k (ix3 b ⟨h.val * 128 + d.val, by omega⟩ s) := by
  pointwise [val_main_v9, val_main_v0, val_main_v1, val_main_v2, val_main_v3, val_main_v4, val_main_v5]

theorem select_apply (f : S8x6x2048x2048.Idx → EReal) (b : Fin 8) (h : Fin 6) (t s : Fin 2048) :
    select (val_main_call2_v1 (F := Ideal)) f (val_main_call2_v2 (F := Ideal)) (ix4 b h t s)
      = Scalar.select (val_main_v18 (F := Ideal) (ix2 t s)) (f (ix4 b h t s)) ⊥ := by
  pointwise [val_main_call2_v1, val_main_call2_v2, val_main_call2_v0, val_main_cst]
  rw [← low]
  rfl

/-- The masked scores. -/
theorem scores_apply (A : Args) (b : Fin 8) (h : Fin 6) (t s : Fin 2048) :
    val_main_v19 (F := Ideal) A.q A.k (ix4 b h t s) = A.scores b h t s := by
  unfold val_main_v19 Args.scores
  rw [select_apply, seen_apply, product_apply]
  split
  · rfl
  · rfl

/-- The greatest entry of a row. -/
theorem top_apply (f : S8x6x2048x2048.Idx → EReal) (b : Fin 8) (h : Fin 6) (t : Fin 2048) :
    Host.reduce (FloatOps.maximumf (F := Ideal) (φ := .f32)) f (val_main_cst_1 (F := Ideal))
      reducesTo_S8x6x2048x2048_S8x6x2048_d3 h_S_ (ix3 b h t) = top fun s => f (ix4 b h t s) := by
  pointwise []
  unfold top
  rw [← low]
  rfl

theorem exp_gen (f : S8x6x2048x2048.Idx → EReal) (g : S8x6x2048.Idx → EReal) (b : Fin 8) (h : Fin 6) (t s : Fin 2048) :
    (Host.exp (F := Ideal) (φ := .f32) (subf f (broadcastInDim S8x6x2048x2048 ![0, 1, 2, 3]
      bcast_S8x6x2048x1_S8x6x2048x2048_0_1_2_3 (broadcastInDim S8x6x2048x1 ![0, 1, 2]
      bcast_S8x6x2048_S8x6x2048x1_0_1_2 (maximumf (F := Ideal) (φ := .f32) (val_main_v21 (F := Ideal)) g))))) (ix4 b h t s)
      = Ideal.exp (f (ix4 b h t s) - max ⊥ (g (ix3 b h t))) := by
  pointwise [val_main_v21, val_main_cst_2]
  rw [← low]

/-- The exponentials. -/
theorem exp_apply (A : Args) (b : Fin 8) (h : Fin 6) (t s : Fin 2048) : val_main_v26 (F := Ideal) A.q A.k (ix4 b h t s)
    = Ideal.exp (A.scores b h t s - top (A.scores b h t)) := by
  unfold val_main_v26 val_main_v25 val_main_v24 val_main_v23 val_main_v22 val_main_v20
  rw [exp_gen, top_apply, scores_apply, max_eq_right bot_le]
  exact congrArg (fun w => Ideal.exp (A.scores b h t s - top w)) (funext fun x => scores_apply A b h t x)

/-- The result, entry by entry. -/
theorem out_apply (A : Args) (b : Fin 8) (t : Fin 2048) (e : Fin 384) :
    val_main_v34 (F := Ideal) A.q A.k A.v (ix3 b t e) = A.out b t e := by
  pointwise [val_main_v34, val_main_v33, val_main_v32, val_main_v31, val_main_v8, val_main_v7, val_main_v6, val_main_v30,
    val_main_v29, val_main_v28, val_main_v27]
  unfold Args.out attend
  have z : val_main_cst_3 (F := Ideal) (Shape.Idx.first h_S_) = 0 := nought
  simp only [exp_apply, z, zero_add]

/-- The reference runs, leaves the attention's rows in its result, and its arguments as they were. -/
theorem run (m : (ℓ : Loc nD τ sig) → Buf (Elt Ideal) ℓ) (ρ : Dev nD → PrngReg) (A : Dev nD → Args)
    (h : ∀ c : Dev nD, m ((c.tc : Thread nD τ).loc main_arg0) = (A c).q
      ∧ m ((c.tc : Thread nD τ).loc main_arg1) = (A c).k
      ∧ m ((c.tc : Thread nD τ).loc main_arg2) = (A c).v) :
    θ_run defs (onTc (τ := τ) (main (F := Ideal))) ⟨m, fun _ => 0, ρ⟩ fun r => ∀ c : Dev nD,
      r.2.mem ((c.tc : Thread nD τ).loc main_v34) = (A c).rows
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r H c => ⟨(H c).1.trans ((val_main_v34_eq m c).trans (by
    obtain ⟨e0, e1, e2⟩ := h c
    refine Eq.trans (b := val_main_v34 (F := Ideal) (A c).q (A c).k (A c).v) ?_ ?_
    · rw [← e0, ← e1, ← e2]
    funext i
    have hi : i = ix3 (⟨(i 0).val, (i 0).isLt⟩ : Fin 8) (⟨(i 1).val, (i 1).isLt⟩ : Fin 2048) (⟨(i 2).val, (i 2).isLt⟩ : Fin 384) := by
      funext q
      match q with
      | ⟨0, _⟩ => rfl
      | ⟨1, _⟩ => rfl
      | ⟨2, _⟩ => rfl
    rw [hi]
    exact out_apply (A c) _ _ _)), (H c).2⟩) (Value.run m ρ)

/-- The reference runs, leaves its arguments as they were and every semaphore at zero. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r H => ⟨fun c => (H c).2, sem_eq_zero_of_no_sems rfl r.2⟩) (Value.run m ρ)

end Cert.Reference2Ideal.Rows

end
-- ==== Proof.AttnFinite.lean ====
/-
  What the attention's precondition says: the queries and the keys are finite.
-/
module

public import proofs.«01_k».proof.Pre_latent_finite
public import proofs.«01_k».proof.Proof.AttnInputs
public import proofs.«01_k».proof.Proof.Finiteness

@[expose] public section

noncomputable section

namespace Cert.Attn

open Idealize.ShloMosaic

/-- The shapes the precondition broadcasts to. -/
theorem latentFacts : Cert.Pre_latent_finite.Facts where
  bitsLt_bf16_f32 := by decide
  bcast_S_S8x2048x768 := by decide
  bcast_S_S8x768x2048 := by decide

/-- The precondition, read at the arguments. -/
theorem finite (A : Args) (h : letI := latentFacts
    let p := Cert.Pre_latent_finite.fn (F := Ideal) A.q A.k A.v
    p.1 = (fun _ => 1#1) ∧ p.2 = (fun _ => 1#1)) : A.Finite where
  q i := Moe.real_of_below _ (congrFun h.1 i)
  k i := Moe.real_of_below _ (congrFun h.2 i)

end Cert.Attn

end
-- ==== Proof.ForgetSteps.lean ====
/-
  The forget-gate attention kernel's block products, at one entry: one block of keys is one step of the softmax in parts.
-/
module

public import proofs.«01_k».proof.Proof.Gen.Kernel3Ideal.Skeleton
public import proofs.«01_k».proof.Proof.Attend
public import Idealize.ShloMosaic.Lib.Pointwise

@[expose] public section

set_option maxRecDepth 16384
set_option maxHeartbeats 1000000

noncomputable section

namespace Cert.Kernel3Ideal.Attn

open Cert.Kernel3Ideal Cert.Kernel3Ideal.Gen Cert.Attn
open Idealize.ShloMosaic Idealize.ShloMosaic.TcCoe

/-- The scores of row `r` of the queries against a block of keys. -/
def score (Q : FVec Ideal S256x128 .bf16) (ct : FVec Ideal S256x1 .f32) (K : Vec Ideal S1x128x256 .bf16)
    (C : Vec Ideal S1x1x1x256 .f32) (r c : Fin 256) : EReal :=
  (∑ d : Fin 128, Q (ix2 r d) * K (ix3 0 d c)) + (ct (ix2 r 0) - C (ix4 0 0 0 c))

/-- The word that starts a maximum. -/
theorem low : Ideal.ofBits .f32 0xFF800000#32 = ⊥ := by simp [Ideal.ofBits, Ideal.ieee]
/-- The word of the mask. -/
theorem mask : (Named.named (F := Ideal) κ "mask" (φ := .f32) 0xF149F2CA#32) = (⊥ : EReal) := rfl

section trip
variable (Q : FVec Ideal S256x128 .bf16) (ct m l : FVec Ideal S256x1 .f32) (a : FVec Ideal S256x128 .f32)
  (V : Vec Ideal S1x256x128 .bf16) (K : Vec Ideal S1x128x256 .bf16) (C : Vec Ideal S1x1x1x256 .f32) (r : Fin 256)

theorem pay1_apply (c : Fin 256) : k0_pay1 Q ct K C (ix2 r c) = score Q ct K C r c := by
  pointwise [k0_pay1]
  rfl

theorem pay2_apply (z : Fin 1) : k0_pay2 Q ct m K C (ix2 r z) = nextM (m (ix2 r z)) (score Q ct K C r) := by
  pointwise [k0_pay2]
  simp only [pay1_apply, low]
  rfl

theorem pay3_apply (z : Fin 1) : k0_pay3 Q ct m K C (ix2 r z)
    = Ideal.exp (m (ix2 r z) - nextM (m (ix2 r z)) (score Q ct K C r)) := by
  pointwise [k0_pay3]
  rw [pay2_apply]

theorem pay4_apply (c : Fin 256) : k0_pay4 Q ct m K C (ix2 r c)
    = Ideal.exp (score Q ct K C r c - nextM (m (ix2 r 0)) (score Q ct K C r)) := by
  pointwise [k0_pay4]
  rw [pay2_apply, pay1_apply]

theorem pay5_apply (z : Fin 1) : k0_pay5 Q ct m l K C (ix2 r z)
    = nextL (m (ix2 r 0)) (l (ix2 r z)) (score Q ct K C r) := by
  obtain rfl : z = 0 := Subsingleton.elim _ _
  pointwise [k0_pay5]
  simp only [pay3_apply, pay4_apply]
  rfl

theorem pay6_apply (d : Fin 128) : k0_pay6 Q ct m a V K C (ix2 r d)
    = nextA (m (ix2 r 0)) (a (ix2 r d)) (score Q ct K C r) fun c => V (ix3 0 c d) := by
  pointwise [k0_pay6]
  simp only [pay3_apply, pay4_apply]
  rfl

/-! The block on the diagonal. -/

theorem word_le : ∀ a : Fin 256, ∀ b : Fin 256, IntOp.cmpi CmpIPredicate.sle (BitVec.ofNat 32 a.val) (BitVec.ofNat 32 b.val)
    = BitVec.ofBool (decide (a.val ≤ b.val)) := by
  intro a b
  unfold IntOp.cmpi
  refine congrArg BitVec.ofBool ?_
  show (BitVec.ofNat 32 a.val).sle (BitVec.ofNat 32 b.val) = _
  rw [BitVec.sle_eq_decide]
  have ha : (BitVec.ofNat 32 a.val).toInt = a.val := by
    rw [BitVec.toInt_eq_toNat_of_lt] <;> simp only [BitVec.toNat_ofNat] <;> omega
  have hb : (BitVec.ofNat 32 b.val).toInt = b.val := by
    rw [BitVec.toInt_eq_toNat_of_lt] <;> simp only [BitVec.toNat_ofNat] <;> omega
  rw [ha, hb]
  simp only [Int.ofNat_le]

/-- The masked scores of the diagonal block. -/
def masked (c : Fin 256) : EReal := if c.val ≤ r.val then score Q ct K C r c else ⊥

theorem pay46_apply (c : Fin 256) : k0_pay46 k0_pay15 Q ct K C (ix2 r c) = masked Q ct K C r c := by
  pointwise [k0_pay46, k0_pay15]
  refine (congrArg₂ (fun w x => Scalar.select w _ x) (word_le c r) mask).trans ?_
  unfold masked
  by_cases h : c.val ≤ r.val
  · rw [if_pos h, decide_eq_true h]; rfl
  · rw [if_neg h, decide_eq_false h]; rfl

theorem pay47_apply (z : Fin 1) : k0_pay47 k0_pay15 Q ct K C (ix2 r z) = nextM ⊥ (masked Q ct K C r) := by
  pointwise [k0_pay47, k0_pay45]
  simp only [pay46_apply, low, mask]
  rfl

theorem pay48_apply (z : Fin 1) : k0_pay48 k0_pay15 Q ct K C (ix2 r z) = Ideal.exp (⊥ - nextM ⊥ (masked Q ct K C r)) := by
  pointwise [k0_pay48, k0_pay45]
  rw [pay47_apply, mask]

theorem pay49_apply (c : Fin 256) : k0_pay49 k0_pay15 Q ct K C (ix2 r c)
    = Ideal.exp (masked Q ct K C r c - nextM ⊥ (masked Q ct K C r)) := by
  pointwise [k0_pay49]
  rw [pay47_apply, pay46_apply]

theorem pay50_apply (z : Fin 1) : k0_pay50 k0_pay15 Q ct K C (ix2 r z) = nextL ⊥ 0 (masked Q ct K C r) := by
  pointwise [k0_pay50]
  simp only [pay48_apply, pay49_apply]
  rfl

theorem pay51_apply (d : Fin 128) : k0_pay51 k0_pay15 Q ct V K C (ix2 r d)
    = nextA ⊥ 0 (masked Q ct K C r) fun c => V (ix3 0 c d) := by
  pointwise [k0_pay51]
  simp only [pay48_apply, pay49_apply]
  rfl

end trip

/-! The two heads' queries: one head's lanes are kept, the others set to 0. -/

theorem lane_low : ∀ d : Fin 128, IntOp.andi (IntOp.cmpi CmpIPredicate.sge (BitVec.ofNat 32 d.val) 0#32)
    (IntOp.cmpi CmpIPredicate.slt (BitVec.ofNat 32 d.val) 64#32) = BitVec.ofBool (decide (d.val < 64)) := by
  decide +kernel
theorem lane_high : ∀ d : Fin 128, IntOp.andi (IntOp.cmpi CmpIPredicate.sge (BitVec.ofNat 32 d.val) 64#32)
    (IntOp.cmpi CmpIPredicate.slt (BitVec.ofNat 32 d.val) 128#32) = BitVec.ofBool (decide (64 ≤ d.val)) := by
  decide +kernel

section heads
variable (q : Vec Ideal S1x256x128 .bf16) (r : Fin 256)

theorem pay16_apply (d : Fin 128) : k0_pay16 q (ix2 r d) = if d.val < 64 then q (ix3 0 r d) else 0 := by
  pointwise [k0_pay16, k0_pay14]
  rw [lane_low]
  by_cases h : d.val < 64
  · rw [if_pos h, decide_eq_true h]; rfl
  · rw [if_neg h, decide_eq_false h]; simp [Scalar.select]

theorem pay43_apply (d : Fin 128) : k0_pay43 (k0_pay14 q) (iota .tc S256x128 32 [1] iota_S256x128_d1_w32) (ix2 r d)
    = if 64 ≤ d.val then q (ix3 0 r d) else 0 := by
  pointwise [k0_pay43, k0_pay14]
  rw [lane_high]
  by_cases h : 64 ≤ d.val
  · rw [if_pos h, decide_eq_true h]; rfl
  · rw [if_neg h, decide_eq_false h]; simp [Scalar.select]

theorem pay17_apply (x : Vec Ideal S1x1x256x1 .f32) (z : Fin 1) : k0_pay17 x (ix2 r z) = x (ix4 0 0 r 0) := by
  pointwise [k0_pay17]

/-- The first head's rows. -/
theorem pay42_apply (l : FVec Ideal S256x1 .f32) (a : FVec Ideal S256x128 .f32) (d : Fin 128) :
    k0_pay42 l a (ix2 r d) = a (ix2 r d) * Ideal.div 1 (l (ix2 r 0)) := by
  pointwise [k0_pay42]

end heads

theorem lane : ∀ d : Fin 128, IntOp.cmpi CmpIPredicate.slt (BitVec.ofNat 32 d.val) 64#32 = BitVec.ofBool (decide (d.val < 64)) := by
  decide +kernel

/-- The block written: the first 64 lanes are the first head's, the others the second head's. -/
theorem pay13_apply (o : FVec Ideal S256x128 .f32) (l : FVec Ideal S256x1 .f32) (a : FVec Ideal S256x128 .f32) (z : Fin 1) (r : Fin 256)
    (d : Fin 128) : k0_pay13 (iota .tc S256x128 32 [1] iota_S256x128_d1_w32) o l a (ix3 z r d)
      = if d.val < 64 then o (ix2 r d) else a (ix2 r d) * Ideal.div 1 (l (ix2 r 0)) := by
  pointwise [k0_pay13]
  rw [lane]
  by_cases h : d.val < 64
  · rw [if_pos h, decide_eq_true h]; rfl
  · rw [if_neg h, decide_eq_false h]; rfl

end Cert.Kernel3Ideal.Attn

end
-- ==== Proof.ForgetLoops.lean ====
/-
  The forget-gate attention kernel's loops over the earlier blocks of keys, and the block a grid point writes.
-/
module

public import proofs.«01_k».proof.Proof.Gen.Kernel3Ideal.Frame
public import Idealize.ShloMosaic.Lib.Pipeline.ReadBack
public import Idealize.ShloMosaic.Lib.Pointwise

@[expose] public section

set_option maxRecDepth 16384
set_option maxHeartbeats 1000000

noncomputable section

namespace Cert.Kernel3Ideal.Attn

open Cert.Kernel3Ideal Cert.Kernel3Ideal.Gen
open Idealize.ShloMosaic Idealize.ShloMosaic.TcCoe

variable {F : FTy → Type} [FloatOps F] [Named F]

theorem hz3 : (![0, 0, 0] : Fin 3 → ℕ) = fun _ => 0 := by decide

/-- The keys in block `j`. -/
def kOf (x : Vec F S1x128x2048 .bf16) (j : Fin 8) : Vec F S1x128x256 .bf16 := fun y =>
  x (ix3 0 ⟨(y 1).val, (y 1).isLt⟩ ⟨256 * j.val + (y 2).val, by have : (y 2).val < 256 := (y 2).isLt; omega⟩)
/-- The values in block `j`. -/
def vOf (x : Vec F S1x2048x128 .bf16) (j : Fin 8) : Vec F S1x256x128 .bf16 := fun y =>
  x (ix3 0 ⟨256 * j.val + (y 1).val, by have : (y 1).val < 256 := (y 1).isLt; omega⟩ ⟨(y 2).val, (y 2).isLt⟩)
/-- The cumulated gates of head `h` at the keys in block `j`. -/
def cOf (x : Vec F S1x1x2x2048 .f32) (h : Fin 2) (j : Fin 8) : Vec F S1x1x1x256 .f32 := fun y =>
  x (ix4 0 0 h ⟨256 * j.val + (y 3).val, by have : (y 3).val < 256 := (y 3).isLt; omega⟩)
/-- The cumulated gates of head `h` at the queries. -/
def gOf (x : Vec F S1x1x256x2 .f32) (h : Fin 2) : Vec F S1x1x256x1 .f32 := fun y =>
  x (ix4 0 0 ⟨(y 2).val, (y 2).isLt⟩ h)

theorem ld_k (x : Vec F S1x128x2048 .bf16) (j : Fin 8) {off : Fin 3 → ℕ}
    (ho : off = ![0, 0, 256 * j.val]) (inb : ∀ a, off a + S1x128x256.size a ≤ S1x128x2048.size a) :
    View.ld x (Rect.unit (s := S1x128x2048) off S1x128x256.size inb) = kOf x j := by
  subst ho
  funext y
  refine congrArg x (funext fun a => Fin.ext ?_)
  match a with
  | ⟨0, _⟩ => show 0 + 1 * (y 0).val = 0; have : (y 0).val < 1 := (y 0).isLt; omega
  | ⟨1, _⟩ => show 0 + 1 * (y 1).val = (y 1).val; omega
  | ⟨2, _⟩ => show 256 * j.val + 1 * (y 2).val = 256 * j.val + (y 2).val; omega

theorem ld_v (x : Vec F S1x2048x128 .bf16) (j : Fin 8) {off : Fin 3 → ℕ} (ho : off = ![0, 256 * j.val, 0])
    (inb : ∀ a, off a + S1x256x128.size a ≤ S1x2048x128.size a) :
    View.ld x (Rect.unit (s := S1x2048x128) off S1x256x128.size inb) = vOf x j := by
  subst ho
  funext y
  refine congrArg x (funext fun a => Fin.ext ?_)
  match a with
  | ⟨0, _⟩ => show 0 + 1 * (y 0).val = 0; have : (y 0).val < 1 := (y 0).isLt; omega
  | ⟨1, _⟩ => show 256 * j.val + 1 * (y 1).val = 256 * j.val + (y 1).val; omega
  | ⟨2, _⟩ => show 0 + 1 * (y 2).val = (y 2).val; omega

theorem ld_c (x : Vec F S1x1x2x2048 .f32) (h : Fin 2) (j : Fin 8) {off : Fin 4 → ℕ} (ho : off = ![0, 0, h.val, 256 * j.val])
    (inb : ∀ a, off a + S1x1x1x256.size a ≤ S1x1x2x2048.size a) :
    View.ld x (Rect.unit (s := S1x1x2x2048) off S1x1x1x256.size inb) = cOf x h j := by
  subst ho
  funext y
  refine congrArg x (funext fun a => Fin.ext ?_)
  match a with
  | ⟨0, _⟩ => show 0 + 1 * (y 0).val = 0; have : (y 0).val < 1 := (y 0).isLt; omega
  | ⟨1, _⟩ => show 0 + 1 * (y 1).val = 0; have : (y 1).val < 1 := (y 1).isLt; omega
  | ⟨2, _⟩ => show h.val + 1 * (y 2).val = h.val; have : (y 2).val < 1 := (y 2).isLt; omega
  | ⟨3, _⟩ => show 256 * j.val + 1 * (y 3).val = 256 * j.val + (y 3).val; omega

theorem ld_g (x : Vec F S1x1x256x2 .f32) (h : Fin 2) {off : Fin 4 → ℕ} (ho : off = ![0, 0, 0, h.val])
    (inb : ∀ a, off a + S1x1x256x1.size a ≤ S1x1x256x2.size a) :
    View.ld x (Rect.unit (s := S1x1x256x2) off S1x1x256x1.size inb) = gOf x h := by
  subst ho
  funext y
  refine congrArg x (funext fun a => Fin.ext ?_)
  match a with
  | ⟨0, _⟩ => show 0 + 1 * (y 0).val = 0; have : (y 0).val < 1 := (y 0).isLt; omega
  | ⟨1, _⟩ => show 0 + 1 * (y 1).val = 0; have : (y 1).val < 1 := (y 1).isLt; omega
  | ⟨2, _⟩ => show 0 + 1 * (y 2).val = (y 2).val; omega
  | ⟨3, _⟩ => show h.val + 1 * (y 3).val = h.val; have : (y 3).val < 1 := (y 3).isLt; omega

/-! The loops' trips and offsets. -/

theorem trips_first : ∀ n : Fin 8, Scf.trips 0#32 (Scalar.addi 0#32 (Scalar.muli (Scalar.divsi
    (Scalar.subi (BitVec.ofNat 32 n.val) 0#32) 1#32) 1#32)) 1#32 = n.val := by
  decide +kernel
theorem trips_rest : ∀ n : Fin 8, Scf.trips (Scalar.addi 0#32 (Scalar.muli (Scalar.divsi
    (Scalar.subi (BitVec.ofNat 32 n.val) 0#32) 1#32) 1#32)) (Scalar.addi 0#32 (Scalar.subi (BitVec.ofNat 32 n.val) 0#32)) 1#32 = 0 := by
  decide +kernel
theorem trips1 (i : grid0.Coords) : (k0_t1_loop i).trips = (i 2).val := trips_first (i 2)
theorem trips2 (i : grid0.Coords) : (k0_t2_loop i).trips = 0 := trips_rest (i 2)
theorem trips3 (i : grid0.Coords) : (k0_t3_loop i).trips = (i 2).val := trips_first (i 2)
theorem trips4 (i : grid0.Coords) : (k0_t4_loop i).trips = 0 := trips_rest (i 2)

theorem off_trip : ∀ k : Fin 8, (Scalar.indexCast (Scalar.muli (Scf.iv 0#32 1#32 k.val) 256#32)).toNat = 256 * k.val := by
  decide +kernel
theorem off_self : ∀ k : Fin 8, (Scalar.indexCast (Scalar.muli (BitVec.ofNat 32 k.val) 256#32)).toNat = 256 * k.val := by
  decide +kernel

/-- A block before the point's own. -/
def before (i : grid0.Coords) (k : ℕ) (hk : k < (i 2).val) : Fin 8 := ⟨k, hk.trans (i 2).isLt⟩

theorem off1 (i : grid0.Coords) : k0_off1 i = ![0, 256 * (i 2).val, 0] := by
  show ![0, _, 0] = _; exact congrArg (fun n => ![0, n, 0]) (off_self (i 2))
theorem off2 (i : grid0.Coords) : k0_off2 i = ![0, 0, 256 * (i 2).val] := by
  show ![0, 0, _] = _; exact congrArg (fun n => ![0, 0, n]) (off_self (i 2))
theorem off3 (i : grid0.Coords) : k0_off3 i = ![0, 0, (0 : Fin 2).val, 256 * (i 2).val] := by
  show ![0, 0, 0, _] = _; exact congrArg (fun n => ![0, 0, 0, n]) (off_self (i 2))
theorem off10 (i : grid0.Coords) : k0_off10 i = ![0, 0, (1 : Fin 2).val, 256 * (i 2).val] := by
  show ![0, 0, 1, _] = _; exact congrArg (fun n => ![0, 0, 1, n]) (off_self (i 2))
theorem off4 (i : grid0.Coords) (k : Fin (k0_t1_loop i).trips) (hk : k.val < (i 2).val) :
    k0_off4 i k = ![0, 256 * (before i k.val hk).val, 0] := by
  show ![0, _, 0] = _; exact congrArg (fun n => ![0, n, 0]) (off_trip (before i k.val hk))
theorem off5 (i : grid0.Coords) (k : Fin (k0_t1_loop i).trips) (hk : k.val < (i 2).val) :
    k0_off5 i k = ![0, 0, 256 * (before i k.val hk).val] := by
  show ![0, 0, _] = _; exact congrArg (fun n => ![0, 0, n]) (off_trip (before i k.val hk))
theorem off6 (i : grid0.Coords) (k : Fin (k0_t1_loop i).trips) (hk : k.val < (i 2).val) :
    k0_off6 i k = ![0, 0, (0 : Fin 2).val, 256 * (before i k.val hk).val] := by
  show ![0, 0, 0, _] = _; exact congrArg (fun n => ![0, 0, 0, n]) (off_trip (before i k.val hk))
theorem off11 (i : grid0.Coords) (k : Fin (k0_t3_loop i).trips) (hk : k.val < (i 2).val) :
    k0_off11 i k = ![0, 256 * (before i k.val hk).val, 0] := by
  show ![0, _, 0] = _; exact congrArg (fun n => ![0, n, 0]) (off_trip (before i k.val hk))
theorem off12 (i : grid0.Coords) (k : Fin (k0_t3_loop i).trips) (hk : k.val < (i 2).val) :
    k0_off12 i k = ![0, 0, 256 * (before i k.val hk).val] := by
  show ![0, 0, _] = _; exact congrArg (fun n => ![0, 0, n]) (off_trip (before i k.val hk))
theorem off13 (i : grid0.Coords) (k : Fin (k0_t3_loop i).trips) (hk : k.val < (i 2).val) :
    k0_off13 i k = ![0, 0, (1 : Fin 2).val, 256 * (before i k.val hk).val] := by
  show ![0, 0, 1, _] = _; exact congrArg (fun n => ![0, 0, 1, n]) (off_trip (before i k.val hk))

/-- What a row block carries: the greatest scores, the sums of the weights, the weighted sums. -/
abbrev Carried (F : FTy → Type) : Type := FVec F S256x1 .f32 × FVec F S256x1 .f32 × FVec F S256x128 .f32

/-- One earlier block of keys. -/
def stepOf (Q : FVec F S256x128 .bf16) (ct : FVec F S256x1 .f32) (K : Vec F S1x128x256 .bf16) (V : Vec F S1x256x128 .bf16)
    (C : Vec F S1x1x1x256 .f32) (s : Carried F) : Carried F :=
  (k0_pay2 Q ct s.1 K C, k0_pay5 Q ct s.1 s.2.1 K C, k0_pay6 Q ct s.1 s.2.2 V K C)

/-- The state after the first `n` blocks. -/
def stepsOf (x1 : Vec F S1x128x2048 .bf16) (x2 : Vec F S1x2048x128 .bf16) (x4 : Vec F S1x1x2x2048 .f32) (h : Fin 2)
    (Q : FVec F S256x128 .bf16) (ct : FVec F S256x1 .f32) (s : Carried F) : ℕ → Carried F
  | 0 => s
  | n + 1 => if hn : n < 8 then stepOf Q ct (kOf x1 ⟨n, hn⟩) (vOf x2 ⟨n, hn⟩) (cOf x4 h ⟨n, hn⟩) (stepsOf x1 x2 x4 h Q ct s n)
    else stepsOf x1 x2 x4 h Q ct s n

section loops
variable (𝒱 : Variants) (c : Dev nD) (bd : Option 𝒱.V) (i : grid0.Coords) (arg3 : Memref sig .tc .vmem S1x256x128 .bf16) (harg3 : arg3.IsWhole) (arg4 : Memref sig .tc .vmem S1x128x2048 .bf16) (harg4 : arg4.IsWhole) (arg5 : Memref sig .tc .vmem S1x2048x128 .bf16) (harg5 : arg5.IsWhole) (arg6 : Memref sig .tc .vmem S1x1x256x2 .f32) (harg6 : arg6.IsWhole) (arg7 : Memref sig .tc .vmem S1x1x2x2048 .f32) (harg7 : arg7.IsWhole) (arg8 : Memref sig .tc .vmem S1x256x128 .bf16) (harg8 : arg8.IsWhole)
  (x1 : Vec F S1x128x2048 .bf16) (x2 : Vec F S1x2048x128 .bf16) (x4 : Vec F S1x1x2x2048 .f32) (Q : FVec F S256x128 .bf16)
  (ct : FVec F S256x1 .f32) (s : Carried F)

theorem loop1 (arg2 : BitVec 32) (v1 : FVec F S256x128 .bf16) (v2 : IVec S256x128 32) (v5 : IVec S256x256 1) (v15 v16 : FVec F S256x1 .f32) (v17 : FVec F S256x128 .f32) (v22 : FVec F S256x128 .bf16) (v27 : FVec F S128x256 .bf16) (v32 : FVec F S1x256 .f32) (cst_18 : FVec F S256x256 .f32)
    (n : ℕ) (hn : n ≤ (i 2).val) :
    st_k0_t1 𝒱 c bd i arg3 harg3 arg4 harg4 arg5 harg5 arg6 harg6 arg7 harg7 arg8 harg8 arg2 v1 v2 v5 Q ct v15 v16 v17 v22 v27 v32 cst_18 (harg4.unread x1) (harg5.unread x2) (harg7.unread x4) s n
      = stepsOf x1 x2 x4 0 Q ct s n := by
  induction n with
  | zero => rfl
  | succ n ih =>
    have h8 : n < 8 := lt_of_lt_of_le hn (i 2).isLt.le
    have hk : n < (k0_t1_loop i).trips := by rw [trips1]; omega
    rw [st_k0_t1_succ 𝒱 c bd i arg3 harg3 arg4 harg4 arg5 harg5 arg6 harg6 arg7 harg7 arg8 harg8 arg2 v1 v2 v5 Q ct v15 v16 v17 v22 v27 v32 cst_18 (harg4.unread x1) (harg5.unread x2) (harg7.unread x4) s ⟨n, hk⟩,
      ih (by omega)]
    unfold tripR_k0_t1 trip_k0_t1
    dsimp only
    simp only [View.readAt_eq_ld, harg4.read_unread, harg5.read_unread, harg7.read_unread]
    rw [ld_k x1 (before i n hn) (off5 i ⟨n, hk⟩ hn), ld_v x2 (before i n hn) (off4 i ⟨n, hk⟩ hn),
      ld_c x4 0 (before i n hn) (off6 i ⟨n, hk⟩ hn)]
    show _ = dite _ _ _
    rw [dif_pos h8]
    rfl

theorem loop3 (n : ℕ) (hn : n ≤ (i 2).val) :
    st_k0_t3 𝒱 c bd i arg3 harg3 arg4 harg4 arg5 harg5 arg6 harg6 arg7 harg7 arg8 harg8 Q ct (harg4.unread x1) (harg5.unread x2) (harg7.unread x4) s n
      = stepsOf x1 x2 x4 1 Q ct s n := by
  induction n with
  | zero => rfl
  | succ n ih =>
    have h8 : n < 8 := lt_of_lt_of_le hn (i 2).isLt.le
    have hk : n < (k0_t3_loop i).trips := by rw [trips3]; omega
    rw [st_k0_t3_succ 𝒱 c bd i arg3 harg3 arg4 harg4 arg5 harg5 arg6 harg6 arg7 harg7 arg8 harg8 Q ct (harg4.unread x1) (harg5.unread x2) (harg7.unread x4) s ⟨n, hk⟩,
      ih (by omega)]
    unfold tripR_k0_t3 trip_k0_t3
    dsimp only
    simp only [View.readAt_eq_ld, harg4.read_unread, harg5.read_unread, harg7.read_unread]
    rw [ld_k x1 (before i n hn) (off12 i ⟨n, hk⟩ hn), ld_v x2 (before i n hn) (off11 i ⟨n, hk⟩ hn),
      ld_c x4 1 (before i n hn) (off13 i ⟨n, hk⟩ hn)]
    show _ = dite _ _ _
    rw [dif_pos h8]
    rfl

end loops

/-- The state after the block on the diagonal. -/
def startOf (x1 : Vec F S1x128x2048 .bf16) (x2 : Vec F S1x2048x128 .bf16) (x4 : Vec F S1x1x2x2048 .f32) (h : Fin 2)
    (Q : FVec F S256x128 .bf16) (ct : FVec F S256x1 .f32) (j : Fin 8) : Carried F :=
  (k0_pay47 k0_pay15 Q ct (kOf x1 j) (cOf x4 h j), k0_pay50 k0_pay15 Q ct (kOf x1 j) (cOf x4 h j),
    k0_pay51 k0_pay15 Q ct (vOf x2 j) (kOf x1 j) (cOf x4 h j))

/-- The state after all the blocks up to `j`. -/
def endOf (x1 : Vec F S1x128x2048 .bf16) (x2 : Vec F S1x2048x128 .bf16) (x4 : Vec F S1x1x2x2048 .f32) (h : Fin 2)
    (Q : FVec F S256x128 .bf16) (ct : FVec F S256x1 .f32) (j : Fin 8) : Carried F :=
  stepsOf x1 x2 x4 h Q ct (startOf x1 x2 x4 h Q ct j) j.val

/-- The first head's queries. -/
def q0 (x0 : Vec F S1x256x128 .bf16) : FVec F S256x128 .bf16 := k0_pay16 x0
/-- The second head's queries. -/
def q1 (x0 : Vec F S1x256x128 .bf16) : FVec F S256x128 .bf16 :=
  k0_pay43 (k0_pay14 x0) (iota .tc S256x128 32 [1] iota_S256x128_d1_w32)

/-- The block a grid point writes. -/
theorem out_eq (c : Dev nD) (i : grid0.Coords) (arg3 : Memref sig .tc .vmem S1x256x128 .bf16) (harg3 : arg3.IsWhole) (arg4 : Memref sig .tc .vmem S1x128x2048 .bf16) (harg4 : arg4.IsWhole) (arg5 : Memref sig .tc .vmem S1x2048x128 .bf16) (harg5 : arg5.IsWhole) (arg6 : Memref sig .tc .vmem S1x1x256x2 .f32) (harg6 : arg6.IsWhole) (arg7 : Memref sig .tc .vmem S1x1x2x2048 .f32) (harg7 : arg7.IsWhole) (arg8 : Memref sig .tc .vmem S1x256x128 .bf16) (harg8 : arg8.IsWhole)
    (x0 : Vec F S1x256x128 .bf16) (x1 : Vec F S1x128x2048 .bf16) (x2 : Vec F S1x2048x128 .bf16) (x3 : Vec F S1x1x256x2 .f32) (x4 : Vec F S1x1x2x2048 .f32) :
    out0_A_5 c i arg3 harg3 arg4 harg4 arg5 harg5 arg6 harg6 arg7 harg7 arg8 harg8 x0 x1 x2 x3 x4
      = k0_pay13 (iota .tc S256x128 32 [1] iota_S256x128_d1_w32)
          (k0_pay42 (endOf x1 x2 x4 0 (q0 x0) (k0_pay17 (gOf x3 0)) (i 2)).2.1 (endOf x1 x2 x4 0 (q0 x0) (k0_pay17 (gOf x3 0)) (i 2)).2.2)
          (endOf x1 x2 x4 1 (q1 x0) (k0_pay17 (gOf x3 1)) (i 2)).2.1 (endOf x1 x2 x4 1 (q1 x0) (k0_pay17 (gOf x3 1)) (i 2)).2.2 := by
  unfold out0_A_5
  refine (View.read_writes_eq_canon _ _ _ ?_).trans ?_
  · intro y; apply cover0_A_5
  unfold kernelRun0_A
  dsimp only
  sl_unfold_words
  rw [View.canon_unit_zero hz3]
  have t1 : Scf.trips (k0_t1_loop i).lb (k0_t1_loop i).ub (k0_t1_loop i).st = (i 2).val := trips1 i
  have t2 : Scf.trips (k0_t2_loop i).lb (k0_t2_loop i).ub (k0_t2_loop i).st = 0 := trips2 i
  have t3 : Scf.trips (k0_t3_loop i).lb (k0_t3_loop i).ub (k0_t3_loop i).st = (i 2).val := trips3 i
  have t4 : Scf.trips (k0_t4_loop i).lb (k0_t4_loop i).ub (k0_t4_loop i).st = 0 := trips4 i
  simp only [t1, t2, t3, t4, st_k0_t2_zero, st_k0_t4_zero, View.readAt_eq_ld, harg3.read_unread, harg4.read_unread, harg5.read_unread,
    harg6.read_unread, harg7.read_unread]
  rw [loop1 Variants.none c none i arg3 harg3 arg4 harg4 arg5 harg5 arg6 harg6 arg7 harg7 arg8 harg8 x1 x2 x4 _ _ _ _ _ _ _ _ _ _ _ _ _ _ _ le_rfl]
  rw [loop3 Variants.none c none i arg3 harg3 arg4 harg4 arg5 harg5 arg6 harg6 arg7 harg7 arg8 harg8 x1 x2 x4 _ _ _ _ le_rfl]
  have e1 : View.ld x1 (Rect.unit (s := S1x128x2048) (k0_off2 i) S1x128x256.size (k0_off2_inb i)) = kOf x1 (i 2) :=
    ld_k x1 (i 2) (off2 i) _
  have e2 : View.ld x2 (Rect.unit (s := S1x2048x128) (k0_off1 i) S1x256x128.size (k0_off1_inb i)) = vOf x2 (i 2) :=
    ld_v x2 (i 2) (off1 i) _
  have e3 : View.ld x4 (Rect.unit (s := S1x1x2x2048) (k0_off3 i) S1x1x1x256.size (k0_off3_inb i)) = cOf x4 0 (i 2) :=
    ld_c x4 0 (i 2) (off3 i) _
  have e4 : View.ld x4 (Rect.unit (s := S1x1x2x2048) (k0_off10 i) S1x1x1x256.size (k0_off10_inb i)) = cOf x4 1 (i 2) :=
    ld_c x4 1 (i 2) (off10 i) _
  have e5 : View.ld x3 (Rect.unit (s := S1x1x256x2) ![0, 0, 0, 0] S1x1x256x1.size inb_S1x1x256x2_S1x1x256x1_0_0_0_0) = gOf x3 0 :=
    ld_g x3 0 rfl _
  have e6 : View.ld x3 (Rect.unit (s := S1x1x256x2) ![0, 0, 0, 1] S1x1x256x1.size inb_S1x1x256x2_S1x1x256x1_0_0_0_1) = gOf x3 1 :=
    ld_g x3 1 rfl _
  unfold endOf startOf q0 q1
  rw [View.ld_unit_zero hz3]
  rw [← e1, ← e2, ← e3, ← e4, ← e5, ← e6]
  rfl

end Cert.Kernel3Ideal.Attn

end
-- ==== Proof.ForgetValue.lean ====
/-
  A row of the forget-gate attention kernel's block: the row's result after the blocks of keys.
-/
module

public import proofs.«01_k».proof.Proof.ForgetSteps
public import proofs.«01_k».proof.Proof.ForgetLoops
public import proofs.«01_k».proof.Proof.AttnSweep

@[expose] public section

set_option maxRecDepth 16384
set_option maxHeartbeats 1000000

noncomputable section

namespace Cert.Kernel3Ideal.Attn

open Cert.Kernel3Ideal Cert.Kernel3Ideal.Gen Cert.Attn
open Idealize.ShloMosaic Idealize.ShloMosaic.TcCoe

theorem sum_low (f g : Fin 128 → EReal) : ∑ d, (if d.val < 64 then f d else 0) * g d
    = ∑ d : Fin 64, f ⟨d.val, by omega⟩ * g ⟨d.val, by omega⟩ := by
  refine (Fin.sum_univ_add (a := 64) (b := 64) (fun d : Fin 128 => (if d.val < 64 then f d else 0) * g d)).trans ?_
  have e : ∑ d : Fin 64, (if (Fin.natAdd 64 d : Fin 128).val < 64 then f (Fin.natAdd 64 d) else 0) * g (Fin.natAdd 64 d) = 0 :=
    Finset.sum_eq_zero fun d _ => by rw [if_neg (by show ¬ 64 + d.val < 64; omega), zero_mul]
  refine (congrArg (fun x => _ + x) e).trans ((add_zero _).trans (Finset.sum_congr rfl fun d _ => ?_))
  show (if d.val < 64 then _ else _) * _ = _
  rw [if_pos d.isLt]
  rfl

theorem sum_high (f g : Fin 128 → EReal) : ∑ d, (if 64 ≤ d.val then f d else 0) * g d
    = ∑ d : Fin 64, f ⟨64 + d.val, by omega⟩ * g ⟨64 + d.val, by omega⟩ := by
  refine (Fin.sum_univ_add (a := 64) (b := 64) (fun d : Fin 128 => (if 64 ≤ d.val then f d else 0) * g d)).trans ?_
  have e : ∑ d : Fin 64, (if 64 ≤ (Fin.castAdd 64 d : Fin 128).val then f (Fin.castAdd 64 d) else 0) * g (Fin.castAdd 64 d) = 0 :=
    Finset.sum_eq_zero fun d _ => by rw [if_neg (by show ¬ 64 ≤ d.val; omega), zero_mul]
  refine (congrArg (fun x => x + _) e).trans ((zero_add _).trans (Finset.sum_congr rfl fun d _ => ?_))
  show (if 64 ≤ 64 + d.val then _ else _) * _ = _
  rw [if_pos (by omega)]
  rfl

variable (x0 : Vec Ideal S1x256x128 .bf16) (x1 : Vec Ideal S1x128x2048 .bf16) (x2 : Vec Ideal S1x2048x128 .bf16)
  (x3 : Vec Ideal S1x1x256x2 .f32) (x4 : Vec Ideal S1x1x2x2048 .f32) (h : Fin 2) (j : Fin 8) (r : Fin 256)

/-- The masked scores of a row. -/
def rowScores (s : Fin 2048) : EReal :=
  if s.val ≤ 256 * j.val + r.val then
    (∑ d : Fin 64, x0 (ix3 0 r ⟨64 * h.val + d.val, by omega⟩) * x1 (ix3 0 ⟨64 * h.val + d.val, by omega⟩ s))
      + (x3 (ix4 0 0 r h) - x4 (ix4 0 0 h s))
  else ⊥

/-- The queries of a head. -/
def qh : FVec Ideal S256x128 .bf16 := if h = 0 then q0 x0 else q1 x0

theorem score_eq (n : Fin 8) (c : Fin 256) :
    score (qh x0 h) (k0_pay17 (gOf x3 h)) (kOf x1 n) (cOf x4 h n) r c
      = (∑ d : Fin 64, x0 (ix3 0 r ⟨64 * h.val + d.val, by omega⟩) * x1 (ix3 0 ⟨64 * h.val + d.val, by omega⟩ (keys n c)))
        + (x3 (ix4 0 0 r h) - x4 (ix4 0 0 h (keys n c))) := by
  unfold score
  rw [pay17_apply]
  refine congrArg (fun x : EReal => x + _) ?_
  match h with
  | ⟨0, _⟩ =>
    show ∑ d : Fin 128, k0_pay16 x0 (ix2 r d) * _ = _
    simp only [pay16_apply]
    refine (sum_low (fun d => x0 (ix3 0 r d)) fun d => x1 (ix3 0 d (keys n c))).trans (Finset.sum_congr rfl fun d _ => ?_)
    have e : (⟨64 * 0 + d.val, by omega⟩ : Fin 128) = ⟨d.val, by omega⟩ := Fin.ext (by show 64 * 0 + d.val = d.val; omega)
    show _ = x0 (ix3 0 r ⟨64 * 0 + d.val, _⟩) * x1 (ix3 0 ⟨64 * 0 + d.val, _⟩ _)
    rw [e]
  | ⟨1, _⟩ =>
    show ∑ d : Fin 128, k0_pay43 (k0_pay14 x0) (iota .tc S256x128 32 [1] iota_S256x128_d1_w32) (ix2 r d) * _ = _
    refine (Finset.sum_congr rfl fun d _ => congrArg (fun x : EReal => x * kOf x1 n (ix3 0 d c)) (pay43_apply x0 r d)).trans ?_
    exact sum_high (fun d => x0 (ix3 0 r d)) fun d => x1 (ix3 0 d (keys n c))

theorem masked_eq : masked (qh x0 h) (k0_pay17 (gOf x3 h)) (kOf x1 j) (cOf x4 h j) r
    = fun c => rowScores x0 x1 x3 x4 h j r (keys j c) := by
  funext c
  unfold masked rowScores
  rw [score_eq]
  have e : (c.val ≤ r.val) ↔ ((keys j c).val ≤ 256 * j.val + r.val) := by
    show _ ↔ 256 * j.val + c.val ≤ _
    omega
  simp only [e]

theorem unmasked_eq (n : Fin 8) (hn : n.val < j.val) :
    score (qh x0 h) (k0_pay17 (gOf x3 h)) (kOf x1 n) (cOf x4 h n) r = fun c => rowScores x0 x1 x3 x4 h j r (keys n c) := by
  funext c
  unfold rowScores
  rw [score_eq, if_pos (show (keys n c).val ≤ _ from (show 256 * n.val + c.val ≤ 256 * j.val + r.val by omega))]

variable (hf : ∀ s, rowScores x0 x1 x3 x4 h j r s ≠ ⊤)
  (hd : rowScores x0 x1 x3 x4 h j r (keys j r) ≠ ⊥)
include hf hd

/-- A row's result: its values, weighed by the softmax of its masked scores. -/
theorem end_attend (d : Fin 128) :
    (endOf x1 x2 x4 h (qh x0 h) (k0_pay17 (gOf x3 h)) j).2.2 (ix2 r d)
        * Ideal.div 1 ((endOf x1 x2 x4 h (qh x0 h) (k0_pay17 (gOf x3 h)) j).2.1 (ix2 r 0))
      = attend (rowScores x0 x1 x3 x4 h j r) fun s => x2 (ix3 0 s d) := by
  refine sweep (v := fun s => x2 (ix3 0 s d)) hf j r hd ?_
    (m := fun n => (stepsOf x1 x2 x4 h (qh x0 h) (k0_pay17 (gOf x3 h)) (startOf x1 x2 x4 h (qh x0 h) (k0_pay17 (gOf x3 h)) j) n).1 (ix2 r 0))
    (l := fun n => (stepsOf x1 x2 x4 h (qh x0 h) (k0_pay17 (gOf x3 h)) (startOf x1 x2 x4 h (qh x0 h) (k0_pay17 (gOf x3 h)) j) n).2.1 (ix2 r 0))
    (a := fun n => (stepsOf x1 x2 x4 h (qh x0 h) (k0_pay17 (gOf x3 h)) (startOf x1 x2 x4 h (qh x0 h) (k0_pay17 (gOf x3 h)) j) n).2.2 (ix2 r d))
    ⟨?_, ?_, ?_⟩ ?_
  · intro k hk
    unfold rowScores
    rw [if_neg (by omega)]
  · refine (pay47_apply _ _ _ _ _ _).trans ?_
    rw [masked_eq]
  · refine (pay50_apply _ _ _ _ _ _).trans ?_
    rw [masked_eq]
  · refine (pay51_apply _ _ _ _ _ _ _).trans ?_
    rw [masked_eq]
    rfl
  · intro n hn
    have h8 : n < 8 := by omega
    have e : stepsOf x1 x2 x4 h (qh x0 h) (k0_pay17 (gOf x3 h)) (startOf x1 x2 x4 h (qh x0 h) (k0_pay17 (gOf x3 h)) j) (n + 1)
        = stepOf (qh x0 h) (k0_pay17 (gOf x3 h)) (kOf x1 ⟨n, h8⟩) (vOf x2 ⟨n, h8⟩) (cOf x4 h ⟨n, h8⟩)
            (stepsOf x1 x2 x4 h (qh x0 h) (k0_pay17 (gOf x3 h)) (startOf x1 x2 x4 h (qh x0 h) (k0_pay17 (gOf x3 h)) j) n) := dif_pos h8
    rw [e]
    refine ⟨(pay2_apply _ _ _ _ _ _ _).trans ?_, (pay5_apply _ _ _ _ _ _ _ _).trans ?_, (pay6_apply _ _ _ _ _ _ _ _ _).trans ?_⟩
      <;> rw [unmasked_eq x0 x1 x3 x4 h j r ⟨n, h8⟩ hn]
    rfl

end Cert.Kernel3Ideal.Attn

end
-- ==== Proof.ForgetInputs.lean ====
/-
  The forget-gate attention's inputs and result: four heads of width 64, each query attending to the keys up to its own
  position, a head's cumulated log forget gates added to its scores.
-/
module

public import proofs.«01_k».proof.Proof.Attend
public import Idealize.ShloMosaic.Lib.Pointwise

@[expose] public section

noncomputable section

namespace Cert.Forget

open Idealize.ShloMosaic Cert.Attn

/-- The queries, the transposed keys, the values and the cumulated gates. -/
structure Args where
  q : (⟨3, ![8, 2048, 256]⟩ : Shape).Idx → EReal
  k : (⟨3, ![8, 256, 2048]⟩ : Shape).Idx → EReal
  v : (⟨3, ![8, 2048, 256]⟩ : Shape).Idx → EReal
  g : (⟨3, ![8, 16, 2048]⟩ : Shape).Idx → EReal

/-- The queries, the keys and the four heads' gates are real numbers. -/
structure Args.Finite (A : Args) : Prop where
  q : ∀ i, ∃ r : ℝ, A.q i = r
  k : ∀ i, ∃ r : ℝ, A.k i = r
  g : ∀ (b : Fin 8) (h : Fin 4) (t : Fin 2048), ∃ r : ℝ, A.g (ix3 b ⟨h.val, by omega⟩ t) = r

/-- The masked scores of query `t` of head `h` against the keys. -/
def Args.scores (A : Args) (b : Fin 8) (h : Fin 4) (t s : Fin 2048) : EReal :=
  if s.val ≤ t.val then
    (∑ d : Fin 64, A.q (ix3 b t ⟨h.val * 64 + d.val, by omega⟩) * A.k (ix3 b ⟨h.val * 64 + d.val, by omega⟩ s))
      + (A.g (ix3 b ⟨h.val, by omega⟩ t) - A.g (ix3 b ⟨h.val, by omega⟩ s))
  else ⊥

/-- The result at query `t`, lane `e`. -/
def Args.out (A : Args) (b : Fin 8) (t : Fin 2048) (e : Fin 256) : EReal :=
  attend (A.scores b ⟨e.val / 64, by omega⟩ t) fun s => A.v (ix3 b s e)

theorem scores_real {A : Args} (R : A.Finite) (b : Fin 8) (h : Fin 4) (t s : Fin 2048) (hs : s.val ≤ t.val) :
    ∃ r : ℝ, A.scores b h t s = r := by
  unfold Args.scores
  rw [if_pos hs]
  obtain ⟨r, hr⟩ := Moe.real_sum fun d : Fin 64 =>
    Moe.Real'.mul (R.q (ix3 b t ⟨h.val * 64 + d.val, by omega⟩)) (R.k (ix3 b ⟨h.val * 64 + d.val, by omega⟩ s))
  obtain ⟨x, hx⟩ := R.g b h t
  obtain ⟨y, hy⟩ := R.g b h s
  exact ⟨r + (x - y), by rw [hr, hx, hy, EReal.coe_add, EReal.coe_sub]⟩

theorem scores_ne_top {A : Args} (R : A.Finite) (b : Fin 8) (h : Fin 4) (t s : Fin 2048) : A.scores b h t s ≠ ⊤ := by
  by_cases hs : s.val ≤ t.val
  · obtain ⟨r, hr⟩ := scores_real R b h t s hs
    rw [hr]; exact EReal.coe_ne_top r
  · unfold Args.scores; rw [if_neg hs]; exact bot_ne_top

theorem scores_self {A : Args} (R : A.Finite) (b : Fin 8) (h : Fin 4) (t : Fin 2048) : A.scores b h t t ≠ ⊥ := by
  obtain ⟨r, hr⟩ := scores_real R b h t t le_rfl
  rw [hr]; exact EReal.coe_ne_bot r

/-- The result array. -/
def Args.rows (A : Args) : (⟨3, ![8, 2048, 256]⟩ : Shape).Idx → EReal := fun i =>
  A.out ⟨(i 0).val, (i 0).isLt⟩ ⟨(i 1).val, (i 1).isLt⟩ ⟨(i 2).val, (i 2).isLt⟩

end Cert.Forget

end
-- ==== Proof.ForgetRun.lean ====
/-
  The forget-gate attention kernel's run: the result array, from the blocks its grid points write.
-/
module

public import proofs.«01_k».proof.Proof.ForgetValue
public import proofs.«01_k».proof.Proof.ForgetInputs
public import proofs.«01_k».proof.Proof.Gen.Kernel3Ideal.Value
public import Idealize.ShloMosaic.Lib.Pointwise
public import Idealize.ShloMosaic.Lib.StableHlo.ReadAt

@[expose] public section

set_option maxRecDepth 16384
set_option maxHeartbeats 1000000

noncomputable section

namespace Cert.Kernel3Ideal.Attn

open Cert.Kernel3Ideal Cert.Kernel3Ideal.Gen Cert.Attn Cert.Forget
open Idealize.ShloMosaic Idealize.ShloMosaic.TcCoe Idealize.SL.Sem

variable (m : (ℓ : Loc nD τ sig) → Buf (Elt Ideal) ℓ) (ρ : Dev nD → PrngReg)

/-- The arguments, on one device. -/
def args (c : Dev nD) : Args where
  q := m ((c : Thread nD τ).loc main_arg0)
  k := m ((c : Thread nD τ).loc main_arg1)
  v := m ((c : Thread nD τ).loc main_arg2)
  g := m ((c : Thread nD τ).loc main_arg3)

theorem points : ∀ t : Fin cfg0.N, t.val < 128 := (by decide +kernel : ∀ t : Fin grid0.N, _)

/-- The batch entry, the pair of heads and the block of queries of a grid point. -/
def bOf (t : Fin cfg0.N) : Fin 8 := ⟨t.val / 16, by have := points t; omega⟩
def pOf (t : Fin cfg0.N) : Fin 2 := ⟨t.val / 8 % 2, Nat.mod_lt _ (by decide)⟩
def jOf (t : Fin cfg0.N) : Fin 8 := ⟨t.val % 8, Nat.mod_lt _ (by decide)⟩
/-- The query of row `r`. -/
def tOf (t : Fin cfg0.N) (r : Fin 256) : Fin 2048 := ⟨256 * (jOf t).val + r.val, by omega⟩

theorem coords_j (t : Fin cfg0.N) : (grid0.coords t 2) = jOf t :=
  Fin.ext ((by decide +kernel : ∀ t : Fin grid0.N, (grid0.coords t 2).val = t.val % 8) t)

theorem idx0 : ∀ t : Fin cfg0.N, win0_0.index t (0 : Fin 3) = (bOf t).val ∧ win0_0.index t (1 : Fin 3) = (jOf t).val ∧ win0_0.index t (2 : Fin 3) = (pOf t).val :=
  (by decide +kernel : ∀ t : Fin grid0.N, _)
theorem idx1 : ∀ t : Fin cfg0.N, win0_1.index t (0 : Fin 3) = (bOf t).val ∧ win0_1.index t (1 : Fin 3) = (pOf t).val ∧ win0_1.index t (2 : Fin 3) = 0 :=
  (by decide +kernel : ∀ t : Fin grid0.N, _)
theorem idx2 : ∀ t : Fin cfg0.N, win0_2.index t (0 : Fin 3) = (bOf t).val ∧ win0_2.index t (1 : Fin 3) = 0 ∧ win0_2.index t (2 : Fin 3) = (pOf t).val :=
  (by decide +kernel : ∀ t : Fin grid0.N, _)
theorem idx3 : ∀ t : Fin cfg0.N, win0_3.index t (0 : Fin 4) = (bOf t).val ∧ win0_3.index t (1 : Fin 4) = (pOf t).val ∧ win0_3.index t (2 : Fin 4) = (jOf t).val ∧ win0_3.index t (3 : Fin 4) = 0 :=
  (by decide +kernel : ∀ t : Fin grid0.N, _)
theorem idx4 : ∀ t : Fin cfg0.N, win0_4.index t (0 : Fin 4) = (bOf t).val ∧ win0_4.index t (1 : Fin 4) = (pOf t).val ∧ win0_4.index t (2 : Fin 4) = 0 ∧ win0_4.index t (3 : Fin 4) = 0 :=
  (by decide +kernel : ∀ t : Fin grid0.N, _)
theorem idx5 : ∀ t : Fin cfg0.N, win0_5.index t (0 : Fin 3) = (bOf t).val ∧ win0_5.index t (1 : Fin 3) = (jOf t).val ∧ win0_5.index t (2 : Fin 3) = (pOf t).val :=
  (by decide +kernel : ∀ t : Fin grid0.N, _)

theorem blk_q (c : Dev nD) (t : Fin cfg0.N) (r : Fin 256) (l : Fin 128) :
    iblk m c 0 t (ix3 0 r l) = (args m c).q (ix3 (bOf t) (tOf t r) ⟨128 * (pOf t).val + l.val, by omega⟩) := by
  obtain ⟨h0, h1, h2⟩ := idx0 t
  unfold iblk
  rw [View.read_apply]
  show m ((c : Thread nD τ).loc main_arg0) _ = _
  have h : ((cfg0.win 0).blk t).view.emb (ix3 0 r l) = ix3 (bOf t) (tOf t r) ⟨128 * (pOf t).val + l.val, by omega⟩ := by
    funext q; apply Fin.ext
    match q with
    | ⟨0, _⟩ => show win0_0.index t (0 : Fin 3) * 1 + 1 * 0 = (bOf t).val; omega
    | ⟨1, _⟩ => show win0_0.index t (1 : Fin 3) * 256 + 1 * r.val = 256 * (jOf t).val + r.val; omega
    | ⟨2, _⟩ => show win0_0.index t (2 : Fin 3) * 128 + 1 * l.val = 128 * (pOf t).val + l.val; omega
  rw [h]
  rfl

theorem blk_k (c : Dev nD) (t : Fin cfg0.N) (l : Fin 128) (s : Fin 2048) :
    iblk m c 1 t (ix3 0 l s) = (args m c).k (ix3 (bOf t) ⟨128 * (pOf t).val + l.val, by omega⟩ s) := by
  obtain ⟨h0, h1, h2⟩ := idx1 t
  unfold iblk
  rw [View.read_apply]
  show m ((c : Thread nD τ).loc main_arg1) _ = _
  have h : ((cfg0.win 1).blk t).view.emb (ix3 0 l s) = ix3 (bOf t) ⟨128 * (pOf t).val + l.val, by omega⟩ s := by
    funext q; apply Fin.ext
    match q with
    | ⟨0, _⟩ => show win0_1.index t (0 : Fin 3) * 1 + 1 * 0 = (bOf t).val; omega
    | ⟨1, _⟩ => show win0_1.index t (1 : Fin 3) * 128 + 1 * l.val = 128 * (pOf t).val + l.val; omega
    | ⟨2, _⟩ => show win0_1.index t (2 : Fin 3) * 2048 + 1 * s.val = s.val; omega
  rw [h]
  rfl

theorem blk_v (c : Dev nD) (t : Fin cfg0.N) (s : Fin 2048) (d : Fin 128) :
    iblk m c 2 t (ix3 0 s d) = (args m c).v (ix3 (bOf t) s ⟨128 * (pOf t).val + d.val, by omega⟩) := by
  obtain ⟨h0, h1, h2⟩ := idx2 t
  unfold iblk
  rw [View.read_apply]
  show m ((c : Thread nD τ).loc main_arg2) _ = _
  have h : ((cfg0.win 2).blk t).view.emb (ix3 0 s d) = ix3 (bOf t) s ⟨128 * (pOf t).val + d.val, by omega⟩ := by
    funext q; apply Fin.ext
    match q with
    | ⟨0, _⟩ => show win0_2.index t (0 : Fin 3) * 1 + 1 * 0 = (bOf t).val; omega
    | ⟨1, _⟩ => show win0_2.index t (1 : Fin 3) * 2048 + 1 * s.val = s.val; omega
    | ⟨2, _⟩ => show win0_2.index t (2 : Fin 3) * 128 + 1 * d.val = 128 * (pOf t).val + d.val; omega
  rw [h]
  rfl

theorem V_row (c : Dev nD) (b : Fin 8) (p h : Fin 2) (s : Fin 2048) :
    V m c main_v1 (ix4 b p h s) = (args m c).g (ix3 b ⟨2 * p.val + h.val, by omega⟩ s) := by
  unfold V
  after_reads_at
  all_goals first | rfl | (refine congrArg (args m c).g ?_; funext a; match a with | ⟨0, _⟩ => rfl | ⟨1, _⟩ => exact Fin.ext (by show _ = 2 * p.val + h.val; simp; omega) | ⟨2, _⟩ => rfl)

theorem V_col (c : Dev nD) (b : Fin 8) (p h : Fin 2) (s : Fin 2048) :
    V m c main_v2 (ix4 b p s h) = (args m c).g (ix3 b ⟨2 * p.val + h.val, by omega⟩ s) := by
  unfold V
  after_reads_at
  all_goals first | rfl | (refine congrArg (args m c).g ?_; funext a; match a with | ⟨0, _⟩ => rfl | ⟨1, _⟩ => exact Fin.ext (by show _ = 2 * p.val + h.val; simp; omega) | ⟨2, _⟩ => rfl)

theorem blk_col (c : Dev nD) (t : Fin cfg0.N) (r : Fin 256) (h : Fin 2) :
    iblk m c 3 t (ix4 0 0 r h) = (args m c).g (ix3 (bOf t) ⟨2 * (pOf t).val + h.val, by omega⟩ (tOf t r)) := by
  obtain ⟨h0, h1, h2, h3⟩ := idx3 t
  unfold iblk
  rw [View.read_apply]
  show V m c main_v2 _ = _
  have e : ((cfg0.win 3).blk t).view.emb (ix4 0 0 r h) = ix4 (bOf t) (pOf t) (tOf t r) h := by
    funext q; apply Fin.ext
    match q with
    | ⟨0, _⟩ => show win0_3.index t (0 : Fin 4) * 1 + 1 * 0 = (bOf t).val; omega
    | ⟨1, _⟩ => show win0_3.index t (1 : Fin 4) * 1 + 1 * 0 = (pOf t).val; omega
    | ⟨2, _⟩ => show win0_3.index t (2 : Fin 4) * 256 + 1 * r.val = 256 * (jOf t).val + r.val; omega
    | ⟨3, _⟩ => show win0_3.index t (3 : Fin 4) * 2 + 1 * h.val = h.val; omega
  rw [e]
  exact V_col m c _ _ _ _

theorem blk_row (c : Dev nD) (t : Fin cfg0.N) (h : Fin 2) (s : Fin 2048) :
    iblk m c 4 t (ix4 0 0 h s) = (args m c).g (ix3 (bOf t) ⟨2 * (pOf t).val + h.val, by omega⟩ s) := by
  obtain ⟨h0, h1, h2, h3⟩ := idx4 t
  unfold iblk
  rw [View.read_apply]
  show V m c main_v1 _ = _
  have e : ((cfg0.win 4).blk t).view.emb (ix4 0 0 h s) = ix4 (bOf t) (pOf t) h s := by
    funext q; apply Fin.ext
    match q with
    | ⟨0, _⟩ => show win0_4.index t (0 : Fin 4) * 1 + 1 * 0 = (bOf t).val; omega
    | ⟨1, _⟩ => show win0_4.index t (1 : Fin 4) * 1 + 1 * 0 = (pOf t).val; omega
    | ⟨2, _⟩ => show win0_4.index t (2 : Fin 4) * 2 + 1 * h.val = h.val; omega
    | ⟨3, _⟩ => show win0_4.index t (3 : Fin 4) * 2048 + 1 * s.val = s.val; omega
  rw [e]
  exact V_row m c _ _ _ _

/-- The scores of a row of a grid point's block are the attention's. -/
theorem rowScores_eq (c : Dev nD) (t : Fin cfg0.N) (h : Fin 2) (r : Fin 256) :
    rowScores (iblk m c 0 t) (iblk m c 1 t) (iblk m c 3 t) (iblk m c 4 t) h (jOf t) r
      = (args m c).scores (bOf t) ⟨2 * (pOf t).val + h.val, by omega⟩ (tOf t r) := by
  funext s
  unfold rowScores Args.scores
  have e : ∀ d : Fin 64, (⟨128 * (pOf t).val + (64 * h.val + d.val), by omega⟩ : Fin 256)
      = ⟨(2 * (pOf t).val + h.val) * 64 + d.val, by omega⟩ := fun d => Fin.ext (by
    show 128 * (pOf t).val + (64 * h.val + d.val) = (2 * (pOf t).val + h.val) * 64 + d.val; omega)
  refine if_congr Iff.rfl (congrArg₂ (fun x y : EReal => x + y) (Finset.sum_congr rfl fun d _ => ?_)
    (congrArg₂ (fun x y : EReal => x - y) (blk_col m c t r h) (blk_row m c t h s))) rfl
  refine (congrArg₂ (fun x y : EReal => x * y) (blk_q m c t r ⟨64 * h.val + d.val, by omega⟩) (blk_k m c t ⟨64 * h.val + d.val, by omega⟩ s)).trans ?_
  dsimp only
  rw [e d]

/-- The block a grid point writes, at one entry. -/
theorem out_apply (c : Dev nD) (R : (args m c).Finite) (t : Fin cfg0.N) (r : Fin 256) (d : Fin 128) :
    outsAt0 m c t (ix3 0 r d) = (args m c).out (bOf t) (tOf t r) ⟨128 * (pOf t).val + d.val, by omega⟩ := by
  have key : ∀ h : Fin 2, (endOf (iblk m c 1 t) (iblk m c 2 t) (iblk m c 4 t) h (qh (iblk m c 0 t) h) (k0_pay17 (gOf (iblk m c 3 t) h)) (jOf t)).2.2 (ix2 r d)
      * Ideal.div 1 ((endOf (iblk m c 1 t) (iblk m c 2 t) (iblk m c 4 t) h (qh (iblk m c 0 t) h) (k0_pay17 (gOf (iblk m c 3 t) h)) (jOf t)).2.1 (ix2 r 0))
      = attend ((args m c).scores (bOf t) ⟨2 * (pOf t).val + h.val, by omega⟩ (tOf t r))
          fun s => (args m c).v (ix3 (bOf t) s ⟨128 * (pOf t).val + d.val, by omega⟩) := fun h => by
    rw [end_attend _ _ _ _ _ h (jOf t) r (by rw [rowScores_eq]; exact scores_ne_top R _ _ _)
      (by rw [rowScores_eq]; exact scores_self R _ _ (tOf t r)), rowScores_eq]
    exact congrArg _ (funext fun s => blk_v m c t s d)
  unfold outsAt0 Args.out
  rw [out_eq, coords_j]
  refine (pay13_apply _ _ _ 0 r d).trans ?_
  by_cases hd : d.val < 64
  · rw [if_pos hd, pay42_apply]
    refine (key 0).trans ?_
    congr 2
    exact Fin.ext (by show 2 * (pOf t).val + 0 = (128 * (pOf t).val + d.val) / 64; omega)
  · rw [if_neg hd]
    refine (key 1).trans ?_
    congr 2
    exact Fin.ext (by show 2 * (pOf t).val + 1 = (128 * (pOf t).val + d.val) / 64; omega)

/-- What a grid point writes back is its block of the result. -/
theorem flushed_eq (c : Dev nD) (R : (args m c).Finite) (t : Fin cfg0.N) :
    (dats m 0 c).flushed 5 t = ((cfg0.win 5).blk t).view.read (Elt Ideal) (args m c).rows := by
  rw [Value.flushed5]
  obtain ⟨e0, e1, e2⟩ := idx5 t
  funext y
  have hy0 : (y 0).val < 1 := (y 0).isLt
  have hb0 : (((cfg0.win 5).blk t).view.emb y 0).val = win0_5.index t (0 : Fin 3) * 1 + 1 * (y 0).val := rfl
  have hb1 : (((cfg0.win 5).blk t).view.emb y 1).val = win0_5.index t (1 : Fin 3) * 256 + 1 * (y 1).val := rfl
  have hb2 : (((cfg0.win 5).blk t).view.emb y 2).val = win0_5.index t (2 : Fin 3) * 128 + 1 * (y 2).val := rfl
  rw [View.read_apply]
  have hl : (cfg0.win 5).cut (grid0.coords t) (outsAt0 m c t) y
      = outsAt0 m c t (ix3 0 ⟨(y 1).val, (y 1).isLt⟩ ⟨(y 2).val, (y 2).isLt⟩) := by
    show outsAt0 m c t ((cfg0.win 5).xinj (grid0.coords t) y) = _
    refine congrArg (outsAt0 m c t) (funext fun a => Fin.ext ?_)
    match a with
    | ⟨0, _⟩ => show (y 0).val = 0; omega
    | ⟨1, _⟩ => rfl
    | ⟨2, _⟩ => rfl
  rw [hl, out_apply m c R]
  unfold Args.rows
  congr 1
  · exact Fin.ext (by show (bOf t).val = (((cfg0.win 5).blk t).view.emb y 0).val; rw [hb0, e0]; omega)
  · exact Fin.ext (by show 256 * (jOf t).val + (y 1).val = (((cfg0.win 5).blk t).view.emb y 1).val; rw [hb1, e1]; omega)
  · exact Fin.ext (by show 128 * (pOf t).val + (y 2).val = (((cfg0.win 5).blk t).view.emb y 2).val; rw [hb2, e2]; omega)

theorem mem_block (t : Fin cfg0.N) (i : S8x2048x256.Idx) :
    i ∈ ((cfg0.win 5).blk t).view.set ↔ ∀ a : Fin 3, win0_5.index t a * S1x256x128.size a ≤ (i a).val ∧ (i a).val < win0_5.index t a * S1x256x128.size a + S1x256x128.size a := by
  show i ∈ ((View.whole main_v3).slice (win0_5.rect t)).set ↔ _
  rw [View.set_slice_whole, Rect.mem_set_unit]
  exact Iff.rfl

theorem flush_all : ∀ t : Fin cfg0.N, (cfg0.win 5).flush t = true :=
  (by decide +kernel : ∀ t : Fin grid0.N, _)

/-- The result array after the run. -/
theorem final (c : Dev nD) (R : (args m c).Finite) : (dats m 0 c).arrAt 5 cfg0.N = (args m c).rows :=
  (dats m 0 c).arrAt_eq_of_cover 5 _ (fun t _ => flushed_eq m c R t) (fun i => by
    have hi0 : (i 0).val < 8 := (i 0).isLt
    have hi1 : (i 1).val < 2048 := (i 1).isLt
    have hi2 : (i 2).val < 256 := (i 2).isLt
    have hN : cfg0.N = 128 := by decide +kernel
    refine ⟨⟨((i 0).val * 2 + (i 2).val / 128) * 8 + (i 1).val / 256, by omega⟩, flush_all _, ?_⟩
    rw [mem_block]
    obtain ⟨e0, e1, e2⟩ := idx5 ⟨((i 0).val * 2 + (i 2).val / 128) * 8 + (i 1).val / 256, by omega⟩
    intro a
    match a with
    | ⟨0, _⟩ =>
      show win0_5.index _ (0 : Fin 3) * 1 ≤ (i 0).val ∧ (i 0).val < win0_5.index _ (0 : Fin 3) * 1 + 1
      rw [e0]
      show (((i 0).val * 2 + (i 2).val / 128) * 8 + (i 1).val / 256) / 16 * 1 ≤ _ ∧ _ < (((i 0).val * 2 + (i 2).val / 128) * 8 + (i 1).val / 256) / 16 * 1 + 1
      omega
    | ⟨1, _⟩ =>
      show win0_5.index _ (1 : Fin 3) * 256 ≤ (i 1).val ∧ (i 1).val < win0_5.index _ (1 : Fin 3) * 256 + 256
      rw [e1]
      show (((i 0).val * 2 + (i 2).val / 128) * 8 + (i 1).val / 256) % 8 * 256 ≤ _ ∧ _ < (((i 0).val * 2 + (i 2).val / 128) * 8 + (i 1).val / 256) % 8 * 256 + 256
      omega
    | ⟨2, _⟩ =>
      show win0_5.index _ (2 : Fin 3) * 128 ≤ (i 2).val ∧ (i 2).val < win0_5.index _ (2 : Fin 3) * 128 + 128
      rw [e2]
      show (((i 0).val * 2 + (i 2).val / 128) * 8 + (i 1).val / 256) / 8 % 2 * 128 ≤ _ ∧ _ < (((i 0).val * 2 + (i 2).val / 128) * 8 + (i 1).val / 256) / 8 % 2 * 128 + 128
      omega)

/-- The kernel's run: the result holds the attention's rows, the arguments are unchanged. -/
theorem run (R : ∀ c, (args m c).Finite) :
    θ_run defs (onTc (τ := τ) (main (F := Ideal))) ⟨m, fun _ => 0, ρ⟩ fun r => ∀ c : Dev nD,
      r.2.mem ((c : Thread nD τ).loc main_v3) = (args m c).rows
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c (R c)), (h c).2⟩) (Value.run_blocks m ρ)

end Cert.Kernel3Ideal.Attn

end
-- ==== Proof.ForgetRef.lean ====
/-
  The forget-gate attention's reference: its result, and its run.
-/
module

public import proofs.«01_k».proof.Proof.Gen.Reference3Ideal.Read
public import proofs.«01_k».proof.Proof.Gen.Reference3Ideal.Run
public import proofs.«01_k».proof.Proof.ForgetInputs
public import Idealize.ShloMosaic.Lib.Quiescent
public import Idealize.ShloMosaic.Lib.Claim

@[expose] public section

set_option maxRecDepth 16384
set_option maxHeartbeats 1000000

noncomputable section

namespace Cert.Reference3Ideal.Rows

open Cert.Reference3Ideal Cert.Reference3Ideal.Gen Cert.Reference3Ideal.Read Cert.Attn Cert.Forget
open Idealize.ShloMosaic Idealize.ShloMosaic.TcCoe Idealize.SL.Sem

theorem word_le (a b : Fin 2048) : IntOp.cmpi CmpIPredicate.sle (BitVec.ofNat 32 a.val) (BitVec.ofNat 32 b.val)
    = if a.val ≤ b.val then 1#1 else 0#1 := by
  have ha : (BitVec.ofNat 32 a.val).toInt = a.val := by
    rw [BitVec.toInt_eq_toNat_of_lt] <;> simp only [BitVec.toNat_ofNat] <;> omega
  have hb : (BitVec.ofNat 32 b.val).toInt = b.val := by
    rw [BitVec.toInt_eq_toNat_of_lt] <;> simp only [BitVec.toNat_ofNat] <;> omega
  show BitVec.ofBool ((BitVec.ofNat 32 a.val).sle (BitVec.ofNat 32 b.val)) = _
  rw [BitVec.sle_eq_decide, ha, hb]
  by_cases h : a.val ≤ b.val
  · rw [if_pos h, decide_eq_true (by exact_mod_cast h)]; rfl
  · rw [if_neg h, decide_eq_false (by exact_mod_cast h)]; rfl

/-- Which keys a query sees. -/
theorem seen_apply (t s : Fin 2048) : val_main_v23 (F := Ideal) (ix2 t s) = if s.val ≤ t.val then 1#1 else 0#1 := by
  refine Eq.trans ?_ (word_le s t)
  pointwise [val_main_v23, val_main_v22, val_main_v21, val_main_v20, val_main_v19, val_main_v18, val_main_v17]

theorem low : Ideal.ofBits .f32 0xFF800000#32 = ⊥ := by simp [Ideal.ofBits, Ideal.ieee]
theorem nought : Ideal.ofBits .f32 0x00000000#32 = 0 := by simp [Ideal.ofBits, Ideal.ieee]

/-- The scores before the mask. -/
theorem product_apply (A : Args) (b : Fin 8) (h : Fin 4) (t s : Fin 2048) : val_main_v16 (F := Ideal) A.q A.k A.g (ix4 b h t s)
    = (∑ d : Fin 64, A.q (ix3 b t ⟨h.val * 64 + d.val, by omega⟩) * A.k (ix3 b ⟨h.val * 64 + d.val, by omega⟩ s))
      + (A.g (ix3 b ⟨h.val, by omega⟩ t) - A.g (ix3 b ⟨h.val, by omega⟩ s)) := by
  pointwise [val_main_v16, val_main_v15, val_main_v14, val_main_v13, val_main_v12, val_main_v11, val_main_v10, val_main_v9,
    val_main_v0, val_main_v1, val_main_v2, val_main_v3, val_main_v4, val_main_v5]

theorem select_apply (f : S8x4x2048x2048.Idx → EReal) (b : Fin 8) (h : Fin 4) (t s : Fin 2048) :
    select (val_main_call0_v1 (F := Ideal)) f (val_main_call0_v2 (F := Ideal)) (ix4 b h t s)
      = Scalar.select (val_main_v23 (F := Ideal) (ix2 t s)) (f (ix4 b h t s)) ⊥ := by
  pointwise [val_main_call0_v1, val_main_call0_v2, val_main_call0_v0, val_main_cst]
  rw [← low]
  rfl

/-- The masked scores. -/
theorem scores_apply (A : Args) (b : Fin 8) (h : Fin 4) (t s : Fin 2048) :
    val_main_v24 (F := Ideal) A.q A.k A.g (ix4 b h t s) = A.scores b h t s := by
  unfold val_main_v24 Args.scores
  rw [select_apply, seen_apply, product_apply]
  split
  · rfl
  · rfl

/-- The greatest entry of a row. -/
theorem top_apply (f : S8x4x2048x2048.Idx → EReal) (b : Fin 8) (h : Fin 4) (t : Fin 2048) :
    Host.reduce (FloatOps.maximumf (F := Ideal) (φ := .f32)) f (val_main_cst_0 (F := Ideal))
      reducesTo_S8x4x2048x2048_S8x4x2048_d3 h_S_ (ix3 b h t) = top fun s => f (ix4 b h t s) := by
  pointwise []
  unfold top
  rw [← low]
  rfl

theorem exp_gen (f : S8x4x2048x2048.Idx → EReal) (g : S8x4x2048.Idx → EReal) (b : Fin 8) (h : Fin 4) (t s : Fin 2048) :
    (Host.exp (F := Ideal) (φ := .f32) (subf f (broadcastInDim S8x4x2048x2048 ![0, 1, 2, 3]
      bcast_S8x4x2048x1_S8x4x2048x2048_0_1_2_3 (broadcastInDim S8x4x2048x1 ![0, 1, 2]
      bcast_S8x4x2048_S8x4x2048x1_0_1_2 (maximumf (F := Ideal) (φ := .f32) (val_main_v26 (F := Ideal)) g))))) (ix4 b h t s)
      = Ideal.exp (f (ix4 b h t s) - max ⊥ (g (ix3 b h t))) := by
  pointwise [val_main_v26, val_main_cst_1]
  rw [← low]

/-- The exponentials. -/
theorem exp_apply (A : Args) (b : Fin 8) (h : Fin 4) (t s : Fin 2048) : val_main_v31 (F := Ideal) A.q A.k A.g (ix4 b h t s)
    = Ideal.exp (A.scores b h t s - top (A.scores b h t)) := by
  unfold val_main_v31 val_main_v30 val_main_v29 val_main_v28 val_main_v27 val_main_v25
  rw [exp_gen, top_apply, scores_apply, max_eq_right bot_le]
  exact congrArg (fun w => Ideal.exp (A.scores b h t s - top w)) (funext fun x => scores_apply A b h t x)

/-- The result, entry by entry. -/
theorem out_apply (A : Args) (b : Fin 8) (t : Fin 2048) (e : Fin 256) :
    val_main_v39 (F := Ideal) A.q A.k A.v A.g (ix3 b t e) = A.out b t e := by
  pointwise [val_main_v39, val_main_v38, val_main_v37, val_main_v36, val_main_v8, val_main_v7, val_main_v6, val_main_v35,
    val_main_v34, val_main_v33, val_main_v32]
  unfold Args.out attend
  have z : val_main_cst_2 (F := Ideal) (Shape.Idx.first h_S_) = 0 := nought
  simp only [exp_apply, z, zero_add]

/-- The reference runs, leaves the attention's rows in its result, and its arguments as they were. -/
theorem run (m : (ℓ : Loc nD τ sig) → Buf (Elt Ideal) ℓ) (ρ : Dev nD → PrngReg) (A : Dev nD → Args)
    (h : ∀ c : Dev nD, m ((c.tc : Thread nD τ).loc main_arg0) = (A c).q
      ∧ m ((c.tc : Thread nD τ).loc main_arg1) = (A c).k
      ∧ m ((c.tc : Thread nD τ).loc main_arg2) = (A c).v
      ∧ m ((c.tc : Thread nD τ).loc main_arg3) = (A c).g) :
    θ_run defs (onTc (τ := τ) (main (F := Ideal))) ⟨m, fun _ => 0, ρ⟩ fun r => ∀ c : Dev nD,
      r.2.mem ((c.tc : Thread nD τ).loc main_v39) = (A c).rows
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r H c => ⟨(H c).1.trans ((val_main_v39_eq m c).trans (by
    obtain ⟨e0, e1, e2, e3⟩ := h c
    refine Eq.trans (b := val_main_v39 (F := Ideal) (A c).q (A c).k (A c).v (A c).g) ?_ ?_
    · rw [← e0, ← e1, ← e2, ← e3]
    funext i
    have hi : i = ix3 (⟨(i 0).val, (i 0).isLt⟩ : Fin 8) (⟨(i 1).val, (i 1).isLt⟩ : Fin 2048) (⟨(i 2).val, (i 2).isLt⟩ : Fin 256) := by
      funext q
      match q with
      | ⟨0, _⟩ => rfl
      | ⟨1, _⟩ => rfl
      | ⟨2, _⟩ => rfl
    rw [hi]
    exact out_apply (A c) _ _ _)), (H c).2⟩) (Value.run m ρ)

/-- The reference runs, leaves its arguments as they were and every semaphore at zero. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r H => ⟨fun c => (H c).2, sem_eq_zero_of_no_sems rfl r.2⟩) (Value.run m ρ)

end Cert.Reference3Ideal.Rows

end
-- ==== Proof.ForgetFinite.lean ====
/-
  What the forget-gate attention's precondition says: the queries, the keys and the heads' cumulated gates are finite.
-/
module

public import proofs.«01_k».proof.Pre_forget_finite
public import proofs.«01_k».proof.Proof.ForgetInputs
public import proofs.«01_k».proof.Proof.Finiteness

@[expose] public section

noncomputable section

namespace Cert.Forget

open Idealize.ShloMosaic

/-- The shapes the precondition broadcasts to. -/
theorem forgetFacts : Cert.Pre_forget_finite.Facts where
  bitsLt_bf16_f32 := by decide
  bcast_S_S8x2048x256 := by decide
  bcast_S_S8x256x2048 := by decide
  slices_S8x16x2048_S8x4x2048_0_0_0 := by decide
  bcast_S_S8x4x2048 := by decide

/-- The precondition, read at the arguments. -/
theorem finite (A : Args) (h : letI := forgetFacts
    let p := Cert.Pre_forget_finite.fn (F := Ideal) A.q A.k A.v A.g
    p.1 = (fun _ => 1#1) ∧ p.2.1 = (fun _ => 1#1) ∧ p.2.2 = (fun _ => 1#1)) : A.Finite where
  q i := Moe.real_of_below _ (congrFun h.1 i)
  k i := Moe.real_of_below _ (congrFun h.2.1 i)
  g b h' t := by
    have e := Moe.real_of_below _ (congrFun h.2.2 (ix3 b h' t))
    obtain ⟨r, hr⟩ := e
    refine ⟨r, Eq.trans (congrArg A.g ?_) hr⟩
    funext a
    match a with
    | ⟨0, _⟩ => exact Fin.ext (by show b.val = 0 + b.val; omega)
    | ⟨1, _⟩ => exact Fin.ext (by show h'.val = 0 + h'.val; omega)
    | ⟨2, _⟩ => exact Fin.ext (by show t.val = 0 + t.val; omega)

end Cert.Forget

end
-- ==== Proof.DiffInputs.lean ====
/-
  The differential attention's inputs and result: six heads, each with two softmax maps of width 32 over the same values;
  the second map's mean, times one learned number, is taken from the first's, and each head's rows are normalized.
-/
module

public import proofs.«01_k».proof.Proof.Attend
public import Idealize.ShloMosaic.Lib.Pointwise

@[expose] public section

noncomputable section

namespace Cert.Diff

open Idealize.ShloMosaic Cert.Attn

/-- The queries, the transposed keys, the values, the positions, the learned vectors and the normalization's scale. -/
structure Args where
  q : (⟨3, ![8, 2048, 384]⟩ : Shape).Idx → EReal
  k : (⟨3, ![8, 384, 2048]⟩ : Shape).Idx → EReal
  v : (⟨3, ![8, 2048, 384]⟩ : Shape).Idx → EReal
  p : (⟨2, ![8, 2048]⟩ : Shape).Idx → BitVec 32
  q1 : (⟨1, ![32]⟩ : Shape).Idx → EReal
  k1 : (⟨1, ![32]⟩ : Shape).Idx → EReal
  q2 : (⟨1, ![32]⟩ : Shape).Idx → EReal
  k2 : (⟨1, ![32]⟩ : Shape).Idx → EReal
  g : (⟨1, ![64]⟩ : Shape).Idx → EReal

/-- The queries and keys are real numbers. -/
structure Args.Finite (A : Args) : Prop where
  q : ∀ i, ∃ r : ℝ, A.q i = r
  k : ∀ i, ∃ r : ℝ, A.k i = r

/-- A position, as a number. -/
def Args.pos (A : Args) (b : Fin 8) (t : Fin 2048) : EReal := (((A.p (ix2 b t)).toInt : ℝ) : EReal)

/-- A head's slope: 2 to the power of -8 (1 + h) / 6. -/
def slope (h : Fin 6) : EReal :=
  Ideal.pow (Ideal.ofBits .f32 0x40000000#32)
    (Ideal.div (Ideal.ofBits .f32 0xC1000000#32 * (1 + (((BitVec.ofNat 32 h.val).toInt : ℝ) : EReal))) (Ideal.ofBits .f32 0x40C00000#32))

/-- The distance of two positions, weighed by the head's slope and taken from the scores. -/
def Args.bias (A : Args) (b : Fin 8) (h : Fin 6) (t s : Fin 2048) : EReal :=
  -slope h * max (A.pos b t - A.pos b s) (-(A.pos b t - A.pos b s))

/-- The masked scores of query `t` of head `h` against the keys, in the map `u`. -/
def Args.scores (A : Args) (b : Fin 8) (h : Fin 6) (u : Fin 2) (t s : Fin 2048) : EReal :=
  if s.val / 64 ≤ t.val / 64 then
    (∑ d : Fin 32, A.q (ix3 b t ⟨h.val * 64 + (u.val * 32 + d.val), by omega⟩) * A.k (ix3 b ⟨h.val * 64 + (u.val * 32 + d.val), by omega⟩ s))
      + A.bias b h t s
  else ⊥

/-- The learned number. -/
def Args.lam (A : Args) : EReal :=
  Ideal.exp (∑ d : Fin 32, A.q1 (ix1 d) * A.k1 (ix1 d)) - Ideal.exp (∑ d : Fin 32, A.q2 (ix1 d) * A.k2 (ix1 d))
    + Ideal.ofBits .f32 0x3E4CCCCD#32

/-- The difference of the two maps' means. -/
def Args.diff (A : Args) (b : Fin 8) (t : Fin 2048) (h : Fin 6) (e : Fin 64) : EReal :=
  attend (A.scores b h 0 t) (fun s => A.v (ix3 b s ⟨h.val * 64 + e.val, by omega⟩))
    - A.lam * attend (A.scores b h 1 t) fun s => A.v (ix3 b s ⟨h.val * 64 + e.val, by omega⟩)

/-- A head's row, normalized by the root of its mean square. -/
def normed (o g : Fin 64 → EReal) (e : Fin 64) : EReal :=
  o e * Ideal.rsqrt (Ideal.div (∑ x, o x * o x) (Ideal.ofBits .f32 0x42800000#32) + Ideal.ofBits .f32 0x358637BD#32) * g e
    * Ideal.ofBits .f32 0x3F4CCCCD#32

/-- The result at query `t`, head `h`, lane `e` of the head. -/
def Args.out (A : Args) (b : Fin 8) (t : Fin 2048) (h : Fin 6) (e : Fin 64) : EReal :=
  normed (A.diff b t h) (fun x => A.g (ix1 x)) e

theorem two : Ideal.ofBits .f32 0x40000000#32 = ((2 : ℝ) : EReal) := by
  simp [Ideal.ofBits, Ideal.ieee, -EReal.coe_mul]; norm_num
theorem minus_eight : Ideal.ofBits .f32 0xC1000000#32 = ((-8 : ℝ) : EReal) := by
  simp [Ideal.ofBits, Ideal.ieee, -EReal.coe_mul]; norm_num
theorem six : Ideal.ofBits .f32 0x40C00000#32 = ((6 : ℝ) : EReal) := by
  simp [Ideal.ofBits, Ideal.ieee, -EReal.coe_mul]; norm_num
theorem sixty_four : Ideal.ofBits .f32 0x42800000#32 = ((64 : ℝ) : EReal) := by
  simp [Ideal.ofBits, Ideal.ieee, -EReal.coe_mul]; norm_num
theorem sixty_fourth : Ideal.ofBits .f32 0x3C800000#32 = ((1 / 64 : ℝ) : EReal) := by
  simp [Ideal.ofBits, Ideal.ieee, -EReal.coe_mul]; norm_num

/-- A mean over 64 by a product. -/
theorem mean (x : EReal) : x * Ideal.ofBits .f32 0x3C800000#32 = Ideal.div x (Ideal.ofBits .f32 0x42800000#32) := by
  rw [sixty_four, sixty_fourth, Ideal.div_coe (by norm_num)]

theorem slope_real (h : Fin 6) : ∃ r : ℝ, slope h = r := by
  unfold slope
  rw [two, minus_eight, six, Ideal.div_coe (by norm_num), ← EReal.coe_one, ← EReal.coe_add, ← EReal.coe_mul, ← EReal.coe_mul]
  exact ⟨_, rfl⟩

theorem scores_real {A : Args} (R : A.Finite) (b : Fin 8) (h : Fin 6) (u : Fin 2) (t s : Fin 2048) (hs : s.val / 64 ≤ t.val / 64) :
    ∃ r : ℝ, A.scores b h u t s = r := by
  unfold Args.scores
  rw [if_pos hs]
  refine Moe.Real'.add (Moe.real_sum fun d : Fin 32 => Moe.Real'.mul (R.q _) (R.k _)) ?_
  obtain ⟨r, hr⟩ := slope_real h
  unfold Args.bias Args.pos
  rw [hr, ← EReal.coe_neg, ← EReal.coe_sub, ← EReal.coe_neg]
  refine Moe.Real'.mul ⟨-r, rfl⟩ ?_
  rcases max_choice ((((A.p (ix2 b t)).toInt : ℝ) - ((A.p (ix2 b s)).toInt : ℝ) : ℝ) : EReal) (-(((A.p (ix2 b t)).toInt : ℝ) - ((A.p (ix2 b s)).toInt : ℝ)) : ℝ) with e | e
  · exact ⟨_, e⟩
  · exact ⟨_, e⟩

theorem scores_ne_top {A : Args} (R : A.Finite) (b : Fin 8) (h : Fin 6) (u : Fin 2) (t s : Fin 2048) : A.scores b h u t s ≠ ⊤ := by
  by_cases hs : s.val / 64 ≤ t.val / 64
  · obtain ⟨r, hr⟩ := scores_real R b h u t s hs
    rw [hr]; exact EReal.coe_ne_top r
  · unfold Args.scores; rw [if_neg hs]; exact bot_ne_top

theorem scores_self {A : Args} (R : A.Finite) (b : Fin 8) (h : Fin 6) (u : Fin 2) (t : Fin 2048) : A.scores b h u t t ≠ ⊥ := by
  obtain ⟨r, hr⟩ := scores_real R b h u t t le_rfl
  rw [hr]; exact EReal.coe_ne_bot r

/-- The result array. -/
def Args.rows (A : Args) : (⟨3, ![8, 2048, 384]⟩ : Shape).Idx → EReal := fun i =>
  A.out ⟨(i 0).val, (i 0).isLt⟩ ⟨(i 1).val, (i 1).isLt⟩ ⟨(i 2).val / 64, by have : (i 2).val < 384 := (i 2).isLt; omega⟩
    ⟨(i 2).val % 64, Nat.mod_lt _ (by decide)⟩

end Cert.Diff

end
-- ==== Proof.DiffSteps.lean ====
/-
  The differential attention kernel's block products, at one entry: one block of keys is one step of the softmax in parts,
  in each of the two maps of each of the two heads.
-/
module

public import proofs.«01_k».proof.Proof.Gen.Kernel4Ideal.Skeleton
public import proofs.«01_k».proof.Proof.DiffInputs

@[expose] public section

set_option maxRecDepth 16384
set_option maxHeartbeats 1000000

noncomputable section

namespace Cert.Kernel4Ideal.Attn

open Cert.Kernel4Ideal Cert.Kernel4Ideal.Gen Cert.Attn
open Idealize.ShloMosaic Idealize.ShloMosaic.TcCoe

section values
variable {F : FTy → Type} [FloatOps F] [Named F]

/-- What a row block carries in one map: the greatest scores, the sums of the weights, the weighted sums. -/
abbrev Carried (F : FTy → Type) : Type := FVec F S256x1 .f32 × FVec F S256x1 .f32 × FVec F S256x128 .f32

/-- One block of keys with the scores `f` and the values `V`. -/
def step (V : Vec F S1x256x128 .bf16) (f : FVec F S256x256 .f32) (s : Carried F) : Carried F :=
  (k0_pay69 s.1 f, k0_pay72 s.1 s.2.1 f, k0_pay73 s.1 s.2.2 (k0_pay64 V) f)

/-- Nothing seen yet. -/
def none' : Carried F := (k0_pay58, k0_pay59, k0_pay60)

/-- The lanes' numbers. -/
abbrev lanes : IVec S256x128 32 := iota .tc S256x128 32 [1] iota_S256x128_d1_w32

/-- The mask of the diagonal block. -/
abbrev near : IVec S256x256 1 := k0_pay51 (iota .tc S256x256 32 [0] iota_S256x256_d0_w32) k0_pay48 64#32 k0_pay49 k0_pay50 0#32

/-- The queries of the head `h` in the map `u`, the other lanes 0. -/
def queries (x0 : Vec F S1x256x128 .bf16) (h u : Fin 2) : FVec F S256x128 .bf16 :=
  if h = 0 then (if u = 0 then k0_pay53 (k0_pay46 x0) lanes else k0_pay56 (k0_pay46 x0) (k0_pay54 lanes) k0_pay55)
  else if u = 0 then k0_pay92 (k0_pay46 x0) lanes else k0_pay93 (k0_pay46 x0) lanes

end values

/-- The word that starts a maximum. -/
theorem low : Ideal.ofBits .f32 0xFF800000#32 = ⊥ := by simp [Ideal.ofBits, Ideal.ieee]
/-- The word of the mask. -/
theorem mask : (Named.named (F := Ideal) κ "mask" (φ := .f32) 0xF149F2CA#32) = (⊥ : EReal) := rfl

section step
variable (m l : FVec Ideal S256x1 .f32) (a : FVec Ideal S256x128 .f32) (V : FVec Ideal S256x128 .bf16)
  (f : FVec Ideal S256x256 .f32) (r : Fin 256)

theorem pay69_apply (z : Fin 1) : k0_pay69 m f (ix2 r z) = nextM (m (ix2 r z)) fun c => f (ix2 r c) := by
  pointwise [k0_pay69]
  simp only [low]
  rfl

theorem pay70_apply (z : Fin 1) : k0_pay70 m f (ix2 r z) = Ideal.exp (m (ix2 r z) - nextM (m (ix2 r z)) fun c => f (ix2 r c)) := by
  pointwise [k0_pay70]
  rw [pay69_apply]

theorem pay71_apply (c : Fin 256) : k0_pay71 m f (ix2 r c) = Ideal.exp (f (ix2 r c) - nextM (m (ix2 r 0)) fun c => f (ix2 r c)) := by
  pointwise [k0_pay71]
  rw [pay69_apply]

theorem pay72_apply (z : Fin 1) : k0_pay72 m l f (ix2 r z) = nextL (m (ix2 r 0)) (l (ix2 r z)) fun c => f (ix2 r c) := by
  obtain rfl : z = 0 := Subsingleton.elim _ _
  pointwise [k0_pay72]
  simp only [pay70_apply, pay71_apply]
  rfl

theorem pay73_apply (d : Fin 128) : k0_pay73 m a V f (ix2 r d)
    = nextA (m (ix2 r 0)) (a (ix2 r d)) (fun c => f (ix2 r c)) fun c => V (ix2 c d) := by
  pointwise [k0_pay73]
  simp only [pay70_apply, pay71_apply]
  rfl

theorem pay64_apply (W : Vec Ideal S1x256x128 .bf16) (d : Fin 128) : k0_pay64 W (ix2 r d) = W (ix3 0 r d) := by
  pointwise [k0_pay64]

theorem none_apply (d : Fin 128) : (none' (F := Ideal)).1 (ix2 r 0) = ⊥ ∧ (none' (F := Ideal)).2.1 (ix2 r 0) = 0
    ∧ (none' (F := Ideal)).2.2 (ix2 r d) = 0 := by
  refine ⟨?_, ?_, ?_⟩
  · show k0_pay58 (F := Ideal) (ix2 r 0) = _
    pointwise [k0_pay58]
    exact mask
  · show k0_pay59 (F := Ideal) (ix2 r 0) = _
    pointwise [k0_pay59]
  · show k0_pay60 (F := Ideal) (ix2 r d) = _
    pointwise [k0_pay60]

end step

section scores
variable (ct : FVec Ideal S256x1 .f32) (Q : FVec Ideal S256x128 .bf16) (sl : FVec Ideal S1x256 .f32)
  (K : Vec Ideal S1x128x256 .bf16) (P : Vec Ideal S1x1x256 .f32) (f : FVec Ideal S256x256 .f32) (r : Fin 256)

theorem pay4_apply (c : Fin 256) : k0_pay4 ct sl P (ix2 r c)
    = sl (ix2 0 c) * max (ct (ix2 r 0) - P (ix3 0 0 c)) (-(ct (ix2 r 0) - P (ix3 0 0 c))) := by
  pointwise [k0_pay4]
  rfl

/-- The scores of row `r` of the queries against a block of keys. -/
theorem pay5_apply (c : Fin 256) : k0_pay5 ct Q sl K P (ix2 r c) = (∑ d : Fin 128, Q (ix2 r d) * K (ix3 0 d c))
    + sl (ix2 0 c) * max (ct (ix2 r 0) - P (ix3 0 0 c)) (-(ct (ix2 r 0) - P (ix3 0 0 c))) := by
  pointwise [k0_pay5, k0_pay3]
  rw [pay4_apply]

theorem chunk48 : ∀ r c : Fin 256, k0_pay48 (ix2 r c) = BitVec.ofNat 32 (c.val / 64) := by
  intro r c
  pointwise [k0_pay48]
  revert c
  decide +kernel

/-- The chunk of a row of the block. -/
theorem chunk_row : ∀ r : Fin 256, Scalar.select
    (IntOp.andi
      (IntOp.cmpi CmpIPredicate.ne
        (IntOp.subi (BitVec.setWidth 32 (IntOp.cmpi CmpIPredicate.sgt (BitVec.ofNat 32 r.val) 0#32))
          (BitVec.setWidth 32 (IntOp.cmpi CmpIPredicate.slt (BitVec.ofNat 32 r.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 r.val) 64#32) 0#32))
    (IntOp.subi (IntOp.divsi ArithUnit.vector (BitVec.ofNat 32 r.val) 64#32) 1#32)
    (IntOp.divsi ArithUnit.vector (BitVec.ofNat 32 r.val) 64#32) = BitVec.ofNat 32 (r.val / 64) := by
  decide +kernel

theorem chunk_le : ∀ a b : Fin 4, IntOp.cmpi CmpIPredicate.sle (BitVec.ofNat 32 a.val) (BitVec.ofNat 32 b.val)
    = BitVec.ofBool (decide (a.val ≤ b.val)) := by
  decide +kernel

theorem near_apply (c : Fin 256) : near (ix2 r c) = BitVec.ofBool (decide (c.val / 64 ≤ r.val / 64)) := by
  pointwise [k0_pay51, k0_pay49, k0_pay50]
  rw [chunk48]
  refine (congrArg (IntOp.cmpi CmpIPredicate.sle _) (chunk_row r)).trans ?_
  exact chunk_le ⟨c.val / 64, by omega⟩ ⟨r.val / 64, by omega⟩

/-- The masked scores of the diagonal block. -/
theorem pay74_apply (c : Fin 256) : k0_pay74 near f (ix2 r c) = if c.val / 64 ≤ r.val / 64 then f (ix2 r c) else ⊥ := by
  pointwise [k0_pay74]
  refine (congrArg₂ (fun w x => Scalar.select w _ x) (near_apply r c) mask).trans ?_
  by_cases h : c.val / 64 ≤ r.val / 64
  · rw [if_pos h, decide_eq_true h]; rfl
  · rw [if_neg h, decide_eq_false h]; rfl

theorem pay47_apply (x : Vec Ideal S1x256x1 .f32) (z : Fin 1) : k0_pay47 x (ix2 r z) = x (ix3 0 r 0) := by
  pointwise [k0_pay47]

theorem pay57_apply (x : Vec Ideal S1x1x256 .f32) (z : Fin 1) (c : Fin 256) : k0_pay57 x (ix2 z c) = -x (ix3 0 0 c) := by
  pointwise [k0_pay57]
  exact zero_sub _

end scores

/-! The lanes of a head's map are kept, the others set to 0. -/

theorem lane_word : ∀ d : Fin 128,
    IntOp.andi (IntOp.cmpi CmpIPredicate.sge (BitVec.ofNat 32 d.val) 0#32) (IntOp.cmpi CmpIPredicate.slt (BitVec.ofNat 32 d.val) 32#32)
      = BitVec.ofBool (decide (d.val / 32 = 0))
    ∧ IntOp.andi (IntOp.cmpi CmpIPredicate.sge (BitVec.ofNat 32 d.val) 32#32) (IntOp.cmpi CmpIPredicate.slt (BitVec.ofNat 32 d.val) 64#32)
      = BitVec.ofBool (decide (d.val / 32 = 1))
    ∧ IntOp.andi (IntOp.cmpi CmpIPredicate.sge (BitVec.ofNat 32 d.val) 64#32) (IntOp.cmpi CmpIPredicate.slt (BitVec.ofNat 32 d.val) 96#32)
      = BitVec.ofBool (decide (d.val / 32 = 2))
    ∧ IntOp.andi (IntOp.cmpi CmpIPredicate.sge (BitVec.ofNat 32 d.val) 96#32) (IntOp.cmpi CmpIPredicate.slt (BitVec.ofNat 32 d.val) 128#32)
      = BitVec.ofBool (decide (d.val / 32 = 3)) := by
  decide +kernel

theorem select_word (p : Prop) [Decidable p] (x y : EReal) : Scalar.select (BitVec.ofBool (decide p)) x y = if p then x else y := by
  by_cases h : p
  · rw [if_pos h, decide_eq_true h]; rfl
  · rw [if_neg h, decide_eq_false h]; rfl

/-- A head's queries in a map, at one lane. -/
theorem queries_apply (x : Vec Ideal S1x256x128 .bf16) (h u : Fin 2) (r : Fin 256) (d : Fin 128) :
    queries x h u (ix2 r d) = if d.val / 32 = 2 * h.val + u.val then x (ix3 0 r d) else 0 := by
  obtain ⟨w0, w1, w2, w3⟩ := lane_word d
  match h, u with
  | ⟨0, _⟩, ⟨0, _⟩ =>
    show k0_pay53 (k0_pay46 x) lanes (ix2 r d) = _
    pointwise [k0_pay53, k0_pay46]
    rw [w0, select_word]
  | ⟨0, _⟩, ⟨1, _⟩ =>
    show k0_pay56 (k0_pay46 x) (k0_pay54 lanes) k0_pay55 (ix2 r d) = _
    pointwise [k0_pay56, k0_pay54, k0_pay55, k0_pay46]
    rw [w1, select_word]
  | ⟨1, _⟩, ⟨0, _⟩ =>
    show k0_pay92 (k0_pay46 x) lanes (ix2 r d) = _
    pointwise [k0_pay92, k0_pay46]
    rw [w2, select_word]
  | ⟨1, _⟩, ⟨1, _⟩ =>
    show k0_pay93 (k0_pay46 x) lanes (ix2 r d) = _
    pointwise [k0_pay93, k0_pay46]
    rw [w3, select_word]

/-! The learned number, the difference of the two maps, and the normalization. -/

theorem lane : ∀ d : Fin 128, IntOp.cmpi CmpIPredicate.slt (BitVec.ofNat 32 d.val) 64#32 = BitVec.ofBool (decide (d.val < 64))
    ∧ IntOp.cmpi CmpIPredicate.sge (BitVec.ofNat 32 d.val) 64#32 = BitVec.ofBool (decide (64 ≤ d.val)) := by
  decide +kernel

theorem pay52_apply (x : Vec Ideal S8x128 .f32) (z w : Fin 1) : k0_pay52 x (ix2 z w)
    = Ideal.exp (∑ d : Fin 128, x (ix2 0 d) * x (ix2 1 d)) - Ideal.exp (∑ d : Fin 128, x (ix2 2 d) * x (ix2 3 d))
      + Ideal.ofBits .f32 0x3E4CCCCD#32 := by
  pointwise [k0_pay52]

/-- The difference of the two maps' means. -/
def differ (lam : FVec Ideal S1x1 .f32) (s u : Carried Ideal) (r : Fin 256) (d : Fin 128) : EReal :=
  s.2.2 (ix2 r d) * Ideal.div 1 (s.2.1 (ix2 r 0)) - lam (ix2 0 0) * (u.2.2 (ix2 r d) * Ideal.div 1 (u.2.1 (ix2 r 0)))

section values
variable {F : FTy → Type} [FloatOps F] [Named F]

/-- The two heads' rows, from their states `s`, `u` and `s'`, `u'`. -/
def both (lam : FVec F S1x1 .f32) (s u s' u' : Carried F) : FVec F S256x128 .f32 :=
  k0_pay127 lanes lam (k0_pay91 lam u.2.1 u.2.2 (k0_pay90 s.2.1 s.2.2) (Scalar.ofBits .f32 0x3F800000#32)) s'.2.1 s'.2.2 u'.2.1 u'.2.2
/-- The first head's mean square. -/
def square0 (lam : FVec F S1x1 .f32) (s u s' u' : Carried F) : FVec F S256x1 .f32 :=
  k0_pay129 lanes lam (k0_pay91 lam u.2.1 u.2.2 (k0_pay90 s.2.1 s.2.2) (Scalar.ofBits .f32 0x3F800000#32)) s'.2.1 s'.2.2 u'.2.1 u'.2.2
/-- The second head's sum of squares. -/
def square1 (lam : FVec F S1x1 .f32) (s u s' u' : Carried F) : FVec F S256x1 .f32 :=
  k0_pay130 lanes lam (k0_pay91 lam u.2.1 u.2.2 (k0_pay90 s.2.1 s.2.2) (Scalar.ofBits .f32 0x3F800000#32)) s'.2.1 s'.2.2 u'.2.1 u'.2.2
/-- The block written. -/
def written (lam : FVec F S1x1 .f32) (s u s' u' : Carried F) (x7 : Vec F S1x128 .f32) : Vec F S1x256x128 .bf16 :=
  k0_pay1 lanes (both lam s u s' u') (square0 lam s u s' u') (square1 lam s u s' u') (Scalar.ofBits .f32 0x3C800000#32) x7

end values

variable (lam : FVec Ideal S1x1 .f32) (s u s' u' : Carried Ideal) (r : Fin 256)

theorem both_apply (d : Fin 128) : both lam s u s' u' (ix2 r d) = if d.val < 64 then differ lam s u r d else differ lam s' u' r d := by
  unfold both differ
  pointwise [k0_pay127, k0_pay91, k0_pay90]
  rw [(lane d).1, select_word]

theorem sum_low (f : Fin 128 → EReal) : ∑ d, (if d.val < 64 then f d else 0) = ∑ x : Fin 64, f ⟨x.val, by omega⟩ := by
  refine (Fin.sum_univ_add (a := 64) (b := 64) (fun d : Fin 128 => if d.val < 64 then f d else 0)).trans ?_
  have e : ∑ d : Fin 64, (if (Fin.natAdd 64 d : Fin 128).val < 64 then f (Fin.natAdd 64 d) else 0) = 0 :=
    Finset.sum_eq_zero fun d _ => if_neg (by show ¬ 64 + d.val < 64; omega)
  refine (congrArg (fun x => _ + x) e).trans ((add_zero _).trans (Finset.sum_congr rfl fun d _ => ?_))
  exact if_pos d.isLt

theorem sum_high (f : Fin 128 → EReal) : ∑ d, (if 64 ≤ d.val then f d else 0) = ∑ x : Fin 64, f ⟨64 + x.val, by omega⟩ := by
  refine (Fin.sum_univ_add (a := 64) (b := 64) (fun d : Fin 128 => if 64 ≤ d.val then f d else 0)).trans ?_
  have e : ∑ d : Fin 64, (if 64 ≤ (Fin.castAdd 64 d : Fin 128).val then f (Fin.castAdd 64 d) else 0) = 0 :=
    Finset.sum_eq_zero fun d _ => if_neg (by show ¬ 64 ≤ d.val; omega)
  refine (congrArg (fun x => x + _) e).trans ((zero_add _).trans (Finset.sum_congr rfl fun d _ => ?_))
  exact if_pos (by show 64 ≤ 64 + d.val; omega)

theorem pay129_apply (v a a' : FVec Ideal S256x128 .f32) (l l' : FVec Ideal S256x1 .f32) (f : Fin 128 → EReal)
    (hf : ∀ d : Fin 128, d.val < 64 → k0_pay127 lanes lam v l a l' a' (ix2 r d) = f d) (z : Fin 1) :
    k0_pay129 lanes lam v l a l' a' (ix2 r z)
      = (∑ x : Fin 64, f ⟨x.val, by omega⟩ * f ⟨x.val, by omega⟩) * Ideal.ofBits .f32 0x3C800000#32 := by
  pointwise [k0_pay129, k0_pay128]
  refine congrArg (fun x : EReal => x * _) (Eq.trans (Finset.sum_congr rfl fun d _ => ?_) (sum_low fun d => f d * f d))
  rw [(lane d).1, select_word]
  exact ite_congr rfl (fun h => by rw [hf d h]) fun _ => rfl

theorem pay130_apply (v a a' : FVec Ideal S256x128 .f32) (l l' : FVec Ideal S256x1 .f32) (f : Fin 128 → EReal)
    (hf : ∀ d : Fin 128, 64 ≤ d.val → k0_pay127 lanes lam v l a l' a' (ix2 r d) = f d) (z : Fin 1) :
    k0_pay130 lanes lam v l a l' a' (ix2 r z) = ∑ x : Fin 64, f ⟨64 + x.val, by omega⟩ * f ⟨64 + x.val, by omega⟩ := by
  pointwise [k0_pay130, k0_pay128]
  refine Eq.trans (Finset.sum_congr rfl fun d _ => ?_) (sum_high fun d => f d * f d)
  rw [(lane d).2, select_word]
  exact ite_congr rfl (fun h => by rw [hf d h]) fun _ => rfl

theorem square0_apply (z : Fin 1) : square0 lam s u s' u' (ix2 r z)
    = (∑ x : Fin 64, differ lam s u r ⟨x.val, by omega⟩ * differ lam s u r ⟨x.val, by omega⟩) * Ideal.ofBits .f32 0x3C800000#32 :=
  pay129_apply lam r _ _ _ _ _ (differ lam s u r) (fun d h => (both_apply lam s u s' u' r d).trans (if_pos h)) z

theorem square1_apply (z : Fin 1) : square1 lam s u s' u' (ix2 r z)
    = ∑ x : Fin 64, differ lam s' u' r ⟨64 + x.val, by omega⟩ * differ lam s' u' r ⟨64 + x.val, by omega⟩ :=
  pay130_apply lam r _ _ _ _ _ (differ lam s' u' r) (fun d h => (both_apply lam s u s' u' r d).trans (if_neg (by omega))) z

theorem written_apply (x7 : Vec Ideal S1x128 .f32) (z : Fin 1) (d : Fin 128) : written lam s u s' u' x7 (ix3 z r d)
    = both lam s u s' u' (ix2 r d) * Ideal.rsqrt ((if d.val < 64 then square0 lam s u s' u' (ix2 r 0)
        else square1 lam s u s' u' (ix2 r 0) * Ideal.ofBits .f32 0x3C800000#32) + Ideal.ofBits .f32 0x358637BD#32)
      * x7 (ix2 0 d) * Ideal.ofBits .f32 0x3F4CCCCD#32 := by
  unfold written
  pointwise [k0_pay1]
  rw [(lane d).1, select_word]

end Cert.Kernel4Ideal.Attn

end
-- ==== Proof.DiffLoops.lean ====
/-
  The differential attention kernel's loops over the earlier blocks of keys, and the block a grid point writes.
-/
module

public import proofs.«01_k».proof.Proof.Gen.Kernel4Ideal.Frame
public import proofs.«01_k».proof.Proof.DiffSteps
public import Idealize.ShloMosaic.Lib.Pipeline.ReadBack

@[expose] public section

set_option maxRecDepth 16384
set_option maxHeartbeats 1000000

noncomputable section

namespace Cert.Kernel4Ideal.Attn

open Cert.Kernel4Ideal Cert.Kernel4Ideal.Gen
open Idealize.ShloMosaic Idealize.ShloMosaic.TcCoe

variable {F : FTy → Type} [FloatOps F] [Named F]

theorem hz3 : (![0, 0, 0] : Fin 3 → ℕ) = fun _ => 0 := by decide
theorem hz2 : (![0, 0] : Fin 2 → ℕ) = fun _ => 0 := by decide

/-- The keys in block `j`. -/
def kOf (x : Vec F S1x128x2048 .bf16) (j : Fin 8) : Vec F S1x128x256 .bf16 := fun y =>
  x (ix3 0 ⟨(y 1).val, (y 1).isLt⟩ ⟨256 * j.val + (y 2).val, by have : (y 2).val < 256 := (y 2).isLt; omega⟩)
/-- The values in block `j`. -/
def vOf (x : Vec F S1x2048x128 .bf16) (j : Fin 8) : Vec F S1x256x128 .bf16 := fun y =>
  x (ix3 0 ⟨256 * j.val + (y 1).val, by have : (y 1).val < 256 := (y 1).isLt; omega⟩ ⟨(y 2).val, (y 2).isLt⟩)
/-- The positions of the keys in block `j`. -/
def pOf (x : Vec F S1x1x2048 .f32) (j : Fin 8) : Vec F S1x1x256 .f32 := fun y =>
  x (ix3 0 0 ⟨256 * j.val + (y 2).val, by have : (y 2).val < 256 := (y 2).isLt; omega⟩)
/-- The slope of head `h`. -/
def slopeOf (x : Vec F S1x8x256 .f32) (h : Fin 2) : Vec F S1x1x256 .f32 := fun y =>
  x (ix3 0 ⟨h.val, by omega⟩ ⟨(y 2).val, (y 2).isLt⟩)

theorem ld_k (x : Vec F S1x128x2048 .bf16) (j : Fin 8) {off : Fin 3 → ℕ}
    (ho : off = ![0, 0, 256 * j.val]) (inb : ∀ a, off a + S1x128x256.size a ≤ S1x128x2048.size a) :
    View.ld x (Rect.unit (s := S1x128x2048) off S1x128x256.size inb) = kOf x j := by
  subst ho
  funext y
  refine congrArg x (funext fun a => Fin.ext ?_)
  match a with
  | ⟨0, _⟩ => show 0 + 1 * (y 0).val = 0; have : (y 0).val < 1 := (y 0).isLt; omega
  | ⟨1, _⟩ => show 0 + 1 * (y 1).val = (y 1).val; omega
  | ⟨2, _⟩ => show 256 * j.val + 1 * (y 2).val = 256 * j.val + (y 2).val; omega

theorem ld_v (x : Vec F S1x2048x128 .bf16) (j : Fin 8) {off : Fin 3 → ℕ} (ho : off = ![0, 256 * j.val, 0])
    (inb : ∀ a, off a + S1x256x128.size a ≤ S1x2048x128.size a) :
    View.ld x (Rect.unit (s := S1x2048x128) off S1x256x128.size inb) = vOf x j := by
  subst ho
  funext y
  refine congrArg x (funext fun a => Fin.ext ?_)
  match a with
  | ⟨0, _⟩ => show 0 + 1 * (y 0).val = 0; have : (y 0).val < 1 := (y 0).isLt; omega
  | ⟨1, _⟩ => show 256 * j.val + 1 * (y 1).val = 256 * j.val + (y 1).val; omega
  | ⟨2, _⟩ => show 0 + 1 * (y 2).val = (y 2).val; omega

theorem ld_p (x : Vec F S1x1x2048 .f32) (j : Fin 8) {off : Fin 3 → ℕ} (ho : off = ![0, 0, 256 * j.val])
    (inb : ∀ a, off a + S1x1x256.size a ≤ S1x1x2048.size a) :
    View.ld x (Rect.unit (s := S1x1x2048) off S1x1x256.size inb) = pOf x j := by
  subst ho
  funext y
  refine congrArg x (funext fun a => Fin.ext ?_)
  match a with
  | ⟨0, _⟩ => show 0 + 1 * (y 0).val = 0; have : (y 0).val < 1 := (y 0).isLt; omega
  | ⟨1, _⟩ => show 0 + 1 * (y 1).val = 0; have : (y 1).val < 1 := (y 1).isLt; omega
  | ⟨2, _⟩ => show 256 * j.val + 1 * (y 2).val = 256 * j.val + (y 2).val; omega

theorem ld_slope (x : Vec F S1x8x256 .f32) (h : Fin 2) {off : Fin 3 → ℕ} (ho : off = ![0, h.val, 0])
    (inb : ∀ a, off a + S1x1x256.size a ≤ S1x8x256.size a) :
    View.ld x (Rect.unit (s := S1x8x256) off S1x1x256.size inb) = slopeOf x h := by
  subst ho
  funext y
  refine congrArg x (funext fun a => Fin.ext ?_)
  match a with
  | ⟨0, _⟩ => show 0 + 1 * (y 0).val = 0; have : (y 0).val < 1 := (y 0).isLt; omega
  | ⟨1, _⟩ => show h.val + 1 * (y 1).val = h.val; have : (y 1).val < 1 := (y 1).isLt; omega
  | ⟨2, _⟩ => show 0 + 1 * (y 2).val = (y 2).val; omega

/-! The loops' trips and offsets. -/

theorem trips_first : ∀ n : Fin 8, Scf.trips 0#32 (Scalar.addi 0#32 (Scalar.muli (Scalar.divsi
    (Scalar.subi (BitVec.ofNat 32 n.val) 0#32) 1#32) 1#32)) 1#32 = n.val := by
  decide +kernel
theorem trips_rest : ∀ n : Fin 8, Scf.trips (Scalar.addi 0#32 (Scalar.muli (Scalar.divsi
    (Scalar.subi (BitVec.ofNat 32 n.val) 0#32) 1#32) 1#32)) (Scalar.addi 0#32 (Scalar.subi (BitVec.ofNat 32 n.val) 0#32)) 1#32 = 0 := by
  decide +kernel
theorem trips1 (i : grid0.Coords) : (k0_t1_loop i).trips = (i 2).val := trips_first (i 2)
theorem trips2 (i : grid0.Coords) : (k0_t2_loop i).trips = 0 := trips_rest (i 2)
theorem trips3 (i : grid0.Coords) : (k0_t3_loop i).trips = (i 2).val := trips_first (i 2)
theorem trips4 (i : grid0.Coords) : (k0_t4_loop i).trips = 0 := trips_rest (i 2)

theorem off_trip : ∀ k : Fin 8, (Scalar.indexCast (Scalar.muli (Scf.iv 0#32 1#32 k.val) 256#32)).toNat = 256 * k.val := by
  decide +kernel
theorem off_self : ∀ k : Fin 8, (Scalar.indexCast (Scalar.muli (BitVec.ofNat 32 k.val) 256#32)).toNat = 256 * k.val := by
  decide +kernel

/-- A block before the point's own. -/
def before (i : grid0.Coords) (k : ℕ) (hk : k < (i 2).val) : Fin 8 := ⟨k, hk.trans (i 2).isLt⟩

theorem off1 (i : grid0.Coords) : k0_off1 i = ![0, 256 * (i 2).val, 0] := by
  show ![0, _, 0] = _; exact congrArg (fun n => ![0, n, 0]) (off_self (i 2))
theorem off2 (i : grid0.Coords) : k0_off2 i = ![0, 0, 256 * (i 2).val] := by
  show ![0, 0, _] = _; exact congrArg (fun n => ![0, 0, n]) (off_self (i 2))
theorem off3 (i : grid0.Coords) : k0_off3 i = ![0, 0, 256 * (i 2).val] := by
  show ![0, 0, _] = _; exact congrArg (fun n => ![0, 0, n]) (off_self (i 2))
theorem off4 (i : grid0.Coords) (k : Fin (k0_t1_loop i).trips) (hk : k.val < (i 2).val) :
    k0_off4 i k = ![0, 256 * (before i k.val hk).val, 0] := by
  show ![0, _, 0] = _; exact congrArg (fun n => ![0, n, 0]) (off_trip (before i k.val hk))
theorem off5 (i : grid0.Coords) (k : Fin (k0_t1_loop i).trips) (hk : k.val < (i 2).val) :
    k0_off5 i k = ![0, 0, 256 * (before i k.val hk).val] := by
  show ![0, 0, _] = _; exact congrArg (fun n => ![0, 0, n]) (off_trip (before i k.val hk))
theorem off6 (i : grid0.Coords) (k : Fin (k0_t1_loop i).trips) (hk : k.val < (i 2).val) :
    k0_off6 i k = ![0, 0, 256 * (before i k.val hk).val] := by
  show ![0, 0, _] = _; exact congrArg (fun n => ![0, 0, n]) (off_trip (before i k.val hk))
theorem off10 (i : grid0.Coords) (k : Fin (k0_t3_loop i).trips) (hk : k.val < (i 2).val) :
    k0_off10 i k = ![0, 256 * (before i k.val hk).val, 0] := by
  show ![0, _, 0] = _; exact congrArg (fun n => ![0, n, 0]) (off_trip (before i k.val hk))
theorem off11 (i : grid0.Coords) (k : Fin (k0_t3_loop i).trips) (hk : k.val < (i 2).val) :
    k0_off11 i k = ![0, 0, 256 * (before i k.val hk).val] := by
  show ![0, 0, _] = _; exact congrArg (fun n => ![0, 0, n]) (off_trip (before i k.val hk))
theorem off12 (i : grid0.Coords) (k : Fin (k0_t3_loop i).trips) (hk : k.val < (i 2).val) :
    k0_off12 i k = ![0, 0, 256 * (before i k.val hk).val] := by
  show ![0, 0, _] = _; exact congrArg (fun n => ![0, 0, n]) (off_trip (before i k.val hk))

section loops
variable (x1 : Vec F S1x128x2048 .bf16) (x2 : Vec F S1x2048x128 .bf16) (x4 : Vec F S1x1x2048 .f32) (ct : FVec F S256x1 .f32)
  (sl : FVec F S1x256 .f32)

/-- The scores of the queries `Q` against the block `j` of keys. -/
def scoresOf (Q : FVec F S256x128 .bf16) (j : Fin 8) : FVec F S256x256 .f32 := k0_pay5 ct Q sl (kOf x1 j) (pOf x4 j)

/-- The state after the first `n` blocks. -/
def stepsOf (Q : FVec F S256x128 .bf16) (s : Carried F) : ℕ → Carried F
  | 0 => s
  | n + 1 => if hn : n < 8 then step (vOf x2 ⟨n, hn⟩) (scoresOf x1 x4 ct sl Q ⟨n, hn⟩) (stepsOf Q s n) else stepsOf Q s n

/-- The state after the block on the diagonal. -/
def startOf (Q : FVec F S256x128 .bf16) (j : Fin 8) : Carried F := step (vOf x2 j) (k0_pay74 near (scoresOf x1 x4 ct sl Q j)) none'

/-- The state after all the blocks up to `j`. -/
def endOf (Q : FVec F S256x128 .bf16) (j : Fin 8) : Carried F := stepsOf x1 x2 x4 ct sl Q (startOf x1 x2 x4 ct sl Q j) j.val

/-- Two maps' states. -/
def join (s u : Carried F) : FVec F S256x1 .f32 × FVec F S256x1 .f32 × FVec F S256x128 .f32 × FVec F S256x1 .f32 × FVec F S256x1 .f32 × FVec F S256x128 .f32 :=
  (s.1, s.2.1, s.2.2, u.1, u.2.1, u.2.2)

variable (𝒱 : Variants) (c : Dev nD) (bd : Option 𝒱.V) (i : grid0.Coords) (arg3 : Memref sig .tc .vmem S1x256x128 .bf16) (harg3 : arg3.IsWhole) (arg4 : Memref sig .tc .vmem S1x128x2048 .bf16) (harg4 : arg4.IsWhole) (arg5 : Memref sig .tc .vmem S1x2048x128 .bf16) (harg5 : arg5.IsWhole) (arg6 : Memref sig .tc .vmem S1x256x1 .f32) (harg6 : arg6.IsWhole) (arg7 : Memref sig .tc .vmem S1x1x2048 .f32) (harg7 : arg7.IsWhole) (arg8 : Memref sig .tc .vmem S1x8x256 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x256x128 .bf16) (harg11 : arg11.IsWhole)
  (Q Q' : FVec F S256x128 .bf16) (m l m' l' : FVec F S256x1 .f32) (a a' : FVec F S256x128 .f32)

theorem loop1 (arg2 : BitVec 32) (v55 : IVec S256x256 1) (v91 v92 : FVec F S256x1 .f32) (v93 : FVec F S256x128 .f32) (v94 v95 : FVec F S256x1 .f32) (v96 : FVec F S256x128 .f32) (v101 : FVec F S256x128 .bf16) (v121 v123 : FVec F S256x256 .f32)
    (n : ℕ) (hn : n ≤ (i 2).val) :
    st_k0_t1 𝒱 c bd i arg3 harg3 arg4 harg4 arg5 harg5 arg6 harg6 arg7 harg7 arg8 harg8 arg9 harg9 arg10 harg10 arg11 harg11 arg2 ct v55 Q Q' sl v91 v92 v93 v94 v95 v96 v101 v121 v123 (harg4.unread x1) (harg5.unread x2) (harg7.unread x4) (m, l, a, m', l', a') n
      = join (stepsOf x1 x2 x4 ct sl Q (m, l, a) n) (stepsOf x1 x2 x4 ct sl Q' (m', l', a') n) := by
  induction n with
  | zero => rfl
  | succ n ih =>
    have h8 : n < 8 := lt_of_lt_of_le hn (i 2).isLt.le
    have hk : n < (k0_t1_loop i).trips := by rw [trips1]; omega
    rw [st_k0_t1_succ 𝒱 c bd i arg3 harg3 arg4 harg4 arg5 harg5 arg6 harg6 arg7 harg7 arg8 harg8 arg9 harg9 arg10 harg10 arg11 harg11 arg2 ct v55 Q Q' sl v91 v92 v93 v94 v95 v96 v101 v121 v123 (harg4.unread x1) (harg5.unread x2) (harg7.unread x4) (m, l, a, m', l', a') ⟨n, hk⟩,
      ih (by omega)]
    unfold tripR_k0_t1 trip_k0_t1
    simp only [trip_k0_t1.sl.v367, trip_k0_t1.sl.v366, trip_k0_t1.sl.v365, trip_k0_t1.sl.v364, trip_k0_t1.sl.v363, trip_k0_t1.sl.v362, trip_k0_t1.sl.v361, trip_k0_t1.sl.v360, trip_k0_t1.sl.v359, trip_k0_t1.sl.v358, trip_k0_t1.sl.v357, trip_k0_t1.sl.v356, trip_k0_t1.sl.v355, trip_k0_t1.sl.v354, trip_k0_t1.sl.v353, trip_k0_t1.sl.v352, trip_k0_t1.sl.v351, trip_k0_t1.sl.v350, trip_k0_t1.sl.v349, trip_k0_t1.sl.v348, trip_k0_t1.sl.v347, trip_k0_t1.sl.v346, trip_k0_t1.sl.v345, trip_k0_t1.sl.v344, trip_k0_t1.sl.v343, trip_k0_t1.sl.v342, trip_k0_t1.sl.v341, trip_k0_t1.sl.v340, trip_k0_t1.sl.v339, trip_k0_t1.sl.v338, trip_k0_t1.sl.v333, trip_k0_t1.sl.v328, trip_k0_t1.sl.v326, trip_k0_t1.sl.v324]
    simp only [View.readAt_eq_ld, harg4.read_unread, harg5.read_unread, harg7.read_unread]
    rw [ld_k x1 (before i n hn) (off5 i ⟨n, hk⟩ hn), ld_v x2 (before i n hn) (off4 i ⟨n, hk⟩ hn),
      ld_p x4 (before i n hn) (off6 i ⟨n, hk⟩ hn)]
    show _ = join (dite _ _ _) (dite _ _ _)
    rw [dif_pos h8, dif_pos h8]
    rfl

theorem loop3 (arg2 : BitVec 32) (v2 : IVec S256x128 32) (v72 : FVec F S1x1 .f32) (v177 : FVec F S256x128 .f32) (v201 : FVec F S256x128 .f32) (v206 : FVec F S256x128 .bf16) (v231 v240 : FVec F S256x1 .f32) (v245 : FVec F S256x128 .f32) (v250 v252 : FVec F S256x1 .f32) (v255 : FVec F S256x256 .f32) (v256 : FVec F S256x1 .f32)
    (n : ℕ) (hn : n ≤ (i 2).val) :
    st_k0_t3 𝒱 c bd i arg3 harg3 arg4 harg4 arg5 harg5 arg6 harg6 arg7 harg7 arg8 harg8 arg9 harg9 arg10 harg10 arg11 harg11 arg2 v2 ct v72 v177 Q Q' sl v201 v206 v231 v240 v245 v250 v252 v255 v256 (harg4.unread x1) (harg5.unread x2) (harg7.unread x4) (m, l, a, m', l', a') n
      = join (stepsOf x1 x2 x4 ct sl Q (m, l, a) n) (stepsOf x1 x2 x4 ct sl Q' (m', l', a') n) := by
  induction n with
  | zero => rfl
  | succ n ih =>
    have h8 : n < 8 := lt_of_lt_of_le hn (i 2).isLt.le
    have hk : n < (k0_t3_loop i).trips := by rw [trips3]; omega
    rw [st_k0_t3_succ 𝒱 c bd i arg3 harg3 arg4 harg4 arg5 harg5 arg6 harg6 arg7 harg7 arg8 harg8 arg9 harg9 arg10 harg10 arg11 harg11 arg2 v2 ct v72 v177 Q Q' sl v201 v206 v231 v240 v245 v250 v252 v255 v256 (harg4.unread x1) (harg5.unread x2) (harg7.unread x4) (m, l, a, m', l', a') ⟨n, hk⟩,
      ih (by omega)]
    unfold tripR_k0_t3 trip_k0_t3
    simp only [trip_k0_t3.sl.v367, trip_k0_t3.sl.v366, trip_k0_t3.sl.v365, trip_k0_t3.sl.v364, trip_k0_t3.sl.v363, trip_k0_t3.sl.v362, trip_k0_t3.sl.v361, trip_k0_t3.sl.v360, trip_k0_t3.sl.v359, trip_k0_t3.sl.v358, trip_k0_t3.sl.v357, trip_k0_t3.sl.v356, trip_k0_t3.sl.v355, trip_k0_t3.sl.v354, trip_k0_t3.sl.v353, trip_k0_t3.sl.v352, trip_k0_t3.sl.v351, trip_k0_t3.sl.v350, trip_k0_t3.sl.v349, trip_k0_t3.sl.v348, trip_k0_t3.sl.v347, trip_k0_t3.sl.v346, trip_k0_t3.sl.v345, trip_k0_t3.sl.v344, trip_k0_t3.sl.v343, trip_k0_t3.sl.v342, trip_k0_t3.sl.v341, trip_k0_t3.sl.v340, trip_k0_t3.sl.v339, trip_k0_t3.sl.v338, trip_k0_t3.sl.v333, trip_k0_t3.sl.v328, trip_k0_t3.sl.v326, trip_k0_t3.sl.v324]
    simp only [View.readAt_eq_ld, harg4.read_unread, harg5.read_unread, harg7.read_unread]
    rw [ld_k x1 (before i n hn) (off11 i ⟨n, hk⟩ hn), ld_v x2 (before i n hn) (off10 i ⟨n, hk⟩ hn),
      ld_p x4 (before i n hn) (off12 i ⟨n, hk⟩ hn)]
    show _ = join (dite _ _ _) (dite _ _ _)
    rw [dif_pos h8, dif_pos h8]
    rfl

end loops

/-- The state of head `h` in the map `u` after all the blocks up to `j`. -/
def headOf (x0 : Vec F S1x256x128 .bf16) (x1 : Vec F S1x128x2048 .bf16) (x2 : Vec F S1x2048x128 .bf16) (x3 : Vec F S1x256x1 .f32)
    (x4 : Vec F S1x1x2048 .f32) (x5 : Vec F S1x8x256 .f32) (j : Fin 8) (h u : Fin 2) : Carried F :=
  endOf x1 x2 x4 (k0_pay47 x3) (k0_pay57 (slopeOf x5 h)) (queries x0 h u) j

/-- The block a grid point writes. -/
theorem out_eq (c : Dev nD) (i : grid0.Coords) (arg3 : Memref sig .tc .vmem S1x256x128 .bf16) (harg3 : arg3.IsWhole) (arg4 : Memref sig .tc .vmem S1x128x2048 .bf16) (harg4 : arg4.IsWhole) (arg5 : Memref sig .tc .vmem S1x2048x128 .bf16) (harg5 : arg5.IsWhole) (arg6 : Memref sig .tc .vmem S1x256x1 .f32) (harg6 : arg6.IsWhole) (arg7 : Memref sig .tc .vmem S1x1x2048 .f32) (harg7 : arg7.IsWhole) (arg8 : Memref sig .tc .vmem S1x8x256 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x256x128 .bf16) (harg11 : arg11.IsWhole)
    (x0 : Vec F S1x256x128 .bf16) (x1 : Vec F S1x128x2048 .bf16) (x2 : Vec F S1x2048x128 .bf16) (x3 : Vec F S1x256x1 .f32) (x4 : Vec F S1x1x2048 .f32) (x5 : Vec F S1x8x256 .f32) (x6 : Vec F S8x128 .f32) (x7 : Vec F S1x128 .f32) :
    out0_A_8 c i arg3 harg3 arg4 harg4 arg5 harg5 arg6 harg6 arg7 harg7 arg8 harg8 arg9 harg9 arg10 harg10 arg11 harg11 x0 x1 x2 x3 x4 x5 x6 x7
      = written (k0_pay52 x6) (headOf x0 x1 x2 x3 x4 x5 (i 2) 0 0) (headOf x0 x1 x2 x3 x4 x5 (i 2) 0 1)
          (headOf x0 x1 x2 x3 x4 x5 (i 2) 1 0) (headOf x0 x1 x2 x3 x4 x5 (i 2) 1 1) x7 := by
  unfold out0_A_8
  refine (View.read_writes_eq_canon _ _ _ ?_).trans ?_
  · intro y; apply cover0_A_8
  unfold kernelRun0_A
  dsimp only
  sl_unfold_words
  rw [View.canon_unit_zero hz3]
  have t1 : Scf.trips (k0_t1_loop i).lb (k0_t1_loop i).ub (k0_t1_loop i).st = (i 2).val := trips1 i
  have t2 : Scf.trips (k0_t2_loop i).lb (k0_t2_loop i).ub (k0_t2_loop i).st = 0 := trips2 i
  have t3 : Scf.trips (k0_t3_loop i).lb (k0_t3_loop i).ub (k0_t3_loop i).st = (i 2).val := trips3 i
  have t4 : Scf.trips (k0_t4_loop i).lb (k0_t4_loop i).ub (k0_t4_loop i).st = 0 := trips4 i
  simp only [t1, t2, t3, t4, st_k0_t2_zero, st_k0_t4_zero, View.readAt_eq_ld, harg3.read_unread, harg4.read_unread, harg5.read_unread,
    harg6.read_unread, harg7.read_unread, harg8.read_unread, harg9.read_unread, harg10.read_unread]
  rw [loop1 x1 x2 x4 _ _ Variants.none c none i arg3 harg3 arg4 harg4 arg5 harg5 arg6 harg6 arg7 harg7 arg8 harg8 arg9 harg9 arg10 harg10 arg11 harg11 _ _ _ _ _ _ _ _ _ _ _ _ _ _ _ _ _ _ _ _ le_rfl]
  generalize h1 : View.ld x1 _ = K
  generalize h2 : View.ld x2 _ = V
  generalize h3 : View.ld x4 _ = P
  generalize h4 : View.ld x5 (Rect.unit ![0, 0, 0] _ _) = S0
  generalize h5 : View.ld x5 (Rect.unit ![0, 1, 0] _ _) = S1
  obtain rfl := h1.symm.trans (ld_k x1 (i 2) (off2 i) _)
  obtain rfl := h2.symm.trans (ld_v x2 (i 2) (off1 i) _)
  obtain rfl := h3.symm.trans (ld_p x4 (i 2) (off3 i) _)
  obtain rfl := h4.symm.trans (ld_slope x5 0 rfl _)
  obtain rfl := h5.symm.trans (ld_slope x5 1 rfl _)
  generalize g0 : View.ld x0 _ = X0
  generalize g3 : View.ld x3 _ = X3
  generalize g6 : View.ld x6 _ = X6
  generalize g7 : View.ld x7 _ = X7
  obtain rfl := (View.ld_unit_zero hz3 _ x0).symm.trans g0
  obtain rfl := (View.ld_unit_zero hz3 _ x3).symm.trans g3
  obtain rfl := (View.ld_unit_zero hz2 _ x6).symm.trans g6
  obtain rfl := (View.ld_unit_zero hz2 _ x7).symm.trans g7
  generalize hS : st_k0_t3 (F := F) .. = S
  obtain rfl := (loop3 x1 x2 x4 _ _ Variants.none c none i arg3 harg3 arg4 harg4 arg5 harg5 arg6 harg6 arg7 harg7 arg8 harg8 arg9 harg9 arg10 harg10 arg11 harg11 _ _ _ _ _ _ _ _ _ _ _ _ _ _ _ _ _ _ _ _ _ _ le_rfl).symm.trans hS
  rfl

end Cert.Kernel4Ideal.Attn

end
-- ==== Proof.DiffValue.lean ====
/-
  A row of the differential attention kernel's block: each map's result after the blocks of keys.
-/
module

public import proofs.«01_k».proof.Proof.DiffSteps
public import proofs.«01_k».proof.Proof.DiffLoops
public import proofs.«01_k».proof.Proof.AttnSweep

@[expose] public section

set_option maxRecDepth 16384
set_option maxHeartbeats 1000000

noncomputable section

namespace Cert.Kernel4Ideal.Attn

open Cert.Kernel4Ideal Cert.Kernel4Ideal.Gen Cert.Attn
open Idealize.ShloMosaic Idealize.ShloMosaic.TcCoe

/-- A sum over the lanes of which only 32 are kept. -/
theorem sum_lanes (k : Fin 4) (f g : Fin 128 → EReal) : ∑ d, (if d.val / 32 = k.val then f d else 0) * g d
    = ∑ d : Fin 32, f ⟨32 * k.val + d.val, by omega⟩ * g ⟨32 * k.val + d.val, by omega⟩ := by
  refine (Finset.sum_subset (Finset.subset_univ (Finset.univ.map ⟨fun d : Fin 32 => (⟨32 * k.val + d.val, by omega⟩ : Fin 128),
    fun a b h => Fin.ext (by have := congrArg Fin.val h; simp only at this; omega)⟩)) fun d _ hd => ?_).symm.trans ?_
  · rw [if_neg fun h => hd (Finset.mem_map.mpr ⟨⟨d.val % 32, Nat.mod_lt _ (by decide)⟩, Finset.mem_univ _,
      Fin.ext (by show 32 * k.val + d.val % 32 = d.val; omega)⟩), zero_mul]
  · rw [Finset.sum_map]
    refine Finset.sum_congr rfl fun d _ => congrArg (fun x : EReal => x * _) (if_pos ?_)
    show (32 * k.val + d.val) / 32 = k.val
    omega

/-- The block written, in terms of one head's difference. -/
theorem written_normed (lam : FVec Ideal S1x1 .f32) (s u : Fin 2 → Carried Ideal) (x7 : Vec Ideal S1x128 .f32) (r : Fin 256) (h : Fin 2) (e : Fin 64) :
    written lam (s 0) (u 0) (s 1) (u 1) x7 (ix3 0 r ⟨64 * h.val + e.val, by omega⟩)
      = Diff.normed (fun x => differ lam (s h) (u h) r ⟨64 * h.val + x.val, by omega⟩) (fun x => x7 (ix2 0 ⟨64 * h.val + x.val, by omega⟩)) e := by
  refine (written_apply _ _ _ _ _ r _ 0 _).trans ?_
  unfold Diff.normed
  refine congrArg (fun x : EReal => x * _ * _) (congrArg₂ (fun x y : EReal => x * Ideal.rsqrt (y + _)) ?_ ?_)
  · refine (both_apply _ _ _ _ _ r _).trans ?_
    match h with
    | ⟨0, _⟩ => exact if_pos (show 64 * 0 + e.val < 64 by omega)
    | ⟨1, _⟩ => exact if_neg (show ¬ 64 * 1 + e.val < 64 by omega)
  · match h with
    | ⟨0, _⟩ =>
      refine (if_pos (show 64 * 0 + e.val < 64 by omega)).trans ((square0_apply _ _ _ _ _ r 0).trans ((Diff.mean _).trans ?_))
      refine congrArg (fun x : EReal => Ideal.div x _) (Finset.sum_congr rfl fun x _ => ?_)
      have hx : (⟨x.val, by omega⟩ : Fin 128) = ⟨64 * 0 + x.val, by omega⟩ := Fin.ext (by show x.val = 64 * 0 + x.val; omega)
      rw [hx]
      rfl
    | ⟨1, _⟩ =>
      exact (if_neg (show ¬ 64 * 1 + e.val < 64 by omega)).trans
        ((congrArg (fun x : EReal => x * _) (square1_apply _ _ _ _ _ r 0)).trans (Diff.mean _))

variable (x0 : Vec Ideal S1x256x128 .bf16) (x1 : Vec Ideal S1x128x2048 .bf16) (x2 : Vec Ideal S1x2048x128 .bf16)
  (x3 : Vec Ideal S1x256x1 .f32) (x4 : Vec Ideal S1x1x2048 .f32) (x5 : Vec Ideal S1x8x256 .f32) (σ : EReal) (h u : Fin 2) (j : Fin 8)
  (r : Fin 256)

/-- The masked scores of a row. -/
def rowScores (s : Fin 2048) : EReal :=
  if s.val / 64 ≤ (256 * j.val + r.val) / 64 then
    (∑ d : Fin 32, x0 (ix3 0 r ⟨32 * (2 * h.val + u.val) + d.val, by omega⟩) * x1 (ix3 0 ⟨32 * (2 * h.val + u.val) + d.val, by omega⟩ s))
      + -σ * max (x3 (ix3 0 r 0) - x4 (ix3 0 0 s)) (-(x3 (ix3 0 r 0) - x4 (ix3 0 0 s)))
  else ⊥

/-- The scores of the point's queries against block `n`. -/
abbrev scored (n : Fin 8) : FVec Ideal S256x256 .f32 :=
  scoresOf x1 x4 (k0_pay47 x3) (k0_pay57 (slopeOf x5 h)) (queries x0 h u) n

/-- The state after the first `n` of the earlier blocks. -/
abbrev stateOf (n : ℕ) : Carried Ideal := stepsOf x1 x2 x4 (k0_pay47 x3) (k0_pay57 (slopeOf x5 h)) (queries x0 h u)
  (startOf x1 x2 x4 (k0_pay47 x3) (k0_pay57 (slopeOf x5 h)) (queries x0 h u) j) n

variable (hσ : ∀ c : Fin 256, slopeOf x5 h (ix3 0 0 c) = σ)
include hσ

theorem score_eq (n : Fin 8) (c : Fin 256) : scored x0 x1 x3 x4 x5 h u n (ix2 r c)
    = (∑ d : Fin 32, x0 (ix3 0 r ⟨32 * (2 * h.val + u.val) + d.val, by omega⟩) * x1 (ix3 0 ⟨32 * (2 * h.val + u.val) + d.val, by omega⟩ (keys n c)))
      + -σ * max (x3 (ix3 0 r 0) - x4 (ix3 0 0 (keys n c))) (-(x3 (ix3 0 r 0) - x4 (ix3 0 0 (keys n c)))) := by
  refine (pay5_apply _ _ _ _ _ r c).trans ?_
  rw [pay47_apply, pay57_apply]
  refine congrArg₂ (fun x y : EReal => x + y) ?_ (congrArg (fun x : EReal => -x * _) (hσ c))
  refine (Finset.sum_congr rfl fun d _ => congrArg (fun x : EReal => x * kOf x1 n (ix3 0 d c)) (queries_apply x0 h u r d)).trans ?_
  exact sum_lanes ⟨2 * h.val + u.val, by omega⟩ (fun d => x0 (ix3 0 r d)) fun d => x1 (ix3 0 d (keys n c))

theorem masked_eq : (fun c => k0_pay74 near (scored x0 x1 x3 x4 x5 h u j) (ix2 r c))
    = fun c => rowScores x0 x1 x3 x4 σ h u j r (keys j c) := by
  funext c
  unfold rowScores
  rw [pay74_apply, score_eq x0 x1 x3 x4 x5 σ h u r hσ]
  have e : (c.val / 64 ≤ r.val / 64) ↔ ((keys j c).val / 64 ≤ (256 * j.val + r.val) / 64) := by
    show _ ↔ (256 * j.val + c.val) / 64 ≤ _
    omega
  simp only [e]

theorem unmasked_eq (n : Fin 8) (hn : n.val < j.val) :
    (fun c => scored x0 x1 x3 x4 x5 h u n (ix2 r c)) = fun c => rowScores x0 x1 x3 x4 σ h u j r (keys n c) := by
  funext c
  unfold rowScores
  rw [score_eq x0 x1 x3 x4 x5 σ h u r hσ, if_pos (show (keys n c).val / 64 ≤ _ from (show (256 * n.val + c.val) / 64 ≤ (256 * j.val + r.val) / 64 by omega))]

variable (hf : ∀ s, rowScores x0 x1 x3 x4 σ h u j r s ≠ ⊤)
  (hd : rowScores x0 x1 x3 x4 σ h u j r (keys j r) ≠ ⊥)
include hf hd

/-- A row's result in one map: its values, weighed by the softmax of its masked scores. -/
theorem end_attend (d : Fin 128) :
    (headOf x0 x1 x2 x3 x4 x5 j h u).2.2 (ix2 r d) * Ideal.div 1 ((headOf x0 x1 x2 x3 x4 x5 j h u).2.1 (ix2 r 0))
      = attend (rowScores x0 x1 x3 x4 σ h u j r) fun s => x2 (ix3 0 s d) := by
  obtain ⟨n1, n2, n3⟩ := none_apply r d
  refine sweep (v := fun s => x2 (ix3 0 s d)) hf j r hd ?_
    (m := fun n => (stateOf x0 x1 x2 x3 x4 x5 h u j n).1 (ix2 r 0))
    (l := fun n => (stateOf x0 x1 x2 x3 x4 x5 h u j n).2.1 (ix2 r 0))
    (a := fun n => (stateOf x0 x1 x2 x3 x4 x5 h u j n).2.2 (ix2 r d)) ⟨?_, ?_, ?_⟩ ?_
  · intro k hk
    unfold rowScores
    rw [if_neg (by omega)]
  · refine (pay69_apply _ _ r 0).trans ?_
    rw [masked_eq x0 x1 x3 x4 x5 σ h u j r hσ, n1]
  · refine (pay72_apply _ _ _ r 0).trans ?_
    rw [masked_eq x0 x1 x3 x4 x5 σ h u j r hσ, n1, n2]
  · refine (pay73_apply _ _ _ _ r d).trans ?_
    rw [masked_eq x0 x1 x3 x4 x5 σ h u j r hσ, n1, n3]
    exact congrArg (nextA _ _ _) (funext fun c => pay64_apply c _ d)
  · intro n hn
    have h8 : n < 8 := by omega
    have e : stateOf x0 x1 x2 x3 x4 x5 h u j (n + 1)
        = step (vOf x2 ⟨n, h8⟩) (scored x0 x1 x3 x4 x5 h u ⟨n, h8⟩) (stateOf x0 x1 x2 x3 x4 x5 h u j n) := dif_pos h8
    rw [e]
    refine ⟨(pay69_apply _ _ r 0).trans ?_, (pay72_apply _ _ _ r 0).trans ?_, (pay73_apply _ _ _ _ r d).trans ?_⟩
      <;> rw [unmasked_eq x0 x1 x3 x4 x5 σ h u j r hσ ⟨n, h8⟩ hn]
    exact congrArg (nextA _ _ _) (funext fun c => pay64_apply c _ d)

end Cert.Kernel4Ideal.Attn

end
-- ==== Proof.DiffRun.lean ====
/-
  The differential attention kernel's run: the result array, from the blocks its grid points write.
-/
module

public import proofs.«01_k».proof.Proof.DiffValue
public import proofs.«01_k».proof.Proof.Gen.Kernel4Ideal.Value
public import Idealize.ShloMosaic.Lib.Pointwise
public import Idealize.ShloMosaic.Lib.StableHlo.ReadAt

@[expose] public section

set_option maxRecDepth 16384
set_option maxHeartbeats 1000000

noncomputable section

namespace Cert.Kernel4Ideal.Attn

open Cert.Kernel4Ideal Cert.Kernel4Ideal.Gen Cert.Attn Cert.Diff
open Idealize.ShloMosaic Idealize.ShloMosaic.TcCoe Idealize.SL.Sem

variable (m : (ℓ : Loc nD τ sig) → Buf (Elt Ideal) ℓ) (ρ : Dev nD → PrngReg)

/-- The arguments, on one device. -/
def args (c : Dev nD) : Args where
  q := m ((c : Thread nD τ).loc main_arg0)
  k := m ((c : Thread nD τ).loc main_arg1)
  v := m ((c : Thread nD τ).loc main_arg2)
  p := m ((c : Thread nD τ).loc main_arg3)
  q1 := m ((c : Thread nD τ).loc main_arg4)
  k1 := m ((c : Thread nD τ).loc main_arg5)
  q2 := m ((c : Thread nD τ).loc main_arg6)
  k2 := m ((c : Thread nD τ).loc main_arg7)
  g := m ((c : Thread nD τ).loc main_arg8)

theorem points : ∀ t : Fin cfg0.N, t.val < 192 := (by decide +kernel : ∀ t : Fin grid0.N, _)

/-- The batch entry, the pair of heads and the block of queries of a grid point. -/
def bOf (t : Fin cfg0.N) : Fin 8 := ⟨t.val / 24, by have := points t; omega⟩
def prOf (t : Fin cfg0.N) : Fin 3 := ⟨t.val / 8 % 3, Nat.mod_lt _ (by decide)⟩
def jOf (t : Fin cfg0.N) : Fin 8 := ⟨t.val % 8, Nat.mod_lt _ (by decide)⟩
/-- The query of row `r`. -/
def tOf (t : Fin cfg0.N) (r : Fin 256) : Fin 2048 := ⟨256 * (jOf t).val + r.val, by omega⟩

theorem coords_j (t : Fin cfg0.N) : (grid0.coords t 2) = jOf t :=
  Fin.ext ((by decide +kernel : ∀ t : Fin grid0.N, (grid0.coords t 2).val = t.val % 8) t)

theorem idx0 : ∀ t : Fin cfg0.N, win0_0.index t (0 : Fin 3) = (bOf t).val ∧ win0_0.index t (1 : Fin 3) = (jOf t).val ∧ win0_0.index t (2 : Fin 3) = (prOf t).val :=
  (by decide +kernel : ∀ t : Fin grid0.N, _)
theorem idx1 : ∀ t : Fin cfg0.N, win0_1.index t (0 : Fin 3) = (bOf t).val ∧ win0_1.index t (1 : Fin 3) = (prOf t).val ∧ win0_1.index t (2 : Fin 3) = 0 :=
  (by decide +kernel : ∀ t : Fin grid0.N, _)
theorem idx2 : ∀ t : Fin cfg0.N, win0_2.index t (0 : Fin 3) = (bOf t).val ∧ win0_2.index t (1 : Fin 3) = 0 ∧ win0_2.index t (2 : Fin 3) = (prOf t).val :=
  (by decide +kernel : ∀ t : Fin grid0.N, _)
theorem idx3 : ∀ t : Fin cfg0.N, win0_3.index t (0 : Fin 3) = (bOf t).val ∧ win0_3.index t (1 : Fin 3) = (jOf t).val ∧ win0_3.index t (2 : Fin 3) = 0 :=
  (by decide +kernel : ∀ t : Fin grid0.N, _)
theorem idx4 : ∀ t : Fin cfg0.N, win0_4.index t (0 : Fin 3) = (bOf t).val ∧ win0_4.index t (1 : Fin 3) = 0 ∧ win0_4.index t (2 : Fin 3) = 0 :=
  (by decide +kernel : ∀ t : Fin grid0.N, _)
theorem idx5 : ∀ t : Fin cfg0.N, win0_5.index t (0 : Fin 3) = (prOf t).val ∧ win0_5.index t (1 : Fin 3) = 0 ∧ win0_5.index t (2 : Fin 3) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 3) = (bOf t).val ∧ win0_8.index t (1 : Fin 3) = (jOf t).val ∧ win0_8.index t (2 : Fin 3) = (prOf t).val :=
  (by decide +kernel : ∀ t : Fin grid0.N, _)

/-! What the host hands over: the positions as numbers, the slopes, the learned vectors and the scale, laid out in blocks. -/

theorem V_col (c : Dev nD) (b : Fin 8) (t : Fin 2048) : V m c main_v1 (ix3 b t 0) = (args m c).pos b t := by
  unfold V
  after_reads_at
  all_goals rfl

theorem V_row (c : Dev nD) (b : Fin 8) (t : Fin 2048) : V m c main_v2 (ix3 b 0 t) = (args m c).pos b t := by
  unfold V
  after_reads_at
  all_goals rfl

theorem V_slope (c : Dev nD) (p : Fin 3) (h : Fin 2) (l : Fin 256) :
    V m c main_v15 (ix3 p ⟨h.val, by omega⟩ l) = Diff.slope ⟨2 * p.val + h.val, by omega⟩ := by
  have e : 2 * p.val + h.val = p.val * 2 + h.val := by omega
  unfold V
  after_reads_at
  all_goals (unfold Diff.slope; dsimp only; rw [e]; rfl)

theorem V_scale (c : Dev nD) (l : Fin 128) :
    V m c main_v25 (ix2 0 l) = (args m c).g (ix1 ⟨l.val % 64, Nat.mod_lt _ (by decide)⟩) := by
  unfold V
  after_reads_at
  all_goals rfl

theorem V_q1 (c : Dev nD) (l : Fin 128) : V m c main_v21 (ix2 0 l) = if hl : l.val < 32 then (args m c).q1 (ix1 ⟨l.val, hl⟩) else (0 : EReal) := by
  unfold V
  after_reads_at
  by_cases hl : l.val < 32
  · rw [dif_pos hl, dif_pos hl]
    after_reads_at
    all_goals rfl
  · rw [dif_neg hl, dif_neg hl]
    show (((0#32 : BitVec 32).toInt : ℝ) : EReal) = 0
    simp

theorem V_k1 (c : Dev nD) (l : Fin 128) : V m c main_v21 (ix2 1 l) = if hl : l.val < 32 then (args m c).k1 (ix1 ⟨l.val, hl⟩) else (0 : EReal) := by
  unfold V
  after_reads_at
  by_cases hl : l.val < 32
  · rw [dif_pos hl, dif_pos hl]
    after_reads_at
    all_goals rfl
  · rw [dif_neg hl, dif_neg hl]
    show (((0#32 : BitVec 32).toInt : ℝ) : EReal) = 0
    simp

theorem V_q2 (c : Dev nD) (l : Fin 128) : V m c main_v21 (ix2 2 l) = if hl : l.val < 32 then (args m c).q2 (ix1 ⟨l.val, hl⟩) else (0 : EReal) := by
  unfold V
  after_reads_at
  by_cases hl : l.val < 32
  · rw [dif_pos hl, dif_pos hl]
    after_reads_at
    all_goals rfl
  · rw [dif_neg hl, dif_neg hl]
    show (((0#32 : BitVec 32).toInt : ℝ) : EReal) = 0
    simp

theorem V_k2 (c : Dev nD) (l : Fin 128) : V m c main_v21 (ix2 3 l) = if hl : l.val < 32 then (args m c).k2 (ix1 ⟨l.val, hl⟩) else (0 : EReal) := by
  unfold V
  after_reads_at
  by_cases hl : l.val < 32
  · rw [dif_pos hl, dif_pos hl]
    after_reads_at
    all_goals rfl
  · rw [dif_neg hl, dif_neg hl]
    show (((0#32 : BitVec 32).toInt : ℝ) : EReal) = 0
    simp

theorem blk_q (c : Dev nD) (t : Fin cfg0.N) (r : Fin 256) (l : Fin 128) :
    iblk m c 0 t (ix3 0 r l) = (args m c).q (ix3 (bOf t) (tOf t r) (⟨128 * (prOf t).val + l.val, by omega⟩ : Fin 384)) := by
  obtain ⟨h0, h1, h2⟩ := idx0 t
  unfold iblk
  rw [View.read_apply]
  show m ((c : Thread nD τ).loc main_arg0) _ = _
  have e : ((cfg0.win 0).blk t).view.emb (ix3 0 r l) = ix3 (bOf t) (tOf t r) (⟨128 * (prOf t).val + l.val, by omega⟩ : Fin 384) := by
    funext q; apply Fin.ext
    match q with
    | ⟨0, _⟩ => show win0_0.index t (0 : Fin 3) * 1 + 1 * 0 = (bOf t).val; omega
    | ⟨1, _⟩ => show win0_0.index t (1 : Fin 3) * 256 + 1 * r.val = 256 * (jOf t).val + r.val; omega
    | ⟨2, _⟩ => show win0_0.index t (2 : Fin 3) * 128 + 1 * l.val = 128 * (prOf t).val + l.val; omega
  rw [e]
  rfl

theorem blk_k (c : Dev nD) (t : Fin cfg0.N) (l : Fin 128) (s : Fin 2048) :
    iblk m c 1 t (ix3 0 l s) = (args m c).k (ix3 (bOf t) (⟨128 * (prOf t).val + l.val, by omega⟩ : Fin 384) s) := by
  obtain ⟨h0, h1, h2⟩ := idx1 t
  unfold iblk
  rw [View.read_apply]
  show m ((c : Thread nD τ).loc main_arg1) _ = _
  have e : ((cfg0.win 1).blk t).view.emb (ix3 0 l s) = ix3 (bOf t) (⟨128 * (prOf t).val + l.val, by omega⟩ : Fin 384) s := by
    funext q; apply Fin.ext
    match q with
    | ⟨0, _⟩ => show win0_1.index t (0 : Fin 3) * 1 + 1 * 0 = (bOf t).val; omega
    | ⟨1, _⟩ => show win0_1.index t (1 : Fin 3) * 128 + 1 * l.val = 128 * (prOf t).val + l.val; omega
    | ⟨2, _⟩ => show win0_1.index t (2 : Fin 3) * 2048 + 1 * s.val = s.val; omega
  rw [e]
  rfl

theorem blk_v (c : Dev nD) (t : Fin cfg0.N) (s : Fin 2048) (d : Fin 128) :
    iblk m c 2 t (ix3 0 s d) = (args m c).v (ix3 (bOf t) s (⟨128 * (prOf t).val + d.val, by omega⟩ : Fin 384)) := by
  obtain ⟨h0, h1, h2⟩ := idx2 t
  unfold iblk
  rw [View.read_apply]
  show m ((c : Thread nD τ).loc main_arg2) _ = _
  have e : ((cfg0.win 2).blk t).view.emb (ix3 0 s d) = ix3 (bOf t) s (⟨128 * (prOf t).val + d.val, by omega⟩ : Fin 384) := by
    funext q; apply Fin.ext
    match q with
    | ⟨0, _⟩ => show win0_2.index t (0 : Fin 3) * 1 + 1 * 0 = (bOf t).val; omega
    | ⟨1, _⟩ => show win0_2.index t (1 : Fin 3) * 2048 + 1 * s.val = s.val; omega
    | ⟨2, _⟩ => show win0_2.index t (2 : Fin 3) * 128 + 1 * d.val = 128 * (prOf t).val + d.val; omega
  rw [e]
  rfl

theorem blk_col (c : Dev nD) (t : Fin cfg0.N) (r : Fin 256) :
    iblk m c 3 t (ix3 0 r 0) = (args m c).pos (bOf t) (tOf t r) := by
  obtain ⟨h0, h1, h2⟩ := idx3 t
  unfold iblk
  rw [View.read_apply]
  show V m c main_v1 _ = _
  have e : ((cfg0.win 3).blk t).view.emb (ix3 0 r 0) = ix3 (bOf t) (tOf t r) 0 := by
    funext q; apply Fin.ext
    match q with
    | ⟨0, _⟩ => show win0_3.index t (0 : Fin 3) * 1 + 1 * 0 = (bOf t).val; omega
    | ⟨1, _⟩ => show win0_3.index t (1 : Fin 3) * 256 + 1 * r.val = 256 * (jOf t).val + r.val; omega
    | ⟨2, _⟩ => show win0_3.index t (2 : Fin 3) * 1 + 1 * 0 = 0; omega
  rw [e]
  exact V_col m c _ _

theorem blk_row (c : Dev nD) (t : Fin cfg0.N) (s : Fin 2048) :
    iblk m c 4 t (ix3 0 0 s) = (args m c).pos (bOf t) s := by
  obtain ⟨h0, h1, h2⟩ := idx4 t
  unfold iblk
  rw [View.read_apply]
  show V m c main_v2 _ = _
  have e : ((cfg0.win 4).blk t).view.emb (ix3 0 0 s) = ix3 (bOf t) 0 s := by
    funext q; apply Fin.ext
    match q with
    | ⟨0, _⟩ => show win0_4.index t (0 : Fin 3) * 1 + 1 * 0 = (bOf t).val; omega
    | ⟨1, _⟩ => show win0_4.index t (1 : Fin 3) * 1 + 1 * 0 = 0; omega
    | ⟨2, _⟩ => show win0_4.index t (2 : Fin 3) * 2048 + 1 * s.val = s.val; omega
  rw [e]
  exact V_row m c _ _

theorem blk_slope (c : Dev nD) (t : Fin cfg0.N) (h : Fin 2) (l : Fin 256) :
    iblk m c 5 t (ix3 0 ⟨h.val, by omega⟩ l) = Diff.slope ⟨2 * (prOf t).val + h.val, by omega⟩ := by
  obtain ⟨h0, h1, h2⟩ := idx5 t
  unfold iblk
  rw [View.read_apply]
  show V m c main_v15 _ = _
  have e : ((cfg0.win 5).blk t).view.emb (ix3 0 ⟨h.val, by omega⟩ l) = ix3 (prOf t) ⟨h.val, by omega⟩ l := by
    funext q; apply Fin.ext
    match q with
    | ⟨0, _⟩ => show win0_5.index t (0 : Fin 3) * 1 + 1 * 0 = (prOf t).val; omega
    | ⟨1, _⟩ => show win0_5.index t (1 : Fin 3) * 8 + 1 * h.val = h.val; omega
    | ⟨2, _⟩ => show win0_5.index t (2 : Fin 3) * 256 + 1 * l.val = l.val; omega
  rw [e]
  exact V_slope m c _ h l

theorem blk_learned (c : Dev nD) (t : Fin cfg0.N) (a : Fin 8) (l : Fin 128) :
    iblk m c 6 t (ix2 a l) = V m c main_v21 (ix2 a l) := by
  obtain ⟨h0, h1⟩ := idx6 t
  unfold iblk
  rw [View.read_apply]
  show V m c main_v21 _ = _
  have e : ((cfg0.win 6).blk t).view.emb (ix2 a l) = ix2 a l := by
    funext q; apply Fin.ext
    match q with
    | ⟨0, _⟩ => show win0_6.index t (0 : Fin 2) * 8 + 1 * a.val = a.val; omega
    | ⟨1, _⟩ => show win0_6.index t (1 : Fin 2) * 128 + 1 * l.val = l.val; omega
  rw [e]

theorem blk_scale (c : Dev nD) (t : Fin cfg0.N) (l : Fin 128) :
    iblk m c 7 t (ix2 0 l) = (args m c).g (ix1 ⟨l.val % 64, Nat.mod_lt _ (by decide)⟩) := by
  obtain ⟨h0, h1⟩ := idx7 t
  unfold iblk
  rw [View.read_apply]
  show V m c main_v25 _ = _
  have e : ((cfg0.win 7).blk t).view.emb (ix2 0 l) = ix2 0 l := by
    funext q; apply Fin.ext
    match q with
    | ⟨0, _⟩ => show win0_7.index t (0 : Fin 2) * 1 + 1 * 0 = 0; omega
    | ⟨1, _⟩ => show win0_7.index t (1 : Fin 2) * 128 + 1 * l.val = l.val; omega
  rw [e]
  exact V_scale m c l

theorem sum_first (f g : Fin 32 → EReal) : ∑ d : Fin 128, (if h : d.val < 32 then f ⟨d.val, h⟩ else 0) * (if h : d.val < 32 then g ⟨d.val, h⟩ else 0)
    = ∑ d, f d * g d := by
  refine (Fin.sum_univ_add (a := 32) (b := 96) (fun d : Fin 128 => (if h : d.val < 32 then f ⟨d.val, h⟩ else 0) * (if h : d.val < 32 then g ⟨d.val, h⟩ else 0))).trans ?_
  refine (congrArg₂ (fun x y : EReal => x + y) (Finset.sum_congr rfl fun d _ => ?_) (Finset.sum_eq_zero fun d _ => ?_)).trans (add_zero _)
  · exact congrArg₂ (fun x y : EReal => x * y) (dif_pos (show (Fin.castAdd 96 d).val < 32 from d.isLt)) (dif_pos (show (Fin.castAdd 96 d).val < 32 from d.isLt))
  · rw [dif_neg (by show ¬ 32 + d.val < 32; omega), zero_mul]

theorem lam_eq (c : Dev nD) (t : Fin cfg0.N) : k0_pay52 (iblk m c 6 t) (ix2 0 0) = (args m c).lam := by
  refine (pay52_apply _ 0 0).trans ?_
  unfold Args.lam
  refine congrArg₂ (fun x y : EReal => Ideal.exp x - Ideal.exp y + _)
    (Eq.trans (Finset.sum_congr rfl fun d _ => ?_) (sum_first _ _)) (Eq.trans (Finset.sum_congr rfl fun d _ => ?_) (sum_first _ _))
  · exact congrArg₂ (fun x y : EReal => x * y) ((blk_learned m c t 0 d).trans (V_q1 m c d)) ((blk_learned m c t 1 d).trans (V_k1 m c d))
  · exact congrArg₂ (fun x y : EReal => x * y) ((blk_learned m c t 2 d).trans (V_q2 m c d)) ((blk_learned m c t 3 d).trans (V_k2 m c d))

/-- The scores of a row of a grid point's block are the attention's. -/
theorem rowScores_eq (c : Dev nD) (t : Fin cfg0.N) (h u : Fin 2) (r : Fin 256) :
    rowScores (iblk m c 0 t) (iblk m c 1 t) (iblk m c 3 t) (iblk m c 4 t) (Diff.slope ⟨2 * (prOf t).val + h.val, by omega⟩) h u (jOf t) r
      = (args m c).scores (bOf t) ⟨2 * (prOf t).val + h.val, by omega⟩ u (tOf t r) := by
  funext s
  unfold rowScores Args.scores Args.bias
  have e : ∀ d : Fin 32, (⟨128 * (prOf t).val + (32 * (2 * h.val + u.val) + d.val), by omega⟩ : Fin 384)
      = ⟨(2 * (prOf t).val + h.val) * 64 + (u.val * 32 + d.val), by omega⟩ := fun d => Fin.ext (by
    show 128 * (prOf t).val + (32 * (2 * h.val + u.val) + d.val) = (2 * (prOf t).val + h.val) * 64 + (u.val * 32 + d.val); omega)
  refine if_congr Iff.rfl (congrArg₂ (fun x y : EReal => x + y) (Finset.sum_congr rfl fun d _ => ?_)
    (congrArg₂ (fun x y : EReal => -Diff.slope _ * max (x - y) (-(x - y))) (blk_col m c t r) (blk_row m c t s))) rfl
  refine (congrArg₂ (fun x y : EReal => x * y) (blk_q m c t r ⟨32 * (2 * h.val + u.val) + d.val, by omega⟩)
    (blk_k m c t ⟨32 * (2 * h.val + u.val) + d.val, by omega⟩ s)).trans ?_
  dsimp only
  rw [e d]

/-- The difference of the two maps, of a head of a grid point. -/
theorem differ_eq (c : Dev nD) (R : (args m c).Finite) (t : Fin cfg0.N) (r : Fin 256) (h : Fin 2) (e : Fin 64) :
    differ (k0_pay52 (iblk m c 6 t))
        (headOf (iblk m c 0 t) (iblk m c 1 t) (iblk m c 2 t) (iblk m c 3 t) (iblk m c 4 t) (iblk m c 5 t) (jOf t) h 0)
        (headOf (iblk m c 0 t) (iblk m c 1 t) (iblk m c 2 t) (iblk m c 3 t) (iblk m c 4 t) (iblk m c 5 t) (jOf t) h 1) r ⟨64 * h.val + e.val, by omega⟩
      = (args m c).diff (bOf t) (tOf t r) ⟨2 * (prOf t).val + h.val, by omega⟩ e := by
  have key : ∀ u : Fin 2, (headOf (iblk m c 0 t) (iblk m c 1 t) (iblk m c 2 t) (iblk m c 3 t) (iblk m c 4 t) (iblk m c 5 t) (jOf t) h u).2.2 (ix2 r ⟨64 * h.val + e.val, by omega⟩)
      * Ideal.div 1 ((headOf (iblk m c 0 t) (iblk m c 1 t) (iblk m c 2 t) (iblk m c 3 t) (iblk m c 4 t) (iblk m c 5 t) (jOf t) h u).2.1 (ix2 r 0))
      = attend ((args m c).scores (bOf t) ⟨2 * (prOf t).val + h.val, by omega⟩ u (tOf t r))
          fun s => (args m c).v (ix3 (bOf t) s ⟨(2 * (prOf t).val + h.val) * 64 + e.val, by omega⟩) := fun u => by
    rw [end_attend (iblk m c 0 t) (iblk m c 1 t) (iblk m c 2 t) (iblk m c 3 t) (iblk m c 4 t) (iblk m c 5 t) (Diff.slope ⟨2 * (prOf t).val + h.val, by omega⟩) h u (jOf t) r (fun l => blk_slope m c t h l)
      (by rw [rowScores_eq]; exact scores_ne_top R _ _ _ _)
      (by rw [rowScores_eq]; exact scores_self R _ _ _ (tOf t r)), rowScores_eq]
    refine congrArg _ (funext fun s => (blk_v m c t s _).trans ?_)
    refine congrArg (fun l => (args m c).v (ix3 (bOf t) s l)) (Fin.ext ?_)
    show 128 * (prOf t).val + (64 * h.val + e.val) = (2 * (prOf t).val + h.val) * 64 + e.val
    omega
  unfold differ Args.diff
  rw [key 0, key 1, lam_eq]

/-- The block a grid point writes, at one entry. -/
theorem out_apply (c : Dev nD) (R : (args m c).Finite) (t : Fin cfg0.N) (r : Fin 256) (h : Fin 2) (e : Fin 64) :
    outsAt0 m c t (ix3 0 r ⟨64 * h.val + e.val, by omega⟩) = (args m c).out (bOf t) (tOf t r) ⟨2 * (prOf t).val + h.val, by omega⟩ e := by
  unfold outsAt0 Args.out
  rw [out_eq, coords_j]
  refine (written_normed (k0_pay52 (iblk m c 6 t))
    (fun h => headOf (iblk m c 0 t) (iblk m c 1 t) (iblk m c 2 t) (iblk m c 3 t) (iblk m c 4 t) (iblk m c 5 t) (jOf t) h 0)
    (fun h => headOf (iblk m c 0 t) (iblk m c 1 t) (iblk m c 2 t) (iblk m c 3 t) (iblk m c 4 t) (iblk m c 5 t) (jOf t) h 1) (iblk m c 7 t) r h e).trans ?_
  refine congrArg₂ (fun f g => normed f g e) (funext fun x => differ_eq m c R t r h x) (funext fun x => (blk_scale m c t _).trans ?_)
  exact congrArg (fun x => (args m c).g (ix1 x)) (Fin.ext (by show (64 * h.val + x.val) % 64 = x.val; omega))

/-- What a grid point writes back is its block of the result. -/
theorem flushed_eq (c : Dev nD) (R : (args m c).Finite) (t : Fin cfg0.N) :
    (dats m 0 c).flushed 8 t = ((cfg0.win 8).blk t).view.read (Elt Ideal) (args m c).rows := by
  rw [Value.flushed8]
  obtain ⟨e0, e1, e2⟩ := idx8 t
  funext y
  have hy0 : (y 0).val < 1 := (y 0).isLt
  have hy2 : (y 2).val < 128 := (y 2).isLt
  have hb0 : (((cfg0.win 8).blk t).view.emb y 0).val = win0_8.index t (0 : Fin 3) * 1 + 1 * (y 0).val := rfl
  have hb1 : (((cfg0.win 8).blk t).view.emb y 1).val = win0_8.index t (1 : Fin 3) * 256 + 1 * (y 1).val := rfl
  have hb2 : (((cfg0.win 8).blk t).view.emb y 2).val = win0_8.index t (2 : Fin 3) * 128 + 1 * (y 2).val := rfl
  rw [View.read_apply]
  have hl : (cfg0.win 8).cut (grid0.coords t) (outsAt0 m c t) y
      = outsAt0 m c t (ix3 0 ⟨(y 1).val, (y 1).isLt⟩ ⟨64 * (⟨(y 2).val / 64, by omega⟩ : Fin 2).val
          + (⟨(y 2).val % 64, Nat.mod_lt _ (by decide)⟩ : Fin 64).val, by show 64 * ((y 2).val / 64) + (y 2).val % 64 < 128; omega⟩) := by
    show outsAt0 m c t ((cfg0.win 8).xinj (grid0.coords t) y) = _
    refine congrArg (outsAt0 m c t) (funext fun a => Fin.ext ?_)
    match a with
    | ⟨0, _⟩ => show (y 0).val = 0; omega
    | ⟨1, _⟩ => rfl
    | ⟨2, _⟩ => show (y 2).val = 64 * ((y 2).val / 64) + (y 2).val % 64; omega
  rw [hl, out_apply m c R]
  unfold Args.rows
  congr 1
  · exact Fin.ext (by show (bOf t).val = (((cfg0.win 8).blk t).view.emb y 0).val; rw [hb0, e0]; omega)
  · exact Fin.ext (by show 256 * (jOf t).val + (y 1).val = (((cfg0.win 8).blk t).view.emb y 1).val; rw [hb1, e1]; omega)
  · exact Fin.ext (by show 2 * (prOf t).val + (y 2).val / 64 = (((cfg0.win 8).blk t).view.emb y 2).val / 64; rw [hb2, e2]; omega)
  · exact Fin.ext (by show (y 2).val % 64 = (((cfg0.win 8).blk t).view.emb y 2).val % 64; rw [hb2, e2]; omega)

theorem mem_block (t : Fin cfg0.N) (i : S8x2048x384.Idx) :
    i ∈ ((cfg0.win 8).blk t).view.set ↔ ∀ a : Fin 3, win0_8.index t a * S1x256x128.size a ≤ (i a).val ∧ (i a).val < win0_8.index t a * S1x256x128.size a + S1x256x128.size a := by
  show i ∈ ((View.whole main_v26).slice (win0_8.rect t)).set ↔ _
  rw [View.set_slice_whole, Rect.mem_set_unit]
  exact Iff.rfl

theorem flush_all : ∀ t : Fin cfg0.N, (cfg0.win 8).flush t = true :=
  (by decide +kernel : ∀ t : Fin grid0.N, _)

/-- The result array after the run. -/
theorem final (c : Dev nD) (R : (args m c).Finite) : (dats m 0 c).arrAt 8 cfg0.N = (args m c).rows :=
  (dats m 0 c).arrAt_eq_of_cover 8 _ (fun t _ => flushed_eq m c R t) (fun i => by
    have hi0 : (i 0).val < 8 := (i 0).isLt
    have hi1 : (i 1).val < 2048 := (i 1).isLt
    have hi2 : (i 2).val < 384 := (i 2).isLt
    have hN : cfg0.N = 192 := by decide +kernel
    obtain ⟨n, hn⟩ : ∃ n, n = ((i 0).val * 3 + (i 2).val / 128) * 8 + (i 1).val / 256 := ⟨_, rfl⟩
    refine ⟨⟨n, by omega⟩, flush_all _, ?_⟩
    rw [mem_block]
    obtain ⟨e0, e1, e2⟩ := idx8 ⟨n, by omega⟩
    intro a
    match a with
    | ⟨0, _⟩ =>
      show win0_8.index _ (0 : Fin 3) * 1 ≤ (i 0).val ∧ (i 0).val < win0_8.index _ (0 : Fin 3) * 1 + 1
      rw [e0]
      show n / 24 * 1 ≤ _ ∧ _ < n / 24 * 1 + 1
      omega
    | ⟨1, _⟩ =>
      show win0_8.index _ (1 : Fin 3) * 256 ≤ (i 1).val ∧ (i 1).val < win0_8.index _ (1 : Fin 3) * 256 + 256
      rw [e1]
      show n % 8 * 256 ≤ _ ∧ _ < n % 8 * 256 + 256
      omega
    | ⟨2, _⟩ =>
      show win0_8.index _ (2 : Fin 3) * 128 ≤ (i 2).val ∧ (i 2).val < win0_8.index _ (2 : Fin 3) * 128 + 128
      rw [e2]
      show n / 8 % 3 * 128 ≤ _ ∧ _ < n / 8 % 3 * 128 + 128
      omega)

/-- The kernel's run: the result holds the attention's rows, the arguments are unchanged. -/
theorem run (R : ∀ c, (args m c).Finite) :
    θ_run defs (onTc (τ := τ) (main (F := Ideal))) ⟨m, fun _ => 0, ρ⟩ fun r => ∀ c : Dev nD,
      r.2.mem ((c : Thread nD τ).loc main_v26) = (args m c).rows
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final m c (R c)), (h c).2⟩) (Value.run_blocks m ρ)

end Cert.Kernel4Ideal.Attn

end
-- ==== Proof.DiffRef.lean ====
/-
  The differential attention's reference: its result, and its run.
-/
module

public import proofs.«01_k».proof.Proof.Gen.Reference4Ideal.Read
public import proofs.«01_k».proof.Proof.Gen.Reference4Ideal.Run
public import proofs.«01_k».proof.Proof.DiffInputs
public import proofs.«01_k».proof.Proof.AttnRef
public import Idealize.ShloMosaic.Lib.Quiescent
public import Idealize.ShloMosaic.Lib.Claim

@[expose] public section

set_option maxRecDepth 16384
set_option maxHeartbeats 1000000

noncomputable section

namespace Cert.Reference4Ideal.Rows

open Cert.Reference4Ideal Cert.Reference4Ideal.Gen Cert.Reference4Ideal.Read Cert.Diff
open Cert.Attn (attend top)
open Cert.Reference2Ideal.Rows (chunk_word chunk_order low nought)
open Idealize.ShloMosaic Idealize.ShloMosaic.TcCoe Idealize.SL.Sem

/-- The chunk of a key. -/
theorem key_chunk (s : Fin 2048) : val_main_v44 (F := Ideal) (ix2 0 s) = BitVec.ofNat 32 (s.val / 64) := by
  pointwise [val_main_v44, val_main_call0_v11, val_main_call0_v13, val_main_call0_v2, val_main_call0_v6, val_main_call0_v10, val_main_call0_v3,
    val_main_call0_v5, val_main_call0_v4, val_main_call0_v8, val_main_call0_v9, val_main_call0_v7, val_main_call0_v12,
    val_main_call0_v1, val_main_call0_v0, val_main_call0_c, val_main_call0_c_0, val_main_c, val_main_v43, val_main_v42]
  exact chunk_word s

/-- The chunk of a query. -/
theorem query_chunk (s : Fin 2048) : val_main_v45 (F := Ideal) (ix2 s 0) = BitVec.ofNat 32 (s.val / 64) := by
  pointwise [val_main_v45, val_main_call1_v11, val_main_call1_v13, val_main_call1_v2, val_main_call1_v6, val_main_call1_v10, val_main_call1_v3,
    val_main_call1_v5, val_main_call1_v4, val_main_call1_v8, val_main_call1_v9, val_main_call1_v7, val_main_call1_v12,
    val_main_call1_v1, val_main_call1_v0, val_main_call1_c, val_main_call1_c_0, val_main_c_3, val_main_v41, val_main_v40]
  exact chunk_word s

/-- Which keys a query sees. -/
theorem seen_apply (t s : Fin 2048) : val_main_v48 (F := Ideal) (ix2 t s)
    = if s.val / 64 ≤ t.val / 64 then 1#1 else 0#1 := by
  refine Eq.trans ?_ (chunk_order ⟨s.val / 64, by omega⟩ ⟨t.val / 64, by omega⟩)
  show _ = IntOp.cmpi .sle (BitVec.ofNat 32 (s.val / 64)) (BitVec.ofNat 32 (t.val / 64))
  rw [← key_chunk, ← query_chunk]
  pointwise [val_main_v48, val_main_v47, val_main_v46]

/-- A head's slope. -/
theorem slope_apply (h : Fin 6) : val_main_v27 (F := Ideal) (ix1 h) = Diff.slope h := by
  pointwise [val_main_v27, val_main_v26, val_main_v25, val_main_v24, val_main_v23, val_main_v22, val_main_v21, val_main_v20,
    val_main_v19, val_main_cst, val_main_cst_0, val_main_cst_1, val_main_cst_2]
  rfl

/-- The distance of two positions, weighed. -/
theorem bias_apply (A : Args) (b : Fin 8) (h : Fin 6) (t s : Fin 2048) : val_main_v39 (F := Ideal) A.p (ix4 b h t s) = A.bias b h t s := by
  pointwise [val_main_v39, val_main_v38, val_main_v37, val_main_v36, val_main_v35, val_main_v34, val_main_v33, val_main_v32,
    val_main_v31, val_main_v30, val_main_v29, val_main_v28]
  rw [slope_apply]
  rfl

/-- The first map's scores before the mask. -/
theorem product0_apply (A : Args) (b : Fin 8) (h : Fin 6) (t s : Fin 2048) : val_main_v50 (F := Ideal) A.q A.k A.p (ix4 b h t s)
    = (∑ d : Fin 32, A.q (ix3 b t ⟨h.val * 64 + ((0 : Fin 2).val * 32 + d.val), by omega⟩)
        * A.k (ix3 b ⟨h.val * 64 + ((0 : Fin 2).val * 32 + d.val), by omega⟩ s)) + A.bias b h t s := by
  pointwise [val_main_v50, val_main_v49, val_main_v9, val_main_v8, val_main_v7, val_main_v1, val_main_v0, val_main_v15, val_main_v14,
    val_main_v13, val_main_v3, val_main_v2]
  refine congrArg₂ (fun x y : EReal => x + y) (Finset.sum_congr rfl fun d _ => ?_) (bias_apply A b h t s)
  rfl

/-- The second map's. -/
theorem product1_apply (A : Args) (b : Fin 8) (h : Fin 6) (t s : Fin 2048) : val_main_v65 (F := Ideal) A.q A.k A.p (ix4 b h t s)
    = (∑ d : Fin 32, A.q (ix3 b t ⟨h.val * 64 + ((1 : Fin 2).val * 32 + d.val), by have := d.isLt; show h.val * 64 + (1 * 32 + d.val) < 384; omega⟩)
        * A.k (ix3 b ⟨h.val * 64 + ((1 : Fin 2).val * 32 + d.val), by have := d.isLt; show h.val * 64 + (1 * 32 + d.val) < 384; omega⟩ s)) + A.bias b h t s := by
  pointwise [val_main_v65, val_main_v64, val_main_v12, val_main_v11, val_main_v10, val_main_v1, val_main_v0, val_main_v18, val_main_v17,
    val_main_v16, val_main_v3, val_main_v2]
  refine congrArg₂ (fun x y : EReal => x + y) (Finset.sum_congr rfl fun d _ => ?_) (bias_apply A b h t s)
  exact congrArg (fun l => A.q (ix3 b t l) * A.k (ix3 b l s)) (Fin.ext (by show h.val * 64 + 32 + d.val = h.val * 64 + (1 * 32 + d.val); omega))

theorem select_apply (f : S8x6x2048x2048.Idx → EReal) (b : Fin 8) (h : Fin 6) (t s : Fin 2048) :
    select (val_main_call2_v1 (F := Ideal)) f (val_main_call2_v2 (F := Ideal)) (ix4 b h t s)
      = Scalar.select (val_main_v48 (F := Ideal) (ix2 t s)) (f (ix4 b h t s)) ⊥ := by
  pointwise [val_main_call2_v1, val_main_call2_v2, val_main_call2_v0, val_main_cst_4]
  rw [← low]
  rfl

/-- The masked scores of the two maps. -/
theorem scores0_apply (A : Args) (b : Fin 8) (h : Fin 6) (t s : Fin 2048) : val_main_v51 (F := Ideal) A.q A.k A.p (ix4 b h t s) = A.scores b h 0 t s := by
  unfold val_main_v51 Args.scores
  rw [select_apply, seen_apply, product0_apply]
  split <;> rfl

theorem scores1_apply (A : Args) (b : Fin 8) (h : Fin 6) (t s : Fin 2048) : val_main_v66 (F := Ideal) A.q A.k A.p (ix4 b h t s) = A.scores b h 1 t s := by
  refine (select_apply (val_main_v65 (F := Ideal) A.q A.k A.p) b h t s).trans ?_
  unfold Args.scores
  rw [seen_apply, product1_apply]
  split <;> rfl

/-- The exponentials of a map's scores, less each row's greatest. -/
def exps (f : FVec Ideal S8x6x2048x2048 .f32) : FVec Ideal S8x6x2048x2048 .f32 :=
  Host.exp (subf f (broadcastInDim S8x6x2048x2048 ![0, 1, 2, 3] bcast_S8x6x2048x1_S8x6x2048x2048_0_1_2_3
    (broadcastInDim S8x6x2048x1 ![0, 1, 2] bcast_S8x6x2048_S8x6x2048x1_0_1_2 (maximumf (val_main_v53 (F := Ideal))
      (Host.reduce FloatOps.maximumf f (val_main_cst_5 (F := Ideal)) reducesTo_S8x6x2048x2048_S8x6x2048_d3 h_S_)))))

/-- A map's mean of the values. -/
def weighed (f : FVec Ideal S8x6x2048x2048 .f32) (v : FVec Ideal S8x6x2048x64 .f32) : FVec Ideal S8x6x2048x64 .f32 :=
  Host.dotGeneral dot_S8x6x2048x2048_S8x6x2048x64_S8x6x2048x64_3_2_2_3_01_01 none
    (Host.divf (exps f) (broadcastInDim S8x6x2048x2048 ![0, 1, 2, 3] bcast_S8x6x2048x1_S8x6x2048x2048_0_1_2_3
      (broadcastInDim S8x6x2048x1 ![0, 1, 2] bcast_S8x6x2048_S8x6x2048x1_0_1_2
        (Host.reduceAdd (exps f) (val_main_cst_7 (F := Ideal)) reducesTo_S8x6x2048x2048_S8x6x2048_d3 h_S_)))) v

theorem top_apply (f : FVec Ideal S8x6x2048x2048 .f32) (b : Fin 8) (h : Fin 6) (t : Fin 2048) :
    Host.reduce (FloatOps.maximumf (F := Ideal) (φ := .f32)) f (val_main_cst_5 (F := Ideal))
      reducesTo_S8x6x2048x2048_S8x6x2048_d3 h_S_ (ix3 b h t) = top fun s => f (ix4 b h t s) := by
  pointwise []
  unfold top
  rw [← low]
  rfl

theorem exp_gen (f : S8x6x2048x2048.Idx → EReal) (g : S8x6x2048.Idx → EReal) (b : Fin 8) (h : Fin 6) (t s : Fin 2048) :
    (Host.exp (F := Ideal) (φ := .f32) (subf f (broadcastInDim S8x6x2048x2048 ![0, 1, 2, 3]
      bcast_S8x6x2048x1_S8x6x2048x2048_0_1_2_3 (broadcastInDim S8x6x2048x1 ![0, 1, 2]
      bcast_S8x6x2048_S8x6x2048x1_0_1_2 (maximumf (F := Ideal) (φ := .f32) (val_main_v53 (F := Ideal)) g))))) (ix4 b h t s)
      = Ideal.exp (f (ix4 b h t s) - max ⊥ (g (ix3 b h t))) := by
  pointwise [val_main_v53, val_main_cst_6]
  rw [← low]

theorem exps_apply (f : FVec Ideal S8x6x2048x2048 .f32) (b : Fin 8) (h : Fin 6) (t s : Fin 2048) :
    exps f (ix4 b h t s) = Ideal.exp (f (ix4 b h t s) - top fun x => f (ix4 b h t x)) := by
  unfold exps
  rw [exp_gen, top_apply, max_eq_right bot_le]

theorem weighed_apply (f : FVec Ideal S8x6x2048x2048 .f32) (v : FVec Ideal S8x6x2048x64 .f32) (w : Fin 2048 → EReal)
    (b : Fin 8) (h : Fin 6) (t : Fin 2048) (e : Fin 64) (hf : ∀ s, f (ix4 b h t s) = w s) :
    weighed f v (ix4 b h t e) = attend w fun s => v (ix4 b h s e) := by
  have hx : ∀ s, exps f (ix4 b h t s) = Ideal.exp (w s - top w) := fun s => by
    rw [exps_apply]; simp only [hf]
  pointwise [weighed]
  have z : val_main_cst_7 (F := Ideal) (Shape.Idx.first h_S_) = 0 := nought
  unfold attend
  simp only [hx, z, zero_add]

theorem value_apply (A : Args) (b : Fin 8) (h : Fin 6) (s : Fin 2048) (e : Fin 64) :
    val_main_v6 (F := Ideal) A.v (ix4 b h s e) = A.v (ix3 b s ⟨h.val * 64 + e.val, by omega⟩) := by
  pointwise [val_main_v6, val_main_v5, val_main_v4]

theorem lam_apply (A : Args) (i : S_.Idx) : val_main_v86 (F := Ideal) A.q1 A.k1 A.q2 A.k2 i = A.lam := by
  pointwise [val_main_v86, val_main_v85, val_main_v84, val_main_v83, val_main_v82, val_main_v81, val_main_v80, val_main_v79, val_main_cst_14]
  have z : val_main_cst_12 (F := Ideal) (Shape.Idx.first h_S_) = 0 := nought
  have z' : val_main_cst_13 (F := Ideal) (Shape.Idx.first h_S_) = 0 := nought
  rw [z, z', zero_add, zero_add]
  rfl

/-- The difference of the two maps. -/
theorem diff_apply (A : Args) (b : Fin 8) (t : Fin 2048) (h : Fin 6) (e : Fin 64) :
    val_main_v89 (F := Ideal) A.q A.k A.v A.p A.q1 A.k1 A.q2 A.k2 (ix4 b h t e) = A.diff b t h e := by
  have m0 := weighed_apply (val_main_v51 (F := Ideal) A.q A.k A.p) (val_main_v6 (F := Ideal) A.v) _ b h t e (scores0_apply A b h t)
  have m1 := weighed_apply (val_main_v66 (F := Ideal) A.q A.k A.p) (val_main_v6 (F := Ideal) A.v) _ b h t e (scores1_apply A b h t)
  simp only [value_apply] at m0 m1
  pointwise [val_main_v89, val_main_v88, val_main_v87]
  unfold Args.diff
  rw [← m0, ← m1]
  refine congrArg₂ (fun x y : EReal => x - y) rfl (congrArg₂ (fun x y : EReal => x * y) (lam_apply A _) rfl)

/-- The result, entry by entry. -/
theorem out_apply (A : Args) (b : Fin 8) (t : Fin 2048) (e : Fin 384) :
    val_main_v107 (F := Ideal) A.q A.k A.v A.p A.q1 A.k1 A.q2 A.k2 A.g (ix3 b t e)
      = A.out b t ⟨e.val / 64, by omega⟩ ⟨e.val % 64, Nat.mod_lt _ (by decide)⟩ := by
  pointwise [val_main_v107, val_main_v106, val_main_v105, val_main_v104, val_main_v103, val_main_v102, val_main_v101, val_main_v100,
    val_main_v99, val_main_v98, val_main_v97, val_main_v96, val_main_v95, val_main_v94, val_main_v93, val_main_v92, val_main_v91,
    val_main_v90, val_main_cst_16, val_main_cst_17, val_main_cst_18]
  have z : val_main_cst_15 (F := Ideal) (Shape.Idx.first h_S_) = 0 := nought
  unfold Args.out normed
  simp only [diff_apply, z, zero_add]

/-- The reference runs, leaves the attention's rows in its result, and its arguments as they were. -/
theorem run (m : (ℓ : Loc nD τ sig) → Buf (Elt Ideal) ℓ) (ρ : Dev nD → PrngReg) (A : Dev nD → Args)
    (h : ∀ c : Dev nD, m ((c.tc : Thread nD τ).loc main_arg0) = (A c).q
      ∧ m ((c.tc : Thread nD τ).loc main_arg1) = (A c).k
      ∧ m ((c.tc : Thread nD τ).loc main_arg2) = (A c).v
      ∧ m ((c.tc : Thread nD τ).loc main_arg3) = (A c).p
      ∧ m ((c.tc : Thread nD τ).loc main_arg4) = (A c).q1
      ∧ m ((c.tc : Thread nD τ).loc main_arg5) = (A c).k1
      ∧ m ((c.tc : Thread nD τ).loc main_arg6) = (A c).q2
      ∧ m ((c.tc : Thread nD τ).loc main_arg7) = (A c).k2
      ∧ m ((c.tc : Thread nD τ).loc main_arg8) = (A c).g) :
    θ_run defs (onTc (τ := τ) (main (F := Ideal))) ⟨m, fun _ => 0, ρ⟩ fun r => ∀ c : Dev nD,
      r.2.mem ((c.tc : Thread nD τ).loc main_v107) = (A c).rows
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r H c => ⟨(H c).1.trans ((val_main_v107_eq (StableHlo.launchContents m c)).trans (by
    obtain ⟨e0, e1, e2, e3, e4, e5, e6, e7, e8⟩ := h c
    refine Eq.trans (b := val_main_v107 (F := Ideal) (A c).q (A c).k (A c).v (A c).p (A c).q1 (A c).k1 (A c).q2 (A c).k2 (A c).g) ?_ ?_
    · show val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = _
      rw [← e0, ← e1, ← e2, ← e3, ← e4, ← e5, ← e6, ← e7, ← e8]
    funext i
    have hi : i = ix3 (⟨(i 0).val, (i 0).isLt⟩ : Fin 8) (⟨(i 1).val, (i 1).isLt⟩ : Fin 2048) (⟨(i 2).val, (i 2).isLt⟩ : Fin 384) := by
      funext q
      match q with
      | ⟨0, _⟩ => rfl
      | ⟨1, _⟩ => rfl
      | ⟨2, _⟩ => rfl
    rw [hi]
    exact out_apply (A c) _ _ _)), (H c).2⟩) (Value.run m ρ)

/-- The reference runs, leaves its arguments as they were and every semaphore at zero. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0 :=
  (θ_run defs _ _).mono (fun r H => ⟨fun c => (H c).2, sem_eq_zero_of_no_sems rfl r.2⟩) (Value.run m ρ)

end Cert.Reference4Ideal.Rows

end
-- ==== Proof.DiffFinite.lean ====
/-
  What the differential attention's precondition says: the queries and the keys are finite.
-/
module

public import proofs.«01_k».proof.Pre_differential_finite
public import proofs.«01_k».proof.Proof.DiffInputs
public import proofs.«01_k».proof.Proof.Finiteness

@[expose] public section

noncomputable section

namespace Cert.Diff

open Idealize.ShloMosaic

/-- The shapes the precondition broadcasts to. -/
theorem differentialFacts : Cert.Pre_differential_finite.Facts where
  bitsLt_bf16_f32 := by decide
  bcast_S_S8x2048x384 := by decide
  bcast_S_S8x384x2048 := by decide

/-- The precondition, read at the arguments. -/
theorem finite (A : Args) (h : letI := differentialFacts
    let p := Cert.Pre_differential_finite.fn (F := Ideal) A.q A.k A.v A.p A.q1 A.k1 A.q2 A.k2 A.g
    p.1 = (fun _ => 1#1) ∧ p.2 = (fun _ => 1#1)) : A.Finite where
  q i := Moe.real_of_below _ (congrFun h.1 i)
  k i := Moe.real_of_below _ (congrFun h.2 i)

end Cert.Diff

end
-- ==== Proof.lean ====
/-
  The certificate: the kernel and its idealized form run and leave their arguments and semaphores as they were, so does the
  reference; the idealized form is the kernel's own text with the mask's constant read as minus infinity; and on finite
  routing weights the idealized kernel and the reference leave the same result. The same five claims follow for the
  chunked attention, on finite queries and keys, for the forget-gate attention, on finite queries, keys and gates, and for
  the differential attention, on finite queries and keys.
-/
module

public import proofs.«01_k».proof.Defs
public import proofs.«01_k».proof.Proof.KernelLaunch
public import proofs.«01_k».proof.Proof.KernelRun
public import proofs.«01_k».proof.Proof.RefRun
public import proofs.«01_k».proof.Proof.Finiteness
public import proofs.«01_k».proof.Proof.AttnRun
public import proofs.«01_k».proof.Proof.AttnRef
public import proofs.«01_k».proof.Proof.AttnFinite
public import proofs.«01_k».proof.Proof.ForgetRun
public import proofs.«01_k».proof.Proof.ForgetRef
public import proofs.«01_k».proof.Proof.ForgetFinite
public import proofs.«01_k».proof.Proof.DiffRun
public import proofs.«01_k».proof.Proof.DiffRef
public import proofs.«01_k».proof.Proof.DiffFinite
public import proofs.«01_k».proof.Proof.Gen.Kernel2.Frame
public import proofs.«01_k».proof.Proof.Gen.Kernel3.Frame
public import proofs.«01_k».proof.Proof.Gen.Kernel4.Frame

@[expose] public section

noncomputable section

namespace Cert.Proof

open Idealize.ShloMosaic Idealize.SL.Sem

/-- The idealized kernel and the reference leave the layer's rows, each in its result. -/
theorem equal : Cert.algebraic_KernelIdeal_ReferenceIdeal_pre_routing_finite (hKernelIdeal := Cert.KernelIdeal.Gen.facts)
    (hReferenceIdeal := Cert.ReferenceIdeal.Gen.facts) (hPre_routing_finite := Cert.Moe.finiteFacts) := by
  intro m g m' g' hpre h
  have R : ∀ c, (Cert.KernelIdeal.Launched.args m c).Routing := fun c => Cert.Moe.routing _ (hpre c)
  exact ⟨fun c => Cert.Moe.rows (Cert.KernelIdeal.Launched.args m c), Cert.KernelIdeal.Launched.run m g R,
    Cert.ReferenceIdeal.Rows.run m' g' (fun c => Cert.KernelIdeal.Launched.args m c) R h⟩

/-- The idealized attention and its reference leave the attention's rows, each in its result. -/
theorem equal2 : Cert.algebraic_Kernel2Ideal_Reference2Ideal_pre_latent_finite (hKernel2Ideal := Cert.Kernel2Ideal.Gen.facts)
    (hReference2Ideal := Cert.Reference2Ideal.Gen.facts) (hPre_latent_finite := Cert.Attn.latentFacts) := by
  intro m g m' g' hpre h
  have R : ∀ c, (Cert.Kernel2Ideal.Attn.args m c).Finite := fun c => Cert.Attn.finite _ (hpre c)
  exact ⟨fun c => (Cert.Kernel2Ideal.Attn.args m c).rows, Cert.Kernel2Ideal.Attn.run m g R,
    Cert.Reference2Ideal.Rows.run m' g' (fun c => Cert.Kernel2Ideal.Attn.args m c) h⟩

/-- The idealized forget-gate attention and its reference leave the attention's rows, each in its result. -/
theorem equal3 : Cert.algebraic_Kernel3Ideal_Reference3Ideal_pre_forget_finite (hKernel3Ideal := Cert.Kernel3Ideal.Gen.facts)
    (hReference3Ideal := Cert.Reference3Ideal.Gen.facts) (hPre_forget_finite := Cert.Forget.forgetFacts) := by
  intro m g m' g' hpre h
  have R : ∀ c, (Cert.Kernel3Ideal.Attn.args m c).Finite := fun c => Cert.Forget.finite _ (hpre c)
  exact ⟨fun c => (Cert.Kernel3Ideal.Attn.args m c).rows, Cert.Kernel3Ideal.Attn.run m g R,
    Cert.Reference3Ideal.Rows.run m' g' (fun c => Cert.Kernel3Ideal.Attn.args m c) h⟩

/-- The idealized differential attention and its reference leave the attention's rows, each in its result. -/
theorem equal4 : Cert.algebraic_Kernel4Ideal_Reference4Ideal_pre_differential_finite (hKernel4Ideal := Cert.Kernel4Ideal.Gen.facts)
    (hReference4Ideal := Cert.Reference4Ideal.Gen.facts) (hPre_differential_finite := Cert.Diff.differentialFacts) := by
  intro m g m' g' hpre h
  have R : ∀ c, (Cert.Kernel4Ideal.Attn.args m c).Finite := fun c => Cert.Diff.finite _ (hpre c)
  exact ⟨fun c => (Cert.Kernel4Ideal.Attn.args m c).rows, Cert.Kernel4Ideal.Attn.run m g R,
    Cert.Reference4Ideal.Rows.run m' g' (fun c => Cert.Kernel4Ideal.Attn.args m c) h⟩

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Moe.finiteFacts,
  Cert.Attn.latentFacts, Cert.Forget.forgetFacts, Cert.Diff.differentialFacts,
  fun m g _ => Cert.Kernel.Launched.frame m g,
  fun m g _ => Cert.KernelIdeal.Launched.frame m g,
  fun m g _ => Cert.KernelIdeal.Launched.frame m g,
  fun m g _ => Cert.ReferenceIdeal.Rows.frame m g,
  fun m g _ => Cert.ReferenceIdeal.Rows.frame m g,
  fun m g _ => Cert.Kernel2.Gen.frame m g,
  fun m g _ => Cert.Kernel2Ideal.Gen.frame m g,
  fun m g _ => Cert.Kernel2Ideal.Gen.frame m g,
  fun m g _ => Cert.Reference2Ideal.Rows.frame m g,
  fun m g _ => Cert.Reference2Ideal.Rows.frame m g,
  fun m g _ => Cert.Kernel3.Gen.frame m g,
  fun m g _ => Cert.Kernel3Ideal.Gen.frame m g,
  fun m g _ => Cert.Kernel3Ideal.Gen.frame m g,
  fun m g _ => Cert.Reference3Ideal.Rows.frame m g,
  fun m g _ => Cert.Reference3Ideal.Rows.frame m g,
  fun m g _ => Cert.Kernel4.Gen.frame m g,
  fun m g _ => Cert.Kernel4Ideal.Gen.frame m g,
  fun m g _ => Cert.Kernel4Ideal.Gen.frame m g,
  fun m g _ => Cert.Reference4Ideal.Rows.frame m g,
  fun m g _ => Cert.Reference4Ideal.Rows.frame m g,
  IdealRules.named_const.statement Cert.KernelIdeal.κ "mask" .f32 0xF149F2CA#32 ⊥ rfl,
  equal,
  IdealRules.named_const.statement Cert.Kernel2Ideal.κ "mask" .f32 0xF149F2CA#32 ⊥ rfl,
  equal2,
  IdealRules.named_const.statement Cert.Kernel3Ideal.κ "mask" .f32 0xF149F2CA#32 ⊥ rfl,
  equal3,
  IdealRules.named_const.statement Cert.Kernel4Ideal.κ "mask" .f32 0xF149F2CA#32 ⊥ rfl,
  equal4⟩

end Cert.Proof

end
